-- ==== Defs.lean ====
def Pre_Kernel (m : (ℓ : Loc Cert.Kernel.nD Cert.Kernel.τ Cert.Kernel.sig) → Buf (Elt Bits) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_out [hPre_finite_out : Cert.Pre_finite_out.Facts] (m : (ℓ : Loc Cert.OutIdeal.nD Cert.OutIdeal.τ Cert.OutIdeal.sig) → Buf (Elt Ideal) ℓ) : Prop :=
  ∀ c : Dev Cert.OutIdeal.nD,
    (Cert.Pre_finite_out.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12)) (m ((c.tc : Thread Cert.OutIdeal.nD Cert.OutIdeal.τ).loc Cert.OutIdeal.main_arg13))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_out [hPre_finite_out : Cert.Pre_finite_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6)) (m ((c.tc : Thread Cert.OutRefIdeal.nD Cert.OutRefIdeal.τ).loc Cert.OutRefIdeal.main_arg7)) (m ((c.tc : Thread Cert.OutRefIdeal.nD Cert.OutRefIdeal.τ).loc Cert.OutRefIdeal.main_arg8)) (m ((c.tc : Thread Cert.OutRefIdeal.nD Cert.OutRefIdeal.τ).loc Cert.OutRefIdeal.main_arg9)) (m ((c.tc : Thread Cert.OutRefIdeal.nD Cert.OutRefIdeal.τ).loc Cert.OutRefIdeal.main_arg10)) (m ((c.tc : Thread Cert.OutRefIdeal.nD Cert.OutRefIdeal.τ).loc Cert.OutRefIdeal.main_arg11)) (m ((c.tc : Thread Cert.OutRefIdeal.nD Cert.OutRefIdeal.τ).loc Cert.OutRefIdeal.main_arg12)) (m ((c.tc : Thread Cert.OutRefIdeal.nD Cert.OutRefIdeal.τ).loc Cert.OutRefIdeal.main_arg13))) = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_qk [hPre_finite_qk : Cert.Pre_finite_qk.Facts] (m : (ℓ : Loc Cert.SbIdeal.nD Cert.SbIdeal.τ Cert.SbIdeal.sig) → Buf (Elt Ideal) ℓ) : Prop :=
  ∀ c : Dev Cert.SbIdeal.nD,
    (Cert.Pre_finite_qk.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))) = (fun _ => 1#1)

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6)
      ∧ r.2.mem ((c.tc : Thread Cert.FfnSRefIdeal.nD Cert.FfnSRefIdeal.τ).loc Cert.FfnSRefIdeal.main_arg7) = m ((c.tc : Thread Cert.FfnSRefIdeal.nD Cert.FfnSRefIdeal.τ).loc Cert.FfnSRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12)
      ∧ r.2.mem ((c.tc : Thread Cert.Out.nD Cert.Out.τ).loc Cert.Out.main_arg13) = m ((c.tc : Thread Cert.Out.nD Cert.Out.τ).loc Cert.Out.main_arg13))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13))
      ∧ r.2.sem = fun _ => 0)

def quiescent_OutIdeal_pre_finite_out [hOutIdeal : Cert.OutIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_out m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12)
      ∧ r.2.mem ((c.tc : Thread Cert.OutRefIdeal.nD Cert.OutRefIdeal.τ).loc Cert.OutRefIdeal.main_arg13) = m ((c.tc : Thread Cert.OutRefIdeal.nD Cert.OutRefIdeal.τ).loc Cert.OutRefIdeal.main_arg13))
      ∧ r.2.sem = fun _ => 0)

def quiescent_OutRefIdeal_pre_finite_out [hOutRefIdeal : Cert.OutRefIdeal.Facts] [hPre_finite_out : Cert.Pre_finite_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12)
      ∧ r.2.mem ((c.tc : Thread Cert.OutRefIdeal.nD Cert.OutRefIdeal.τ).loc Cert.OutRefIdeal.main_arg13) = m ((c.tc : Thread Cert.OutRefIdeal.nD Cert.OutRefIdeal.τ).loc Cert.OutRefIdeal.main_arg13))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbIdeal_pre_finite_qk [hSbIdeal : Cert.SbIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_qk m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3)
      ∧ r.2.mem ((c.tc : Thread Cert.InS.nD Cert.InS.τ).loc Cert.InS.main_arg4) = m ((c.tc : Thread Cert.InS.nD Cert.InS.τ).loc Cert.InS.main_arg4))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
      ∧ r.2.mem ((c.tc : Thread Cert.InSIdeal.nD Cert.InSIdeal.τ).loc Cert.InSIdeal.main_arg4) = m ((c.tc : Thread Cert.InSIdeal.nD Cert.InSIdeal.τ).loc Cert.InSIdeal.main_arg4))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3)
      ∧ r.2.mem ((c.tc : Thread Cert.InSRefIdeal.nD Cert.InSRefIdeal.τ).loc Cert.InSRefIdeal.main_arg4) = m ((c.tc : Thread Cert.InSRefIdeal.nD Cert.InSRefIdeal.τ).loc Cert.InSRefIdeal.main_arg4))
      ∧ r.2.sem = fun _ => 0)

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)
      ∧ m' ((c.tc : Thread Cert.FfnSRefIdeal.nD Cert.FfnSRefIdeal.τ).loc Cert.FfnSRefIdeal.main_arg7) = m ((c.tc : Thread Cert.FfnSIdeal.nD Cert.FfnSIdeal.τ).loc Cert.FfnSIdeal.main_arg7)) →
    ∃ (v0 : (c : Dev Cert.FfnSIdeal.nD) → Buf (Elt Ideal) ((c.tc : Thread Cert.FfnSIdeal.nD Cert.FfnSIdeal.τ).loc Cert.FfnSIdeal.main_v8)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v8) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v44) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6)
          ∧ r.2.mem ((c.tc : Thread Cert.FfnSRefIdeal.nD Cert.FfnSRefIdeal.τ).loc Cert.FfnSRefIdeal.main_arg7) = m' ((c.tc : Thread Cert.FfnSRefIdeal.nD Cert.FfnSRefIdeal.τ).loc Cert.FfnSRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Out_OutIdeal : Prop :=
  True

def algebraic_OutIdeal_OutRefIdeal_pre_finite_out [hOutIdeal : Cert.OutIdeal.Facts] [hOutRefIdeal : Cert.OutRefIdeal.Facts] [hPre_finite_out : Cert.Pre_finite_out.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_finite_out m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)
      ∧ m' ((c.tc : Thread Cert.OutRefIdeal.nD Cert.OutRefIdeal.τ).loc Cert.OutRefIdeal.main_arg13) = m ((c.tc : Thread Cert.OutIdeal.nD Cert.OutIdeal.τ).loc Cert.OutIdeal.main_arg13)) →
    ∃ (v0 : (c : Dev Cert.OutIdeal.nD) → Buf (Elt Ideal) ((c.tc : Thread Cert.OutIdeal.nD Cert.OutIdeal.τ).loc Cert.OutIdeal.main_v12_0)) (v1 : (c : Dev Cert.OutIdeal.nD) → Buf (Elt Ideal) ((c.tc : Thread Cert.OutIdeal.nD Cert.OutIdeal.τ).loc Cert.OutIdeal.main_v12_1)) (v2 : (c : Dev Cert.OutIdeal.nD) → Buf (Elt Ideal) ((c.tc : Thread Cert.OutIdeal.nD Cert.OutIdeal.τ).loc Cert.OutIdeal.main_v12_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v12_0) = v0 c
          ∧ r.2.mem ((c.tc : Thread Cert.OutIdeal.nD Cert.OutIdeal.τ).loc Cert.OutIdeal.main_v12_1) = v1 c
          ∧ r.2.mem ((c.tc : Thread Cert.OutIdeal.nD Cert.OutIdeal.τ).loc Cert.OutIdeal.main_v12_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
          ∧ r.2.mem ((c.tc : Thread Cert.OutIdeal.nD Cert.OutIdeal.τ).loc Cert.OutIdeal.main_arg13) = m ((c.tc : Thread Cert.OutIdeal.nD Cert.OutIdeal.τ).loc Cert.OutIdeal.main_arg13))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v48) = v0 c
          ∧ r.2.mem ((c.tc : Thread Cert.OutRefIdeal.nD Cert.OutRefIdeal.τ).loc Cert.OutRefIdeal.main_v49) = v1 c
          ∧ r.2.mem ((c.tc : Thread Cert.OutRefIdeal.nD Cert.OutRefIdeal.τ).loc Cert.OutRefIdeal.main_v51) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12)
          ∧ r.2.mem ((c.tc : Thread Cert.OutRefIdeal.nD Cert.OutRefIdeal.τ).loc Cert.OutRefIdeal.main_arg13) = m' ((c.tc : Thread Cert.OutRefIdeal.nD Cert.OutRefIdeal.τ).loc Cert.OutRefIdeal.main_arg13))

def preserves_Sb_SbIdeal : Prop :=
  True

def algebraic_SbIdeal_SbRefIdeal_pre_finite_qk [hSbIdeal : Cert.SbIdeal.Facts] [hSbRefIdeal : Cert.SbRefIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_qk m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v7)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v7) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v21) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)) →
    ∃ (v0 : (c : Dev Cert.InPIdeal.nD) → Buf (Elt Ideal) ((c.tc : Thread Cert.InPIdeal.nD Cert.InPIdeal.τ).loc Cert.InPIdeal.main_v41_0)) (v1 : (c : Dev Cert.InPIdeal.nD) → Buf (Elt Ideal) ((c.tc : Thread Cert.InPIdeal.nD Cert.InPIdeal.τ).loc Cert.InPIdeal.main_v41_1)) (v2 : (c : Dev Cert.InPIdeal.nD) → Buf (Elt Ideal) ((c.tc : Thread Cert.InPIdeal.nD Cert.InPIdeal.τ).loc Cert.InPIdeal.main_v41_2)) (v3 : (c : Dev Cert.InPIdeal.nD) → Buf (Elt Ideal) ((c.tc : Thread Cert.InPIdeal.nD Cert.InPIdeal.τ).loc Cert.InPIdeal.main_v41_3)) (v4 : (c : Dev Cert.InPIdeal.nD) → Buf (Elt Ideal) ((c.tc : Thread Cert.InPIdeal.nD Cert.InPIdeal.τ).loc Cert.InPIdeal.main_v41_4)) (v5 : (c : Dev Cert.InPIdeal.nD) → Buf (Elt Ideal) ((c.tc : Thread Cert.InPIdeal.nD Cert.InPIdeal.τ).loc Cert.InPIdeal.main_v41_5)) (v6 : (c : Dev Cert.InPIdeal.nD) → Buf (Elt Ideal) ((c.tc : Thread Cert.InPIdeal.nD Cert.InPIdeal.τ).loc Cert.InPIdeal.main_v41_6)) (v7 : (c : Dev Cert.InPIdeal.nD) → Buf (Elt Ideal) ((c.tc : Thread Cert.InPIdeal.nD Cert.InPIdeal.τ).loc Cert.InPIdeal.main_v41_7)) (v8 : (c : Dev Cert.InPIdeal.nD) → Buf (Elt Ideal) ((c.tc : Thread Cert.InPIdeal.nD Cert.InPIdeal.τ).loc Cert.InPIdeal.main_v41_8)) (v9 : (c : Dev Cert.InPIdeal.nD) → Buf (Elt Ideal) ((c.tc : Thread Cert.InPIdeal.nD Cert.InPIdeal.τ).loc Cert.InPIdeal.main_v41_9)) (v10 : (c : Dev Cert.InPIdeal.nD) → Buf (Elt Ideal) ((c.tc : Thread Cert.InPIdeal.nD Cert.InPIdeal.τ).loc Cert.InPIdeal.main_v41_10)) (v11 : (c : Dev Cert.InPIdeal.nD) → Buf (Elt Ideal) ((c.tc : Thread Cert.InPIdeal.nD Cert.InPIdeal.τ).loc Cert.InPIdeal.main_v41_11)) (v12 : (c : Dev Cert.InPIdeal.nD) → Buf (Elt Ideal) ((c.tc : Thread Cert.InPIdeal.nD Cert.InPIdeal.τ).loc Cert.InPIdeal.main_v41_12)) (v13 : (c : Dev Cert.InPIdeal.nD) → Buf (Elt Ideal) ((c.tc : Thread Cert.InPIdeal.nD Cert.InPIdeal.τ).loc Cert.InPIdeal.main_v41_13)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v41_0) = v0 c
          ∧ r.2.mem ((c.tc : Thread Cert.InPIdeal.nD Cert.InPIdeal.τ).loc Cert.InPIdeal.main_v41_1) = v1 c
          ∧ r.2.mem ((c.tc : Thread Cert.InPIdeal.nD Cert.InPIdeal.τ).loc Cert.InPIdeal.main_v41_2) = v2 c
          ∧ r.2.mem ((c.tc : Thread Cert.InPIdeal.nD Cert.InPIdeal.τ).loc Cert.InPIdeal.main_v41_3) = v3 c
          ∧ r.2.mem ((c.tc : Thread Cert.InPIdeal.nD Cert.InPIdeal.τ).loc Cert.InPIdeal.main_v41_4) = v4 c
          ∧ r.2.mem ((c.tc : Thread Cert.InPIdeal.nD Cert.InPIdeal.τ).loc Cert.InPIdeal.main_v41_5) = v5 c
          ∧ r.2.mem ((c.tc : Thread Cert.InPIdeal.nD Cert.InPIdeal.τ).loc Cert.InPIdeal.main_v41_6) = v6 c
          ∧ r.2.mem ((c.tc : Thread Cert.InPIdeal.nD Cert.InPIdeal.τ).loc Cert.InPIdeal.main_v41_7) = v7 c
          ∧ r.2.mem ((c.tc : Thread Cert.InPIdeal.nD Cert.InPIdeal.τ).loc Cert.InPIdeal.main_v41_8) = v8 c
          ∧ r.2.mem ((c.tc : Thread Cert.InPIdeal.nD Cert.InPIdeal.τ).loc Cert.InPIdeal.main_v41_9) = v9 c
          ∧ r.2.mem ((c.tc : Thread Cert.InPIdeal.nD Cert.InPIdeal.τ).loc Cert.InPIdeal.main_v41_10) = v10 c
          ∧ r.2.mem ((c.tc : Thread Cert.InPIdeal.nD Cert.InPIdeal.τ).loc Cert.InPIdeal.main_v41_11) = v11 c
          ∧ r.2.mem ((c.tc : Thread Cert.InPIdeal.nD Cert.InPIdeal.τ).loc Cert.InPIdeal.main_v41_12) = v12 c
          ∧ r.2.mem ((c.tc : Thread Cert.InPIdeal.nD Cert.InPIdeal.τ).loc Cert.InPIdeal.main_v41_13) = v13 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v161) = v0 c
          ∧ r.2.mem ((c.tc : Thread Cert.InPRefIdeal.nD Cert.InPRefIdeal.τ).loc Cert.InPRefIdeal.main_v163) = v1 c
          ∧ r.2.mem ((c.tc : Thread Cert.InPRefIdeal.nD Cert.InPRefIdeal.τ).loc Cert.InPRefIdeal.main_v165) = v2 c
          ∧ r.2.mem ((c.tc : Thread Cert.InPRefIdeal.nD Cert.InPRefIdeal.τ).loc Cert.InPRefIdeal.main_v159) = v3 c
          ∧ r.2.mem ((c.tc : Thread Cert.InPRefIdeal.nD Cert.InPRefIdeal.τ).loc Cert.InPRefIdeal.main_v167) = v4 c
          ∧ r.2.mem ((c.tc : Thread Cert.InPRefIdeal.nD Cert.InPRefIdeal.τ).loc Cert.InPRefIdeal.main_v169) = v5 c
          ∧ r.2.mem ((c.tc : Thread Cert.InPRefIdeal.nD Cert.InPRefIdeal.τ).loc Cert.InPRefIdeal.main_v170) = v6 c
          ∧ r.2.mem ((c.tc : Thread Cert.InPRefIdeal.nD Cert.InPRefIdeal.τ).loc Cert.InPRefIdeal.main_v177) = v7 c
          ∧ r.2.mem ((c.tc : Thread Cert.InPRefIdeal.nD Cert.InPRefIdeal.τ).loc Cert.InPRefIdeal.main_v184) = v8 c
          ∧ r.2.mem ((c.tc : Thread Cert.InPRefIdeal.nD Cert.InPRefIdeal.τ).loc Cert.InPRefIdeal.main_v189) = v9 c
          ∧ r.2.mem ((c.tc : Thread Cert.InPRefIdeal.nD Cert.InPRefIdeal.τ).loc Cert.InPRefIdeal.main_v194) = v10 c
          ∧ r.2.mem ((c.tc : Thread Cert.InPRefIdeal.nD Cert.InPRefIdeal.τ).loc Cert.InPRefIdeal.main_v195) = v11 c
          ∧ r.2.mem ((c.tc : Thread Cert.InPRefIdeal.nD Cert.InPRefIdeal.τ).loc Cert.InPRefIdeal.main_v198) = v12 c
          ∧ r.2.mem ((c.tc : Thread Cert.InPRefIdeal.nD Cert.InPRefIdeal.τ).loc Cert.InPRefIdeal.main_v201) = v13 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)
      ∧ m' ((c.tc : Thread Cert.InSRefIdeal.nD Cert.InSRefIdeal.τ).loc Cert.InSRefIdeal.main_arg4) = m ((c.tc : Thread Cert.InSIdeal.nD Cert.InSIdeal.τ).loc Cert.InSIdeal.main_arg4)) →
    ∃ (v0 : (c : Dev Cert.InSIdeal.nD) → Buf (Elt Ideal) ((c.tc : Thread Cert.InSIdeal.nD Cert.InSIdeal.τ).loc Cert.InSIdeal.main_v57_0)) (v1 : (c : Dev Cert.InSIdeal.nD) → Buf (Elt Ideal) ((c.tc : Thread Cert.InSIdeal.nD Cert.InSIdeal.τ).loc Cert.InSIdeal.main_v57_1)) (v2 : (c : Dev Cert.InSIdeal.nD) → Buf (Elt Ideal) ((c.tc : Thread Cert.InSIdeal.nD Cert.InSIdeal.τ).loc Cert.InSIdeal.main_v57_2)) (v3 : (c : Dev Cert.InSIdeal.nD) → Buf (Elt Ideal) ((c.tc : Thread Cert.InSIdeal.nD Cert.InSIdeal.τ).loc Cert.InSIdeal.main_v57_3)) (v4 : (c : Dev Cert.InSIdeal.nD) → Buf (Elt Ideal) ((c.tc : Thread Cert.InSIdeal.nD Cert.InSIdeal.τ).loc Cert.InSIdeal.main_v57_4)) (v5 : (c : Dev Cert.InSIdeal.nD) → Buf (Elt Ideal) ((c.tc : Thread Cert.InSIdeal.nD Cert.InSIdeal.τ).loc Cert.InSIdeal.main_v57_5)) (v6 : (c : Dev Cert.InSIdeal.nD) → Buf (Elt Ideal) ((c.tc : Thread Cert.InSIdeal.nD Cert.InSIdeal.τ).loc Cert.InSIdeal.main_v57_6)) (v7 : (c : Dev Cert.InSIdeal.nD) → Buf (Elt Ideal) ((c.tc : Thread Cert.InSIdeal.nD Cert.InSIdeal.τ).loc Cert.InSIdeal.main_v57_7)) (v8 : (c : Dev Cert.InSIdeal.nD) → Buf (Elt Ideal) ((c.tc : Thread Cert.InSIdeal.nD Cert.InSIdeal.τ).loc Cert.InSIdeal.main_v57_8)) (v9 : (c : Dev Cert.InSIdeal.nD) → Buf (Elt Ideal) ((c.tc : Thread Cert.InSIdeal.nD Cert.InSIdeal.τ).loc Cert.InSIdeal.main_v57_9)) (v10 : (c : Dev Cert.InSIdeal.nD) → Buf (Elt Ideal) ((c.tc : Thread Cert.InSIdeal.nD Cert.InSIdeal.τ).loc Cert.InSIdeal.main_v57_10)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v57_0) = v0 c
          ∧ r.2.mem ((c.tc : Thread Cert.InSIdeal.nD Cert.InSIdeal.τ).loc Cert.InSIdeal.main_v57_1) = v1 c
          ∧ r.2.mem ((c.tc : Thread Cert.InSIdeal.nD Cert.InSIdeal.τ).loc Cert.InSIdeal.main_v57_2) = v2 c
          ∧ r.2.mem ((c.tc : Thread Cert.InSIdeal.nD Cert.InSIdeal.τ).loc Cert.InSIdeal.main_v57_3) = v3 c
          ∧ r.2.mem ((c.tc : Thread Cert.InSIdeal.nD Cert.InSIdeal.τ).loc Cert.InSIdeal.main_v57_4) = v4 c
          ∧ r.2.mem ((c.tc : Thread Cert.InSIdeal.nD Cert.InSIdeal.τ).loc Cert.InSIdeal.main_v57_5) = v5 c
          ∧ r.2.mem ((c.tc : Thread Cert.InSIdeal.nD Cert.InSIdeal.τ).loc Cert.InSIdeal.main_v57_6) = v6 c
          ∧ r.2.mem ((c.tc : Thread Cert.InSIdeal.nD Cert.InSIdeal.τ).loc Cert.InSIdeal.main_v57_7) = v7 c
          ∧ r.2.mem ((c.tc : Thread Cert.InSIdeal.nD Cert.InSIdeal.τ).loc Cert.InSIdeal.main_v57_8) = v8 c
          ∧ r.2.mem ((c.tc : Thread Cert.InSIdeal.nD Cert.InSIdeal.τ).loc Cert.InSIdeal.main_v57_9) = v9 c
          ∧ r.2.mem ((c.tc : Thread Cert.InSIdeal.nD Cert.InSIdeal.τ).loc Cert.InSIdeal.main_v57_10) = v10 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
          ∧ r.2.mem ((c.tc : Thread Cert.InSIdeal.nD Cert.InSIdeal.τ).loc Cert.InSIdeal.main_arg4) = m ((c.tc : Thread Cert.InSIdeal.nD Cert.InSIdeal.τ).loc Cert.InSIdeal.main_arg4))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v163) = v0 c
          ∧ r.2.mem ((c.tc : Thread Cert.InSRefIdeal.nD Cert.InSRefIdeal.τ).loc Cert.InSRefIdeal.main_v165) = v1 c
          ∧ r.2.mem ((c.tc : Thread Cert.InSRefIdeal.nD Cert.InSRefIdeal.τ).loc Cert.InSRefIdeal.main_v167) = v2 c
          ∧ r.2.mem ((c.tc : Thread Cert.InSRefIdeal.nD Cert.InSRefIdeal.τ).loc Cert.InSRefIdeal.main_v161) = v3 c
          ∧ r.2.mem ((c.tc : Thread Cert.InSRefIdeal.nD Cert.InSRefIdeal.τ).loc Cert.InSRefIdeal.main_v169) = v4 c
          ∧ r.2.mem ((c.tc : Thread Cert.InSRefIdeal.nD Cert.InSRefIdeal.τ).loc Cert.InSRefIdeal.main_v171) = v5 c
          ∧ r.2.mem ((c.tc : Thread Cert.InSRefIdeal.nD Cert.InSRefIdeal.τ).loc Cert.InSRefIdeal.main_v172) = v6 c
          ∧ r.2.mem ((c.tc : Thread Cert.InSRefIdeal.nD Cert.InSRefIdeal.τ).loc Cert.InSRefIdeal.main_v179) = v7 c
          ∧ r.2.mem ((c.tc : Thread Cert.InSRefIdeal.nD Cert.InSRefIdeal.τ).loc Cert.InSRefIdeal.main_v186) = v8 c
          ∧ r.2.mem ((c.tc : Thread Cert.InSRefIdeal.nD Cert.InSRefIdeal.τ).loc Cert.InSRefIdeal.main_v190) = v9 c
          ∧ r.2.mem ((c.tc : Thread Cert.InSRefIdeal.nD Cert.InSRefIdeal.τ).loc Cert.InSRefIdeal.main_v194) = v10 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3)
          ∧ r.2.mem ((c.tc : Thread Cert.InSRefIdeal.nD Cert.InSRefIdeal.τ).loc Cert.InSRefIdeal.main_arg4) = m' ((c.tc : Thread Cert.InSRefIdeal.nD Cert.InSRefIdeal.τ).loc Cert.InSRefIdeal.main_arg4))

def Claim : Prop :=
  ∃ (hKernel : Cert.Kernel.Facts) (hFfnS : Cert.FfnS.Facts) (hFfnSIdeal : Cert.FfnSIdeal.Facts) (hFfnSRefIdeal : Cert.FfnSRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hSb : Cert.Sb.Facts) (hSbIdeal : Cert.SbIdeal.Facts) (hSbRefIdeal : Cert.SbRefIdeal.Facts) (hInP : Cert.InP.Facts) (hInPIdeal : Cert.InPIdeal.Facts) (hInPRefIdeal : Cert.InPRefIdeal.Facts) (hInS : Cert.InS.Facts) (hInSIdeal : Cert.InSIdeal.Facts) (hInSRefIdeal : Cert.InSRefIdeal.Facts) (hPre_finite_out : Cert.Pre_finite_out.Facts) (hPre_finite_qk : Cert.Pre_finite_qk.Facts),
    quiescent_Kernel (hKernel := hKernel)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutIdeal_pre_finite_out (hOutIdeal := hOutIdeal) (hPre_finite_out := hPre_finite_out)
    ∧ quiescent_OutRefIdeal (hOutRefIdeal := hOutRefIdeal)
    ∧ quiescent_OutRefIdeal_pre_finite_out (hOutRefIdeal := hOutRefIdeal) (hPre_finite_out := hPre_finite_out)
    ∧ quiescent_Sb (hSb := hSb)
    ∧ quiescent_SbIdeal (hSbIdeal := hSbIdeal)
    ∧ quiescent_SbIdeal_pre_finite_qk (hSbIdeal := hSbIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ quiescent_InP (hInP := hInP)
    ∧ quiescent_InPIdeal (hInPIdeal := hInPIdeal)
    ∧ quiescent_InPRefIdeal (hInPRefIdeal := hInPRefIdeal)
    ∧ quiescent_InS (hInS := hInS)
    ∧ quiescent_InSIdeal (hInSIdeal := hInSIdeal)
    ∧ quiescent_InSRefIdeal (hInSRefIdeal := hInSRefIdeal)
    ∧ preserves_FfnS_FfnSIdeal
    ∧ algebraic_FfnSIdeal_FfnSRefIdeal (hFfnSIdeal := hFfnSIdeal) (hFfnSRefIdeal := hFfnSRefIdeal)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal_pre_finite_out (hOutIdeal := hOutIdeal) (hOutRefIdeal := hOutRefIdeal) (hPre_finite_out := hPre_finite_out)
    ∧ preserves_Sb_SbIdeal
    ∧ algebraic_SbIdeal_SbRefIdeal_pre_finite_qk (hSbIdeal := hSbIdeal) (hSbRefIdeal := hSbRefIdeal) (hPre_finite_qk := hPre_finite_qk)
    ∧ preserves_InP_InPIdeal
    ∧ algebraic_InPIdeal_InPRefIdeal (hInPIdeal := hInPIdeal) (hInPRefIdeal := hInPRefIdeal)
    ∧ preserves_InS_InSIdeal
    ∧ algebraic_InSIdeal_InSRefIdeal (hInSIdeal := hInSIdeal) (hInSRefIdeal := hInSRefIdeal)
-- ==== Pre_finite_out.lean ====
abbrev S16384x512 : Shape := ⟨2, ![16384, 512]⟩
abbrev S16384x1024 : Shape := ⟨2, ![16384, 1024]⟩
abbrev S4x4096x1024 : Shape := ⟨3, ![4, 4096, 1024]⟩
abbrev S4x1x1024 : Shape := ⟨3, ![4, 1, 1024]⟩
abbrev S1024 : Shape := ⟨1, ![1024]⟩
abbrev S512x1024 : Shape := ⟨2, ![512, 1024]⟩
abbrev S1024x1024 : Shape := ⟨2, ![1024, 1024]⟩
abbrev S1024x256 : Shape := ⟨2, ![1024, 256]⟩
abbrev S_ : Shape := ⟨0, ![]⟩

class Facts : Prop where
  bcast_S_S4x1x1024 : S_.BroadcastsInDim S4x1x1024 (![] : Fin 0 → Fin S4x1x1024.rank)
  reducesTo_S4x1x1024_S_d0_1_2 : S4x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  main_v18

def fn {F : FTy → Type} [FloatOps F] (main_arg0 : FVec F S16384x512 .bf16) (main_arg1 : FVec F S16384x512 .bf16) (main_arg2 : FVec F S16384x1024 .f32) (main_arg3 : FVec F S16384x1024 .f32) (main_arg4 : FVec F S4x4096x1024 .f32) (main_arg5 : FVec F S4x1x1024 .f32) (main_arg6 : FVec F S4x1x1024 .f32) (main_arg7 : FVec F S4x1x1024 .f32) (main_arg8 : FVec F S1024 .f32) (main_arg9 : FVec F S1024 .f32) (main_arg10 : FVec F S512x1024 .f32) (main_arg11 : FVec F S512x1024 .f32) (main_arg12 : FVec F S1024x1024 .f32) (main_arg13 : FVec F S1024x256 .f32) : IVec S_ 1 :=
  let main_v0 : FVec F S4x1x1024 .f32 := Host.absf main_arg6
  let main_cst : FVec F S_ .f32 := constant S_ .f32 0x7F800000#32
  let main_v1 : FVec F S4x1x1024 .f32 := broadcastInDim S4x1x1024 ![] bcast_S_S4x1x1024 main_cst
  let main_v2 : IVec S4x1x1024 1 := cmpf .olt main_v0 main_v1
  let main_c : IVec S_ 1 := constantI S_ 1 1#1
  let main_v3 : IVec S_ 1 := (fun x v => Host.reduce IntOp.andi x v reducesTo_S4x1x1024_S_d0_1_2 h_S_) main_v2 main_c
  let main_v4 : FVec F S4x1x1024 .f32 := Host.absf main_arg7
  let main_cst_0 : FVec F S_ .f32 := constant S_ .f32 0x7F800000#32
  let main_v5 : FVec F S4x1x1024 .f32 := broadcastInDim S4x1x1024 ![] bcast_S_S4x1x1024 main_cst_0
  let main_v6 : IVec S4x1x1024 1 := cmpf .olt main_v4 main_v5
  let main_c_1 : IVec S_ 1 := constantI S_ 1 1#1
  let main_v7 : IVec S_ 1 := (fun x v => Host.reduce IntOp.andi x v reducesTo_S4x1x1024_S_d0_1_2 h_S_) main_v6 main_c_1
  let main_v8 : IVec S_ 1 := andi main_v3 main_v7
  let main_v9 : FVec F S1024 .f32 := Host.absf main_arg9
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg13
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_v13 main_v16
-- ==== Pre_finite_qk.lean ====
abbrev S4x4096x8x64 : Shape := ⟨4, ![4, 4096, 8, 64]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel

variable [Facts]

def fn {F : FTy → Type} [FloatOps F] (main_arg0 : FVec F S4x4096x8x64 .f32) (main_arg1 : FVec F S4x4096x8x64 .f32) (main_arg2 : FVec F S4x4096x8x64 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  main_v8
-- ==== Kernel.lean ====
abbrev S16384x512 : Shape := ⟨2, ![16384, 512]⟩
abbrev S16384x128 : Shape := ⟨2, ![16384, 128]⟩
abbrev S4x16x512x256 : Shape := ⟨4, ![4, 16, 512, 256]⟩
abbrev S256x512 : Shape := ⟨2, ![256, 512]⟩
abbrev S256x128 : Shape := ⟨2, ![256, 128]⟩
abbrev S4096x128 : Shape := ⟨2, ![4096, 128]⟩
abbrev S4096x512 : Shape := ⟨2, ![4096, 512]⟩
abbrev S1x16x512x256 : Shape := ⟨4, ![1, 16, 512, 256]⟩
abbrev S4096x256 : Shape := ⟨2, ![4096, 256]⟩
abbrev S512x256 : Shape := ⟨2, ![512, 256]⟩
abbrev S8x256 : Shape := ⟨2, ![8, 256]⟩
abbrev S256x256 : Shape := ⟨2, ![256, 256]⟩
abbrev S128x256 : Shape := ⟨2, ![128, 256]⟩
abbrev S256x64 : Shape := ⟨2, ![256, 64]⟩
abbrev S64x256 : Shape := ⟨2, ![64, 256]⟩
abbrev S1x256 : Shape := ⟨2, ![1, 256]⟩
abbrev S32x8x256 : Shape := ⟨3, ![32, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x1x64x256 : Shape := ⟨4, ![1, 1, 64, 256]⟩

abbrev nBuf : Space → Nat
  | .hbm => 7
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x128, .f32⟩
  | .hbm, ⟨3, _⟩ => ⟨S16384x128, .bf16⟩
  | .hbm, ⟨4, _⟩ => ⟨S16384x512, .bf16⟩
  | .hbm, ⟨5, _⟩ => ⟨S4x16x512x256, .bf16⟩
  | .hbm, ⟨6, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x128, .f32⟩
  | .local _ .vmem, ⟨5, _⟩ => ⟨S256x128, .f32⟩
  | .local _ .vmem, ⟨6, _⟩ => ⟨S4096x128, .bf16⟩
  | .local _ .vmem, ⟨7, _⟩ => ⟨S4096x128, .bf16⟩
  | .local _ .vmem, ⟨8, _⟩ => ⟨S4096x512, .bf16⟩
  | .local _ .vmem, ⟨9, _⟩ => ⟨S4096x512, .bf16⟩
  | .local _ .vmem, ⟨10, _⟩ => ⟨S1x16x512x256, .bf16⟩
  | .local _ .vmem, ⟨11, _⟩ => ⟨S1x16x512x256, .bf16⟩
  | .local _ .vmem, ⟨12, _⟩ => ⟨S256x512, .bf16⟩
  | .local _ .vmem, ⟨13, _⟩ => ⟨S256x512, .bf16⟩
  | .local _ .vmem, ⟨14, _⟩ => ⟨S4096x256, .i32⟩
  | .local _ .vmem, ⟨15, _⟩ => ⟨S512x256, .f32⟩
  | .local _ .vmem, ⟨16, _⟩ => ⟨S8x256, .f32⟩
  | .local _ .vmem, ⟨17, _⟩ => ⟨S8x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 16], ![false, false]⟩

@[reducible] def k0_t1_loop (i : grid0.Coords) : Scf.Loop 32 :=
  let c0_i32_3 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_5 : BitVec 32 := 1#32
  ⟨c0_i32_3, v16, c1_i32_5⟩
def k0_mult1 (i : grid0.Coords) (k0_t1 : Fin (k0_t1_loop i).trips) : BitVec 32 :=
  let c0_i32_3 : BitVec 32 := 0#32
  let c1_i32_5 : BitVec 32 := 1#32
  let arg13 : BitVec 32 := Scf.iv c0_i32_3 c1_i32_5 k0_t1
  let c256_i32_89 : BitVec 32 := 256#32
  let v151 : BitVec 32 := Scalar.muli arg13 c256_i32_89
  v151
def k0_off1 (i : grid0.Coords) (k0_t1 : Fin (k0_t1_loop i).trips) : Fin 2 → Nat :=
  let c0_i32_3 : BitVec 32 := 0#32
  let c1_i32_5 : BitVec 32 := 1#32
  let arg13 : BitVec 32 := Scf.iv c0_i32_3 c1_i32_5 k0_t1
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
def k0_off2 (i : grid0.Coords) (k0_t1 : Fin (k0_t1_loop i).trips) : Fin 2 → Nat :=
  let c0_i32_3 : BitVec 32 := 0#32
  let c1_i32_5 : BitVec 32 := 1#32
  let arg13 : BitVec 32 := Scf.iv c0_i32_3 c1_i32_5 k0_t1
  let c256_i32_89 : BitVec 32 := 256#32
  let v151 : BitVec 32 := Scalar.muli arg13 c256_i32_89
  let v152 : BitVec 32 := v151
  let v235 : Index := Scalar.indexCast v152
  let c0_111 : Index := 0#32
  ![v235.toNat, 0]
@[reducible] def k0_t2_loop (i : grid0.Coords) : Scf.Loop 32 :=
  let c0_i32_3 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let v13 : BitVec 32 := Scalar.addi c0_i32_3 v12
  let c1_i32_6 : BitVec 32 := 1#32
  ⟨v16, v13, c1_i32_6⟩
def k0_mult2 (i : grid0.Coords) (k0_t2 : Fin (k0_t2_loop i).trips) : BitVec 32 :=
  let c0_i32_3 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg13 : BitVec 32 := Scf.iv v16 c1_i32_6 k0_t2
  let c256_i32_89 : BitVec 32 := 256#32
  let v151 : BitVec 32 := Scalar.muli arg13 c256_i32_89
  v151
def k0_off3 (i : grid0.Coords) (k0_t2 : Fin (k0_t2_loop i).trips) : Fin 2 → Nat :=
  let c0_i32_3 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg13 : BitVec 32 := Scf.iv v16 c1_i32_6 k0_t2
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
def k0_off4 (i : grid0.Coords) (k0_t2 : Fin (k0_t2_loop i).trips) : Fin 2 → Nat :=
  let c0_i32_3 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_3
  let c1_i32_4 : BitVec 32 := 1#32
  let v14 : BitVec 32 := Scalar.divsi v12 c1_i32_4
  let v15 : BitVec 32 := Scalar.muli v14 c1_i32_4
  let v16 : BitVec 32 := Scalar.addi c0_i32_3 v15
  let c1_i32_6 : BitVec 32 := 1#32
  let arg13 : BitVec 32 := Scf.iv v16 c1_i32_6 k0_t2
  let c256_i32_89 : BitVec 32 := 256#32
  let v151 : BitVec 32 := Scalar.muli arg13 c256_i32_89
  let v152 : BitVec 32 := v151
  let v235 : Index := Scalar.indexCast v152
  let c0_111 : Index := 0#32
  ![v235.toNat, 0]
@[reducible] def k0_t3_loop : Scf.Loop 32 :=
  let c0_i32_8 : BitVec 32 := 0#32
  let c32_i32 : BitVec 32 := 32#32
  let v18 : BitVec 32 := Scalar.addi c0_i32_8 c32_i32
  let c1_i32_9 : BitVec 32 := 1#32
  ⟨c0_i32_8, v18, c1_i32_9⟩
@[reducible] def k0_t4_loop (i : grid0.Coords) : Scf.Loop 32 :=
  let c0_i32_92 : BitVec 32 := 0#32
  let arg1 : BitVec 32 := BitVec.ofNat 32 (i 1).val
  let c1_i32 : BitVec 32 := 1#32
  let v0 : BitVec 32 := Scalar.addi arg1 c1_i32
  let v158 : BitVec 32 := Scalar.subi v0 c0_i32_92
  let c1_i32_93 : BitVec 32 := 1#32
  let v160 : BitVec 32 := Scalar.divsi v158 c1_i32_93
  let v161 : BitVec 32 := Scalar.muli v160 c1_i32_93
  let v162 : BitVec 32 := Scalar.addi c0_i32_92 v161
  let c1_i32_94 : BitVec 32 := 1#32
  ⟨c0_i32_92, v162, c1_i32_94⟩
def k0_mult3 (i : grid0.Coords) (k0_t4 : Fin (k0_t4_loop i).trips) : BitVec 32 :=
  let c0_i32_92 : BitVec 32 := 0#32
  let c1_i32_94 : BitVec 32 := 1#32
  let arg15 : BitVec 32 := Scf.iv c0_i32_92 c1_i32_94 k0_t4
  let c256_i32_98 : BitVec 32 := 256#32
  let v170 : BitVec 32 := Scalar.muli arg15 c256_i32_98
  v170
def k0_off5 (i : grid0.Coords) (k0_t4 : Fin (k0_t4_loop i).trips) : Fin 2 → Nat :=
  let c0_i32_92 : BitVec 32 := 0#32
  let c1_i32_94 : BitVec 32 := 1#32
  let arg15 : BitVec 32 := Scf.iv c0_i32_92 c1_i32_94 k0_t4
  let c256_i32_98 : BitVec 32 := 256#32
  let v170 : BitVec 32 := Scalar.muli arg15 c256_i32_98
  let v171 : BitVec 32 := v170
  let v172 : Index := Scalar.indexCast v171
  let c0_99 : Index := 0#32
  ![v172.toNat, 0]
@[reducible] def k0_t5_loop (i : grid0.Coords) : Scf.Loop 32 :=
  let c0_i32_92 : BitVec 32 := 0#32
  let arg1 : BitVec 32 := BitVec.ofNat 32 (i 1).val
  let c1_i32 : BitVec 32 := 1#32
  let v0 : BitVec 32 := Scalar.addi arg1 c1_i32
  let v158 : BitVec 32 := Scalar.subi v0 c0_i32_92
  let c1_i32_93 : BitVec 32 := 1#32
  let v160 : BitVec 32 := Scalar.divsi v158 c1_i32_93
  let v161 : BitVec 32 := Scalar.muli v160 c1_i32_93
  let v162 : BitVec 32 := Scalar.addi c0_i32_92 v161
  let v159 : BitVec 32 := Scalar.addi c0_i32_92 v158
  let c1_i32_95 : BitVec 32 := 1#32
  ⟨v162, v159, c1_i32_95⟩
def k0_mult4 (i : grid0.Coords) (k0_t5 : Fin (k0_t5_loop i).trips) : BitVec 32 :=
  let c0_i32_92 : BitVec 32 := 0#32
  let arg1 : BitVec 32 := BitVec.ofNat 32 (i 1).val
  let c1_i32 : BitVec 32 := 1#32
  let v0 : BitVec 32 := Scalar.addi arg1 c1_i32
  let v158 : BitVec 32 := Scalar.subi v0 c0_i32_92
  let c1_i32_93 : BitVec 32 := 1#32
  let v160 : BitVec 32 := Scalar.divsi v158 c1_i32_93
  let v161 : BitVec 32 := Scalar.muli v160 c1_i32_93
  let v162 : BitVec 32 := Scalar.addi c0_i32_92 v161
  let c1_i32_95 : BitVec 32 := 1#32
  let arg15 : BitVec 32 := Scf.iv v162 c1_i32_95 k0_t5
  let c256_i32_98 : BitVec 32 := 256#32
  let v170 : BitVec 32 := Scalar.muli arg15 c256_i32_98
  v170
def k0_off6 (i : grid0.Coords) (k0_t5 : Fin (k0_t5_loop i).trips) : Fin 2 → Nat :=
  let c0_i32_92 : BitVec 32 := 0#32
  let arg1 : BitVec 32 := BitVec.ofNat 32 (i 1).val
  let c1_i32 : BitVec 32 := 1#32
  let v0 : BitVec 32 := Scalar.addi arg1 c1_i32
  let v158 : BitVec 32 := Scalar.subi v0 c0_i32_92
  let c1_i32_93 : BitVec 32 := 1#32
  let v160 : BitVec 32 := Scalar.divsi v158 c1_i32_93
  let v161 : BitVec 32 := Scalar.muli v160 c1_i32_93
  let v162 : BitVec 32 := Scalar.addi c0_i32_92 v161
  let c1_i32_95 : BitVec 32 := 1#32
  let arg15 : BitVec 32 := Scf.iv v162 c1_i32_95 k0_t5
  let c256_i32_98 : BitVec 32 := 256#32
  let v170 : BitVec 32 := Scalar.muli arg15 c256_i32_98
  let v171 : BitVec 32 := v170
  let v172 : Index := Scalar.indexCast v171
  let c0_99 : Index := 0#32
  ![v172.toNat, 0]
@[reducible] def k0_t6_loop (i : grid0.Coords) : Scf.Loop 32 :=
  let c0_i32_11 : BitVec 32 := 0#32
  let arg1 : BitVec 32 := BitVec.ofNat 32 (i 1).val
  let c1_i32 : BitVec 32 := 1#32
  let v0 : BitVec 32 := Scalar.addi arg1 c1_i32
  let v23 : BitVec 32 := Scalar.subi v0 c0_i32_11
  let c1_i32_12 : BitVec 32 := 1#32
  let v25 : BitVec 32 := Scalar.divsi v23 c1_i32_12
  let v26 : BitVec 32 := Scalar.muli v25 c1_i32_12
  let v27 : BitVec 32 := Scalar.addi c0_i32_11 v26
  let c1_i32_13 : BitVec 32 := 1#32
  ⟨c0_i32_11, v27, c1_i32_13⟩
def k0_mult5 (i : grid0.Coords) (k0_t6 : Fin (k0_t6_loop i).trips) : BitVec 32 :=
  let c0_i32_11 : BitVec 32 := 0#32
  let c1_i32_13 : BitVec 32 := 1#32
  let arg13 : BitVec 32 := Scf.iv c0_i32_11 c1_i32_13 k0_t6
  let c256_i32_89 : BitVec 32 := 256#32
  let v151 : BitVec 32 := Scalar.muli arg13 c256_i32_89
  v151
def k0_off7 (i : grid0.Coords) (k0_t6 : Fin (k0_t6_loop i).trips) : Fin 2 → Nat :=
  let c0_i32_11 : BitVec 32 := 0#32
  let c1_i32_13 : BitVec 32 := 1#32
  let arg13 : BitVec 32 := Scf.iv c0_i32_11 c1_i32_13 k0_t6
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
@[reducible] def k0_t7_loop (i : grid0.Coords) : Scf.Loop 32 :=
  let c0_i32_11 : BitVec 32 := 0#32
  let arg1 : BitVec 32 := BitVec.ofNat 32 (i 1).val
  let c1_i32 : BitVec 32 := 1#32
  let v0 : BitVec 32 := Scalar.addi arg1 c1_i32
  let v23 : BitVec 32 := Scalar.subi v0 c0_i32_11
  let c1_i32_12 : BitVec 32 := 1#32
  let v25 : BitVec 32 := Scalar.divsi v23 c1_i32_12
  let v26 : BitVec 32 := Scalar.muli v25 c1_i32_12
  let v27 : BitVec 32 := Scalar.addi c0_i32_11 v26
  let v24 : BitVec 32 := Scalar.addi c0_i32_11 v23
  let c1_i32_14 : BitVec 32 := 1#32
  ⟨v27, v24, c1_i32_14⟩
def k0_mult6 (i : grid0.Coords) (k0_t7 : Fin (k0_t7_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let v23 : BitVec 32 := Scalar.subi v0 c0_i32_11
  let c1_i32_12 : BitVec 32 := 1#32
  let v25 : BitVec 32 := Scalar.divsi v23 c1_i32_12
  let v26 : BitVec 32 := Scalar.muli v25 c1_i32_12
  let v27 : BitVec 32 := Scalar.addi c0_i32_11 v26
  let c1_i32_14 : BitVec 32 := 1#32
  let arg13 : BitVec 32 := Scf.iv v27 c1_i32_14 k0_t7
  let c256_i32_89 : BitVec 32 := 256#32
  let v151 : BitVec 32 := Scalar.muli arg13 c256_i32_89
  v151
def k0_off8 (i : grid0.Coords) (k0_t7 : Fin (k0_t7_loop i).trips) : Fin 2 → Nat :=
  let c0_i32_11 : BitVec 32 := 0#32
  let arg1 : BitVec 32 := BitVec.ofNat 32 (i 1).val
  let c1_i32 : BitVec 32 := 1#32
  let v0 : BitVec 32 := Scalar.addi arg1 c1_i32
  let v23 : BitVec 32 := Scalar.subi v0 c0_i32_11
  let c1_i32_12 : BitVec 32 := 1#32
  let v25 : BitVec 32 := Scalar.divsi v23 c1_i32_12
  let v26 : BitVec 32 := Scalar.muli v25 c1_i32_12
  let v27 : BitVec 32 := Scalar.addi c0_i32_11 v26
  let c1_i32_14 : BitVec 32 := 1#32
  let arg13 : BitVec 32 := Scf.iv v27 c1_i32_14 k0_t7
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
@[reducible] def k0_t8_loop (i : grid0.Coords) : Scf.Loop 32 :=
  let c0_i32_18 : BitVec 32 := 0#32
  let arg1 : BitVec 32 := BitVec.ofNat 32 (i 1).val
  let c1_i32 : BitVec 32 := 1#32
  let v0 : BitVec 32 := Scalar.addi arg1 c1_i32
  let v35 : BitVec 32 := Scalar.subi v0 c0_i32_18
  let c1_i32_19 : BitVec 32 := 1#32
  let v37 : BitVec 32 := Scalar.divsi v35 c1_i32_19
  let v38 : BitVec 32 := Scalar.muli v37 c1_i32_19
  let v39 : BitVec 32 := Scalar.addi c0_i32_18 v38
  let c1_i32_20 : BitVec 32 := 1#32
  ⟨c0_i32_18, v39, c1_i32_20⟩
def k0_mult7 (i : grid0.Coords) (k0_t8 : Fin (k0_t8_loop i).trips) : BitVec 32 :=
  let c0_i32_18 : BitVec 32 := 0#32
  let c1_i32_20 : BitVec 32 := 1#32
  let arg13 : BitVec 32 := Scf.iv c0_i32_18 c1_i32_20 k0_t8
  let c256_i32_89 : BitVec 32 := 256#32
  let v151 : BitVec 32 := Scalar.muli arg13 c256_i32_89
  v151
def k0_off9 (i : grid0.Coords) (k0_t8 : Fin (k0_t8_loop i).trips) : Fin 2 → Nat :=
  let c0_i32_18 : BitVec 32 := 0#32
  let c1_i32_20 : BitVec 32 := 1#32
  let arg13 : BitVec 32 := Scf.iv c0_i32_18 c1_i32_20 k0_t8
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
@[reducible] def k0_t9_loop (i : grid0.Coords) : Scf.Loop 32 :=
  let c0_i32_18 : BitVec 32 := 0#32
  let arg1 : BitVec 32 := BitVec.ofNat 32 (i 1).val
  let c1_i32 : BitVec 32 := 1#32
  let v0 : BitVec 32 := Scalar.addi arg1 c1_i32
  let v35 : BitVec 32 := Scalar.subi v0 c0_i32_18
  let c1_i32_19 : BitVec 32 := 1#32
  let v37 : BitVec 32 := Scalar.divsi v35 c1_i32_19
  let v38 : BitVec 32 := Scalar.muli v37 c1_i32_19
  let v39 : BitVec 32 := Scalar.addi c0_i32_18 v38
  let v36 : BitVec 32 := Scalar.addi c0_i32_18 v35
  let c1_i32_21 : BitVec 32 := 1#32
  ⟨v39, v36, c1_i32_21⟩
def k0_mult8 (i : grid0.Coords) (k0_t9 : Fin (k0_t9_loop i).trips) : BitVec 32 :=
  let c0_i32_18 : BitVec 32 := 0#32
  let arg1 : BitVec 32 := BitVec.ofNat 32 (i 1).val
  let c1_i32 : BitVec 32 := 1#32
  let v0 : BitVec 32 := Scalar.addi arg1 c1_i32
  let v35 : BitVec 32 := Scalar.subi v0 c0_i32_18
  let c1_i32_19 : BitVec 32 := 1#32
  let v37 : BitVec 32 := Scalar.divsi v35 c1_i32_19
  let v38 : BitVec 32 := Scalar.muli v37 c1_i32_19
  let v39 : BitVec 32 := Scalar.addi c0_i32_18 v38
  let c1_i32_21 : BitVec 32 := 1#32
  let arg13 : BitVec 32 := Scf.iv v39 c1_i32_21 k0_t9
  let c256_i32_89 : BitVec 32 := 256#32
  let v151 : BitVec 32 := Scalar.muli arg13 c256_i32_89
  v151
def k0_off10 (i : grid0.Coords) (k0_t9 : Fin (k0_t9_loop i).trips) : Fin 2 → Nat :=
  let c0_i32_18 : BitVec 32 := 0#32
  let arg1 : BitVec 32 := BitVec.ofNat 32 (i 1).val
  let c1_i32 : BitVec 32 := 1#32
  let v0 : BitVec 32 := Scalar.addi arg1 c1_i32
  let v35 : BitVec 32 := Scalar.subi v0 c0_i32_18
  let c1_i32_19 : BitVec 32 := 1#32
  let v37 : BitVec 32 := Scalar.divsi v35 c1_i32_19
  let v38 : BitVec 32 := Scalar.muli v37 c1_i32_19
  let v39 : BitVec 32 := Scalar.addi c0_i32_18 v38
  let c1_i32_21 : BitVec 32 := 1#32
  let arg13 : BitVec 32 := Scf.iv v39 c1_i32_21 k0_t9
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
@[reducible] def k0_t10_loop : Scf.Loop 32 :=
  let c0_i32_90 : BitVec 32 := 0#32
  let c12_i32 : BitVec 32 := 12#32
  let v152 : BitVec 32 := Scalar.addi c0_i32_90 c12_i32
  let c1_i32_91 : BitVec 32 := 1#32
  ⟨c0_i32_90, v152, c1_i32_91⟩
@[reducible] def k0_t11_loop (i : grid0.Coords) : Scf.Loop 32 :=
  let c0_i32_95 : BitVec 32 := 0#32
  let arg1 : BitVec 32 := BitVec.ofNat 32 (i 1).val
  let c1_i32 : BitVec 32 := 1#32
  let v0 : BitVec 32 := Scalar.addi arg1 c1_i32
  let v159 : BitVec 32 := Scalar.subi v0 c0_i32_95
  let c1_i32_96 : BitVec 32 := 1#32
  let v161 : BitVec 32 := Scalar.divsi v159 c1_i32_96
  let v162 : BitVec 32 := Scalar.muli v161 c1_i32_96
  let v163 : BitVec 32 := Scalar.addi c0_i32_95 v162
  let c1_i32_97 : BitVec 32 := 1#32
  ⟨c0_i32_95, v163, c1_i32_97⟩
def k0_mult9 (i : grid0.Coords) (k0_t11 : Fin (k0_t11_loop i).trips) : BitVec 32 :=
  let c0_i32_95 : BitVec 32 := 0#32
  let c1_i32_97 : BitVec 32 := 1#32
  let arg15 : BitVec 32 := Scf.iv c0_i32_95 c1_i32_97 k0_t11
  let c256_i32_100 : BitVec 32 := 256#32
  let v170 : BitVec 32 := Scalar.muli arg15 c256_i32_100
  v170
def k0_off11 (i : grid0.Coords) (k0_t11 : Fin (k0_t11_loop i).trips) : Fin 2 → Nat :=
  let c0_i32_95 : BitVec 32 := 0#32
  let c1_i32_97 : BitVec 32 := 1#32
  let arg15 : BitVec 32 := Scf.iv c0_i32_95 c1_i32_97 k0_t11
  let c256_i32_100 : BitVec 32 := 256#32
  let v170 : BitVec 32 := Scalar.muli arg15 c256_i32_100
  let v171 : BitVec 32 := v170
  let v172 : Index := Scalar.indexCast v171
  let c0_101 : Index := 0#32
  ![v172.toNat, 0]
@[reducible] def k0_t12_loop (i : grid0.Coords) : Scf.Loop 32 :=
  let c0_i32_95 : BitVec 32 := 0#32
  let arg1 : BitVec 32 := BitVec.ofNat 32 (i 1).val
  let c1_i32 : BitVec 32 := 1#32
  let v0 : BitVec 32 := Scalar.addi arg1 c1_i32
  let v159 : BitVec 32 := Scalar.subi v0 c0_i32_95
  let c1_i32_96 : BitVec 32 := 1#32
  let v161 : BitVec 32 := Scalar.divsi v159 c1_i32_96
  let v162 : BitVec 32 := Scalar.muli v161 c1_i32_96
  let v163 : BitVec 32 := Scalar.addi c0_i32_95 v162
  let v160 : BitVec 32 := Scalar.addi c0_i32_95 v159
  let c1_i32_98 : BitVec 32 := 1#32
  ⟨v163, v160, c1_i32_98⟩
def k0_mult10 (i : grid0.Coords) (k0_t12 : Fin (k0_t12_loop i).trips) : BitVec 32 :=
  let c0_i32_95 : BitVec 32 := 0#32
  let arg1 : BitVec 32 := BitVec.ofNat 32 (i 1).val
  let c1_i32 : BitVec 32 := 1#32
  let v0 : BitVec 32 := Scalar.addi arg1 c1_i32
  let v159 : BitVec 32 := Scalar.subi v0 c0_i32_95
  let c1_i32_96 : BitVec 32 := 1#32
  let v161 : BitVec 32 := Scalar.divsi v159 c1_i32_96
  let v162 : BitVec 32 := Scalar.muli v161 c1_i32_96
  let v163 : BitVec 32 := Scalar.addi c0_i32_95 v162
  let c1_i32_98 : BitVec 32 := 1#32
  let arg15 : BitVec 32 := Scf.iv v163 c1_i32_98 k0_t12
  let c256_i32_100 : BitVec 32 := 256#32
  let v170 : BitVec 32 := Scalar.muli arg15 c256_i32_100
  v170
def k0_off12 (i : grid0.Coords) (k0_t12 : Fin (k0_t12_loop i).trips) : Fin 2 → Nat :=
  let c0_i32_95 : BitVec 32 := 0#32
  let arg1 : BitVec 32 := BitVec.ofNat 32 (i 1).val
  let c1_i32 : BitVec 32 := 1#32
  let v0 : BitVec 32 := Scalar.addi arg1 c1_i32
  let v159 : BitVec 32 := Scalar.subi v0 c0_i32_95
  let c1_i32_96 : BitVec 32 := 1#32
  let v161 : BitVec 32 := Scalar.divsi v159 c1_i32_96
  let v162 : BitVec 32 := Scalar.muli v161 c1_i32_96
  let v163 : BitVec 32 := Scalar.addi c0_i32_95 v162
  let c1_i32_98 : BitVec 32 := 1#32
  let arg15 : BitVec 32 := Scf.iv v163 c1_i32_98 k0_t12
  let c256_i32_100 : BitVec 32 := 256#32
  let v170 : BitVec 32 := Scalar.muli arg15 c256_i32_100
  let v171 : BitVec 32 := v170
  let v172 : Index := Scalar.indexCast v171
  let c0_101 : Index := 0#32
  ![v172.toNat, 0]
@[reducible] def k0_t13_loop (i : grid0.Coords) : Scf.Loop 32 :=
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_41 : BitVec 32 := 1#32
  ⟨c0_i32_39, v74, c1_i32_41⟩
def k0_mult11 (i : grid0.Coords) (k0_t13 : Fin (k0_t13_loop i).trips) : BitVec 32 :=
  let c0_i32_39 : BitVec 32 := 0#32
  let c1_i32_41 : BitVec 32 := 1#32
  let arg13 : BitVec 32 := Scf.iv c0_i32_39 c1_i32_41 k0_t13
  let c256_i32_89 : BitVec 32 := 256#32
  let v151 : BitVec 32 := Scalar.muli arg13 c256_i32_89
  v151
def k0_off13 (i : grid0.Coords) (k0_t13 : Fin (k0_t13_loop i).trips) : Fin 2 → Nat :=
  let c0_i32_39 : BitVec 32 := 0#32
  let c1_i32_41 : BitVec 32 := 1#32
  let arg13 : BitVec 32 := Scf.iv c0_i32_39 c1_i32_41 k0_t13
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
def k0_off14 (i : grid0.Coords) (k0_t13 : Fin (k0_t13_loop i).trips) : Fin 2 → Nat :=
  let c0_i32_39 : BitVec 32 := 0#32
  let c1_i32_41 : BitVec 32 := 1#32
  let arg13 : BitVec 32 := Scf.iv c0_i32_39 c1_i32_41 k0_t13
  let c256_i32_89 : BitVec 32 := 256#32
  let v151 : BitVec 32 := Scalar.muli arg13 c256_i32_89
  let v152 : BitVec 32 := v151
  let v169 : Index := Scalar.indexCast v152
  let c0_93 : Index := 0#32
  ![v169.toNat, 0]
def k0_off15 (i : grid0.Coords) (k0_t13 : Fin (k0_t13_loop i).trips) : Fin 4 → Nat :=
  let c0_136 : Index := 0#32
  let c0_i32_39 : BitVec 32 := 0#32
  let c1_i32_41 : BitVec 32 := 1#32
  let arg13 : BitVec 32 := Scf.iv c0_i32_39 c1_i32_41 k0_t13
  let v294 : Index := Scalar.indexCast arg13
  let c0_137 : Index := 0#32
  let c0_138 : Index := 0#32
  ![0, v294.toNat, 0, 0]
def k0_off16 (i : grid0.Coords) (k0_t13 : Fin (k0_t13_loop i).trips) : Fin 4 → Nat :=
  let c0_140 : Index := 0#32
  let c0_i32_39 : BitVec 32 := 0#32
  let c1_i32_41 : BitVec 32 := 1#32
  let arg13 : BitVec 32 := Scf.iv c0_i32_39 c1_i32_41 k0_t13
  let v299 : Index := Scalar.indexCast arg13
  let c64_141 : Index := 64#32
  let c0_142 : Index := 0#32
  ![0, v299.toNat, 64, 0]
def k0_off17 (i : grid0.Coords) (k0_t13 : Fin (k0_t13_loop i).trips) : Fin 4 → Nat :=
  let c0_144 : Index := 0#32
  let c0_i32_39 : BitVec 32 := 0#32
  let c1_i32_41 : BitVec 32 := 1#32
  let arg13 : BitVec 32 := Scf.iv c0_i32_39 c1_i32_41 k0_t13
  let v304 : Index := Scalar.indexCast arg13
  let c128_145 : Index := 128#32
  let c0_146 : Index := 0#32
  ![0, v304.toNat, 128, 0]
def k0_off18 (i : grid0.Coords) (k0_t13 : Fin (k0_t13_loop i).trips) : Fin 4 → Nat :=
  let c0_148 : Index := 0#32
  let c0_i32_39 : BitVec 32 := 0#32
  let c1_i32_41 : BitVec 32 := 1#32
  let arg13 : BitVec 32 := Scf.iv c0_i32_39 c1_i32_41 k0_t13
  let v309 : Index := Scalar.indexCast arg13
  let c192_149 : Index := 192#32
  let c0_150 : Index := 0#32
  ![0, v309.toNat, 192, 0]
def k0_off19 (i : grid0.Coords) (k0_t13 : Fin (k0_t13_loop i).trips) : Fin 4 → Nat :=
  let c0_152 : Index := 0#32
  let c0_i32_39 : BitVec 32 := 0#32
  let c1_i32_41 : BitVec 32 := 1#32
  let arg13 : BitVec 32 := Scf.iv c0_i32_39 c1_i32_41 k0_t13
  let v314 : Index := Scalar.indexCast arg13
  let c256_153 : Index := 256#32
  let c0_154 : Index := 0#32
  ![0, v314.toNat, 256, 0]
def k0_off20 (i : grid0.Coords) (k0_t13 : Fin (k0_t13_loop i).trips) : Fin 4 → Nat :=
  let c0_156 : Index := 0#32
  let c0_i32_39 : BitVec 32 := 0#32
  let c1_i32_41 : BitVec 32 := 1#32
  let arg13 : BitVec 32 := Scf.iv c0_i32_39 c1_i32_41 k0_t13
  let v319 : Index := Scalar.indexCast arg13
  let c320_157 : Index := 320#32
  let c0_158 : Index := 0#32
  ![0, v319.toNat, 320, 0]
def k0_off21 (i : grid0.Coords) (k0_t13 : Fin (k0_t13_loop i).trips) : Fin 4 → Nat :=
  let c0_160 : Index := 0#32
  let c0_i32_39 : BitVec 32 := 0#32
  let c1_i32_41 : BitVec 32 := 1#32
  let arg13 : BitVec 32 := Scf.iv c0_i32_39 c1_i32_41 k0_t13
  let v324 : Index := Scalar.indexCast arg13
  let c384_161 : Index := 384#32
  let c0_162 : Index := 0#32
  ![0, v324.toNat, 384, 0]
def k0_off22 (i : grid0.Coords) (k0_t13 : Fin (k0_t13_loop i).trips) : Fin 4 → Nat :=
  let c0_164 : Index := 0#32
  let c0_i32_39 : BitVec 32 := 0#32
  let c1_i32_41 : BitVec 32 := 1#32
  let arg13 : BitVec 32 := Scf.iv c0_i32_39 c1_i32_41 k0_t13
  let v329 : Index := Scalar.indexCast arg13
  let c448_165 : Index := 448#32
  let c0_166 : Index := 0#32
  ![0, v329.toNat, 448, 0]
@[reducible] def k0_t14_loop (i : grid0.Coords) : Scf.Loop 32 :=
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let v71 : BitVec 32 := Scalar.addi c0_i32_39 v70
  let c1_i32_42 : BitVec 32 := 1#32
  ⟨v74, v71, c1_i32_42⟩
def k0_mult12 (i : grid0.Coords) (k0_t14 : Fin (k0_t14_loop i).trips) : BitVec 32 :=
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let c256_i32_89 : BitVec 32 := 256#32
  let v151 : BitVec 32 := Scalar.muli arg13 c256_i32_89
  v151
def k0_off23 (i : grid0.Coords) (k0_t14 : Fin (k0_t14_loop i).trips) : Fin 2 → Nat :=
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let c256_i32_89 : BitVec 32 := 256#32
  let v151 : BitVec 32 := Scalar.muli arg13 c256_i32_89
  let v152 : BitVec 32 := v151
  let v153 : Index := Scalar.indexCast v152
  let c0_90 : Index := 0#32
  ![v153.toNat, 0]
def k0_off24 (i : grid0.Coords) (k0_t14 : Fin (k0_t14_loop i).trips) : Fin 2 → Nat :=
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let c256_i32_89 : BitVec 32 := 256#32
  let v151 : BitVec 32 := Scalar.muli arg13 c256_i32_89
  let v152 : BitVec 32 := v151
  let v169 : Index := Scalar.indexCast v152
  let c0_93 : Index := 0#32
  ![v169.toNat, 0]
def k0_off25 (i : grid0.Coords) (k0_t14 : Fin (k0_t14_loop i).trips) : Fin 4 → Nat :=
  let c0_136 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v294 : Index := Scalar.indexCast arg13
  let c0_137 : Index := 0#32
  let c0_138 : Index := 0#32
  ![0, v294.toNat, 0, 0]
def k0_off26 (i : grid0.Coords) (k0_t14 : Fin (k0_t14_loop i).trips) : Fin 4 → Nat :=
  let c0_140 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v299 : Index := Scalar.indexCast arg13
  let c64_141 : Index := 64#32
  let c0_142 : Index := 0#32
  ![0, v299.toNat, 64, 0]
def k0_off27 (i : grid0.Coords) (k0_t14 : Fin (k0_t14_loop i).trips) : Fin 4 → Nat :=
  let c0_144 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v304 : Index := Scalar.indexCast arg13
  let c128_145 : Index := 128#32
  let c0_146 : Index := 0#32
  ![0, v304.toNat, 128, 0]
def k0_off28 (i : grid0.Coords) (k0_t14 : Fin (k0_t14_loop i).trips) : Fin 4 → Nat :=
  let c0_148 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v309 : Index := Scalar.indexCast arg13
  let c192_149 : Index := 192#32
  let c0_150 : Index := 0#32
  ![0, v309.toNat, 192, 0]
def k0_off29 (i : grid0.Coords) (k0_t14 : Fin (k0_t14_loop i).trips) : Fin 4 → Nat :=
  let c0_152 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v314 : Index := Scalar.indexCast arg13
  let c256_153 : Index := 256#32
  let c0_154 : Index := 0#32
  ![0, v314.toNat, 256, 0]
def k0_off30 (i : grid0.Coords) (k0_t14 : Fin (k0_t14_loop i).trips) : Fin 4 → Nat :=
  let c0_156 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v319 : Index := Scalar.indexCast arg13
  let c320_157 : Index := 320#32
  let c0_158 : Index := 0#32
  ![0, v319.toNat, 320, 0]
def k0_off31 (i : grid0.Coords) (k0_t14 : Fin (k0_t14_loop i).trips) : Fin 4 → Nat :=
  let c0_160 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v324 : Index := Scalar.indexCast arg13
  let c384_161 : Index := 384#32
  let c0_162 : Index := 0#32
  ![0, v324.toNat, 384, 0]
def k0_off32 (i : grid0.Coords) (k0_t14 : Fin (k0_t14_loop i).trips) : Fin 4 → Nat :=
  let c0_164 : Index := 0#32
  let c0_i32_39 : BitVec 32 := 0#32
  let arg1 : BitVec 32 := BitVec.ofNat 32 (i 1).val
  let c1_i32 : BitVec 32 := 1#32
  let v0 : BitVec 32 := Scalar.addi arg1 c1_i32
  let v70 : BitVec 32 := Scalar.subi v0 c0_i32_39
  let c1_i32_40 : BitVec 32 := 1#32
  let v72 : BitVec 32 := Scalar.divsi v70 c1_i32_40
  let v73 : BitVec 32 := Scalar.muli v72 c1_i32_40
  let v74 : BitVec 32 := Scalar.addi c0_i32_39 v73
  let c1_i32_42 : BitVec 32 := 1#32
  let arg13 : BitVec 32 := Scf.iv v74 c1_i32_42 k0_t14
  let v329 : Index := Scalar.indexCast arg13
  let c448_165 : Index := 448#32
  let c0_166 : Index := 0#32
  ![0, v329.toNat, 448, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnS.lean ====
abbrev S256x512 : Shape := ⟨2, ![256, 512]⟩
abbrev S8x16640x512 : Shape := ⟨3, ![8, 16640, 512]⟩
abbrev S8x16640 : Shape := ⟨2, ![8, 16640]⟩
abbrev S256x1024 : Shape := ⟨2, ![256, 1024]⟩
abbrev S32x1x1024 : Shape := ⟨3, ![32, 1, 1024]⟩
abbrev S1024 : Shape := ⟨1, ![1024]⟩
abbrev S1024x512 : Shape := ⟨2, ![1024, 512]⟩
abbrev S32x1024 : Shape := ⟨2, ![32, 1024]⟩
abbrev S32x8x1024 : Shape := ⟨3, ![32, 8, 1024]⟩
abbrev S1x256x1024 : Shape := ⟨3, ![1, 256, 1024]⟩
abbrev S16640x8 : Shape := ⟨2, ![16640, 8]⟩
abbrev S1x1024 : Shape := ⟨2, ![1, 1024]⟩
abbrev S8x256x512 : Shape := ⟨3, ![8, 256, 512]⟩
abbrev S256x8 : Shape := ⟨2, ![256, 8]⟩
abbrev S256x256 : Shape := ⟨2, ![256, 256]⟩
abbrev S1x256x512 : Shape := ⟨3, ![1, 256, 512]⟩
abbrev S256x1 : Shape := ⟨2, ![256, 1]⟩
abbrev S256 : Shape := ⟨1, ![256]⟩

abbrev nBuf : Space → Nat
  | .hbm => 17
  | .vmem => 9
  | .smem => 0
  | _ => 0

abbrev bufTy : (tb : Table) → Fin (tcTables nBuf tb) → BufTy
  | .hbm, ⟨0, _⟩ => ⟨S256x512, .i32⟩
  | .hbm, ⟨1, _⟩ => ⟨S8x16640x512, .i32⟩
  | .hbm, ⟨2, _⟩ => ⟨S8x16640, .f32⟩
  | .hbm, ⟨3, _⟩ => ⟨S256x1024, .f32⟩
  | .hbm, ⟨4, _⟩ => ⟨S32x1x1024, .f32⟩
  | .hbm, ⟨5, _⟩ => ⟨S1024, .f32⟩
  | .hbm, ⟨6, _⟩ => ⟨S1024x512, .f32⟩
  | .hbm, ⟨7, _⟩ => ⟨S256x1024, .f32⟩
  | .hbm, ⟨8, _⟩ => ⟨S32x1024, .f32⟩
  | .hbm, ⟨9, _⟩ => ⟨S32x8x1024, .f32⟩
  | .hbm, ⟨10, _⟩ => ⟨S256x1024, .f32⟩
  | .hbm, ⟨11, _⟩ => ⟨S1x256x1024, .f32⟩
  | .hbm, ⟨12, _⟩ => ⟨S16640x8, .f32⟩
  | .hbm, ⟨13, _⟩ => ⟨S1024x512, .bf16⟩
  | .hbm, ⟨14, _⟩ => ⟨S256x1024, .bf16⟩
  | .hbm, ⟨15, _⟩ => ⟨S1x1024, .f32⟩
  | .hbm, ⟨16, _⟩ => ⟨S256x1024, .f32⟩
  | .local _ .vmem, ⟨0, _⟩ => ⟨S256x512, .i32⟩
  | .local _ .vmem, ⟨1, _⟩ => ⟨S8x256x512, .i32⟩
  | .local _ .vmem, ⟨2, _⟩ => ⟨S256x8, .f32⟩
  | .local _ .vmem, ⟨3, _⟩ => ⟨S256x1024, .f32⟩
  | .local _ .vmem, ⟨4, _⟩ => ⟨S1x256x1024, .f32⟩
  | .local _ .vmem, ⟨5, _⟩ => ⟨S1x1024, .f32⟩
  | .local _ .vmem, ⟨6, _⟩ => ⟨S1024x512, .bf16⟩
  | .local _ .vmem, ⟨7, _⟩ => ⟨S256x1024, .bf16⟩
  | .local _ .vmem, ⟨8, _⟩ => ⟨S256x1024, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FfnSRefIdeal.lean ====
abbrev S256x512 : Shape := ⟨2, ![256, 512]⟩
abbrev S8x16640x512 : Shape := ⟨3, ![8, 16640, 512]⟩
abbrev S8x16640 : Shape := ⟨2, ![8, 16640]⟩
abbrev S256x1024 : Shape := ⟨2, ![256, 1024]⟩
abbrev S32x1x1024 : Shape := ⟨3, ![32, 1, 1024]⟩
abbrev S1024 : Shape := ⟨1, ![1024]⟩
abbrev S1024x512 : Shape := ⟨2, ![1024, 512]⟩
abbrev S_ : Shape := ⟨0, ![]⟩
abbrev S256x256 : Shape := ⟨2, ![256, 256]⟩
abbrev S8x256x512 : Shape := ⟨3, ![8, 256, 512]⟩
abbrev S8x256x1024 : Shape := ⟨3, ![8, 256, 1024]⟩
abbrev S8x256 : Shape := ⟨2, ![8, 256]⟩
abbrev S8x256x1 : Shape := ⟨3, ![8, 256, 1]⟩
abbrev S32x1024 : Shape := ⟨2, ![32, 1024]⟩
abbrev S32x8x1024 : Shape := ⟨3, ![32, 8, 1024]⟩
abbrev S256 : Shape := ⟨1, ![256]⟩
abbrev S256x1 : Shape := ⟨2, ![256, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S8x16640x512, .i32⟩
  | .hbm, ⟨2, _⟩ => ⟨S8x16640, .f32⟩
  | .hbm, ⟨3, _⟩ => ⟨S256x1024, .f32⟩
  | .hbm, ⟨4, _⟩ => ⟨S32x1x1024, .f32⟩
  | .hbm, ⟨5, _⟩ => ⟨S1024, .f32⟩
  | .hbm, ⟨6, _⟩ => ⟨S1024x512, .f32⟩
  | .hbm, ⟨7, _⟩ => ⟨S256x1024, .f32⟩
  | .hbm, ⟨8, _⟩ => ⟨S_, .i32⟩
  | .hbm, ⟨9, _⟩ => ⟨S256x512, .i32⟩
  | .hbm, ⟨10, _⟩ => ⟨S256x512, .i32⟩
  | .hbm, ⟨11, _⟩ => ⟨S256x512, .f32⟩
  | .hbm, ⟨12, _⟩ => ⟨S_, .i32⟩
  | .hbm, ⟨13, _⟩ => ⟨S256x512, .i32⟩
  | .hbm, ⟨14, _⟩ => ⟨S256x512, .i32⟩
  | .hbm, ⟨15, _⟩ => ⟨S256x512, .f32⟩
  | .hbm, ⟨16, _⟩ => ⟨S256x1024, .f32⟩
  | .hbm, ⟨17, _⟩ => ⟨S256x512, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S256x1024, .f32⟩
  | .hbm, ⟨31, _⟩ => ⟨S8x256x512, .i32⟩
  | .hbm, ⟨32, _⟩ => ⟨S_, .i32⟩
  | .hbm, ⟨33, _⟩ => ⟨S8x256x512, .i32⟩
  | .hbm, ⟨34, _⟩ => ⟨S8x256x512, .i32⟩
  | .hbm, ⟨35, _⟩ => ⟨S8x256x512, .f32⟩
  | .hbm, ⟨36, _⟩ => ⟨S_, .i32⟩
  | .hbm, ⟨37, _⟩ => ⟨S8x256x512, .i32⟩
  | .hbm, ⟨38, _⟩ => ⟨S8x256x512, .i32⟩
  | .hbm, ⟨39, _⟩ => ⟨S8x256x512, .f32⟩
  | .hbm, ⟨40, _⟩ => ⟨S8x256x1024, .f32⟩
  | .hbm, ⟨41, _⟩ => ⟨S8x256, .f32⟩
  | .hbm, ⟨42, _⟩ => ⟨S8x256x1, .f32⟩
  | .hbm, ⟨43, _⟩ => ⟨S8x256x1024, .f32⟩
  | .hbm, ⟨44, _⟩ => ⟨S8x256x1024, .f32⟩
  | .hbm, ⟨45, _⟩ => ⟨S_, .f32⟩
  | .hbm, ⟨46, _⟩ => ⟨S256x1024, .f32⟩
  | .hbm, ⟨47, _⟩ => ⟨S32x1024, .f32⟩
  | .hbm, ⟨48, _⟩ => ⟨S32x8x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S256x1, .f32⟩
  | .hbm, ⟨62, _⟩ => ⟨S256x1024, .f32⟩
  | .hbm, ⟨63, _⟩ => ⟨S256x1024, .f32⟩
  | .hbm, ⟨64, _⟩ => ⟨S1x1024, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S256x1024, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Ffn.lean ====
abbrev S16384x512 : Shape := ⟨2, ![16384, 512]⟩
abbrev S8x16640x512 : Shape := ⟨3, ![8, 16640, 512]⟩
abbrev S8x16640 : Shape := ⟨2, ![8, 16640]⟩
abbrev S16384x1024 : Shape := ⟨2, ![16384, 1024]⟩
abbrev S4x1x1024 : Shape := ⟨3, ![4, 1, 1024]⟩
abbrev S1024 : Shape := ⟨1, ![1024]⟩
abbrev S1024x512 : Shape := ⟨2, ![1024, 512]⟩
abbrev S256x1024 : Shape := ⟨2, ![256, 1024]⟩
abbrev S16640x8 : Shape := ⟨2, ![16640, 8]⟩
abbrev S1x1024 : Shape := ⟨2, ![1, 1024]⟩
abbrev S256x512 : Shape := ⟨2, ![256, 512]⟩
abbrev S8x256x512 : Shape := ⟨3, ![8, 256, 512]⟩
abbrev S256x8 : Shape := ⟨2, ![256, 8]⟩
abbrev S1x1x1024 : Shape := ⟨3, ![1, 1, 1024]⟩
abbrev S256x256 : Shape := ⟨2, ![256, 256]⟩
abbrev S1x256x512 : Shape := ⟨3, ![1, 256, 512]⟩
abbrev S256x1 : Shape := ⟨2, ![256, 1]⟩
abbrev S256 : Shape := ⟨1, ![256]⟩

abbrev nBuf : Space → Nat
  | .hbm => 13
  | .vmem => 15
  | .smem => 0
  | _ => 0

abbrev bufTy : (tb : Table) → Fin (tcTables nBuf tb) → BufTy
  | .hbm, ⟨0, _⟩ => ⟨S16384x512, .i32⟩
  | .hbm, ⟨1, _⟩ => ⟨S8x16640x512, .i32⟩
  | .hbm, ⟨2, _⟩ => ⟨S8x16640, .f32⟩
  | .hbm, ⟨3, _⟩ => ⟨S16384x1024, .f32⟩
  | .hbm, ⟨4, _⟩ => ⟨S4x1x1024, .f32⟩
  | .hbm, ⟨5, _⟩ => ⟨S1024, .f32⟩
  | .hbm, ⟨6, _⟩ => ⟨S1024x512, .f32⟩
  | .hbm, ⟨7, _⟩ => ⟨S256x1024, .f32⟩
  | .hbm, ⟨8, _⟩ => ⟨S16640x8, .f32⟩
  | .hbm, ⟨9, _⟩ => ⟨S1024x512, .bf16⟩
  | .hbm, ⟨10, _⟩ => ⟨S256x1024, .bf16⟩
  | .hbm, ⟨11, _⟩ => ⟨S1x1024, .f32⟩
  | .hbm, ⟨12, _⟩ => ⟨S16384x1024, .f32⟩
  | .local _ .vmem, ⟨0, _⟩ => ⟨S256x512, .i32⟩
  | .local _ .vmem, ⟨1, _⟩ => ⟨S256x512, .i32⟩
  | .local _ .vmem, ⟨2, _⟩ => ⟨S8x256x512, .i32⟩
  | .local _ .vmem, ⟨3, _⟩ => ⟨S8x256x512, .i32⟩
  | .local _ .vmem, ⟨4, _⟩ => ⟨S256x8, .f32⟩
  | .local _ .vmem, ⟨5, _⟩ => ⟨S256x8, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x512, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | _, _ => ⟨S16384x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S16384x512 : Shape := ⟨2, ![16384, 512]⟩
abbrev S8x16640x512 : Shape := ⟨3, ![8, 16640, 512]⟩
abbrev S8x16640 : Shape := ⟨2, ![8, 16640]⟩
abbrev S16384x1024 : Shape := ⟨2, ![16384, 1024]⟩
abbrev S4x1x1024 : Shape := ⟨3, ![4, 1, 1024]⟩
abbrev S1024 : Shape := ⟨1, ![1024]⟩
abbrev S1024x512 : Shape := ⟨2, ![1024, 512]⟩
abbrev S256x1024 : Shape := ⟨2, ![256, 1024]⟩
abbrev S_ : Shape := ⟨0, ![]⟩
abbrev S16384x256 : Shape := ⟨2, ![16384, 256]⟩
abbrev S8x16384x512 : Shape := ⟨3, ![8, 16384, 512]⟩
abbrev S8x16384x1024 : Shape := ⟨3, ![8, 16384, 1024]⟩
abbrev S8x16384 : Shape := ⟨2, ![8, 16384]⟩
abbrev S8x16384x1 : Shape := ⟨3, ![8, 16384, 1]⟩
abbrev S4x1024 : Shape := ⟨2, ![4, 1024]⟩
abbrev S4x4096x1024 : Shape := ⟨3, ![4, 4096, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .i32⟩
  | .hbm, ⟨1, _⟩ => ⟨S8x16640x512, .i32⟩
  | .hbm, ⟨2, _⟩ => ⟨S8x16640, .f32⟩
  | .hbm, ⟨3, _⟩ => ⟨S16384x1024, .f32⟩
  | .hbm, ⟨4, _⟩ => ⟨S4x1x1024, .f32⟩
  | .hbm, ⟨5, _⟩ => ⟨S1024, .f32⟩
  | .hbm, ⟨6, _⟩ => ⟨S1024x512, .f32⟩
  | .hbm, ⟨7, _⟩ => ⟨S256x1024, .f32⟩
  | .hbm, ⟨8, _⟩ => ⟨S_, .i32⟩
  | .hbm, ⟨9, _⟩ => ⟨S16384x512, .i32⟩
  | .hbm, ⟨10, _⟩ => ⟨S16384x512, .i32⟩
  | .hbm, ⟨11, _⟩ => ⟨S16384x512, .f32⟩
  | .hbm, ⟨12, _⟩ => ⟨S_, .i32⟩
  | .hbm, ⟨13, _⟩ => ⟨S16384x512, .i32⟩
  | .hbm, ⟨14, _⟩ => ⟨S16384x512, .i32⟩
  | .hbm, ⟨15, _⟩ => ⟨S16384x512, .f32⟩
  | .hbm, ⟨16, _⟩ => ⟨S16384x1024, .f32⟩
  | .hbm, ⟨17, _⟩ => ⟨S16384x512, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S_, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x1024, .f32⟩
  | .hbm, ⟨31, _⟩ => ⟨S8x16384x512, .i32⟩
  | .hbm, ⟨32, _⟩ => ⟨S_, .i32⟩
  | .hbm, ⟨33, _⟩ => ⟨S8x16384x512, .i32⟩
  | .hbm, ⟨34, _⟩ => ⟨S8x16384x512, .i32⟩
  | .hbm, ⟨35, _⟩ => ⟨S8x16384x512, .f32⟩
  | .hbm, ⟨36, _⟩ => ⟨S_, .i32⟩
  | .hbm, ⟨37, _⟩ => ⟨S8x16384x512, .i32⟩
  | .hbm, ⟨38, _⟩ => ⟨S8x16384x512, .i32⟩
  | .hbm, ⟨39, _⟩ => ⟨S8x16384x512, .f32⟩
  | .hbm, ⟨40, _⟩ => ⟨S8x16384x1024, .f32⟩
  | .hbm, ⟨41, _⟩ => ⟨S8x16384, .f32⟩
  | .hbm, ⟨42, _⟩ => ⟨S8x16384x1, .f32⟩
  | .hbm, ⟨43, _⟩ => ⟨S8x16384x1024, .f32⟩
  | .hbm, ⟨44, _⟩ => ⟨S8x16384x1024, .f32⟩
  | .hbm, ⟨45, _⟩ => ⟨S_, .f32⟩
  | .hbm, ⟨46, _⟩ => ⟨S16384x1024, .f32⟩
  | .hbm, ⟨47, _⟩ => ⟨S4x1024, .f32⟩
  | .hbm, ⟨48, _⟩ => ⟨S4x4096x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Out.lean ====
abbrev S16384x512 : Shape := ⟨2, ![16384, 512]⟩
abbrev S16384x1024 : Shape := ⟨2, ![16384, 1024]⟩
abbrev S4x4096x1024 : Shape := ⟨3, ![4, 4096, 1024]⟩
abbrev S4x1x1024 : Shape := ⟨3, ![4, 1, 1024]⟩
abbrev S1024 : Shape := ⟨1, ![1024]⟩
abbrev S512x1024 : Shape := ⟨2, ![512, 1024]⟩
abbrev S1024x1024 : Shape := ⟨2, ![1024, 1024]⟩
abbrev S1024x256 : Shape := ⟨2, ![1024, 256]⟩
abbrev S256x1024 : Shape := ⟨2, ![256, 1024]⟩
abbrev S1x1024 : Shape := ⟨2, ![1, 1024]⟩
abbrev S256x16384 : Shape := ⟨2, ![256, 16384]⟩
abbrev S256x512 : Shape := ⟨2, ![256, 512]⟩
abbrev S1x1x1024 : Shape := ⟨3, ![1, 1, 1024]⟩
abbrev S256x256 : Shape := ⟨2, ![256, 256]⟩
abbrev S256 : Shape := ⟨1, ![256]⟩
abbrev S256x1 : Shape := ⟨2, ![256, 1]⟩

abbrev nBuf : Space → Nat
  | .hbm => 29
  | .vmem => 29
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S16384x1024, .f32⟩
  | .hbm, ⟨4, _⟩ => ⟨S4x4096x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x256, .f32⟩
  | .hbm, ⟨14, _⟩ => ⟨S256x1024, .f32⟩
  | .hbm, ⟨15, _⟩ => ⟨S256x1024, .bf16⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S16384x1024, .f32⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S16384x1024, .bf16⟩
  | .hbm, ⟨28, _⟩ => ⟨S256x16384, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x256, .f32⟩
  | .local _ .vmem, ⟨28, _⟩ => ⟨S256x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OutRefIdeal.lean ====
abbrev S16384x512 : Shape := ⟨2, ![16384, 512]⟩
abbrev S16384x1024 : Shape := ⟨2, ![16384, 1024]⟩
abbrev S4x4096x1024 : Shape := ⟨3, ![4, 4096, 1024]⟩
abbrev S4x1x1024 : Shape := ⟨3, ![4, 1, 1024]⟩
abbrev S1024 : Shape := ⟨1, ![1024]⟩
abbrev S512x1024 : Shape := ⟨2, ![512, 1024]⟩
abbrev S1024x1024 : Shape := ⟨2, ![1024, 1024]⟩
abbrev S1024x256 : Shape := ⟨2, ![1024, 256]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x256 : Shape := ⟨2, ![16384, 256]⟩
abbrev S256x16384 : Shape := ⟨2, ![256, 16384]⟩

abbrev nBuf : Space → Nat
  | .hbm => 73
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S16384x1024, .f32⟩
  | .hbm, ⟨4, _⟩ => ⟨S4x4096x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S1024x256, .f32⟩
  | .hbm, ⟨14, _⟩ => ⟨S4x4096x1024, .f32⟩
  | .hbm, ⟨15, _⟩ => ⟨S16384x512, .f32⟩
  | .hbm, ⟨16, _⟩ => ⟨S4x4096x512, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S16384x512, .f32⟩
  | .hbm, ⟨21, _⟩ => ⟨S4x4096x512, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x1x1024, .f32⟩
  | .hbm, ⟨63, _⟩ => ⟨S4x1x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | .hbm, ⟨71, _⟩ => ⟨S16384x256, .f32⟩
  | .hbm, ⟨72, _⟩ => ⟨S256x16384, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Sb.lean ====
abbrev S4x4096x8x64 : Shape := ⟨4, ![4, 4096, 8, 64]⟩
abbrev S4x16x256x512 : Shape := ⟨4, ![4, 16, 256, 512]⟩
abbrev S4x16x512x256 : Shape := ⟨4, ![4, 16, 512, 256]⟩
abbrev S16384x512 : Shape := ⟨2, ![16384, 512]⟩
abbrev S256x512 : Shape := ⟨2, ![256, 512]⟩
abbrev S4096x512 : Shape := ⟨2, ![4096, 512]⟩
abbrev S1x16x512x256 : Shape := ⟨4, ![1, 16, 512, 256]⟩
abbrev S512x256 : Shape := ⟨2, ![512, 256]⟩
abbrev S8x256 : Shape := ⟨2, ![8, 256]⟩
abbrev S256x256 : Shape := ⟨2, ![256, 256]⟩
abbrev S256x64 : Shape := ⟨2, ![256, 64]⟩
abbrev S64x256 : Shape := ⟨2, ![64, 256]⟩
abbrev S1x256 : Shape := ⟨2, ![1, 256]⟩
abbrev S1x1x64x256 : Shape := ⟨4, ![1, 1, 64, 256]⟩
abbrev S256 : Shape := ⟨1, ![256]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x16x256x512, .f32⟩
  | .hbm, ⟨4, _⟩ => ⟨S4x16x512x256, .f32⟩
  | .hbm, ⟨5, _⟩ => ⟨S4x16x512x256, .bf16⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S256x512, .bf16⟩
  | .local _ .vmem, ⟨7, _⟩ => ⟨S256x512, .bf16⟩
  | .local _ .vmem, ⟨8, _⟩ => ⟨S512x256, .f32⟩
  | .local _ .vmem, ⟨9, _⟩ => ⟨S8x256, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32_8 : BitVec 32 := 256#32
  let v29 : BitVec 32 := Scalar.muli arg1 c256_i32_8
  v29
def k0_off1 (i : grid0.Coords) : Fin 2 → Nat :=
  let arg1 : BitVec 32 := BitVec.ofNat 32 (i 1).val
  let c256_i32_8 : BitVec 32 := 256#32
  let v29 : BitVec 32 := Scalar.muli arg1 c256_i32_8
  let v30 : BitVec 32 := v29
  let v31 : Index := Scalar.indexCast v30
  let c0_9 : Index := 0#32
  ![v31.toNat, 0]
def k0_off2 (i : grid0.Coords) : Fin 4 → Nat :=
  let c0_99 : Index := 0#32
  let arg1 : BitVec 32 := BitVec.ofNat 32 (i 1).val
  let v306 : Index := Scalar.indexCast arg1
  let c0_100 : Index := 0#32
  let c0_101 : Index := 0#32
  ![0, v306.toNat, 0, 0]
def k0_off3 (i : grid0.Coords) : Fin 4 → Nat :=
  let c0_103 : Index := 0#32
  let arg1 : BitVec 32 := BitVec.ofNat 32 (i 1).val
  let v311 : Index := Scalar.indexCast arg1
  let c64 : Index := 64#32
  let c0_104 : Index := 0#32
  ![0, v311.toNat, 64, 0]
def k0_off4 (i : grid0.Coords) : Fin 4 → Nat :=
  let c0_106 : Index := 0#32
  let arg1 : BitVec 32 := BitVec.ofNat 32 (i 1).val
  let v316 : Index := Scalar.indexCast arg1
  let c128 : Index := 128#32
  let c0_107 : Index := 0#32
  ![0, v316.toNat, 128, 0]
def k0_off5 (i : grid0.Coords) : Fin 4 → Nat :=
  let c0_109 : Index := 0#32
  let arg1 : BitVec 32 := BitVec.ofNat 32 (i 1).val
  let v321 : Index := Scalar.indexCast arg1
  let c192 : Index := 192#32
  let c0_110 : Index := 0#32
  ![0, v321.toNat, 192, 0]
def k0_off6 (i : grid0.Coords) : Fin 4 → Nat :=
  let c0_112 : Index := 0#32
  let arg1 : BitVec 32 := BitVec.ofNat 32 (i 1).val
  let v326 : Index := Scalar.indexCast arg1
  let c256 : Index := 256#32
  let c0_113 : Index := 0#32
  ![0, v326.toNat, 256, 0]
def k0_off7 (i : grid0.Coords) : Fin 4 → Nat :=
  let c0_115 : Index := 0#32
  let arg1 : BitVec 32 := BitVec.ofNat 32 (i 1).val
  let v331 : Index := Scalar.indexCast arg1
  let c320 : Index := 320#32
  let c0_116 : Index := 0#32
  ![0, v331.toNat, 320, 0]
def k0_off8 (i : grid0.Coords) : Fin 4 → Nat :=
  let c0_118 : Index := 0#32
  let arg1 : BitVec 32 := BitVec.ofNat 32 (i 1).val
  let v336 : Index := Scalar.indexCast arg1
  let c384 : Index := 384#32
  let c0_119 : Index := 0#32
  ![0, v336.toNat, 384, 0]
def k0_off9 (i : grid0.Coords) : Fin 4 → Nat :=
  let c0_121 : Index := 0#32
  let arg1 : BitVec 32 := BitVec.ofNat 32 (i 1).val
  let v341 : Index := Scalar.indexCast arg1
  let c448 : Index := 448#32
  let c0_122 : Index := 0#32
  ![0, v341.toNat, 448, 0]
@[reducible] def k0_t1_loop (i : grid0.Coords) : Scf.Loop 32 :=
  let c0_i32_196 : BitVec 32 := 0#32
  let arg1 : BitVec 32 := BitVec.ofNat 32 (i 1).val
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_197 : BitVec 32 := 1#32
  ⟨c0_i32_196, v446, c1_i32_197⟩
def k0_mult2 (i : grid0.Coords) (k0_t1 : Fin (k0_t1_loop i).trips) : BitVec 32 :=
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let c256_i32_204 : BitVec 32 := 256#32
  let v453 : BitVec 32 := Scalar.muli v452 c256_i32_204
  v453
def k0_off10 (i : grid0.Coords) (k0_t1 : Fin (k0_t1_loop i).trips) : Fin 2 → Nat :=
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let c256_i32_204 : BitVec 32 := 256#32
  let v453 : BitVec 32 := Scalar.muli v452 c256_i32_204
  let v454 : BitVec 32 := v453
  let v455 : Index := Scalar.indexCast v454
  let c0_205 : Index := 0#32
  ![v455.toNat, 0]
def k0_off11 (i : grid0.Coords) (k0_t1 : Fin (k0_t1_loop i).trips) : Fin 4 → Nat :=
  let c0_286 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v698 : Index := Scalar.indexCast v452
  let c0_287 : Index := 0#32
  let c0_288 : Index := 0#32
  ![0, v698.toNat, 0, 0]
def k0_off12 (i : grid0.Coords) (k0_t1 : Fin (k0_t1_loop i).trips) : Fin 4 → Nat :=
  let c0_290 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v703 : Index := Scalar.indexCast v452
  let c64_291 : Index := 64#32
  let c0_292 : Index := 0#32
  ![0, v703.toNat, 64, 0]
def k0_off13 (i : grid0.Coords) (k0_t1 : Fin (k0_t1_loop i).trips) : Fin 4 → Nat :=
  let c0_294 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v708 : Index := Scalar.indexCast v452
  let c128_295 : Index := 128#32
  let c0_296 : Index := 0#32
  ![0, v708.toNat, 128, 0]
def k0_off14 (i : grid0.Coords) (k0_t1 : Fin (k0_t1_loop i).trips) : Fin 4 → Nat :=
  let c0_298 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v713 : Index := Scalar.indexCast v452
  let c192_299 : Index := 192#32
  let c0_300 : Index := 0#32
  ![0, v713.toNat, 192, 0]
def k0_off15 (i : grid0.Coords) (k0_t1 : Fin (k0_t1_loop i).trips) : Fin 4 → Nat :=
  let c0_302 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v718 : Index := Scalar.indexCast v452
  let c256_303 : Index := 256#32
  let c0_304 : Index := 0#32
  ![0, v718.toNat, 256, 0]
def k0_off16 (i : grid0.Coords) (k0_t1 : Fin (k0_t1_loop i).trips) : Fin 4 → Nat :=
  let c0_306 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v723 : Index := Scalar.indexCast v452
  let c320_307 : Index := 320#32
  let c0_308 : Index := 0#32
  ![0, v723.toNat, 320, 0]
def k0_off17 (i : grid0.Coords) (k0_t1 : Fin (k0_t1_loop i).trips) : Fin 4 → Nat :=
  let c0_310 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v728 : Index := Scalar.indexCast v452
  let c384_311 : Index := 384#32
  let c0_312 : Index := 0#32
  ![0, v728.toNat, 384, 0]
def k0_off18 (i : grid0.Coords) (k0_t1 : Fin (k0_t1_loop i).trips) : Fin 4 → Nat :=
  let c0_314 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let c1_i32_197 : BitVec 32 := 1#32
  let arg8 : BitVec 32 := Scf.iv c0_i32_196 c1_i32_197 k0_t1
  let v452 : BitVec 32 := Scalar.subi v451 arg8
  let v733 : Index := Scalar.indexCast v452
  let c448_315 : Index := 448#32
  let c0_316 : Index := 0#32
  ![0, v733.toNat, 448, 0]
@[reducible] def k0_t2_loop (i : grid0.Coords) : Scf.Loop 32 :=
  let c0_i32_196 : BitVec 32 := 0#32
  let arg1 : BitVec 32 := BitVec.ofNat 32 (i 1).val
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let v443 : BitVec 32 := Scalar.addi c0_i32_196 v442
  let c1_i32_198 : BitVec 32 := 1#32
  ⟨v446, v443, c1_i32_198⟩
def k0_mult3 (i : grid0.Coords) (k0_t2 : Fin (k0_t2_loop i).trips) : BitVec 32 :=
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let c256_i32_204 : BitVec 32 := 256#32
  let v453 : BitVec 32 := Scalar.muli v452 c256_i32_204
  v453
def k0_off19 (i : grid0.Coords) (k0_t2 : Fin (k0_t2_loop i).trips) : Fin 2 → Nat :=
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let c256_i32_204 : BitVec 32 := 256#32
  let v453 : BitVec 32 := Scalar.muli v452 c256_i32_204
  let v454 : BitVec 32 := v453
  let v455 : Index := Scalar.indexCast v454
  let c0_205 : Index := 0#32
  ![v455.toNat, 0]
def k0_off20 (i : grid0.Coords) (k0_t2 : Fin (k0_t2_loop i).trips) : Fin 4 → Nat :=
  let c0_286 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v698 : Index := Scalar.indexCast v452
  let c0_287 : Index := 0#32
  let c0_288 : Index := 0#32
  ![0, v698.toNat, 0, 0]
def k0_off21 (i : grid0.Coords) (k0_t2 : Fin (k0_t2_loop i).trips) : Fin 4 → Nat :=
  let c0_290 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v703 : Index := Scalar.indexCast v452
  let c64_291 : Index := 64#32
  let c0_292 : Index := 0#32
  ![0, v703.toNat, 64, 0]
def k0_off22 (i : grid0.Coords) (k0_t2 : Fin (k0_t2_loop i).trips) : Fin 4 → Nat :=
  let c0_294 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v708 : Index := Scalar.indexCast v452
  let c128_295 : Index := 128#32
  let c0_296 : Index := 0#32
  ![0, v708.toNat, 128, 0]
def k0_off23 (i : grid0.Coords) (k0_t2 : Fin (k0_t2_loop i).trips) : Fin 4 → Nat :=
  let c0_298 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v713 : Index := Scalar.indexCast v452
  let c192_299 : Index := 192#32
  let c0_300 : Index := 0#32
  ![0, v713.toNat, 192, 0]
def k0_off24 (i : grid0.Coords) (k0_t2 : Fin (k0_t2_loop i).trips) : Fin 4 → Nat :=
  let c0_302 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v718 : Index := Scalar.indexCast v452
  let c256_303 : Index := 256#32
  let c0_304 : Index := 0#32
  ![0, v718.toNat, 256, 0]
def k0_off25 (i : grid0.Coords) (k0_t2 : Fin (k0_t2_loop i).trips) : Fin 4 → Nat :=
  let c0_306 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v723 : Index := Scalar.indexCast v452
  let c320_307 : Index := 320#32
  let c0_308 : Index := 0#32
  ![0, v723.toNat, 320, 0]
def k0_off26 (i : grid0.Coords) (k0_t2 : Fin (k0_t2_loop i).trips) : Fin 4 → Nat :=
  let c0_310 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v728 : Index := Scalar.indexCast v452
  let c384_311 : Index := 384#32
  let c0_312 : Index := 0#32
  ![0, v728.toNat, 384, 0]
def k0_off27 (i : grid0.Coords) (k0_t2 : Fin (k0_t2_loop i).trips) : Fin 4 → Nat :=
  let c0_314 : Index := 0#32
  let arg1 : BitVec 32 := BitVec.ofNat 32 (i 1).val
  let c1_i32_203 : BitVec 32 := 1#32
  let v451 : BitVec 32 := Scalar.subi arg1 c1_i32_203
  let c0_i32_196 : BitVec 32 := 0#32
  let v442 : BitVec 32 := Scalar.subi arg1 c0_i32_196
  let c1_i32 : BitVec 32 := 1#32
  let v444 : BitVec 32 := Scalar.divsi v442 c1_i32
  let v445 : BitVec 32 := Scalar.muli v444 c1_i32
  let v446 : BitVec 32 := Scalar.addi c0_i32_196 v445
  let c1_i32_198 : BitVec 32 := 1#32
  let arg8 : BitVec 32 := Scf.iv v446 c1_i32_198 k0_t2
  let v452 : BitVec 32 := Scalar.subi v451 arg8
  let v733 : Index := Scalar.indexCast v452
  let c448_315 : Index := 448#32
  let c0_316 : Index := 0#32
  ![0, v733.toNat, 448, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbRefIdeal.lean ====
abbrev S4x4096x8x64 : Shape := ⟨4, ![4, 4096, 8, 64]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S16384x512 : Shape := ⟨2, ![16384, 512]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x8x4096x4096, .f32⟩
  | .hbm, ⟨4, _⟩ => ⟨S_, .f32⟩
  | .hbm, ⟨5, _⟩ => ⟨S4x8x4096x4096, .f32⟩
  | .hbm, ⟨6, _⟩ => ⟨S4x8x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S4x8x4096x4096, .f32⟩
  | .hbm, ⟨14, _⟩ => ⟨S4x8x4096x4096, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4x8x4096x4096, .f32⟩
  | .hbm, ⟨19, _⟩ => ⟨S4x8x4096x4096, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S_, .f32⟩
  | .hbm, ⟨31, _⟩ => ⟨S_, .f32⟩
  | .hbm, ⟨32, _⟩ => ⟨S4x8x4096x4096, .i1⟩
  | .hbm, ⟨33, _⟩ => ⟨S4x8x4096x4096, .f32⟩
  | .hbm, ⟨34, _⟩ => ⟨S4x8x4096x4096, .f32⟩
  | .hbm, ⟨35, _⟩ => ⟨S_, .f32⟩
  | .hbm, ⟨36, _⟩ => ⟨S_, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .i1⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S_, .f32⟩
  | .hbm, ⟨58, _⟩ => ⟨S_, .f32⟩
  | .hbm, ⟨59, _⟩ => ⟨S4x8x4096x4096, .i1⟩
  | .hbm, ⟨60, _⟩ => ⟨S4x8x4096x4096, .f32⟩
  | .hbm, ⟨61, _⟩ => ⟨S4x8x4096x4096, .f32⟩
  | .hbm, ⟨62, _⟩ => ⟨S4x8x64x4096, .f32⟩
  | .hbm, ⟨63, _⟩ => ⟨S4x4096x8x64, .f32⟩
  | .hbm, ⟨64, _⟩ => ⟨S16384x512, .f32⟩
  | .hbm, ⟨65, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== InP.lean ====
abbrev S4x4096x1024 : Shape := ⟨3, ![4, 4096, 1024]⟩
abbrev S4x1x1024 : Shape := ⟨3, ![4, 1, 1024]⟩
abbrev S1024 : Shape := ⟨1, ![1024]⟩
abbrev S1024x5704 : Shape := ⟨2, ![1024, 5704]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S1024x512 : Shape := ⟨2, ![1024, 512]⟩
abbrev S1024x1024 : Shape := ⟨2, ![1024, 1024]⟩
abbrev S1024x72 : Shape := ⟨2, ![1024, 72]⟩
abbrev S1024x2048 : Shape := ⟨2, ![1024, 2048]⟩
abbrev S1024x128 : Shape := ⟨2, ![1024, 128]⟩
abbrev S1x1024 : Shape := ⟨2, ![1, 1024]⟩
abbrev S16384x512 : Shape := ⟨2, ![16384, 512]⟩
abbrev S16384x128 : Shape := ⟨2, ![16384, 128]⟩
abbrev S4x1024x4096 : Shape := ⟨3, ![4, 1024, 4096]⟩
abbrev S4x64x4096 : Shape := ⟨3, ![4, 64, 4096]⟩
abbrev S4x16x512x256 : Shape := ⟨4, ![4, 16, 512, 256]⟩
abbrev S256x1024 : Shape := ⟨2, ![256, 1024]⟩
abbrev S1x1x1024 : Shape := ⟨3, ![1, 1, 1024]⟩
abbrev S256x128 : Shape := ⟨2, ![256, 128]⟩
abbrev S256x512 : Shape := ⟨2, ![256, 512]⟩
abbrev S1x1024x256 : Shape := ⟨3, ![1, 1024, 256]⟩
abbrev S1x64x256 : Shape := ⟨3, ![1, 64, 256]⟩
abbrev S1x1x512x256 : Shape := ⟨4, ![1, 1, 512, 256]⟩
abbrev S256 : Shape := ⟨1, ![256]⟩
abbrev S256x1 : Shape := ⟨2, ![256, 1]⟩
abbrev S256x2048 : Shape := ⟨2, ![256, 2048]⟩
abbrev S1024x256 : Shape := ⟨2, ![1024, 256]⟩
abbrev S128x256 : Shape := ⟨2, ![128, 256]⟩
abbrev S64x256 : Shape := ⟨2, ![64, 256]⟩
abbrev S512x256 : Shape := ⟨2, ![512, 256]⟩

abbrev nBuf : Space → Nat
  | .hbm => 64
  | .vmem => 46
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x5704, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S16384x1024, .f32⟩
  | .hbm, ⟨32, _⟩ => ⟨S1024x512, .f32⟩
  | .hbm, ⟨33, _⟩ => ⟨S1024x1024, .f32⟩
  | .hbm, ⟨34, _⟩ => ⟨S1024x512, .f32⟩
  | .hbm, ⟨35, _⟩ => ⟨S1024x72, .f32⟩
  | .hbm, ⟨36, _⟩ => ⟨S1024x512, .f32⟩
  | .hbm, ⟨37, _⟩ => ⟨S1024x1024, .f32⟩
  | .hbm, ⟨38, _⟩ => ⟨S1024x2048, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x512, .bf16⟩
  | .hbm, ⟨43, _⟩ => ⟨S1024x1024, .bf16⟩
  | .hbm, ⟨44, _⟩ => ⟨S1024x512, .bf16⟩
  | .hbm, ⟨45, _⟩ => ⟨S1024x128, .bf16⟩
  | .hbm, ⟨46, _⟩ => ⟨S1024x512, .bf16⟩
  | .hbm, ⟨47, _⟩ => ⟨S1024x1024, .bf16⟩
  | .hbm, ⟨48, _⟩ => ⟨S1024x2048, .bf16⟩
  | .hbm, ⟨49, _⟩ => ⟨S1x1024, .f32⟩
  | .hbm, ⟨50, _⟩ => ⟨S16384x512, .bf16⟩
  | .hbm, ⟨51, _⟩ => ⟨S16384x512, .bf16⟩
  | .hbm, ⟨52, _⟩ => ⟨S16384x512, .bf16⟩
  | .hbm, ⟨53, _⟩ => ⟨S16384x128, .f32⟩
  | .hbm, ⟨54, _⟩ => ⟨S16384x512, .bf16⟩
  | .hbm, ⟨55, _⟩ => ⟨S16384x512, .bf16⟩
  | .hbm, ⟨56, _⟩ => ⟨S16384x128, .bf16⟩
  | .hbm, ⟨57, _⟩ => ⟨S16384x1024, .f32⟩
  | .hbm, ⟨58, _⟩ => ⟨S16384x1024, .f32⟩
  | .hbm, ⟨59, _⟩ => ⟨S4x1024x4096, .f32⟩
  | .hbm, ⟨60, _⟩ => ⟨S4x1024x4096, .f32⟩
  | .hbm, ⟨61, _⟩ => ⟨S4x64x4096, .f32⟩
  | .hbm, ⟨62, _⟩ => ⟨S4x16x512x256, .bf16⟩
  | .hbm, ⟨63, _⟩ => ⟨S4x16x512x256, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1024x512, .bf16⟩
  | .local _ .vmem, ⟨12, _⟩ => ⟨S1024x1024, .bf16⟩
  | .local _ .vmem, ⟨13, _⟩ => ⟨S1024x512, .bf16⟩
  | .local _ .vmem, ⟨14, _⟩ => ⟨S1024x128, .bf16⟩
  | .local _ .vmem, ⟨15, _⟩ => ⟨S1024x512, .bf16⟩
  | .local _ .vmem, ⟨16, _⟩ => ⟨S1024x1024, .bf16⟩
  | .local _ .vmem, ⟨17, _⟩ => ⟨S1024x2048, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x128, .f32⟩
  | .local _ .vmem, ⟨25, _⟩ => ⟨S256x128, .f32⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x128, .bf16⟩
  | .local _ .vmem, ⟨31, _⟩ => ⟨S256x128, .bf16⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S1x1024x256, .f32⟩
  | .local _ .vmem, ⟨37, _⟩ => ⟨S1x1024x256, .f32⟩
  | .local _ .vmem, ⟨38, _⟩ => ⟨S1x1024x256, .f32⟩
  | .local _ .vmem, ⟨39, _⟩ => ⟨S1x1024x256, .f32⟩
  | .local _ .vmem, ⟨40, _⟩ => ⟨S1x64x256, .f32⟩
  | .local _ .vmem, ⟨41, _⟩ => ⟨S1x64x256, .f32⟩
  | .local _ .vmem, ⟨42, _⟩ => ⟨S1x1x512x256, .bf16⟩
  | .local _ .vmem, ⟨43, _⟩ => ⟨S1x1x512x256, .bf16⟩
  | .local _ .vmem, ⟨44, _⟩ => ⟨S1x1x512x256, .bf16⟩
  | .local _ .vmem, ⟨45, _⟩ => ⟨S1x1x512x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_call0_v0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_v41_3 : Ref sig .tc := ⟨.hbm, 53, rfl⟩
abbrev main_v41_4 : Ref sig .tc := ⟨.hbm, 54, rfl⟩
abbrev main_v41_5 : Ref sig .tc := ⟨.hbm, 55, rfl⟩
abbrev main_v41_6 : Ref sig .tc := ⟨.hbm, 56, rfl⟩
abbrev main_v41_7 : Ref sig .tc := ⟨.hbm, 57, rfl⟩
abbrev main_v41_8 : Ref sig .tc := ⟨.hbm, 58, rfl⟩
abbrev main_v41_9 : Ref sig .tc := ⟨.hbm, 59, rfl⟩
abbrev main_v41_10 : Ref sig .tc := ⟨.hbm, 60, rfl⟩
abbrev main_v41_11 : Ref sig .tc := ⟨.hbm, 61, rfl⟩
abbrev main_v41_12 : Ref sig .tc := ⟨.hbm, 62, rfl⟩
abbrev main_v41_13 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_23 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_24 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_25 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_26 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1024x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1024x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x64x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== InPRefIdeal.lean ====
abbrev S4x4096x1024 : Shape := ⟨3, ![4, 4096, 1024]⟩
abbrev S4x1x1024 : Shape := ⟨3, ![4, 1, 1024]⟩
abbrev S1024 : Shape := ⟨1, ![1024]⟩
abbrev S1024x5704 : Shape := ⟨2, ![1024, 5704]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5704 : Shape := ⟨3, ![4, 4096, 5704]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x8x64 : Shape := ⟨4, ![4, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S4x4096x1x64 : Shape := ⟨4, ![4, 4096, 1, 64]⟩
abbrev S4x4096x1x32 : Shape := ⟨4, ![4, 4096, 1, 32]⟩
abbrev S4x4096x56 : Shape := ⟨3, ![4, 4096, 56]⟩
abbrev S4x4096x128 : Shape := ⟨3, ![4, 4096, 128]⟩
abbrev S16384x128 : Shape := ⟨2, ![16384, 128]⟩
abbrev S16384x512 : Shape := ⟨2, ![16384, 512]⟩
abbrev S16384x1024 : Shape := ⟨2, ![16384, 1024]⟩
abbrev S4x4096x1x8x64 : Shape := ⟨5, ![4, 4096, 1, 8, 64]⟩
abbrev S4x4096x2x8x64 : Shape := ⟨5, ![4, 4096, 2, 8, 64]⟩
abbrev S4x2x8x64x4096 : Shape := ⟨5, ![4, 2, 8, 64, 4096]⟩
abbrev S4x1024x4096 : Shape := ⟨3, ![4, 1024, 4096]⟩
abbrev S4x64x4096 : Shape := ⟨3, ![4, 64, 4096]⟩
abbrev S4x16x256x512 : Shape := ⟨4, ![4, 16, 256, 512]⟩
abbrev S4x16x512x256 : Shape := ⟨4, ![4, 16, 512, 256]⟩

abbrev nBuf : Space → Nat
  | .hbm => 224
  | .vmem => 0
  | .smem => 0
  | _ => 0

abbrev hbmTy0_0 (i : Nat) : BufTy := match i % 128 with
  | 0 => ⟨S4x4096x1024, .f32⟩
  | 1 => ⟨S4x1x1024, .f32⟩
  | 2 => ⟨S4x1x1024, .f32⟩
  | 3 => ⟨S1024, .f32⟩
  | 4 => ⟨S1024x5704, .f32⟩
  | 5 => ⟨S4096, .i32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S_, .f32⟩
  | 23 => ⟨S4x1x1024, .f32⟩
  | 24 => ⟨S4x1x1024, .f32⟩
  | 25 => ⟨S4x4096x1024, .f32⟩
  | 26 => ⟨S4x4096x1024, .f32⟩
  | 27 => ⟨S4x4096x1024, .f32⟩
  | 28 => ⟨S4x4096x1024, .f32⟩
  | 29 => ⟨S4x4096x5704, .f32⟩
  | 30 => ⟨S4x4096x512, .f32⟩
  | 31 => ⟨S4x4096x512, .f32⟩
  | 32 => ⟨S4x4096x512, .f32⟩
  | 33 => ⟨S4x4096x512, .f32⟩
  | 34 => ⟨S4x4096x64, .f32⟩
  | 35 => ⟨S4x4096x8, .f32⟩
  | 36 => ⟨S4x4096x512, .f32⟩
  | 37 => ⟨S4x4096x512, .f32⟩
  | 38 => ⟨S4x4096x512, .f32⟩
  | 39 => ⟨S4x4096x1024, .f32⟩
  | 40 => ⟨S4x4096x1024, .f32⟩
  | 41 => ⟨S4x4096x8x64, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S4096, .f32⟩
  | 51 => ⟨S4096x1, .f32⟩
  | 52 => ⟨S1x32, .f32⟩
  | 53 => ⟨S4096x32, .f32⟩
  | 54 => ⟨S4096x32, .f32⟩
  | 55 => ⟨S4096x32, .f32⟩
  | 56 => ⟨S4096x32, .f32⟩
  | 57 => ⟨S1x4096x1x32, .f32⟩
  | 58 => ⟨S4096x32, .f32⟩
  | 59 => ⟨S1x4096x1x32, .f32⟩
  | 60 => ⟨S4x4096x8x32, .f32⟩
  | 61 => ⟨S4x4096x8x32, .f32⟩
  | 62 => ⟨S4x4096x8x32, .f32⟩
  | 63 => ⟨S4x4096x8x32, .f32⟩
  | 64 => ⟨S4x4096x8x32, .f32⟩
  | 65 => ⟨S4x4096x8x32, .f32⟩
  | 66 => ⟨S4x4096x8x32, .f32⟩
  | 67 => ⟨S4x4096x8x32, .f32⟩
  | 68 => ⟨S4x4096x8x32, .f32⟩
  | 69 => ⟨S4x4096x8x32, .f32⟩
  | 70 => ⟨S4x4096x8x32, .f32⟩
  | 71 => ⟨S4x4096x8x32, .f32⟩
  | 72 => ⟨S4x4096x8x64, .f32⟩
  | 73 => ⟨S4x4096x8x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S4096, .f32⟩
  | 83 => ⟨S4096x1, .f32⟩
  | 84 => ⟨S1x32, .f32⟩
  | 85 => ⟨S4096x32, .f32⟩
  | 86 => ⟨S4096x32, .f32⟩
  | 87 => ⟨S4096x32, .f32⟩
  | 88 => ⟨S4096x32, .f32⟩
  | 89 => ⟨S1x4096x1x32, .f32⟩
  | 90 => ⟨S4096x32, .f32⟩
  | 91 => ⟨S1x4096x1x32, .f32⟩
  | 92 => ⟨S4x4096x8x32, .f32⟩
  | 93 => ⟨S4x4096x8x32, .f32⟩
  | 94 => ⟨S4x4096x8x32, .f32⟩
  | 95 => ⟨S4x4096x8x32, .f32⟩
  | 96 => ⟨S4x4096x8x32, .f32⟩
  | 97 => ⟨S4x4096x8x32, .f32⟩
  | 98 => ⟨S4x4096x8x32, .f32⟩
  | 99 => ⟨S4x4096x8x32, .f32⟩
  | 100 => ⟨S4x4096x8x32, .f32⟩
  | 101 => ⟨S4x4096x8x32, .f32⟩
  | 102 => ⟨S4x4096x8x32, .f32⟩
  | 103 => ⟨S4x4096x8x32, .f32⟩
  | 104 => ⟨S4x4096x8x64, .f32⟩
  | 105 => ⟨S4x4096x8x64, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S4096, .f32⟩
  | 115 => ⟨S4096x1, .f32⟩
  | 116 => ⟨S1x32, .f32⟩
  | 117 => ⟨S4096x32, .f32⟩
  | 118 => ⟨S4096x32, .f32⟩
  | 119 => ⟨S4096x32, .f32⟩
  | 120 => ⟨S4096x32, .f32⟩
  | 121 => ⟨S1x4096x1x32, .f32⟩
  | 122 => ⟨S4096x32, .f32⟩
  | 123 => ⟨S1x4096x1x32, .f32⟩
  | 124 => ⟨S4x4096x8x32, .f32⟩
  | 125 => ⟨S4x4096x8x32, .f32⟩
  | 126 => ⟨S4x4096x8x32, .f32⟩
  | 127 => ⟨S4x4096x8x32, .f32⟩
  | _ => ⟨S4x4096x1024, .f32⟩

abbrev hbmTy0_1 (i : Nat) : BufTy := match i % 128 with
  | 0 => ⟨S4x4096x8x32, .f32⟩
  | 1 => ⟨S4x4096x8x32, .f32⟩
  | 2 => ⟨S4x4096x8x32, .f32⟩
  | 3 => ⟨S4x4096x8x32, .f32⟩
  | 4 => ⟨S4x4096x8x32, .f32⟩
  | 5 => ⟨S4x4096x8x32, .f32⟩
  | 6 => ⟨S4x4096x8x32, .f32⟩
  | 7 => ⟨S4x4096x8x32, .f32⟩
  | 8 => ⟨S4x4096x8x64, .f32⟩
  | 9 => ⟨S4x4096x1x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S4096, .f32⟩
  | 19 => ⟨S4096x1, .f32⟩
  | 20 => ⟨S1x32, .f32⟩
  | 21 => ⟨S4096x32, .f32⟩
  | 22 => ⟨S4096x32, .f32⟩
  | 23 => ⟨S4096x32, .f32⟩
  | 24 => ⟨S4096x32, .f32⟩
  | 25 => ⟨S1x4096x1x32, .f32⟩
  | 26 => ⟨S4096x32, .f32⟩
  | 27 => ⟨S1x4096x1x32, .f32⟩
  | 28 => ⟨S4x4096x1x32, .f32⟩
  | 29 => ⟨S4x4096x1x32, .f32⟩
  | 30 => ⟨S4x4096x1x32, .f32⟩
  | 31 => ⟨S4x4096x1x32, .f32⟩
  | 32 => ⟨S4x4096x1x32, .f32⟩
  | 33 => ⟨S4x4096x1x32, .f32⟩
  | 34 => ⟨S4x4096x1x32, .f32⟩
  | 35 => ⟨S4x4096x1x32, .f32⟩
  | 36 => ⟨S4x4096x1x32, .f32⟩
  | 37 => ⟨S4x4096x1x32, .f32⟩
  | 38 => ⟨S4x4096x1x32, .f32⟩
  | 39 => ⟨S4x4096x1x32, .f32⟩
  | 40 => ⟨S4x4096x1x64, .f32⟩
  | 41 => ⟨S4x4096x64, .f32⟩
  | 42 => ⟨S4x4096x8x64, .f32⟩
  | 43 => ⟨S4x4096x8x64, .f32⟩
  | 44 => ⟨S4x4096x8x64, .f32⟩
  | 45 => ⟨S4x4096x8x64, .f32⟩
  | 46 => ⟨S_, .f32⟩
  | 47 => ⟨S4x4096x56, .f32⟩
  | 48 => ⟨S4x4096x128, .f32⟩
  | 49 => ⟨S16384x128, .f32⟩
  | 50 => ⟨S16384x512, .f32⟩
  | 51 => ⟨S16384x512, .bf16⟩
  | 52 => ⟨S16384x512, .f32⟩
  | 53 => ⟨S16384x512, .bf16⟩
  | 54 => ⟨S16384x512, .f32⟩
  | 55 => ⟨S16384x512, .bf16⟩
  | 56 => ⟨S16384x512, .f32⟩
  | 57 => ⟨S16384x512, .bf16⟩
  | 58 => ⟨S16384x512, .f32⟩
  | 59 => ⟨S16384x512, .bf16⟩
  | 60 => ⟨S16384x128, .bf16⟩
  | 61 => ⟨S4x4096x1024, .f32⟩
  | 62 => ⟨S4x4096x1024, .f32⟩
  | 63 => ⟨S_, .f32⟩
  | 64 => ⟨S4x4096x1024, .f32⟩
  | 65 => ⟨S4x4096x1024, .f32⟩
  | 66 => ⟨S_, .f32⟩
  | 67 => ⟨S4x4096x1024, .f32⟩
  | 68 => ⟨S4x4096x1024, .f32⟩
  | 69 => ⟨S16384x1024, .f32⟩
  | 70 => ⟨S4x4096x1024, .f32⟩
  | 71 => ⟨S4x4096x1024, .f32⟩
  | 72 => ⟨S_, .f32⟩
  | 73 => ⟨S4x4096x1024, .f32⟩
  | 74 => ⟨S4x4096x1024, .f32⟩
  | 75 => ⟨S_, .f32⟩
  | 76 => ⟨S4x4096x1024, .f32⟩
  | 77 => ⟨S4x4096x1024, .f32⟩
  | 78 => ⟨S16384x1024, .f32⟩
  | 79 => ⟨S4x4096x1x8x64, .f32⟩
  | 80 => ⟨S4x4096x1x8x64, .f32⟩
  | 81 => ⟨S4x4096x2x8x64, .f32⟩
  | 82 => ⟨S4x2x8x64x4096, .f32⟩
  | 83 => ⟨S4x1024x4096, .f32⟩
  | 84 => ⟨S4x4096x1x8x64, .f32⟩
  | 85 => ⟨S4x4096x1x8x64, .f32⟩
  | 86 => ⟨S4x4096x2x8x64, .f32⟩
  | 87 => ⟨S4x2x8x64x4096, .f32⟩
  | 88 => ⟨S4x1024x4096, .f32⟩
  | 89 => ⟨S4x64x4096, .f32⟩
  | 90 => ⟨S4x16x256x512, .f32⟩
  | 91 => ⟨S4x16x512x256, .f32⟩
  | 92 => ⟨S4x16x512x256, .bf16⟩
  | 93 => ⟨S4x16x256x512, .f32⟩
  | 94 => ⟨S4x16x512x256, .f32⟩
  | 95 => ⟨S4x16x512x256, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_5 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_7 : Ref sig .tc := ⟨.hbm, 108, rfl⟩
abbrev main_v95 : Ref sig .tc := ⟨.hbm, 109, rfl⟩
abbrev main_v96 : Ref sig .tc := ⟨.hbm, 110, rfl⟩
abbrev main_cst_8 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_9 : Ref sig .tc := ⟨.hbm, 140, rfl⟩
abbrev main_v125 : Ref sig .tc := ⟨.hbm, 141, rfl⟩
abbrev main_v126 : Ref sig .tc := ⟨.hbm, 142, rfl⟩
abbrev main_cst_10 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_cst_11 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_cst_12 : Ref sig .tc := ⟨.hbm, 191, rfl⟩
abbrev main_v173 : Ref sig .tc := ⟨.hbm, 192, rfl⟩
abbrev main_v174 : Ref sig .tc := ⟨.hbm, 193, rfl⟩
abbrev main_cst_13 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_cst_14 : Ref sig .tc := ⟨.hbm, 200, rfl⟩
abbrev main_v180 : Ref sig .tc := ⟨.hbm, 201, rfl⟩
abbrev main_v181 : Ref sig .tc := ⟨.hbm, 202, rfl⟩
abbrev main_cst_15 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩

abbrev nD : Nat := 1
abbrev τ : Topo := Topo.v7x

variable {F : FTy → Type} [FloatOps F]
-- ==== InS.lean ====
abbrev S32x8x1024 : Shape := ⟨3, ![32, 8, 1024]⟩
abbrev S32x1x1024 : Shape := ⟨3, ![32, 1, 1024]⟩
abbrev S1024 : Shape := ⟨1, ![1024]⟩
abbrev S1024x5704 : Shape := ⟨2, ![1024, 5704]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S32x1024 : Shape := ⟨2, ![32, 1024]⟩
abbrev S256x1024 : Shape := ⟨2, ![256, 1024]⟩
abbrev S1x256x1024 : Shape := ⟨3, ![1, 256, 1024]⟩
abbrev S1024x512 : Shape := ⟨2, ![1024, 512]⟩
abbrev S1024x1024 : Shape := ⟨2, ![1024, 1024]⟩
abbrev S1024x72 : Shape := ⟨2, ![1024, 72]⟩
abbrev S1024x2048 : Shape := ⟨2, ![1024, 2048]⟩
abbrev S1024x128 : Shape := ⟨2, ![1024, 128]⟩
abbrev S1x1024 : Shape := ⟨2, ![1, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩

abbrev nBuf : Space → Nat
  | .hbm => 78
  | .vmem => 24
  | .smem => 0
  | _ => 0

abbrev bufTy : (tb : Table) → Fin (tcTables nBuf tb) → BufTy
  | .hbm, ⟨0, _⟩ => ⟨S32x8x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x5704, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8, .f32⟩
  | .hbm, ⟨18, _⟩ => ⟨S8x1, .f32⟩
  | .hbm, ⟨19, _⟩ => ⟨S1x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S8x64, .f32⟩
  | .hbm, ⟨26, _⟩ => ⟨S1x8x1x64, .f32⟩
  | .hbm, ⟨27, _⟩ => ⟨S1x8x2x64, .f32⟩
  | .hbm, ⟨28, _⟩ => ⟨S8x128, .f32⟩
  | .hbm, ⟨29, _⟩ => ⟨S8x32, .f32⟩
  | .hbm, ⟨30, _⟩ => ⟨S8x64, .f32⟩
  | .hbm, ⟨31, _⟩ => ⟨S1x8x1x64, .f32⟩
  | .hbm, ⟨32, _⟩ => ⟨S1x8x2x64, .f32⟩
  | .hbm, ⟨33, _⟩ => ⟨S8x128, .f32⟩
  | .hbm, ⟨34, _⟩ => ⟨S1x8x1x128, .f32⟩
  | .hbm, ⟨35, _⟩ => ⟨S32x8x1x128, .f32⟩
  | .hbm, ⟨36, _⟩ => ⟨S256x128, .f32⟩
  | .hbm, ⟨37, _⟩ => ⟨S1x8x1x128, .f32⟩
  | .hbm, ⟨38, _⟩ => ⟨S32x8x1x128, .f32⟩
  | .hbm, ⟨39, _⟩ => ⟨S256x128, .f32⟩
  | .hbm, ⟨40, _⟩ => ⟨S32x1024, .f32⟩
  | .hbm, ⟨41, _⟩ => ⟨S32x8x1024, .f32⟩
  | .hbm, ⟨42, _⟩ => ⟨S256x1024, .f32⟩
  | .hbm, ⟨43, _⟩ => ⟨S1x256x1024, .f32⟩
  | .hbm, ⟨44, _⟩ => ⟨S32x1024, .f32⟩
  | .hbm, ⟨45, _⟩ => ⟨S32x8x1024, .f32⟩
  | .hbm, ⟨46, _⟩ => ⟨S256x1024, .f32⟩
  | .hbm, ⟨47, _⟩ => ⟨S1x256x1024, .f32⟩
  | .hbm, ⟨48, _⟩ => ⟨S256x1024, .f32⟩
  | .hbm, ⟨49, _⟩ => ⟨S1024x512, .f32⟩
  | .hbm, ⟨50, _⟩ => ⟨S1024x1024, .f32⟩
  | .hbm, ⟨51, _⟩ => ⟨S1024x512, .f32⟩
  | .hbm, ⟨52, _⟩ => ⟨S1024x72, .f32⟩
  | .hbm, ⟨53, _⟩ => ⟨S1024x512, .f32⟩
  | .hbm, ⟨54, _⟩ => ⟨S1024x1024, .f32⟩
  | .hbm, ⟨55, _⟩ => ⟨S1024x2048, .f32⟩
  | .hbm, ⟨56, _⟩ => ⟨S_, .i32⟩
  | .hbm, ⟨57, _⟩ => ⟨S_, .f32⟩
  | .hbm, ⟨58, _⟩ => ⟨S1024x128, .f32⟩
  | .hbm, ⟨59, _⟩ => ⟨S1024x512, .bf16⟩
  | .hbm, ⟨60, _⟩ => ⟨S1024x1024, .bf16⟩
  | .hbm, ⟨61, _⟩ => ⟨S1024x512, .bf16⟩
  | .hbm, ⟨62, _⟩ => ⟨S1024x128, .bf16⟩
  | .hbm, ⟨63, _⟩ => ⟨S1024x512, .bf16⟩
  | .hbm, ⟨64, _⟩ => ⟨S1024x1024, .bf16⟩
  | .hbm, ⟨65, _⟩ => ⟨S1024x2048, .bf16⟩
  | .hbm, ⟨66, _⟩ => ⟨S1x1024, .f32⟩
  | .hbm, ⟨67, _⟩ => ⟨S256x512, .bf16⟩
  | .hbm, ⟨68, _⟩ => ⟨S256x512, .bf16⟩
  | .hbm, ⟨69, _⟩ => ⟨S256x512, .bf16⟩
  | .hbm, ⟨70, _⟩ => ⟨S256x128, .f32⟩
  | .hbm, ⟨71, _⟩ => ⟨S256x512, .bf16⟩
  | .hbm, ⟨72, _⟩ => ⟨S256x512, .bf16⟩
  | .hbm, ⟨73, _⟩ => ⟨S256x128, .bf16⟩
  | .hbm, ⟨74, _⟩ => ⟨S256x1024, .f32⟩
  | .hbm, ⟨75, _⟩ => ⟨S256x1024, .f32⟩
  | .hbm, ⟨76, _⟩ => ⟨S256x1024, .f32⟩
  | .hbm, ⟨77, _⟩ => ⟨S256x1024, .f32⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1024, .f32⟩
  | .local _ .vmem, ⟨4, _⟩ => ⟨S256x128, .f32⟩
  | .local _ .vmem, ⟨5, _⟩ => ⟨S256x128, .f32⟩
  | .local _ .vmem, ⟨6, _⟩ => ⟨S1024x512, .bf16⟩
  | .local _ .vmem, ⟨7, _⟩ => ⟨S1024x1024, .bf16⟩
  | .local _ .vmem, ⟨8, _⟩ => ⟨S1024x512, .bf16⟩
  | .local _ .vmem, ⟨9, _⟩ => ⟨S1024x128, .bf16⟩
  | .local _ .vmem, ⟨10, _⟩ => ⟨S1024x512, .bf16⟩
  | .local _ .vmem, ⟨11, _⟩ => ⟨S1024x1024, .bf16⟩
  | .local _ .vmem, ⟨12, _⟩ => ⟨S1024x2048, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x128, .f32⟩
  | .local _ .vmem, ⟨17, _⟩ => ⟨S256x512, .bf16⟩
  | .local _ .vmem, ⟨18, _⟩ => ⟨S256x512, .bf16⟩
  | .local _ .vmem, ⟨19, _⟩ => ⟨S256x128, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c_1 : Ref sig .tc := ⟨.hbm, 56, rfl⟩
abbrev main_call0_v0 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57_0 : Ref sig .tc := ⟨.hbm, 67, rfl⟩
abbrev main_v57_1 : Ref sig .tc := ⟨.hbm, 68, rfl⟩
abbrev main_v57_2 : Ref sig .tc := ⟨.hbm, 69, rfl⟩
abbrev main_v57_3 : Ref sig .tc := ⟨.hbm, 70, rfl⟩
abbrev main_v57_4 : Ref sig .tc := ⟨.hbm, 71, rfl⟩
abbrev main_v57_5 : Ref sig .tc := ⟨.hbm, 72, rfl⟩
abbrev main_v57_6 : Ref sig .tc := ⟨.hbm, 73, rfl⟩
abbrev main_v57_7 : Ref sig .tc := ⟨.hbm, 74, rfl⟩
abbrev main_v57_8 : Ref sig .tc := ⟨.hbm, 75, rfl⟩
abbrev main_v57_9 : Ref sig .tc := ⟨.hbm, 76, rfl⟩
abbrev main_v57_10 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]
-- ==== InSRefIdeal.lean ====
abbrev S32x8x1024 : Shape := ⟨3, ![32, 8, 1024]⟩
abbrev S32x1x1024 : Shape := ⟨3, ![32, 1, 1024]⟩
abbrev S1024 : Shape := ⟨1, ![1024]⟩
abbrev S1024x5704 : Shape := ⟨2, ![1024, 5704]⟩
abbrev S8 : Shape := ⟨1, ![8]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x5704 : Shape := ⟨3, ![32, 8, 5704]⟩
abbrev S32x8x512 : Shape := ⟨3, ![32, 8, 512]⟩
abbrev S32x8x64 : Shape := ⟨3, ![32, 8, 64]⟩
abbrev S32x8x8 : Shape := ⟨3, ![32, 8, 8]⟩
abbrev S32x8x8x64 : Shape := ⟨4, ![32, 8, 8, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S32x8x8x32 : Shape := ⟨4, ![32, 8, 8, 32]⟩
abbrev S32x8x1x64 : Shape := ⟨4, ![32, 8, 1, 64]⟩
abbrev S32x8x1x32 : Shape := ⟨4, ![32, 8, 1, 32]⟩
abbrev S32x8x56 : Shape := ⟨3, ![32, 8, 56]⟩
abbrev S32x8x128 : Shape := ⟨3, ![32, 8, 128]⟩
abbrev S256x128 : Shape := ⟨2, ![256, 128]⟩
abbrev S256x512 : Shape := ⟨2, ![256, 512]⟩
abbrev S256x1024 : Shape := ⟨2, ![256, 1024]⟩
abbrev S32x8x1x8x64 : Shape := ⟨5, ![32, 8, 1, 8, 64]⟩
abbrev S32x8x2x8x64 : Shape := ⟨5, ![32, 8, 2, 8, 64]⟩

abbrev nBuf : Space → Nat
  | .hbm => 218
  | .vmem => 0
  | .smem => 0
  | _ => 0

abbrev hbmTy0_0 (i : Nat) : BufTy := match i % 128 with
  | 0 => ⟨S32x8x1024, .f32⟩
  | 1 => ⟨S32x1x1024, .f32⟩
  | 2 => ⟨S32x1x1024, .f32⟩
  | 3 => ⟨S1024, .f32⟩
  | 4 => ⟨S1024x5704, .f32⟩
  | 5 => ⟨S8, .i32⟩
  | 6 => ⟨S_, .i32⟩
  | 7 => ⟨S8, .i32⟩
  | 8 => ⟨S8, .i32⟩
  | 9 => ⟨S32x8x1024, .f32⟩
  | 10 => ⟨S_, .f32⟩
  | 11 => ⟨S32x8, .f32⟩
  | 12 => ⟨S32x8x1, .f32⟩
  | 13 => ⟨S_, .f32⟩
  | 14 => ⟨S32x8x1, .f32⟩
  | 15 => ⟨S32x8x1, .f32⟩
  | 16 => ⟨S_, .f32⟩
  | 17 => ⟨S32x8x1, .f32⟩
  | 18 => ⟨S32x8x1, .f32⟩
  | 19 => ⟨S32x8x1, .f32⟩
  | 20 => ⟨S32x8x1024, .f32⟩
  | 21 => ⟨S32x8x1024, .f32⟩
  | 22 => ⟨S1x1x1024, .f32⟩
  | 23 => ⟨S32x8x1024, .f32⟩
  | 24 => ⟨S32x8x1024, .f32⟩
  | 25 => ⟨S_, .f32⟩
  | 26 => ⟨S32x1x1024, .f32⟩
  | 27 => ⟨S32x1x1024, .f32⟩
  | 28 => ⟨S32x8x1024, .f32⟩
  | 29 => ⟨S32x8x1024, .f32⟩
  | 30 => ⟨S32x8x1024, .f32⟩
  | 31 => ⟨S32x8x1024, .f32⟩
  | 32 => ⟨S32x8x5704, .f32⟩
  | 33 => ⟨S32x8x512, .f32⟩
  | 34 => ⟨S32x8x512, .f32⟩
  | 35 => ⟨S32x8x512, .f32⟩
  | 36 => ⟨S32x8x512, .f32⟩
  | 37 => ⟨S32x8x64, .f32⟩
  | 38 => ⟨S32x8x8, .f32⟩
  | 39 => ⟨S32x8x512, .f32⟩
  | 40 => ⟨S32x8x512, .f32⟩
  | 41 => ⟨S32x8x512, .f32⟩
  | 42 => ⟨S32x8x1024, .f32⟩
  | 43 => ⟨S32x8x1024, .f32⟩
  | 44 => ⟨S32x8x8x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S8, .f32⟩
  | 54 => ⟨S8x1, .f32⟩
  | 55 => ⟨S1x32, .f32⟩
  | 56 => ⟨S8x32, .f32⟩
  | 57 => ⟨S8x32, .f32⟩
  | 58 => ⟨S8x32, .f32⟩
  | 59 => ⟨S8x32, .f32⟩
  | 60 => ⟨S1x8x1x32, .f32⟩
  | 61 => ⟨S8x32, .f32⟩
  | 62 => ⟨S1x8x1x32, .f32⟩
  | 63 => ⟨S32x8x8x32, .f32⟩
  | 64 => ⟨S32x8x8x32, .f32⟩
  | 65 => ⟨S32x8x8x32, .f32⟩
  | 66 => ⟨S32x8x8x32, .f32⟩
  | 67 => ⟨S32x8x8x32, .f32⟩
  | 68 => ⟨S32x8x8x32, .f32⟩
  | 69 => ⟨S32x8x8x32, .f32⟩
  | 70 => ⟨S32x8x8x32, .f32⟩
  | 71 => ⟨S32x8x8x32, .f32⟩
  | 72 => ⟨S32x8x8x32, .f32⟩
  | 73 => ⟨S32x8x8x32, .f32⟩
  | 74 => ⟨S32x8x8x32, .f32⟩
  | 75 => ⟨S32x8x8x64, .f32⟩
  | 76 => ⟨S32x8x8x64, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S8, .f32⟩
  | 86 => ⟨S8x1, .f32⟩
  | 87 => ⟨S1x32, .f32⟩
  | 88 => ⟨S8x32, .f32⟩
  | 89 => ⟨S8x32, .f32⟩
  | 90 => ⟨S8x32, .f32⟩
  | 91 => ⟨S8x32, .f32⟩
  | 92 => ⟨S1x8x1x32, .f32⟩
  | 93 => ⟨S8x32, .f32⟩
  | 94 => ⟨S1x8x1x32, .f32⟩
  | 95 => ⟨S32x8x8x32, .f32⟩
  | 96 => ⟨S32x8x8x32, .f32⟩
  | 97 => ⟨S32x8x8x32, .f32⟩
  | 98 => ⟨S32x8x8x32, .f32⟩
  | 99 => ⟨S32x8x8x32, .f32⟩
  | 100 => ⟨S32x8x8x32, .f32⟩
  | 101 => ⟨S32x8x8x32, .f32⟩
  | 102 => ⟨S32x8x8x32, .f32⟩
  | 103 => ⟨S32x8x8x32, .f32⟩
  | 104 => ⟨S32x8x8x32, .f32⟩
  | 105 => ⟨S32x8x8x32, .f32⟩
  | 106 => ⟨S32x8x8x32, .f32⟩
  | 107 => ⟨S32x8x8x64, .f32⟩
  | 108 => ⟨S32x8x8x64, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S8, .f32⟩
  | 118 => ⟨S8x1, .f32⟩
  | 119 => ⟨S1x32, .f32⟩
  | 120 => ⟨S8x32, .f32⟩
  | 121 => ⟨S8x32, .f32⟩
  | 122 => ⟨S8x32, .f32⟩
  | 123 => ⟨S8x32, .f32⟩
  | 124 => ⟨S1x8x1x32, .f32⟩
  | 125 => ⟨S8x32, .f32⟩
  | 126 => ⟨S1x8x1x32, .f32⟩
  | 127 => ⟨S32x8x8x32, .f32⟩
  | _ => ⟨S32x8x1024, .f32⟩

abbrev hbmTy0_1 (i : Nat) : BufTy := match i % 128 with
  | 0 => ⟨S32x8x8x32, .f32⟩
  | 1 => ⟨S32x8x8x32, .f32⟩
  | 2 => ⟨S32x8x8x32, .f32⟩
  | 3 => ⟨S32x8x8x32, .f32⟩
  | 4 => ⟨S32x8x8x32, .f32⟩
  | 5 => ⟨S32x8x8x32, .f32⟩
  | 6 => ⟨S32x8x8x32, .f32⟩
  | 7 => ⟨S32x8x8x32, .f32⟩
  | 8 => ⟨S32x8x8x32, .f32⟩
  | 9 => ⟨S32x8x8x32, .f32⟩
  | 10 => ⟨S32x8x8x32, .f32⟩
  | 11 => ⟨S32x8x8x64, .f32⟩
  | 12 => ⟨S32x8x1x64, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S8, .f32⟩
  | 22 => ⟨S8x1, .f32⟩
  | 23 => ⟨S1x32, .f32⟩
  | 24 => ⟨S8x32, .f32⟩
  | 25 => ⟨S8x32, .f32⟩
  | 26 => ⟨S8x32, .f32⟩
  | 27 => ⟨S8x32, .f32⟩
  | 28 => ⟨S1x8x1x32, .f32⟩
  | 29 => ⟨S8x32, .f32⟩
  | 30 => ⟨S1x8x1x32, .f32⟩
  | 31 => ⟨S32x8x1x32, .f32⟩
  | 32 => ⟨S32x8x1x32, .f32⟩
  | 33 => ⟨S32x8x1x32, .f32⟩
  | 34 => ⟨S32x8x1x32, .f32⟩
  | 35 => ⟨S32x8x1x32, .f32⟩
  | 36 => ⟨S32x8x1x32, .f32⟩
  | 37 => ⟨S32x8x1x32, .f32⟩
  | 38 => ⟨S32x8x1x32, .f32⟩
  | 39 => ⟨S32x8x1x32, .f32⟩
  | 40 => ⟨S32x8x1x32, .f32⟩
  | 41 => ⟨S32x8x1x32, .f32⟩
  | 42 => ⟨S32x8x1x32, .f32⟩
  | 43 => ⟨S32x8x1x64, .f32⟩
  | 44 => ⟨S32x8x64, .f32⟩
  | 45 => ⟨S32x8x8x64, .f32⟩
  | 46 => ⟨S32x8x8x64, .f32⟩
  | 47 => ⟨S32x8x8x64, .f32⟩
  | 48 => ⟨S32x8x8x64, .f32⟩
  | 49 => ⟨S_, .f32⟩
  | 50 => ⟨S32x8x56, .f32⟩
  | 51 => ⟨S32x8x128, .f32⟩
  | 52 => ⟨S256x128, .f32⟩
  | 53 => ⟨S256x512, .f32⟩
  | 54 => ⟨S256x512, .bf16⟩
  | 55 => ⟨S256x512, .f32⟩
  | 56 => ⟨S256x512, .bf16⟩
  | 57 => ⟨S256x512, .f32⟩
  | 58 => ⟨S256x512, .bf16⟩
  | 59 => ⟨S256x512, .f32⟩
  | 60 => ⟨S256x512, .bf16⟩
  | 61 => ⟨S256x512, .f32⟩
  | 62 => ⟨S256x512, .bf16⟩
  | 63 => ⟨S256x128, .bf16⟩
  | 64 => ⟨S32x8x1024, .f32⟩
  | 65 => ⟨S32x8x1024, .f32⟩
  | 66 => ⟨S_, .f32⟩
  | 67 => ⟨S32x8x1024, .f32⟩
  | 68 => ⟨S32x8x1024, .f32⟩
  | 69 => ⟨S_, .f32⟩
  | 70 => ⟨S32x8x1024, .f32⟩
  | 71 => ⟨S32x8x1024, .f32⟩
  | 72 => ⟨S256x1024, .f32⟩
  | 73 => ⟨S32x8x1024, .f32⟩
  | 74 => ⟨S32x8x1024, .f32⟩
  | 75 => ⟨S_, .f32⟩
  | 76 => ⟨S32x8x1024, .f32⟩
  | 77 => ⟨S32x8x1024, .f32⟩
  | 78 => ⟨S_, .f32⟩
  | 79 => ⟨S32x8x1024, .f32⟩
  | 80 => ⟨S32x8x1024, .f32⟩
  | 81 => ⟨S256x1024, .f32⟩
  | 82 => ⟨S32x8x1x8x64, .f32⟩
  | 83 => ⟨S32x8x1x8x64, .f32⟩
  | 84 => ⟨S32x8x2x8x64, .f32⟩
  | 85 => ⟨S256x1024, .f32⟩
  | 86 => ⟨S32x8x1x8x64, .f32⟩
  | 87 => ⟨S32x8x1x8x64, .f32⟩
  | 88 => ⟨S32x8x2x8x64, .f32⟩
  | 89 => ⟨S256x1024, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_5 : Ref sig .tc := ⟨.hbm, 79, rfl⟩
abbrev main_v67 : Ref sig .tc := ⟨.hbm, 80, rfl⟩
abbrev main_v68 : Ref sig .tc := ⟨.hbm, 81, rfl⟩
abbrev main_cst_6 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_7 : Ref sig .tc := ⟨.hbm, 111, rfl⟩
abbrev main_v97 : Ref sig .tc := ⟨.hbm, 112, rfl⟩
abbrev main_v98 : Ref sig .tc := ⟨.hbm, 113, rfl⟩
abbrev main_cst_8 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_cst_9 : Ref sig .tc := ⟨.hbm, 143, rfl⟩
abbrev main_v127 : Ref sig .tc := ⟨.hbm, 144, rfl⟩
abbrev main_v128 : Ref sig .tc := ⟨.hbm, 145, rfl⟩
abbrev main_cst_10 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_cst_11 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_cst_12 : Ref sig .tc := ⟨.hbm, 194, rfl⟩
abbrev main_v175 : Ref sig .tc := ⟨.hbm, 195, rfl⟩
abbrev main_v176 : Ref sig .tc := ⟨.hbm, 196, rfl⟩
abbrev main_cst_13 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_cst_14 : Ref sig .tc := ⟨.hbm, 203, rfl⟩
abbrev main_v182 : Ref sig .tc := ⟨.hbm, 204, rfl⟩
abbrev main_v183 : Ref sig .tc := ⟨.hbm, 205, rfl⟩
abbrev main_cst_15 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩

abbrev nD : Nat := 1
abbrev τ : Topo := Topo.v7x

variable {F : FTy → Type} [FloatOps F]
-- ==== Proof.InPRun.lean ====
/- The run of the in-projection of the prompt stream: what each window holds at each grid point, the body's triple, the launch,
   and the frame, at any reading `F` of the floats. -/
module

public import proofs.«01_k».proof.Proof.Gen.InPIdeal.Launch
public import proofs.«01_k».proof.Proof.Gen.InPIdeal.Skeleton
public import proofs.«01_k».proof.Proof.Gen.InPIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Proof.InPRun

open Cert.InPIdeal Cert.InPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 4000000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InPIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S256x128 := Rect.unit (s := S256x128) ![0, 0] S256x128.size inb_S256x128_S256x128_0_0
abbrev r0_4 : Rect S1024x512 := Rect.unit (s := S1024x512) ![0, 0] S1024x512.size inb_S1024x512_S1024x512_0_0
abbrev r0_5 : Rect S256x512 := Rect.unit (s := S256x512) ![0, 0] S256x512.size inb_S256x512_S256x512_0_0
abbrev r0_6 : Rect S1024x1024 := Rect.unit (s := S1024x1024) ![0, 0] S1024x1024.size inb_S1024x1024_S1024x1024_0_0
abbrev r0_7 : Rect S1024x128 := Rect.unit (s := S1024x128) ![0, 0] S1024x128.size inb_S1024x128_S1024x128_0_0
abbrev r0_8 : Rect S1024x2048 := Rect.unit (s := S1024x2048) ![0, 0] S1024x2048.size inb_S1024x2048_S1024x2048_0_0
abbrev r0_9 : Rect S1x1024x256 := Rect.unit (s := S1x1024x256) ![0, 0, 0] S1x1024x256.size inb_S1x1024x256_S1x1024x256_0_0_0
abbrev r0_10 : Rect S1x64x256 := Rect.unit (s := S1x64x256) ![0, 0, 0] S1x64x256.size inb_S1x64x256_S1x64x256_0_0_0
abbrev r0_11 : Rect S1x1x512x256 := Rect.unit (s := S1x1x512x256) ![0, 0, 0, 0] S1x1x512x256.size inb_S1x1x512x256_S1x1x512x256_0_0_0_0

/-! ## What the body leaves in each output window's buffer -/

/-! ### Values of the body that the stores' payloads, spelt out, would write more than once

    Each is a vector the body binds (often a part call's result), stated over the input windows' blocks and
    numbered on from the skeleton's payload functions (`k0_pay33` …, after `k0_pay32`), so that
    `out0_W` and the values after it name it instead of spelling it out (`unfold_out out0_W` opens a canon
    with them, `unfold_payloads` opens them with the payloads); the comment after each is the printed function's
    name for the value (a count appended where that name is bound again). -/

def k0_pay33 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x1024 .bf16 :=
  k0_pay1 (View.ld x0 r0_0) (View.ld x3 r0_1) (View.ld x1 r0_2) (View.ld x2 r0_2) -- `v26`
def k0_pay34 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x128 .f32 :=
  k0_pay2 (View.ld x4 r0_3) -- `v28`
def k0_pay35 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x128 .f32 :=
  k0_pay3 (View.ld x5 r0_3) -- `v30`
def k0_pay36 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x1024 .f32 :=
  k0_pay14 (k0_pay33 x0 x1 x2 x3 x4 x5 x6 x7 x8 x9 x10 x11 x12) (View.ld x7 r0_6) -- `v144`
def k0_pay37 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x512 .f32 :=
  k0_pay15 (k0_pay33 x0 x1 x2 x3 x4 x5 x6 x7 x8 x9 x10 x11 x12) (View.ld x7 r0_6) -- `v145`
def k0_pay38 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : IVec S256x128 32 :=
  k0_pay16 -- `v162`
def k0_pay39 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x1024 .f32 :=
  k0_pay17 (k0_pay34 x0 x1 x2 x3 x4 x5 x6 x7 x8 x9 x10 x11 x12) (k0_pay35 x0 x1 x2 x3 x4 x5 x6 x7 x8 x9 x10 x11 x12) (k0_pay36 x0 x1 x2 x3 x4 x5 x6 x7 x8 x9 x10 x11 x12) (k0_pay37 x0 x1 x2 x3 x4 x5 x6 x7 x8 x9 x10 x11 x12) (k0_pay38 x0 x1 x2 x3 x4 x5 x6 x7 x8 x9 x10 x11 x12) 32#32 -- `v195`
def k0_pay40 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x1024 .f32 :=
  k0_pay19 (k0_pay33 x0 x1 x2 x3 x4 x5 x6 x7 x8 x9 x10 x11 x12) (View.ld x11 r0_6) -- `v201`
def k0_pay41 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x2048 .f32 :=
  k0_pay23 (k0_pay33 x0 x1 x2 x3 x4 x5 x6 x7 x8 x9 x10 x11 x12) (View.ld x12 r0_8) -- `v243`

/-- Window 13's staging buffer after the body, from the input windows' blocks: its 1 store as pieces, LAST
    FIRST (Lib/Pipeline/FrameBody.lean `View.canon`; the payloads are the skeleton's and the values stated above). -/
def out0_13 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay5 (k0_pay34 x0 x1 x2 x3 x4 x5 x6 x7 x8 x9 x10 x11 x12) (k0_pay35 x0 x1 x2 x3 x4 x5 x6 x7 x8 x9 x10 x11 x12) (k0_pay4 (View.ld x0 r0_0) (View.ld x3 r0_1) (View.ld x1 r0_2) (View.ld x2 r0_2) (View.ld x6 r0_4)) (iota .tc S256x128 32 [1] iota_S256x128_d1_w32) 64#32 (Scalar.cmpi .eq 64#32 0#32)⟩]

/-- Its stores tile the buffer (checked by evaluation), so they cover it. -/
theorem cover0_13 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 14's staging buffer after the body, from the input windows' blocks: its 1 store as pieces, LAST
    FIRST (Lib/Pipeline/FrameBody.lean `View.canon`; the payloads are the skeleton's and the values stated above). -/
def out0_14 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay12 (k0_pay34 x0 x1 x2 x3 x4 x5 x6 x7 x8 x9 x10 x11 x12) (k0_pay35 x0 x1 x2 x3 x4 x5 x6 x7 x8 x9 x10 x11 x12) (k0_pay6 (k0_pay33 x0 x1 x2 x3 x4 x5 x6 x7 x8 x9 x10 x11 x12) (View.ld x8 r0_4)) k0_pay7 (k0_pay8 (k0_pay33 x0 x1 x2 x3 x4 x5 x6 x7 x8 x9 x10 x11 x12) (k0_pay34 x0 x1 x2 x3 x4 x5 x6 x7 x8 x9 x10 x11 x12) (k0_pay35 x0 x1 x2 x3 x4 x5 x6 x7 x8 x9 x10 x11 x12) (View.ld x8 r0_4)) (k0_pay9 (k0_pay33 x0 x1 x2 x3 x4 x5 x6 x7 x8 x9 x10 x11 x12) (k0_pay34 x0 x1 x2 x3 x4 x5 x6 x7 x8 x9 x10 x11 x12) (k0_pay35 x0 x1 x2 x3 x4 x5 x6 x7 x8 x9 x10 x11 x12) (View.ld x8 r0_4)) (k0_pay10 (k0_pay33 x0 x1 x2 x3 x4 x5 x6 x7 x8 x9 x10 x11 x12) (View.ld x8 r0_4)) (k0_pay11 (k0_pay33 x0 x1 x2 x3 x4 x5 x6 x7 x8 x9 x10 x11 x12) (View.ld x8 r0_4))⟩]

/-- Its stores tile the buffer (checked by evaluation), so they cover it. -/
theorem cover0_14 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay13 (k0_pay33 x0 x1 x2 x3 x4 x5 x6 x7 x8 x9 x10 x11 x12) (View.ld x10 r0_4)⟩]

/-- Its stores tile the buffer (checked by evaluation), so they cover it. -/
theorem cover0_15 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x128 .f32 :=
  View.canon [⟨r0_3, k0_pay21 (k0_pay33 x0 x1 x2 x3 x4 x5 x6 x7 x8 x9 x10 x11 x12) (k0_pay34 x0 x1 x2 x3 x4 x5 x6 x7 x8 x9 x10 x11 x12) (k0_pay35 x0 x1 x2 x3 x4 x5 x6 x7 x8 x9 x10 x11 x12) (View.ld x9 r0_7)⟩]

/-- Its stores tile the buffer (checked by evaluation), so they cover it. -/
theorem cover0_16 (p0 : Vec F S256x128 .f32) (y : S256x128.Idx) :
    ∃ pc ∈ ([⟨r0_3, p0⟩] : List (View.Piece (Elt F) S256x128 .f32)), y ∈ pc.1.set :=
  View.cover_of_tiled [⟨r0_3, p0⟩] S256x128.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay18 (k0_pay34 x0 x1 x2 x3 x4 x5 x6 x7 x8 x9 x10 x11 x12) (k0_pay35 x0 x1 x2 x3 x4 x5 x6 x7 x8 x9 x10 x11 x12) (k0_pay36 x0 x1 x2 x3 x4 x5 x6 x7 x8 x9 x10 x11 x12) (k0_pay37 x0 x1 x2 x3 x4 x5 x6 x7 x8 x9 x10 x11 x12) (k0_pay38 x0 x1 x2 x3 x4 x5 x6 x7 x8 x9 x10 x11 x12) 32#32⟩]

/-- Its stores tile the buffer (checked by evaluation), so they cover it. -/
theorem cover0_17 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay20 (k0_pay33 x0 x1 x2 x3 x4 x5 x6 x7 x8 x9 x10 x11 x12) (View.ld x11 r0_6)⟩]

/-- Its stores tile the buffer (checked by evaluation), so they cover it. -/
theorem cover0_18 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x128 .bf16 :=
  View.canon [⟨r0_3, k0_pay22 (k0_pay33 x0 x1 x2 x3 x4 x5 x6 x7 x8 x9 x10 x11 x12) (k0_pay34 x0 x1 x2 x3 x4 x5 x6 x7 x8 x9 x10 x11 x12) (k0_pay35 x0 x1 x2 x3 x4 x5 x6 x7 x8 x9 x10 x11 x12) (View.ld x9 r0_7)⟩]

/-- Its stores tile the buffer (checked by evaluation), so they cover it. -/
theorem cover0_19 (p0 : Vec F S256x128 .bf16) (y : S256x128.Idx) :
    ∃ pc ∈ ([⟨r0_3, p0⟩] : List (View.Piece (Elt F) S256x128 .bf16)), y ∈ pc.1.set :=
  View.cover_of_tiled [⟨r0_3, p0⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x1024 .f32 :=
  View.canon [⟨r0_0, k0_pay24 (k0_pay41 x0 x1 x2 x3 x4 x5 x6 x7 x8 x9 x10 x11 x12)⟩]

/-- Its stores tile the buffer (checked by evaluation), so they cover it. -/
theorem cover0_20 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x1024 .f32 :=
  View.canon [⟨r0_0, k0_pay25 (k0_pay41 x0 x1 x2 x3 x4 x5 x6 x7 x8 x9 x10 x11 x12)⟩]

/-- Its stores tile the buffer (checked by evaluation), so they cover it. -/
theorem cover0_21 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S1x1024x256 .f32 :=
  View.canon [⟨r0_9, k0_pay28 (k0_pay39 x0 x1 x2 x3 x4 x5 x6 x7 x8 x9 x10 x11 x12)⟩]

/-- Its stores tile the buffer (checked by evaluation), so they cover it. -/
theorem cover0_22 (p0 : Vec F S1x1024x256 .f32) (y : S1x1024x256.Idx) :
    ∃ pc ∈ ([⟨r0_9, p0⟩] : List (View.Piece (Elt F) S1x1024x256 .f32)), y ∈ pc.1.set :=
  View.cover_of_tiled [⟨r0_9, p0⟩] S1x1024x256.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S1x1024x256 .f32 :=
  View.canon [⟨r0_9, k0_pay29 (k0_pay40 x0 x1 x2 x3 x4 x5 x6 x7 x8 x9 x10 x11 x12)⟩]

/-- Its stores tile the buffer (checked by evaluation), so they cover it. -/
theorem cover0_23 (p0 : Vec F S1x1024x256 .f32) (y : S1x1024x256.Idx) :
    ∃ pc ∈ ([⟨r0_9, p0⟩] : List (View.Piece (Elt F) S1x1024x256 .f32)), y ∈ pc.1.set :=
  View.cover_of_tiled [⟨r0_9, p0⟩] S1x1024x256.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S1x64x256 .f32 :=
  View.canon [⟨r0_10, k0_pay30 (k0_pay21 (k0_pay33 x0 x1 x2 x3 x4 x5 x6 x7 x8 x9 x10 x11 x12) (k0_pay34 x0 x1 x2 x3 x4 x5 x6 x7 x8 x9 x10 x11 x12) (k0_pay35 x0 x1 x2 x3 x4 x5 x6 x7 x8 x9 x10 x11 x12) (View.ld x9 r0_7))⟩]

/-- Its stores tile the buffer (checked by evaluation), so they cover it. -/
theorem cover0_24 (p0 : Vec F S1x64x256 .f32) (y : S1x64x256.Idx) :
    ∃ pc ∈ ([⟨r0_10, p0⟩] : List (View.Piece (Elt F) S1x64x256 .f32)), y ∈ pc.1.set :=
  View.cover_of_tiled [⟨r0_10, p0⟩] S1x64x256.size (by rfl) y

/-- Window 25's staging buffer after the body, from the input windows' blocks: its 1 store as pieces, LAST
    FIRST (Lib/Pipeline/FrameBody.lean `View.canon`; the payloads are the skeleton's and the values stated above). -/
def out0_25 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S1x1x512x256 .bf16 :=
  View.canon [⟨r0_11, k0_pay31 (k0_pay39 x0 x1 x2 x3 x4 x5 x6 x7 x8 x9 x10 x11 x12)⟩]

/-- Its stores tile the buffer (checked by evaluation), so they cover it. -/
theorem cover0_25 (p0 : Vec F S1x1x512x256 .bf16) (y : S1x1x512x256.Idx) :
    ∃ pc ∈ ([⟨r0_11, p0⟩] : List (View.Piece (Elt F) S1x1x512x256 .bf16)), y ∈ pc.1.set :=
  View.cover_of_tiled [⟨r0_11, p0⟩] S1x1x512x256.size (by rfl) y

/-- Window 26's staging buffer after the body, from the input windows' blocks: its 1 store as pieces, LAST
    FIRST (Lib/Pipeline/FrameBody.lean `View.canon`; the payloads are the skeleton's and the values stated above). -/
def out0_26 (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S1x1x512x256 .bf16 :=
  View.canon [⟨r0_11, k0_pay32 (k0_pay40 x0 x1 x2 x3 x4 x5 x6 x7 x8 x9 x10 x11 x12)⟩]

/-- Its stores tile the buffer (checked by evaluation), so they cover it. -/
theorem cover0_26 (p0 : Vec F S1x1x512x256 .bf16) (y : S1x1x512x256.Idx) :
    ∃ pc ∈ ([⟨r0_11, p0⟩] : List (View.Piece (Elt F) S1x1x512x256 .bf16)), y ∈ pc.1.set :=
  View.cover_of_tiled [⟨r0_11, p0⟩] S1x1x512x256.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x512 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x128 .bf16) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S1024x2048 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x128 .bf16) (harg20 : arg20.IsWhole) (arg21 : Memref sig .tc .vmem S256x1024 .f32) (harg21 : arg21.IsWhole) (arg22 : Memref sig .tc .vmem S256x1024 .f32) (harg22 : arg22.IsWhole) (arg23 : Memref sig .tc .vmem S1x1024x256 .f32) (harg23 : arg23.IsWhole) (arg24 : Memref sig .tc .vmem S1x1024x256 .f32) (harg24 : arg24.IsWhole) (arg25 : Memref sig .tc .vmem S1x64x256 .f32) (harg25 : arg25.IsWhole) (arg26 : Memref sig .tc .vmem S1x1x512x256 .bf16) (harg26 : arg26.IsWhole) (arg27 : Memref sig .tc .vmem S1x1x512x256 .bf16) (harg27 : arg27.IsWhole)
    (x0 : Vec F S256x1024 .f32) (x1 : Vec F S1x1x1024 .f32) (x2 : Vec F S1x1x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12) ∗ owns (c : Thread nD τ) arg25 fullShare (out0_24 x0 x1 x2 x3 x4 x5 x6 x7 x8 x9 x10 x11 x12) ∗ owns (c : Thread nD τ) arg26 fullShare (out0_25 x0 x1 x2 x3 x4 x5 x6 x7 x8 x9 x10 x11 x12) ∗ owns (c : Thread nD τ) arg27 fullShare (out0_26 x0 x1 x2 x3 x4 x5 x6 x7 x8 x9 x10 x11 x12)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_in_proj_eq_skeleton]; unfold cc0_in_proj_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The argument arrays end as they began and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.InPRun

end
-- ==== Proof.InPFrame.lean ====
module

public import proofs.«01_k».proof.Defs
public import proofs.«01_k».proof.Proof.Gen.InP
public import proofs.«01_k».proof.Proof.InPRun

/-! # The prompt version's program, read with machine numbers, leaves its arguments unchanged

The same text is certified twice, once for each reading of its numbers. Here the two copies are shown
to be one program, label by label, so that the run of the one is the run of the other. -/

@[expose] public section

set_option maxHeartbeats 4000000
set_option maxRecDepth 16384

noncomputable section

namespace Cert.Proof.InPFrame

open Idealize.ShloMosaic Idealize.ShloMosaic.TcCoe

/-- The kernel bodies are one function. -/
theorem cc0_eq : @Cert.InP.cc0_in_proj Bits _ _ = @Cert.InPIdeal.cc0_in_proj Bits _ _ := rfl

/-- So are the kernels' tables, which hold that body at their one label. -/
theorem defs₀_eq : @Cert.InP.defs₀ Bits _ _ = @Cert.InPIdeal.defs₀ Bits _ _ := by
  unfold Cert.InP.defs₀ Cert.InPIdeal.defs₀
  rw [cc0_eq]
  refine congrArg Defs.onTc ?_
  funext l x
  match l, x with
  | ⟨0, _⟩, (t, s) => rfl

/-- And the whole program's tables. -/
theorem defs_eq : @Cert.InP.defs Bits _ _ = @Cert.InPIdeal.defs Bits _ _ := by
  unfold Cert.InP.defs Cert.InPIdeal.defs
  rw [defs₀_eq]
  rfl

/-- The programs are one program. -/
theorem main_eq : @Cert.InP.main Bits _ _ = @Cert.InPIdeal.main Bits _ _ := rfl

/-- The arguments after the run are the arguments before it. -/
theorem frame : quiescent_InP := fun m ρ _ => by
  rw [defs_eq, main_eq]
  exact InPRun.frame (F := Bits) m ρ

end Cert.Proof.InPFrame

end
-- ==== Proof.InSRun.lean ====
/- The run of the in-projection of the sample stream: what each window holds at each grid point, the body's triple, the launch,
   and the frame, at any reading `F` of the floats. -/
module

public import proofs.«01_k».proof.Proof.Gen.InSIdeal.Launch
public import proofs.«01_k».proof.Proof.Gen.InSIdeal.Skeleton
public import proofs.«01_k».proof.Proof.Gen.InSIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Proof.InSRun

open Cert.InSIdeal Cert.InSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 4000000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 4000000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InSIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1x256x1024 := Rect.unit (s := S1x256x1024) ![0, 0, 0] S1x256x1024.size inb_S1x256x1024_S1x256x1024_0_0_0
abbrev r0_3 : Rect S256x128 := Rect.unit (s := S256x128) ![0, 0] S256x128.size inb_S256x128_S256x128_0_0
abbrev r0_4 : Rect S1024x512 := Rect.unit (s := S1024x512) ![0, 0] S1024x512.size inb_S1024x512_S1024x512_0_0
abbrev r0_5 : Rect S256x512 := Rect.unit (s := S256x512) ![0, 0] S256x512.size inb_S256x512_S256x512_0_0
abbrev r0_6 : Rect S1024x1024 := Rect.unit (s := S1024x1024) ![0, 0] S1024x1024.size inb_S1024x1024_S1024x1024_0_0
abbrev r0_7 : Rect S1024x128 := Rect.unit (s := S1024x128) ![0, 0] S1024x128.size inb_S1024x128_S1024x128_0_0
abbrev r0_8 : Rect S1024x2048 := Rect.unit (s := S1024x2048) ![0, 0] S1024x2048.size inb_S1024x2048_S1024x2048_0_0

/-! ## What the body leaves in each output window's buffer -/

/-! ### Values of the body that the stores' payloads, spelt out, would write more than once

    Each is a vector the body binds (often a part call's result), stated over the input windows' blocks and
    numbered on from the skeleton's payload functions (`k0_pay27` …, after `k0_pay26`), so that
    `out0_W` and the values after it name it instead of spelling it out (`unfold_out out0_W` opens a canon
    with them, `unfold_payloads` opens them with the payloads); the comment after each is the printed function's
    name for the value (a count appended where that name is bound again). -/

def k0_pay27 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x1024 .bf16 :=
  k0_pay2 (View.ld x0 r0_0) (View.ld x3 r0_1) (View.ld x1 r0_2) (View.ld x2 r0_2) -- `v24`
def k0_pay28 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x128 .f32 :=
  k0_pay3 (View.ld x4 r0_3) -- `v26`
def k0_pay29 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x128 .f32 :=
  k0_pay4 (View.ld x5 r0_3) -- `v28`
def k0_pay30 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x1024 .f32 :=
  k0_pay16 (k0_pay27 x0 x1 x2 x3 x4 x5 x6 x7 x8 x9 x10 x11 x12) (View.ld x7 r0_6) -- `v142`
def k0_pay31 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : FVec F S256x512 .f32 :=
  k0_pay17 (k0_pay27 x0 x1 x2 x3 x4 x5 x6 x7 x8 x9 x10 x11 x12) (View.ld x7 r0_6) -- `v143`
def k0_pay32 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : IVec S256x128 1 :=
  k0_pay18 -- `v162`

/-- Window 13's staging buffer after the body, from the input windows' blocks: its 1 store as pieces, LAST
    FIRST (Lib/Pipeline/FrameBody.lean `View.canon`; the payloads are the skeleton's and the values stated above). -/
def out0_13 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay6 (k0_pay28 x0 x1 x2 x3 x4 x5 x6 x7 x8 x9 x10 x11 x12) (k0_pay29 x0 x1 x2 x3 x4 x5 x6 x7 x8 x9 x10 x11 x12) (k0_pay5 (View.ld x0 r0_0) (View.ld x3 r0_1) (View.ld x1 r0_2) (View.ld x2 r0_2) (View.ld x6 r0_4)) (iota .tc S256x128 32 [1] iota_S256x128_d1_w32) (Scalar.select (Scalar.cmpi .eq 64#32 0#32) 1#32 64#32)⟩]

/-- Its stores tile the buffer (checked by evaluation), so they cover it. -/
theorem cover0_13 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 14's staging buffer after the body, from the input windows' blocks: its 1 store as pieces, LAST
    FIRST (Lib/Pipeline/FrameBody.lean `View.canon`; the payloads are the skeleton's and the values stated above). -/
def out0_14 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay14 (k0_pay28 x0 x1 x2 x3 x4 x5 x6 x7 x8 x9 x10 x11 x12) (k0_pay29 x0 x1 x2 x3 x4 x5 x6 x7 x8 x9 x10 x11 x12) (k0_pay7 (k0_pay27 x0 x1 x2 x3 x4 x5 x6 x7 x8 x9 x10 x11 x12) (View.ld x8 r0_4)) k0_pay8 (k0_pay9 (k0_pay27 x0 x1 x2 x3 x4 x5 x6 x7 x8 x9 x10 x11 x12) (k0_pay28 x0 x1 x2 x3 x4 x5 x6 x7 x8 x9 x10 x11 x12) (k0_pay29 x0 x1 x2 x3 x4 x5 x6 x7 x8 x9 x10 x11 x12) (View.ld x8 r0_4)) (k0_pay10 (k0_pay27 x0 x1 x2 x3 x4 x5 x6 x7 x8 x9 x10 x11 x12) (k0_pay28 x0 x1 x2 x3 x4 x5 x6 x7 x8 x9 x10 x11 x12) (k0_pay29 x0 x1 x2 x3 x4 x5 x6 x7 x8 x9 x10 x11 x12) (View.ld x8 r0_4)) (k0_pay12 (k0_pay27 x0 x1 x2 x3 x4 x5 x6 x7 x8 x9 x10 x11 x12) (k0_pay28 x0 x1 x2 x3 x4 x5 x6 x7 x8 x9 x10 x11 x12) (View.ld x8 r0_4)) (k0_pay13 (k0_pay27 x0 x1 x2 x3 x4 x5 x6 x7 x8 x9 x10 x11 x12) (k0_pay29 x0 x1 x2 x3 x4 x5 x6 x7 x8 x9 x10 x11 x12) (View.ld x8 r0_4))⟩]

/-- Its stores tile the buffer (checked by evaluation), so they cover it. -/
theorem cover0_14 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay15 (k0_pay27 x0 x1 x2 x3 x4 x5 x6 x7 x8 x9 x10 x11 x12) (View.ld x10 r0_4)⟩]

/-- Its stores tile the buffer (checked by evaluation), so they cover it. -/
theorem cover0_15 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x128 .f32 :=
  View.canon [⟨r0_3, k0_pay23 (k0_pay27 x0 x1 x2 x3 x4 x5 x6 x7 x8 x9 x10 x11 x12) (k0_pay28 x0 x1 x2 x3 x4 x5 x6 x7 x8 x9 x10 x11 x12) (k0_pay29 x0 x1 x2 x3 x4 x5 x6 x7 x8 x9 x10 x11 x12) (View.ld x9 r0_7)⟩]

/-- Its stores tile the buffer (checked by evaluation), so they cover it. -/
theorem cover0_16 (p0 : Vec F S256x128 .f32) (y : S256x128.Idx) :
    ∃ pc ∈ ([⟨r0_3, p0⟩] : List (View.Piece (Elt F) S256x128 .f32)), y ∈ pc.1.set :=
  View.cover_of_tiled [⟨r0_3, p0⟩] S256x128.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay20 (k0_pay28 x0 x1 x2 x3 x4 x5 x6 x7 x8 x9 x10 x11 x12) (k0_pay29 x0 x1 x2 x3 x4 x5 x6 x7 x8 x9 x10 x11 x12) (k0_pay30 x0 x1 x2 x3 x4 x5 x6 x7 x8 x9 x10 x11 x12) (k0_pay31 x0 x1 x2 x3 x4 x5 x6 x7 x8 x9 x10 x11 x12) (k0_pay32 x0 x1 x2 x3 x4 x5 x6 x7 x8 x9 x10 x11 x12)⟩]

/-- Its stores tile the buffer (checked by evaluation), so they cover it. -/
theorem cover0_17 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x512 .bf16 :=
  View.canon [⟨r0_5, k0_pay22 (k0_pay27 x0 x1 x2 x3 x4 x5 x6 x7 x8 x9 x10 x11 x12) (View.ld x11 r0_6)⟩]

/-- Its stores tile the buffer (checked by evaluation), so they cover it. -/
theorem cover0_18 (p0 : Vec F S256x512 .bf16) (y : S256x512.Idx) :
    ∃ pc ∈ ([⟨r0_5, p0⟩] : List (View.Piece (Elt F) S256x512 .bf16)), y ∈ pc.1.set :=
  View.cover_of_tiled [⟨r0_5, p0⟩] S256x512.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x128 .bf16 :=
  View.canon [⟨r0_3, k0_pay24 (k0_pay27 x0 x1 x2 x3 x4 x5 x6 x7 x8 x9 x10 x11 x12) (k0_pay28 x0 x1 x2 x3 x4 x5 x6 x7 x8 x9 x10 x11 x12) (k0_pay29 x0 x1 x2 x3 x4 x5 x6 x7 x8 x9 x10 x11 x12) (View.ld x9 r0_7)⟩]

/-- Its stores tile the buffer (checked by evaluation), so they cover it. -/
theorem cover0_19 (p0 : Vec F S256x128 .bf16) (y : S256x128.Idx) :
    ∃ pc ∈ ([⟨r0_3, p0⟩] : List (View.Piece (Elt F) S256x128 .bf16)), y ∈ pc.1.set :=
  View.cover_of_tiled [⟨r0_3, p0⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x1024 .f32 :=
  View.canon [⟨r0_0, k0_pay26 (k0_pay27 x0 x1 x2 x3 x4 x5 x6 x7 x8 x9 x10 x11 x12) (View.ld x12 r0_8)⟩]

/-- Its stores tile the buffer (checked by evaluation), so they cover it. -/
theorem cover0_20 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x1024 .f32 :=
  View.canon [⟨r0_0, k0_pay1 (k0_pay25 (k0_pay27 x0 x1 x2 x3 x4 x5 x6 x7 x8 x9 x10 x11 x12) (View.ld x12 r0_8))⟩]

/-- Its stores tile the buffer (checked by evaluation), so they cover it. -/
theorem cover0_21 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x1024 .f32 :=
  View.canon [⟨r0_0, k0_pay19 (k0_pay28 x0 x1 x2 x3 x4 x5 x6 x7 x8 x9 x10 x11 x12) (k0_pay29 x0 x1 x2 x3 x4 x5 x6 x7 x8 x9 x10 x11 x12) (k0_pay30 x0 x1 x2 x3 x4 x5 x6 x7 x8 x9 x10 x11 x12) (k0_pay31 x0 x1 x2 x3 x4 x5 x6 x7 x8 x9 x10 x11 x12) (k0_pay32 x0 x1 x2 x3 x4 x5 x6 x7 x8 x9 x10 x11 x12)⟩]

/-- Its stores tile the buffer (checked by evaluation), so they cover it. -/
theorem cover0_22 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) : Vec F S256x1024 .f32 :=
  View.canon [⟨r0_0, k0_pay21 (k0_pay27 x0 x1 x2 x3 x4 x5 x6 x7 x8 x9 x10 x11 x12) (View.ld x11 r0_6)⟩]

/-- Its stores tile the buffer (checked by evaluation), so they cover it. -/
theorem cover0_23 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x256x1024 .f32) (harg2 : arg2.IsWhole) (arg3 : Memref sig .tc .vmem S1x256x1024 .f32) (harg3 : arg3.IsWhole) (arg4 : Memref sig .tc .vmem S1x1024 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1024x512 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x128 .bf16) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S1024x2048 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x128 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x128 .bf16) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole)
    (x0 : Vec F S256x1024 .f32) (x1 : Vec F S1x256x1024 .f32) (x2 : Vec F S1x256x1024 .f32) (x3 : Vec F S1x1024 .f32) (x4 : Vec F S256x128 .f32) (x5 : Vec F S256x128 .f32) (x6 : Vec F S1024x512 .bf16) (x7 : Vec F S1024x1024 .bf16) (x8 : Vec F S1024x512 .bf16) (x9 : Vec F S1024x128 .bf16) (x10 : Vec F S1024x512 .bf16) (x11 : Vec F S1024x1024 .bf16) (x12 : Vec F S1024x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The argument arrays end as they began and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.InSRun

end
-- ==== Proof.InSFrame.lean ====
module

public import proofs.«01_k».proof.Defs
public import proofs.«01_k».proof.Proof.Gen.InS
public import proofs.«01_k».proof.Proof.InSRun

/-! # The sampled tokens' version's program, read with machine numbers, leaves its arguments unchanged

The same text is certified twice, once for each reading of its numbers. Here the two copies are shown
to be one program, label by label, so that the run of the one is the run of the other. -/

@[expose] public section

set_option maxHeartbeats 4000000
set_option maxRecDepth 16384

noncomputable section

namespace Cert.Proof.InSFrame

open Idealize.ShloMosaic Idealize.ShloMosaic.TcCoe

/-- The kernel bodies are one function. -/
theorem cc0_eq : @Cert.InS.cc0_in_proj Bits _ _ = @Cert.InSIdeal.cc0_in_proj Bits _ _ := rfl

/-- So are the kernels' tables, which hold that body at their one label. -/
theorem defs₀_eq : @Cert.InS.defs₀ Bits _ _ = @Cert.InSIdeal.defs₀ Bits _ _ := by
  unfold Cert.InS.defs₀ Cert.InSIdeal.defs₀
  rw [cc0_eq]
  refine congrArg Defs.onTc ?_
  funext l x
  match l, x with
  | ⟨0, _⟩, (t, s) => rfl

/-- And the whole program's tables. -/
theorem defs_eq : @Cert.InS.defs Bits _ _ = @Cert.InSIdeal.defs Bits _ _ := by
  unfold Cert.InS.defs Cert.InSIdeal.defs
  rw [defs₀_eq]
  rfl

/-- The programs are one program. -/
theorem main_eq : @Cert.InS.main Bits _ _ = @Cert.InSIdeal.main Bits _ _ := rfl

/-- The arguments after the run are the arguments before it. -/
theorem frame : quiescent_InS := fun m ρ _ => by
  rw [defs_eq, main_eq]
  exact InSRun.frame (F := Bits) m ρ

end Cert.Proof.InSFrame

end
-- ==== Proof.DsaLoops.lean ====
module

public import proofs.«01_k».proof.Proof.Gen.Kernel.Frame
public import proofs.«01_k».proof.Proof.Gen.Kernel.Loops
public import proofs.«01_k».proof.Proof.Gen.Kernel.Skeleton

/-! The two loops of the selection kernel that hold loops of their own: both only read the keys. -/

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option warn.classDefReducibility false in
/-- The bisection over the thirty-two bits of a key, one trip: the two counting loops inside read the keys and leave
    them as they were, so before every trip the keys' buffer holds what it held at the start. The threshold built up so
    far is carried, and nothing is claimed of it. -/
@[sl_loop] def loopInv_k0_t3 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S1x16x512x256 .bf16) (harg7 : arg7.IsWhole) (arg8 : Memref sig .tc .vmem S256x512 .bf16) (harg8 : arg8.IsWhole) (arg9 : Memref sig .tc .vmem S4096x256 .i32) (harg9 : arg9.IsWhole) (arg10 : Memref sig .tc .vmem S512x256 .f32) (harg10 : arg10.IsWhole) (arg11 : Memref sig .tc .vmem S8x256 .f32) (harg11 : arg11.IsWhole) (arg12 : Memref sig .tc .vmem S8x256 .f32) (harg12 : arg12.IsWhole)
    (init : IVec S1x256 32) (X : BufTy.Contents (Elt F) arg9.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12  init where
  inv _ _ := iprop(arg9.view.loc (c : Thread nD τ) ↦[arg9.view.set]{fullShare} X)
  step k acc := by
    unfold k0_t3_body
    iintro H
    sl_exec
    sl_step
    iexact H

set_option warn.classDefReducibility false in
/-- The bisection over the twelve bits of a position, inside the branch taken when too many keys tie with the threshold:
    again the keys' buffer is only read. -/
@[sl_loop] def loopInv_k0_t10 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S1x16x512x256 .bf16) (harg7 : arg7.IsWhole) (arg8 : Memref sig .tc .vmem S256x512 .bf16) (harg8 : arg8.IsWhole) (arg9 : Memref sig .tc .vmem S4096x256 .i32) (harg9 : arg9.IsWhole) (arg10 : Memref sig .tc .vmem S512x256 .f32) (harg10 : arg10.IsWhole) (arg11 : Memref sig .tc .vmem S8x256 .f32) (harg11 : arg11.IsWhole) (arg12 : Memref sig .tc .vmem S8x256 .f32) (harg12 : arg12.IsWhole) (v0 : BitVec 32) (v5 : IVec S256x256 32) (v21 : IVec S1x256 32) (v31 : FVec F S1x256 .f32) (cst_16 : F .f32)
    (init : IVec S1x256 32) (X : BufTy.Contents (Elt F) arg9.view.ty) :
    LoopInvTy_k0_t10 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v0 v5 v21 v31 cst_16 init where
  inv _ _ := iprop(arg9.view.loc (c : Thread nD τ) ↦[arg9.view.set]{fullShare} X)
  step k acc := by
    unfold k0_t10_body
    iintro H
    sl_exec
    sl_step
    iexact H

end Cert.Proof.Dsa

end
-- ==== Proof.DsaRun.lean ====
module

public import proofs.«01_k».proof.Proof.Gen.Kernel.Frame
public import proofs.«01_k».proof.Proof.Gen.Kernel.Loops
public import proofs.«01_k».proof.Proof.Gen.Kernel.Skeleton
public import proofs.«01_k».proof.Proof.DsaLoops

/-! The selection kernel's body, run once. -/

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The body's triple: on whole staging buffers, the inputs' at their contents and everything else at anything, the body
    runs to its end, on either side of its conditional, with the inputs' buffers as they were. -/
theorem kernelRun (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x128 .f32) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S1x16x512x256 .bf16) (harg7 : arg7.IsWhole) (arg8 : Memref sig .tc .vmem S256x512 .bf16) (harg8 : arg8.IsWhole) (arg9 : Memref sig .tc .vmem S4096x256 .i32) (harg9 : arg9.IsWhole) (arg10 : Memref sig .tc .vmem S512x256 .f32) (harg10 : arg10.IsWhole) (arg11 : Memref sig .tc .vmem S8x256 .f32) (harg11 : arg11.IsWhole) (arg12 : Memref sig .tc .vmem S8x256 .f32) (harg12 : arg12.IsWhole)
    (x0 : Vec F S256x512 .bf16) (x1 : Vec F S256x512 .bf16) (x2 : Vec F S256x128 .f32) (x3 : Vec F S4096x128 .bf16) (x4 : Vec F S4096x512 .bf16) (x5 : Vec F S1x16x512x256 .bf16) :
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) Set.univ (cc0_dsa_prompt i arg2 harg2 arg3 harg3 arg4 harg4 arg5 harg5 arg6 harg6 arg7 harg7 arg8 harg8 arg9 harg9 arg10 harg10 arg11 harg11 arg12 harg12) K := by
    intro K
    simp only [cc0_dsa_prompt_eq_skeleton]; unfold cc0_dsa_prompt_skel
    simp only [k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    split
    · sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      iexists _, _; isplitr; swap; · iexact H10
      ipureintro; rfl

    · sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      iexists _, _; isplitr; swap; · iexact H10
      ipureintro; rfl

end Cert.Proof.Dsa

end
-- ==== Proof.DsaFrame.lean ====
module

public import proofs.«01_k».proof.Proof.Gen.Kernel.Frame
public import proofs.«01_k».proof.Proof.Gen.Kernel.Loops
public import proofs.«01_k».proof.Proof.Gen.Kernel.Skeleton
public import proofs.«01_k».proof.Proof.DsaRun

/-! The frame of the selection kernel: it terminates, and leaves its arguments as they were. -/

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The windows' buffers and the scratch -/

abbrev ms0 (t : Fin cfg0.N) : Memref sig .tc .vmem S256x512 .bf16 := win0_0.stage (cfg0.slots t 0)
abbrev ms1 (t : Fin cfg0.N) : Memref sig .tc .vmem S256x512 .bf16 := win0_1.stage (cfg0.slots t 1)
abbrev ms2 (t : Fin cfg0.N) : Memref sig .tc .vmem S256x128 .f32 := win0_2.stage (cfg0.slots t 2)
abbrev ms3 (t : Fin cfg0.N) : Memref sig .tc .vmem S4096x128 .bf16 := win0_3.stage (cfg0.slots t 3)
abbrev ms4 (t : Fin cfg0.N) : Memref sig .tc .vmem S4096x512 .bf16 := win0_4.stage (cfg0.slots t 4)
abbrev ms5 (t : Fin cfg0.N) : Memref sig .tc .vmem S1x16x512x256 .bf16 := win0_5.stage (cfg0.slots t 5)
abbrev ms6 (t : Fin cfg0.N) : Memref sig .tc .vmem S256x512 .bf16 := win0_6.stage (cfg0.slots t 6)
abbrev sc0 : Memref sig .tc .vmem S4096x256 .i32 := Memref.whole cc0_scratch0
abbrev sc1 : Memref sig .tc .vmem S512x256 .f32 := Memref.whole cc0_scratch1
abbrev sc2 : Memref sig .tc .vmem S8x256 .f32 := Memref.whole cc0_scratch2
abbrev sc3 : Memref sig .tc .vmem S8x256 .f32 := Memref.whole cc0_scratch3

/-- What the body may use beside the windows: its four scratch buffers, each at some contents, and the generator. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The proof data: the inputs at their blocks, the result forgotten -/

/-- The result's window (6) is the one nothing is said of. -/
def forgets : Fin 7 → Bool := fun w => w.val == 6

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at any grid point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, rest_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t)) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- Every weakly fair execution terminates, every input array ends as it began, every counter ends at zero. -/
theorem run_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the six argument arrays end unchanged and every counter ends at zero. -/
theorem frame_dsa : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩,
      h.2⟩) (run_quiescent m ρ)

end Cert.Proof.Dsa

end
-- ==== Proof.InSpec.lean ====
module

public import Idealize.ShloMosaic.Lib.Pipeline.ValueKit.Point
public import Idealize.ShloMosaic.Lib.Pointwise

/-! The input projection's values, one token row at a time, over the ideal numbers.

A row is normalised, scaled and shifted (`hid`) and multiplied with the weight's 5704 columns (`colN`). Columns are
numbered by naturals, so that equal columns are equal numbers. Query and key heads of 64 lanes are rotated by the
row's position (`rotE`). -/

@[expose] public section

set_option maxRecDepth 16384

noncomputable section

namespace Cert.Proof.InSpec

open Idealize.ShloMosaic

/-- One entry of the normalised, scaled and shifted row: `x · rsqrt(mean x² + ε) · g · (1 + scale) + shift`. -/
def hid (x g sc sh : Fin 1024 → EReal) (k : Fin 1024) : EReal :=
  x k * Ideal.rsqrt (Ideal.div (∑ j, x j * x j) (Ideal.ofBits FTy.f32 1149239296#32) + Ideal.ofBits FTy.f32 897988541#32)
    * g k * (1 + sc k) + sh k

/-- Column `c` of the projected row; zero past the weight's last column. -/
def colN (h : Fin 1024 → EReal) (w : Fin 1024 → Fin 5704 → EReal) (c : ℕ) : EReal :=
  if hc : c < 5704 then ∑ k, h k * w k ⟨c, hc⟩ else 0

/-- The angle of lane `i < 32` at position `pos`. -/
def ang (pos : EReal) (i : ℕ) : EReal :=
  pos * Ideal.pow (Ideal.ofBits FTy.f32 1176256512#32)
    (Ideal.div (-(FloatOps.sitofp (F := Ideal) FTy.f32 (BitVec.ofNat 32 i) : EReal)) (Ideal.ofBits FTy.f32 1107296256#32))

/-- Lane `k` of the rotated heads whose columns begin at `o`. -/
def rotE (P : ℕ → EReal) (pos : EReal) (o k : ℕ) : EReal :=
  if k % 64 < 32 then P (o + k) * Ideal.cos (ang pos (k % 64)) - P (o + (k + 32)) * Ideal.sin (ang pos (k % 64))
  else P (o + k) * Ideal.cos (ang pos (k % 64 - 32)) + P (o + (k - 32)) * Ideal.sin (ang pos (k % 64 - 32))

/-- The small operand of the indexer: a rotated key head, eight weights, and zeros. -/
def small (P : ℕ → EReal) (pos : EReal) (k : ℕ) : EReal :=
  if k < 64 then rotE P pos 2048 k else if k < 72 then P (2048 + k) else 0

/-- Key rows beside value rows of mixer A. -/
def kvA (P : ℕ → EReal) (pos : EReal) (k : ℕ) : EReal :=
  if k < 512 then rotE P pos 512 k else P (512 + k)

/-- The logistic function as the reference writes it. -/
def sig (x : EReal) : EReal := Ideal.div 1 (1 + Ideal.exp (-x))

/-- The kernel's table of cosines at lane `e` of a 128-lane group. -/
def cosT (pos : EReal) (e : ℕ) : EReal :=
  if e % 64 < 32 then Ideal.cos (ang pos (e % 64)) else Ideal.cos (ang pos (e % 64 - 32))

/-- The kernel's table of signed sines at lane `e` of a 128-lane group. -/
def sinT (pos : EReal) (e : ℕ) : EReal :=
  if e % 64 < 32 then -Ideal.sin (ang pos (e % 64)) else Ideal.sin (ang pos (e % 64 - 32))

/-- A token's projected row, from the arrays: activations, scale, shift, the norm's weight, the projection's weight. -/
def rowP {B S : ℕ} [NeZero B] [NeZero S] (a0 : Vec Ideal ⟨3, ![B, S, 1024]⟩ .f32) (a1 a2 : Vec Ideal ⟨3, ![B, 1, 1024]⟩ .f32)
    (a3 : Vec Ideal ⟨1, ![1024]⟩ .f32) (a4 : Vec Ideal ⟨2, ![1024, 5704]⟩ .f32) (b s c : ℕ) : EReal :=
  colN (hid (fun j => a0 (ix3 (Fin.ofNat B b) (Fin.ofNat S s) j)) (fun j => a3 (ix1 j)) (fun j => a1 (ix3 (Fin.ofNat B b) 0 j))
    (fun j => a2 (ix3 (Fin.ofNat B b) 0 j))) (fun k c => a4 (ix2 k c)) c

/-- A position as a number. -/
def posP (s : ℕ) : EReal := FloatOps.sitofp (F := Ideal) FTy.f32 (BitVec.ofNat 32 s)

/-- A sampled token's position, past the cached ones, as a number. -/
def posS (s : ℕ) : EReal := FloatOps.sitofp (F := Ideal) FTy.f32 (BitVec.ofNat 32 16384 + BitVec.ofNat 32 s)

theorem ix3_congr {a b d : ℕ} {i i' : Fin a} {j j' : Fin b} (h : i = i') (h' : j = j') (k : Fin d) : ix3 i j k = ix3 i' j' k := by
  rw [h, h']

theorem zero0 : (FloatOps.sitofp (F := Ideal) FTy.f32 0#32 : EReal) = 0 := by
  show ((((0#32 : BitVec 32).toInt : ℝ)) : EReal) = 0
  simp

theorem sig_eq (x : EReal) : Ideal.logistic x = sig x := by
  unfold sig Ideal.logistic
  rfl

/-- `k'` is the other half's lane of the head that holds lane `k`. -/
def Partner (k k' : ℕ) : Prop := (k % 64 < 32 ∧ k' = k + 32) ∨ (32 ≤ k % 64 ∧ k' + 32 = k)

theorem partner_ex (n : ℕ) (hn : n % 64 = 0) (k : Fin n) : ∃ k' : Fin n, Partner k.val k'.val := by
  have hk := k.isLt
  by_cases h : k.val % 64 < 32
  · exact ⟨⟨k.val + 32, by omega⟩, Or.inl ⟨h, rfl⟩⟩
  · exact ⟨⟨k.val - 32, by omega⟩, Or.inr ⟨by omega, by dsimp only; omega⟩⟩

/-- The reference's form of the rotation, head `h` and lane `j`, is the plain one. -/
theorem rope_eq (P : ℕ → EReal) (pos : EReal) (o h j : ℕ) (hj : j < 64) :
    (if j < 32 then P (o + (h * 64 + j)) * Ideal.cos (ang pos j) - P (o + (h * 64 + (32 + j))) * Ideal.sin (ang pos j)
     else P (o + (h * 64 + (32 + (j - 32)))) * Ideal.cos (ang pos (j - 32)) + P (o + (h * 64 + (j - 32))) * Ideal.sin (ang pos (j - 32)))
      = rotE P pos o (h * 64 + j) := by
  unfold rotE
  rw [(by omega : (h * 64 + j) % 64 = j)]
  by_cases h1 : j < 32
  · rw [if_pos h1, if_pos h1, (by omega : h * 64 + j + 32 = h * 64 + (32 + j))]
  · rw [if_neg h1, if_neg h1, (by omega : h * 64 + j - 32 = h * 64 + (j - 32)), (by omega : 32 + (j - 32) = j)]

/-- The kernel's form of the rotation, a lane times its cosine plus its partner times the signed sine, is the plain one. -/
theorem rotE_eq (P : ℕ → EReal) (pos : EReal) (o k k' e : ℕ) (he : e % 64 = k % 64) (hk : Partner k k') :
    P (o + k) * cosT pos e + P (o + k') * sinT pos e = rotE P pos o k := by
  unfold cosT sinT rotE
  rw [he]
  rcases hk with ⟨h, rfl⟩ | ⟨h, hk⟩
  · simp only [h, if_true]
    rw [mul_neg, ← sub_eq_add_neg]
  · obtain rfl : k' = k - 32 := by omega
    simp only [show ¬ k % 64 < 32 by omega, if_false]

/-- The kernel's lane test on the lane number `b`. -/
def laneBit (b : BitVec 32) : BitVec 1 :=
  IntOp.cmpi CmpIPredicate.slt
    (Scalar.select
      (IntOp.andi
        (IntOp.xori
          (IntOp.cmpi CmpIPredicate.slt (IntOp.remsi ArithUnit.vector b 64#32) 0#32)
          (Scalar.cmpi CmpIPredicate.slt 64#32 0#32))
        (IntOp.cmpi CmpIPredicate.ne (IntOp.remsi ArithUnit.vector b 64#32) 0#32))
      (IntOp.addi (IntOp.remsi ArithUnit.vector b 64#32) 64#32)
      (IntOp.remsi ArithUnit.vector b 64#32))
    32#32

theorem laneBit_eq : ∀ c : Fin 128, laneBit (BitVec.ofNat 32 c.val) = if c.val % 64 < 32 then 1#1 else 0#1 := by
  decide +kernel

theorem h64 : Scalar.select (Scalar.cmpi .eq 64#32 0#32) 1#32 64#32 = 64#32 := by decide +kernel

/-- A selection by the lane test: lane `c` of a 128-lane group lies in the first half of its 64-lane head or not. -/
theorem lane (c : ℕ) (h : c < 128) (x y : EReal) : Scalar.select (
    IntOp.cmpi CmpIPredicate.slt
      (Scalar.select
        (IntOp.andi
          (IntOp.xori
            (IntOp.cmpi CmpIPredicate.slt (IntOp.remsi ArithUnit.vector (BitVec.ofNat 32 c) 64#32) 0#32)
            (Scalar.cmpi CmpIPredicate.slt 64#32 0#32))
          (IntOp.cmpi CmpIPredicate.ne (IntOp.remsi ArithUnit.vector (BitVec.ofNat 32 c) 64#32) 0#32))
        (IntOp.addi (IntOp.remsi ArithUnit.vector (BitVec.ofNat 32 c) 64#32) 64#32)
        (IntOp.remsi ArithUnit.vector (BitVec.ofNat 32 c) 64#32))
      32#32) x y = if c % 64 < 32 then x else y := by
  have e : Scalar.select (laneBit (BitVec.ofNat 32 c)) x y = if c % 64 < 32 then x else y := by
    rw [laneBit_eq ⟨c, h⟩]
    by_cases h : c % 64 < 32
    · simp only [h, if_true]; rfl
    · simp only [h, if_false]; rfl
  exact e

/-- A selection by "the lane number is below 64". -/
theorem lane64 (c : ℕ) (h : c < 128) (x y : EReal) :
    Scalar.select (IntOp.cmpi CmpIPredicate.slt (BitVec.ofNat 32 c) 64#32) x y = if c < 64 then x else y := by
  rw [(by decide +kernel : ∀ c : Fin 128,
    IntOp.cmpi CmpIPredicate.slt (BitVec.ofNat 32 c.val) 64#32 = if c.val < 64 then 1#1 else 0#1) ⟨c, h⟩]
  by_cases h : c < 64
  · simp only [h, if_true]; rfl
  · simp only [h, if_false]; rfl

/-- The kernel's rotated term, its partner chosen by the lane test, at equal places. -/
theorem rot_sel {n : ℕ} (v : Fin n → EReal) (c s : Fin 128 → EReal) (m : ℕ)
    (a a' b1 b2 b' : Fin n) (p q e : Fin 128) (ha : a.val = a'.val)
    (hb : (m % 64 < 32 ∧ b1.val = b'.val) ∨ (32 ≤ m % 64 ∧ b2.val = b'.val))
    (hp : p.val = e.val) (hq : q.val = e.val) :
    (v a * c p + (if m % 64 < 32 then v b1 else v b2) * s q : EReal) = v a' * c e + v b' * s e := by
  rw [Fin.ext ha, Fin.ext hp, Fin.ext hq]
  rcases hb with ⟨h, hb⟩ | ⟨h, hb⟩
  · rw [if_pos h, Fin.ext hb]
  · rw [if_neg (by omega), Fin.ext hb]

/-- Four groups of 128 lanes, each rotated by the same two tables, read at lane `k`: 512 columns. -/
theorem rot4 (V : Fin 512 → EReal) (c s : Fin 128 → EReal) (k k0 k' : Fin 512) (hlt : k.val < 512) (e : Fin 128)
    (h0 : k0.val = k.val) (he : e.val = k.val % 128) (hk' : Partner k.val k'.val) :
    (if h0 : k.val < 128 then V ⟨(k.val), by omega⟩ * c ⟨k.val, by omega⟩ + Scalar.select (IntOp.cmpi CmpIPredicate.slt (Scalar.select (IntOp.andi (IntOp.xori (IntOp.cmpi CmpIPredicate.slt (IntOp.remsi ArithUnit.vector (BitVec.ofNat 32 (k.val)) 64#32) 0#32)
          (Scalar.cmpi CmpIPredicate.slt 64#32 0#32)) (IntOp.cmpi CmpIPredicate.ne (IntOp.remsi ArithUnit.vector (BitVec.ofNat 32 (k.val)) 64#32) 0#32))
        (IntOp.addi (IntOp.remsi ArithUnit.vector (BitVec.ofNat 32 (k.val)) 64#32) 64#32) (IntOp.remsi ArithUnit.vector (BitVec.ofNat 32 (k.val)) 64#32)) 32#32)
          (V ⟨(k.val + 128 - 96) % 128, by omega⟩) (V ⟨(k.val + 128 - 32) % 128, by omega⟩) * s ⟨k.val, by omega⟩
      else if h1 : k.val - 128 < 128 then V ⟨128 + (k.val - 128), by omega⟩ * c ⟨k.val - 128, by omega⟩ + Scalar.select (IntOp.cmpi CmpIPredicate.slt (Scalar.select (IntOp.andi (IntOp.xori (IntOp.cmpi CmpIPredicate.slt (IntOp.remsi ArithUnit.vector (BitVec.ofNat 32 (k.val - 128)) 64#32) 0#32)
          (Scalar.cmpi CmpIPredicate.slt 64#32 0#32)) (IntOp.cmpi CmpIPredicate.ne (IntOp.remsi ArithUnit.vector (BitVec.ofNat 32 (k.val - 128)) 64#32) 0#32))
        (IntOp.addi (IntOp.remsi ArithUnit.vector (BitVec.ofNat 32 (k.val - 128)) 64#32) 64#32) (IntOp.remsi ArithUnit.vector (BitVec.ofNat 32 (k.val - 128)) 64#32)) 32#32)
          (V ⟨128 + (k.val - 128 + 128 - 96) % 128, by omega⟩) (V ⟨128 + (k.val - 128 + 128 - 32) % 128, by omega⟩) * s ⟨k.val - 128, by omega⟩
      else if h2 : k.val - 128 - 128 < 128 then V ⟨256 + (k.val - 128 - 128), by omega⟩ * c ⟨k.val - 128 - 128, by omega⟩ + Scalar.select (IntOp.cmpi CmpIPredicate.slt (Scalar.select (IntOp.andi (IntOp.xori (IntOp.cmpi CmpIPredicate.slt (IntOp.remsi ArithUnit.vector (BitVec.ofNat 32 (k.val - 128 - 128)) 64#32) 0#32)
          (Scalar.cmpi CmpIPredicate.slt 64#32 0#32)) (IntOp.cmpi CmpIPredicate.ne (IntOp.remsi ArithUnit.vector (BitVec.ofNat 32 (k.val - 128 - 128)) 64#32) 0#32))
        (IntOp.addi (IntOp.remsi ArithUnit.vector (BitVec.ofNat 32 (k.val - 128 - 128)) 64#32) 64#32) (IntOp.remsi ArithUnit.vector (BitVec.ofNat 32 (k.val - 128 - 128)) 64#32)) 32#32)
          (V ⟨256 + (k.val - 128 - 128 + 128 - 96) % 128, by omega⟩) (V ⟨256 + (k.val - 128 - 128 + 128 - 32) % 128, by omega⟩) * s ⟨k.val - 128 - 128, by omega⟩
      else V ⟨384 + (k.val - 128 - 128 - 128), by omega⟩ * c ⟨k.val - 128 - 128 - 128, by omega⟩ + Scalar.select (IntOp.cmpi CmpIPredicate.slt (Scalar.select (IntOp.andi (IntOp.xori (IntOp.cmpi CmpIPredicate.slt (IntOp.remsi ArithUnit.vector (BitVec.ofNat 32 (k.val - 128 - 128 - 128)) 64#32) 0#32)
          (Scalar.cmpi CmpIPredicate.slt 64#32 0#32)) (IntOp.cmpi CmpIPredicate.ne (IntOp.remsi ArithUnit.vector (BitVec.ofNat 32 (k.val - 128 - 128 - 128)) 64#32) 0#32))
        (IntOp.addi (IntOp.remsi ArithUnit.vector (BitVec.ofNat 32 (k.val - 128 - 128 - 128)) 64#32) 64#32) (IntOp.remsi ArithUnit.vector (BitVec.ofNat 32 (k.val - 128 - 128 - 128)) 64#32)) 32#32)
          (V ⟨384 + (k.val - 128 - 128 - 128 + 128 - 96) % 128, by omega⟩) (V ⟨384 + (k.val - 128 - 128 - 128 + 128 - 32) % 128, by omega⟩) * s ⟨k.val - 128 - 128 - 128, by omega⟩ : EReal) = V k0 * c e + V k' * s e := by
  unfold Partner at hk'
  by_cases h0 : k.val < 128
  · rw [dif_pos h0, lane _ (by omega)]
    apply rot_sel V c s <;> dsimp only <;> omega
  rw [dif_neg h0]
  by_cases h1 : k.val - 128 < 128
  · rw [dif_pos h1, lane _ (by omega)]
    apply rot_sel V c s <;> dsimp only <;> omega
  rw [dif_neg h1]
  by_cases h2 : k.val - 128 - 128 < 128
  · rw [dif_pos h2, lane _ (by omega)]
    apply rot_sel V c s <;> dsimp only <;> omega
  rw [dif_neg h2]
  rw [lane _ (by omega)]
  apply rot_sel V c s <;> dsimp only <;> omega

/-- Four groups of 128 lanes, each rotated by the same two tables, read at lane `k`: 1024 columns. -/
theorem rot4w (V : Fin 1024 → EReal) (c s : Fin 128 → EReal) (k k0 k' : Fin 1024) (hlt : k.val < 512) (e : Fin 128)
    (h0 : k0.val = k.val) (he : e.val = k.val % 128) (hk' : Partner k.val k'.val) :
    (if h0 : k.val < 128 then V ⟨(k.val), by omega⟩ * c ⟨k.val, by omega⟩ + Scalar.select (IntOp.cmpi CmpIPredicate.slt (Scalar.select (IntOp.andi (IntOp.xori (IntOp.cmpi CmpIPredicate.slt (IntOp.remsi ArithUnit.vector (BitVec.ofNat 32 (k.val)) 64#32) 0#32)
          (Scalar.cmpi CmpIPredicate.slt 64#32 0#32)) (IntOp.cmpi CmpIPredicate.ne (IntOp.remsi ArithUnit.vector (BitVec.ofNat 32 (k.val)) 64#32) 0#32))
        (IntOp.addi (IntOp.remsi ArithUnit.vector (BitVec.ofNat 32 (k.val)) 64#32) 64#32) (IntOp.remsi ArithUnit.vector (BitVec.ofNat 32 (k.val)) 64#32)) 32#32)
          (V ⟨(k.val + 128 - 96) % 128, by omega⟩) (V ⟨(k.val + 128 - 32) % 128, by omega⟩) * s ⟨k.val, by omega⟩
      else if h1 : k.val - 128 < 128 then V ⟨128 + (k.val - 128), by omega⟩ * c ⟨k.val - 128, by omega⟩ + Scalar.select (IntOp.cmpi CmpIPredicate.slt (Scalar.select (IntOp.andi (IntOp.xori (IntOp.cmpi CmpIPredicate.slt (IntOp.remsi ArithUnit.vector (BitVec.ofNat 32 (k.val - 128)) 64#32) 0#32)
          (Scalar.cmpi CmpIPredicate.slt 64#32 0#32)) (IntOp.cmpi CmpIPredicate.ne (IntOp.remsi ArithUnit.vector (BitVec.ofNat 32 (k.val - 128)) 64#32) 0#32))
        (IntOp.addi (IntOp.remsi ArithUnit.vector (BitVec.ofNat 32 (k.val - 128)) 64#32) 64#32) (IntOp.remsi ArithUnit.vector (BitVec.ofNat 32 (k.val - 128)) 64#32)) 32#32)
          (V ⟨128 + (k.val - 128 + 128 - 96) % 128, by omega⟩) (V ⟨128 + (k.val - 128 + 128 - 32) % 128, by omega⟩) * s ⟨k.val - 128, by omega⟩
      else if h2 : k.val - 128 - 128 < 128 then V ⟨256 + (k.val - 128 - 128), by omega⟩ * c ⟨k.val - 128 - 128, by omega⟩ + Scalar.select (IntOp.cmpi CmpIPredicate.slt (Scalar.select (IntOp.andi (IntOp.xori (IntOp.cmpi CmpIPredicate.slt (IntOp.remsi ArithUnit.vector (BitVec.ofNat 32 (k.val - 128 - 128)) 64#32) 0#32)
          (Scalar.cmpi CmpIPredicate.slt 64#32 0#32)) (IntOp.cmpi CmpIPredicate.ne (IntOp.remsi ArithUnit.vector (BitVec.ofNat 32 (k.val - 128 - 128)) 64#32) 0#32))
        (IntOp.addi (IntOp.remsi ArithUnit.vector (BitVec.ofNat 32 (k.val - 128 - 128)) 64#32) 64#32) (IntOp.remsi ArithUnit.vector (BitVec.ofNat 32 (k.val - 128 - 128)) 64#32)) 32#32)
          (V ⟨256 + (k.val - 128 - 128 + 128 - 96) % 128, by omega⟩) (V ⟨256 + (k.val - 128 - 128 + 128 - 32) % 128, by omega⟩) * s ⟨k.val - 128 - 128, by omega⟩
      else V ⟨384 + (k.val - 128 - 128 - 128), by omega⟩ * c ⟨k.val - 128 - 128 - 128, by omega⟩ + Scalar.select (IntOp.cmpi CmpIPredicate.slt (Scalar.select (IntOp.andi (IntOp.xori (IntOp.cmpi CmpIPredicate.slt (IntOp.remsi ArithUnit.vector (BitVec.ofNat 32 (k.val - 128 - 128 - 128)) 64#32) 0#32)
          (Scalar.cmpi CmpIPredicate.slt 64#32 0#32)) (IntOp.cmpi CmpIPredicate.ne (IntOp.remsi ArithUnit.vector (BitVec.ofNat 32 (k.val - 128 - 128 - 128)) 64#32) 0#32))
        (IntOp.addi (IntOp.remsi ArithUnit.vector (BitVec.ofNat 32 (k.val - 128 - 128 - 128)) 64#32) 64#32) (IntOp.remsi ArithUnit.vector (BitVec.ofNat 32 (k.val - 128 - 128 - 128)) 64#32)) 32#32)
          (V ⟨384 + (k.val - 128 - 128 - 128 + 128 - 96) % 128, by omega⟩) (V ⟨384 + (k.val - 128 - 128 - 128 + 128 - 32) % 128, by omega⟩) * s ⟨k.val - 128 - 128 - 128, by omega⟩ : EReal) = V k0 * c e + V k' * s e := by
  unfold Partner at hk'
  by_cases h0 : k.val < 128
  · rw [dif_pos h0, lane _ (by omega)]
    apply rot_sel V c s <;> dsimp only <;> omega
  rw [dif_neg h0]
  by_cases h1 : k.val - 128 < 128
  · rw [dif_pos h1, lane _ (by omega)]
    apply rot_sel V c s <;> dsimp only <;> omega
  rw [dif_neg h1]
  by_cases h2 : k.val - 128 - 128 < 128
  · rw [dif_pos h2, lane _ (by omega)]
    apply rot_sel V c s <;> dsimp only <;> omega
  rw [dif_neg h2]
  rw [lane _ (by omega)]
  apply rot_sel V c s <;> dsimp only <;> omega

end Cert.Proof.InSpec

end

end
-- ==== Proof.InPPay.lean ====
module

public import proofs.«01_k».proof.Proof.InPRun
public import proofs.«01_k».proof.Proof.InSpec
public import Idealize.ShloMosaic.Lib.StableHlo.ReadAt

/-! The kernel body's values, entry by entry, from the blocks it loads. -/

@[expose] public section

set_option maxRecDepth 16384
set_option maxHeartbeats 2000000

noncomputable section

namespace Cert.Proof.InPPay

open Cert.InPIdeal Cert.InPIdeal.Gen Cert.Proof.InPRun Cert.Proof.InSpec
open Idealize.ShloMosaic Idealize.ShloMosaic.TcCoe Idealize.ShloMosaic.StableHlo

variable (x0 : Vec Ideal S256x1024 .f32) (x1 x2 : Vec Ideal S1x1x1024 .f32) (x3 : Vec Ideal S1x1024 .f32)
  (x4 x5 : Vec Ideal S256x128 .f32) (x6 : Vec Ideal S1024x512 .bf16) (x7 : Vec Ideal S1024x1024 .bf16)
  (x8 : Vec Ideal S1024x512 .bf16) (x9 : Vec Ideal S1024x128 .bf16) (x10 : Vec Ideal S1024x512 .bf16)
  (x11 : Vec Ideal S1024x1024 .bf16) (x12 : Vec Ideal S1024x2048 .bf16)
  (H : FVec Ideal S256x1024 .bf16) (c s : FVec Ideal S256x128 .f32)

/-- A row of the block times one weight column. -/
def dot {n : ℕ} (h : FVec Ideal S256x1024 .bf16) (w : Vec Ideal ⟨2, ![1024, n]⟩ .bf16) (r : Fin 256) (c : Fin n) : EReal :=
  ∑ x, h (ix2 r x) * w (ix2 x c)

/-- A weight column rotated by the block's two tables. -/
def rotB {n : ℕ} (h : FVec Ideal S256x1024 .bf16) (w : Vec Ideal ⟨2, ![1024, n]⟩ .bf16) (r : Fin 256) (k k' : Fin n)
    (e : Fin 128) : EReal :=
  dot h w r k * c (ix2 r e) + dot h w r k' * s (ix2 r e)

/-- The normalised, scaled and shifted block. -/
theorem hid_eq (r : Fin 256) (k : Fin 1024) : k0_pay1 (F := Ideal) x0 x3 x1 x2 (ix2 r k)
    = hid (fun j => x0 (ix2 r j)) (fun j => x3 (ix2 0 j)) (fun j => x1 (ix3 0 0 j)) (fun j => x2 (ix3 0 0 j)) k := by
  pointwise [k0_pay1]
  rfl

theorem cos_eq : k0_pay2 (F := Ideal) x4 = x4 := by
  funext y
  pointwise [k0_pay2]

theorem sin_eq : k0_pay3 (F := Ideal) x5 = x5 := by
  funext y
  pointwise [k0_pay3]

theorem qa_eq (r : Fin 256) (k : Fin 512) : k0_pay4 (F := Ideal) x0 x3 x1 x2 x6 (ix2 r k)
    = dot (k0_pay1 (F := Ideal) x0 x3 x1 x2) x6 r k := by
  unfold dot
  pointwise [k0_pay4]

theorem m8_eq (r : Fin 256) (k : Fin 512) : k0_pay6 (F := Ideal) H x8 (ix2 r k) = dot H x8 r k := by
  unfold dot
  pointwise [k0_pay6]

theorem m7_eq (r : Fin 256) (k : Fin 1024) : k0_pay14 (F := Ideal) H x7 (ix2 r k) = dot H x7 r k := by
  unfold dot
  pointwise [k0_pay14]

theorem p13 (v : FVec Ideal S256x512 .f32) (r : Fin 256) (k k' : Fin 512) (e : Fin 128) (he : e.val = k.val % 128) (hk' : Partner k.val k'.val) :
    k0_pay5 c s v (iota .tc S256x128 32 [1] iota_S256x128_d1_w32) 64#32 (Scalar.cmpi .eq 64#32 0#32) (ix2 r k) = (v (ix2 r k) * c (ix2 r e) + v (ix2 r k') * s (ix2 r e) : EReal) := by
  have hk := k.isLt
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  exact rot4 (fun c => v (ix2 r c)) (fun e => c (ix2 r e)) (fun e => s (ix2 r e)) k k k' hk e rfl he hk'

theorem o13 (r : Fin 256) (k k' : Fin 512) (e : Fin 128) (he : e.val = k.val % 128) (hk' : Partner k.val k'.val) :
    out0_13 (F := Ideal) x0 x1 x2 x3 x4 x5 x6 x7 x8 x9 x10 x11 x12 (ix2 r k) = rotB x4 x5 (k0_pay1 (F := Ideal) x0 x3 x1 x2) x6 r k k' e := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p13  (k0_pay2 x4) (k0_pay3 x5) (k0_pay4 x0 x3 x1 x2 x6) r k k' e he hk').trans ?_
  rw [cos_eq, sin_eq]
  rw [qa_eq, qa_eq]
  rfl

theorem p14 (r : Fin 256) (k k' : Fin 512) (e : Fin 128) (he : e.val = k.val % 128) (hk' : Partner k.val k'.val) :
    k0_pay12 c s (k0_pay6 H x8) k0_pay7 (k0_pay8 H c s x8) (k0_pay9 H c s x8) (k0_pay10 H x8) (k0_pay11 H x8) (ix2 r k) = (rotB c s H x8 r k k' e : EReal) := by
  have hk := k.isLt
  unfold rotB
  rw [← m8_eq, ← m8_eq]
  pointwise [k0_pay2, k0_pay3, k0_pay4, k0_pay5, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  exact rot4 (fun c => k0_pay6 (F := Ideal) H x8 (ix2 r c)) (fun e => c (ix2 r e)) (fun e => s (ix2 r e)) k k k' hk e rfl he hk'

theorem o14 (r : Fin 256) (k k' : Fin 512) (e : Fin 128) (he : e.val = k.val % 128) (hk' : Partner k.val k'.val) :
    out0_14 (F := Ideal) x0 x1 x2 x3 x4 x5 x6 x7 x8 x9 x10 x11 x12 (ix2 r k) = rotB x4 x5 (k0_pay1 (F := Ideal) x0 x3 x1 x2) x8 r k k' e := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p14 x8 (k0_pay1 (F := Ideal) x0 x3 x1 x2) (k0_pay2 x4) (k0_pay3 x5) r k k' e he hk').trans ?_
  rw [cos_eq, sin_eq]

theorem p17 (r : Fin 256) (k : Fin 512) (k0 k' : Fin 1024) (e : Fin 128) (h0 : k0.val = k.val) (he : e.val = k.val % 128) (hk' : Partner k.val k'.val) :
    k0_pay18 c s (k0_pay14 H x7) (k0_pay15 H x7) (k0_pay16) 32#32 (ix2 r k) = (rotB c s H x7 r k0 k' e : EReal) := by
  have hk := k.isLt
  rw [show k0 = ⟨k.val, by omega⟩ from Fin.ext h0]
  unfold rotB
  rw [← m7_eq, ← m7_eq]
  pointwise [k0_pay2, k0_pay3, k0_pay4, k0_pay5, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  exact rot4w (fun c => k0_pay14 (F := Ideal) H x7 (ix2 r c)) (fun e => c (ix2 r e)) (fun e => s (ix2 r e)) ⟨k.val, by omega⟩ ⟨k.val, by omega⟩ k' hk e rfl he hk'

theorem o17 (r : Fin 256) (k : Fin 512) (k0 k' : Fin 1024) (e : Fin 128) (h0 : k0.val = k.val) (he : e.val = k.val % 128) (hk' : Partner k.val k'.val) :
    out0_17 (F := Ideal) x0 x1 x2 x3 x4 x5 x6 x7 x8 x9 x10 x11 x12 (ix2 r k) = rotB x4 x5 (k0_pay1 (F := Ideal) x0 x3 x1 x2) x7 r k0 k' e := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p17 x7 (k0_pay1 (F := Ideal) x0 x3 x1 x2) (k0_pay2 x4) (k0_pay3 x5) r k k0 k' e h0 he hk').trans ?_
  rw [cos_eq, sin_eq]

theorem p22 (r : Fin 256) (k k' : Fin 1024) (e : Fin 128) (hh : k.val < 512) (he : e.val = k.val % 128) (hk' : Partner k.val k'.val) :
    k0_pay28 (k0_pay17 c s (k0_pay14 H x7) (k0_pay15 H x7) (k0_pay16) 32#32) (ix3 0 k r) = (rotB c s H x7 r k k' e : EReal) := by
  have hk := k.isLt
  unfold rotB
  rw [← m7_eq, ← m7_eq]
  pointwise [k0_pay2, k0_pay3, k0_pay4, k0_pay5, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  rw [dif_pos hh]
  exact rot4w (fun c => k0_pay14 (F := Ideal) H x7 (ix2 r c)) (fun e => c (ix2 r e)) (fun e => s (ix2 r e)) k k k' hh e rfl he hk'

theorem o22 (r : Fin 256) (k k' : Fin 1024) (e : Fin 128) (hh : k.val < 512) (he : e.val = k.val % 128) (hk' : Partner k.val k'.val) :
    out0_22 (F := Ideal) x0 x1 x2 x3 x4 x5 x6 x7 x8 x9 x10 x11 x12 (ix3 0 k r) = rotB x4 x5 (k0_pay1 (F := Ideal) x0 x3 x1 x2) x7 r k k' e := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p22 x7 (k0_pay1 (F := Ideal) x0 x3 x1 x2) (k0_pay2 x4) (k0_pay3 x5) r k k' e hh he hk').trans ?_
  rw [cos_eq, sin_eq]

theorem p22v (r : Fin 256) (k : Fin 1024) (hh : ¬ k.val < 512) :
    k0_pay28 (k0_pay17 c s (k0_pay14 H x7) (k0_pay15 H x7) (k0_pay16) 32#32) (ix3 0 k r) = (dot H x7 r k : EReal) := by
  rw [← m7_eq]
  pointwise [k0_pay2, k0_pay3, k0_pay4, k0_pay5, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  rw [dif_neg hh]
  refine congrArg (fun c : Fin 1024 => k0_pay14 (F := Ideal) H x7 (ix2 r c)) (Fin.ext ?_)
  dsimp only
  omega

theorem o22v (r : Fin 256) (k : Fin 1024) (hh : ¬ k.val < 512) :
    out0_22 (F := Ideal) x0 x1 x2 x3 x4 x5 x6 x7 x8 x9 x10 x11 x12 (ix3 0 k r) = dot (k0_pay1 (F := Ideal) x0 x3 x1 x2) x7 r k := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p22v x7 (k0_pay1 (F := Ideal) x0 x3 x1 x2) (k0_pay2 x4) (k0_pay3 x5) r k hh).trans ?_
  rfl

theorem p23 (r : Fin 256) (k : Fin 1024) :
    k0_pay29 (k0_pay19 H x11) (ix3 0 k r) = (dot H x11 r k : EReal) := by
  unfold dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

theorem o23 (r : Fin 256) (k : Fin 1024) :
    out0_23 (F := Ideal) x0 x1 x2 x3 x4 x5 x6 x7 x8 x9 x10 x11 x12 (ix3 0 k r) = dot (k0_pay1 (F := Ideal) x0 x3 x1 x2) x11 r k := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p23 x11 (k0_pay1 (F := Ideal) x0 x3 x1 x2) r k).trans ?_
  rfl

theorem p15 (r : Fin 256) (k : Fin 512) :
    k0_pay13 H x10 (ix2 r k) = (dot H x10 r k : EReal) := by
  unfold dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

theorem o15 (r : Fin 256) (k : Fin 512) :
    out0_15 (F := Ideal) x0 x1 x2 x3 x4 x5 x6 x7 x8 x9 x10 x11 x12 (ix2 r k) = dot (k0_pay1 (F := Ideal) x0 x3 x1 x2) x10 r k := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p15 x10 (k0_pay1 (F := Ideal) x0 x3 x1 x2) r k).trans ?_
  rfl

theorem p18 (r : Fin 256) (k : Fin 512) (k0 : Fin 1024) (h0 : k0.val = k.val) :
    k0_pay20 H x11 (ix2 r k) = (dot H x11 r k0 : EReal) := by
  rw [show k0 = ⟨k.val, by omega⟩ from Fin.ext h0]
  unfold dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

theorem o18 (r : Fin 256) (k : Fin 512) (k0 : Fin 1024) (h0 : k0.val = k.val) :
    out0_18 (F := Ideal) x0 x1 x2 x3 x4 x5 x6 x7 x8 x9 x10 x11 x12 (ix2 r k) = dot (k0_pay1 (F := Ideal) x0 x3 x1 x2) x11 r k0 := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p18 x11 (k0_pay1 (F := Ideal) x0 x3 x1 x2) r k k0 h0).trans ?_
  rfl

theorem p20 (r : Fin 256) (k : Fin 1024) (k0 : Fin 2048) (h0 : k0.val = k.val) :
    k0_pay24 (k0_pay23 H x12) (ix2 r k) = (Ideal.logistic (dot H x12 r k0) : EReal) := by
  rw [show k0 = ⟨k.val, by omega⟩ from Fin.ext h0]
  unfold dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

theorem o20 (r : Fin 256) (k : Fin 1024) (k0 : Fin 2048) (h0 : k0.val = k.val) :
    out0_20 (F := Ideal) x0 x1 x2 x3 x4 x5 x6 x7 x8 x9 x10 x11 x12 (ix2 r k) = Ideal.logistic (dot (k0_pay1 (F := Ideal) x0 x3 x1 x2) x12 r k0) := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p20 x12 (k0_pay1 (F := Ideal) x0 x3 x1 x2) r k k0 h0).trans ?_
  rfl

theorem p21 (r : Fin 256) (k : Fin 1024) (k0 : Fin 2048) (h0 : k0.val = 1024 + k.val) :
    k0_pay25 (k0_pay23 H x12) (ix2 r k) = (Ideal.logistic (dot H x12 r k0) : EReal) := by
  rw [show k0 = ⟨1024 + k.val, by omega⟩ from Fin.ext h0]
  unfold dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

theorem o21 (r : Fin 256) (k : Fin 1024) (k0 : Fin 2048) (h0 : k0.val = 1024 + k.val) :
    out0_21 (F := Ideal) x0 x1 x2 x3 x4 x5 x6 x7 x8 x9 x10 x11 x12 (ix2 r k) = Ideal.logistic (dot (k0_pay1 (F := Ideal) x0 x3 x1 x2) x12 r k0) := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p21 x12 (k0_pay1 (F := Ideal) x0 x3 x1 x2) r k k0 h0).trans ?_
  rfl

theorem p16 (r : Fin 256) (k k' : Fin 128) (hk' : k.val < 64 → Partner k.val k'.val) :
    k0_pay21 H c s x9 (ix2 r k) = (if k.val < 64 then rotB c s H x9 r k k' k else dot H x9 r k : EReal) := by
  have hk := k.isLt
  unfold rotB dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  rw [lane64 _ (by omega)]
  by_cases hh : k.val < 64
  · rw [if_pos hh, if_pos hh, lane _ (by omega)]
    specialize hk' hh
    exact rot_sel (fun c => ∑ x, H (ix2 r x) * x9 (ix2 x c)) (fun e => c (ix2 r e)) (fun e => s (ix2 r e)) k.val k k _ _ k' k k k rfl (by unfold Partner at hk'; dsimp only; omega) rfl rfl
  · rw [if_neg hh, if_neg hh]

theorem o16 (r : Fin 256) (k k' : Fin 128) (hk' : k.val < 64 → Partner k.val k'.val) :
    out0_16 (F := Ideal) x0 x1 x2 x3 x4 x5 x6 x7 x8 x9 x10 x11 x12 (ix2 r k) = if k.val < 64 then rotB x4 x5 (k0_pay1 (F := Ideal) x0 x3 x1 x2) x9 r k k' k else dot (k0_pay1 (F := Ideal) x0 x3 x1 x2) x9 r k := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p16 x9 (k0_pay1 (F := Ideal) x0 x3 x1 x2) (k0_pay2 x4) (k0_pay3 x5) r k k' hk').trans ?_
  rw [cos_eq, sin_eq]

theorem p19 (r : Fin 256) (k k' : Fin 128) (hk' : k.val < 64 → Partner k.val k'.val) :
    k0_pay22 H c s x9 (ix2 r k) = (if k.val < 64 then rotB c s H x9 r k k' k else dot H x9 r k : EReal) := by
  have hk := k.isLt
  unfold rotB dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  rw [lane64 _ (by omega)]
  by_cases hh : k.val < 64
  · rw [if_pos hh, if_pos hh, lane _ (by omega)]
    specialize hk' hh
    exact rot_sel (fun c => ∑ x, H (ix2 r x) * x9 (ix2 x c)) (fun e => c (ix2 r e)) (fun e => s (ix2 r e)) k.val k k _ _ k' k k k rfl (by unfold Partner at hk'; dsimp only; omega) rfl rfl
  · rw [if_neg hh, if_neg hh]

theorem o19 (r : Fin 256) (k k' : Fin 128) (hk' : k.val < 64 → Partner k.val k'.val) :
    out0_19 (F := Ideal) x0 x1 x2 x3 x4 x5 x6 x7 x8 x9 x10 x11 x12 (ix2 r k) = if k.val < 64 then rotB x4 x5 (k0_pay1 (F := Ideal) x0 x3 x1 x2) x9 r k k' k else dot (k0_pay1 (F := Ideal) x0 x3 x1 x2) x9 r k := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p19 x9 (k0_pay1 (F := Ideal) x0 x3 x1 x2) (k0_pay2 x4) (k0_pay3 x5) r k k' hk').trans ?_
  rw [cos_eq, sin_eq]

theorem p24 (r : Fin 256) (k : Fin 64) (k0 k' : Fin 128) (h0 : k0.val = k.val) (hk' : Partner k.val k'.val) :
    k0_pay30 (k0_pay21 H c s x9) (ix3 0 k r) = (rotB c s H x9 r k0 k' k0 : EReal) := by
  have hk := k.isLt
  rw [show k0 = ⟨k.val, by omega⟩ from Fin.ext h0]
  unfold rotB dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
  simp only [h64]
  rw [lane64 _ (by omega), if_pos hk, lane _ (by omega)]
  exact rot_sel (fun c => ∑ x, H (ix2 r x) * x9 (ix2 x c)) (fun e => c (ix2 r e)) (fun e => s (ix2 r e)) k.val ⟨k.val, by omega⟩ ⟨k.val, by omega⟩ _ _ k' ⟨k.val, by omega⟩ ⟨k.val, by omega⟩ ⟨k.val, by omega⟩ rfl (by unfold Partner at hk'; dsimp only; omega) rfl rfl

theorem o24 (r : Fin 256) (k : Fin 64) (k0 k' : Fin 128) (h0 : k0.val = k.val) (hk' : Partner k.val k'.val) :
    out0_24 (F := Ideal) x0 x1 x2 x3 x4 x5 x6 x7 x8 x9 x10 x11 x12 (ix3 0 k r) = rotB x4 x5 (k0_pay1 (F := Ideal) x0 x3 x1 x2) x9 r k0 k' k0 := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p24 x9 (k0_pay1 (F := Ideal) x0 x3 x1 x2) (k0_pay2 x4) (k0_pay3 x5) r k k0 k' h0 hk').trans ?_
  rw [cos_eq, sin_eq]

theorem p25 (r : Fin 256) (k : Fin 512) (k0 : Fin 1024) (h0 : k0.val = 512 + k.val) :
    k0_pay31 (k0_pay17 c s (k0_pay14 H x7) (k0_pay15 H x7) (k0_pay16) 32#32) (ix4 0 0 k r) = (dot H x7 r k0 : EReal) := by
  rw [show k0 = ⟨512 + k.val, by omega⟩ from Fin.ext h0, ← m7_eq]
  pointwise [k0_pay2, k0_pay3, k0_pay4, k0_pay5, k0_pay7, k0_pay8, k0_pay9, k0_pay10, k0_pay11, k0_pay12, k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

theorem o25 (r : Fin 256) (k : Fin 512) (k0 : Fin 1024) (h0 : k0.val = 512 + k.val) :
    out0_25 (F := Ideal) x0 x1 x2 x3 x4 x5 x6 x7 x8 x9 x10 x11 x12 (ix4 0 0 k r) = dot (k0_pay1 (F := Ideal) x0 x3 x1 x2) x7 r k0 := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p25 x7 (k0_pay1 (F := Ideal) x0 x3 x1 x2) (k0_pay2 x4) (k0_pay3 x5) r k k0 h0).trans ?_
  rfl

theorem p26 (r : Fin 256) (k : Fin 512) (k0 : Fin 1024) (h0 : k0.val = 512 + k.val) :
    k0_pay32 (k0_pay19 H x11) (ix4 0 0 k r) = (dot H x11 r k0 : EReal) := by
  rw [show k0 = ⟨512 + k.val, by omega⟩ from Fin.ext h0]
  unfold dot
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]

theorem o26 (r : Fin 256) (k : Fin 512) (k0 : Fin 1024) (h0 : k0.val = 512 + k.val) :
    out0_26 (F := Ideal) x0 x1 x2 x3 x4 x5 x6 x7 x8 x9 x10 x11 x12 (ix4 0 0 k r) = dot (k0_pay1 (F := Ideal) x0 x3 x1 x2) x11 r k0 := by
  frame_out
  try unfold k0_pay41
  try unfold k0_pay40
  try unfold k0_pay39
  try unfold k0_pay38
  try unfold k0_pay37
  try unfold k0_pay36
  try unfold k0_pay35
  try unfold k0_pay34
  try unfold k0_pay33
  try frame_out
  refine (p26 x11 (k0_pay1 (F := Ideal) x0 x3 x1 x2) r k k0 h0).trans ?_
  rfl

end Cert.Proof.InPPay

end

end
-- ==== Proof.InPVal.lean ====
module

public import proofs.«01_k».proof.Proof.InPPay
public import proofs.«01_k».proof.Proof.InSpec
public import Idealize.ShloMosaic.Lib.StableHlo.ReadAt

/-! The kernel's result arrays, each equal to its array of row values. -/

@[expose] public section

set_option maxRecDepth 16384
set_option maxHeartbeats 2000000

noncomputable section

namespace Cert.Proof.InPVal

open Cert.Proof.InPPay Cert.InPIdeal Cert.InPIdeal.Gen Cert.Proof.InPRun Cert.Proof.InSpec
open Idealize.ShloMosaic Idealize.ShloMosaic.TcCoe Idealize.ShloMosaic.StableHlo

/-- The projected row of a token, from the program's arguments. -/
def row (m : (ℓ : Loc nD τ sig) → Buf (Elt Ideal) ℓ) (c : Dev nD) (b s : ℕ) : ℕ → EReal :=
  rowP (B := 4) (S := 4096) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b s

variable (m : (ℓ : Loc nD τ sig) → Buf (Elt Ideal) ℓ) (c : Dev nD)

theorem lt64 (t : Fin cfg0.N) : t.val < 64 := t.isLt

/-! The arrays the host makes before the call, entry by entry. -/

theorem v_x (r : Fin 16384) (k : Fin 1024) : V m c main_v24 (ix2 r k) = m ((c.tc : Thread nD τ).loc main_arg0) (ix3 ⟨r.val / 4096, by omega⟩ ⟨r.val % 4096, by omega⟩ k) := by
  unfold V
  after_reads_at
theorem v_g (k : Fin 1024) : V m c main_v40 (ix2 0 k) = m ((c.tc : Thread nD τ).loc main_arg3) (ix1 k) := by
  unfold V
  after_reads_at
theorem v_cos (r : Fin 4096) (k : Fin 128) : V m c main_v18 (ix2 r k) = cosT (posP r.val) k.val := by
  unfold V
  after_reads_at
  after_reads_at
  rfl
theorem v_sin (r : Fin 4096) (k : Fin 128) : V m c main_v23 (ix2 r k) = sinT (posP r.val) k.val := by
  unfold V
  after_reads_at
  after_reads_at
  rfl
theorem v_qa (x : Fin 1024) (k : Fin 512) : V m c main_v33 (ix2 x k) = m ((c.tc : Thread nD τ).loc main_arg4) (ix2 x ⟨0 + k.val, by omega⟩) := by
  unfold V
  after_reads_at
theorem v_kva (x : Fin 1024) (k : Fin 1024) : V m c main_v34 (ix2 x k) = m ((c.tc : Thread nD τ).loc main_arg4) (ix2 x ⟨512 + k.val, by omega⟩) := by
  unfold V
  after_reads_at
theorem v_qi (x : Fin 1024) (k : Fin 512) : V m c main_v35 (ix2 x k) = m ((c.tc : Thread nD τ).loc main_arg4) (ix2 x ⟨1536 + k.val, by omega⟩) := by
  unfold V
  after_reads_at
theorem v_qb (x : Fin 1024) (k : Fin 512) : V m c main_v37 (ix2 x k) = m ((c.tc : Thread nD τ).loc main_arg4) (ix2 x ⟨2120 + k.val, by omega⟩) := by
  unfold V
  after_reads_at
theorem v_kvb (x : Fin 1024) (k : Fin 1024) : V m c main_v38 (ix2 x k) = m ((c.tc : Thread nD τ).loc main_arg4) (ix2 x ⟨2632 + k.val, by omega⟩) := by
  unfold V
  after_reads_at
theorem v_ga (x : Fin 1024) (k : Fin 2048) : V m c main_v39 (ix2 x k) = m ((c.tc : Thread nD τ).loc main_arg4) (ix2 x ⟨3656 + k.val, by omega⟩) := by
  unfold V
  after_reads_at
theorem v_sm (x : Fin 1024) (k : Fin 128) : V m c main_v36 (ix2 x k) = if h : k.val < 72 then m ((c.tc : Thread nD τ).loc main_arg4) (ix2 x ⟨2048 + k.val, by omega⟩) else FloatOps.sitofp (F := Ideal) FTy.f32 0#32 := by
  unfold V
  after_reads_at

/-! The blocks a grid step reads. -/

theorem i0 : ∀ t : Fin cfg0.N, win0_0.index t = ![t.val, 0] := (by decide +kernel : ∀ t : Fin grid0.N, _)
theorem i1 : ∀ t : Fin cfg0.N, win0_1.index t = ![t.val / 16, 0, 0] := (by decide +kernel : ∀ t : Fin grid0.N, _)
theorem i2 : ∀ t : Fin cfg0.N, win0_2.index t = ![t.val / 16, 0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![t.val % 16, 0] := (by decide +kernel : ∀ t : Fin grid0.N, _)
theorem i5 : ∀ t : Fin cfg0.N, win0_5.index t = ![t.val % 16, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![0, 0] := (by decide +kernel : ∀ t : Fin grid0.N, _)
theorem i12 : ∀ t : Fin cfg0.N, win0_12.index t = ![0, 0] := (by decide +kernel : ∀ t : Fin grid0.N, _)
theorem i13 : ∀ t : Fin cfg0.N, win0_13.index t = ![t.val, 0] := (by decide +kernel : ∀ t : Fin grid0.N, _)
theorem i14 : ∀ t : Fin cfg0.N, win0_14.index t = ![t.val, 0] := (by decide +kernel : ∀ t : Fin grid0.N, _)
theorem i15 : ∀ t : Fin cfg0.N, win0_15.index t = ![t.val, 0] := (by decide +kernel : ∀ t : Fin grid0.N, _)
theorem i16 : ∀ t : Fin cfg0.N, win0_16.index t = ![t.val, 0] := (by decide +kernel : ∀ t : Fin grid0.N, _)
theorem i17 : ∀ t : Fin cfg0.N, win0_17.index t = ![t.val, 0] := (by decide +kernel : ∀ t : Fin grid0.N, _)
theorem i18 : ∀ t : Fin cfg0.N, win0_18.index t = ![t.val, 0] := (by decide +kernel : ∀ t : Fin grid0.N, _)
theorem i19 : ∀ t : Fin cfg0.N, win0_19.index t = ![t.val, 0] := (by decide +kernel : ∀ t : Fin grid0.N, _)
theorem i20 : ∀ t : Fin cfg0.N, win0_20.index t = ![t.val, 0] := (by decide +kernel : ∀ t : Fin grid0.N, _)
theorem i21 : ∀ t : Fin cfg0.N, win0_21.index t = ![t.val, 0] := (by decide +kernel : ∀ t : Fin grid0.N, _)
theorem i22 : ∀ t : Fin cfg0.N, win0_22.index t = ![t.val / 16, 0, t.val % 16] := (by decide +kernel : ∀ t : Fin grid0.N, _)
theorem i23 : ∀ t : Fin cfg0.N, win0_23.index t = ![t.val / 16, 0, t.val % 16] := (by decide +kernel : ∀ t : Fin grid0.N, _)
theorem i24 : ∀ t : Fin cfg0.N, win0_24.index t = ![t.val / 16, 0, t.val % 16] := (by decide +kernel : ∀ t : Fin grid0.N, _)
theorem i25 : ∀ t : Fin cfg0.N, win0_25.index t = ![t.val / 16, t.val % 16, 0, 0] := (by decide +kernel : ∀ t : Fin grid0.N, _)
theorem i26 : ∀ t : Fin cfg0.N, win0_26.index t = ![t.val / 16, t.val % 16, 0, 0] := (by decide +kernel : ∀ t : Fin grid0.N, _)

theorem b_x (t : Fin cfg0.N) (r : Fin 256) (k : Fin 1024) : iblk m c 0 t (ix2 r k) = m ((c.tc : Thread nD τ).loc main_arg0) (ix3 (Fin.ofNat 4 (t.val / 16)) (Fin.ofNat 4096 (t.val % 16 * 256 + r.val)) k) := by
  have := lt64 t
  have e : iblk m c 0 t (ix2 r k) = V m c main_v24 (ix2 ⟨t.val * 256 + r.val, by have := lt64 t; omega⟩ k) := by
    blk_ext [iblk, i0 t]
  rw [e, v_x]
  exact congrArg (m _) (ix3_congr (Fin.ext (by simp only [Fin.ofNat]; omega)) (Fin.ext (by simp only [Fin.ofNat]; omega)) k)
theorem b_g (t : Fin cfg0.N) (k : Fin 1024) : iblk m c 3 t (ix2 0 k) = m ((c.tc : Thread nD τ).loc main_arg3) (ix1 k) := by
  have e : iblk m c 3 t (ix2 0 k) = V m c main_v40 (ix2 0 k) := by
    blk_ext [iblk, i3 t]
  rw [e, v_g]
theorem b_cos (t : Fin cfg0.N) (r : Fin 256) (k : Fin 128) : iblk m c 4 t (ix2 r k) = cosT (posP (t.val % 16 * 256 + r.val)) k.val := by
  have := lt64 t
  have e : iblk m c 4 t (ix2 r k) = V m c main_v18 (ix2 ⟨t.val % 16 * 256 + r.val, by have := lt64 t; omega⟩ k) := by
    blk_ext [iblk, i4 t]
  rw [e, v_cos]
theorem b_sin (t : Fin cfg0.N) (r : Fin 256) (k : Fin 128) : iblk m c 5 t (ix2 r k) = sinT (posP (t.val % 16 * 256 + r.val)) k.val := by
  have := lt64 t
  have e : iblk m c 5 t (ix2 r k) = V m c main_v23 (ix2 ⟨t.val % 16 * 256 + r.val, by have := lt64 t; omega⟩ k) := by
    blk_ext [iblk, i5 t]
  rw [e, v_sin]
theorem b_sc (t : Fin cfg0.N) (r : Fin 256) (k : Fin 1024) : iblk m c 1 t (ix3 0 0 k) = m ((c.tc : Thread nD τ).loc main_arg1) (ix3 (Fin.ofNat 4 (t.val / 16)) 0 k) := by
  have := lt64 t
  have e : iblk m c 1 t (ix3 0 0 k) = m ((c.tc : Thread nD τ).loc main_arg1) (ix3 ⟨t.val / 16, by omega⟩ 0 k) := by
    blk_ext [iblk, V, i1 t]
  rw [e]
  exact congrArg (m _) (ix3_congr (Fin.ext (by simp only [Fin.ofNat]; omega)) rfl k)
theorem b_sh (t : Fin cfg0.N) (r : Fin 256) (k : Fin 1024) : iblk m c 2 t (ix3 0 0 k) = m ((c.tc : Thread nD τ).loc main_arg2) (ix3 (Fin.ofNat 4 (t.val / 16)) 0 k) := by
  have := lt64 t
  have e : iblk m c 2 t (ix3 0 0 k) = m ((c.tc : Thread nD τ).loc main_arg2) (ix3 ⟨t.val / 16, by omega⟩ 0 k) := by
    blk_ext [iblk, V, i2 t]
  rw [e]
  exact congrArg (m _) (ix3_congr (Fin.ext (by simp only [Fin.ofNat]; omega)) rfl k)

/-- A weight column times the block's row is the projected row's entry. -/
theorem dotRow (t : Fin cfg0.N) (r : Fin 256) {n : ℕ} (w : Vec Ideal ⟨2, ![1024, n]⟩ .bf16) (k : Fin n) (cc : ℕ) (hcc : cc < 5704)
    (hw : ∀ x : Fin 1024, w (ix2 x k) = m ((c.tc : Thread nD τ).loc main_arg4) (ix2 x ⟨cc, hcc⟩)) :
    dot (k0_pay1 (F := Ideal) (iblk m c 0 t) (iblk m c 3 t) (iblk m c 1 t) (iblk m c 2 t)) w r k = row m c (t.val / 16) (t.val % 16 * 256 + r.val) cc := by
  unfold dot row rowP colN
  rw [dif_pos hcc]
  refine Finset.sum_congr rfl fun x _ => ?_
  rw [hw, hid_eq]
  simp only [b_x, b_g, b_sc m c t r, b_sh m c t r]
theorem d_qa (t : Fin cfg0.N) (r : Fin 256) (k : Fin 512) :
    dot (k0_pay1 (F := Ideal) (iblk m c 0 t) (iblk m c 3 t) (iblk m c 1 t) (iblk m c 2 t)) (iblk m c 6 t) r k = row m c (t.val / 16) (t.val % 16 * 256 + r.val) (0 + k.val) := by
  refine dotRow m c t r _ k _ (by omega) fun x => ?_
  have e : iblk m c 6 t (ix2 x k) = V m c main_v33 (ix2 x k) := by
    blk_ext [iblk, i6 t]
  rw [e, v_qa]
theorem d_kva (t : Fin cfg0.N) (r : Fin 256) (k : Fin 1024) :
    dot (k0_pay1 (F := Ideal) (iblk m c 0 t) (iblk m c 3 t) (iblk m c 1 t) (iblk m c 2 t)) (iblk m c 7 t) r k = row m c (t.val / 16) (t.val % 16 * 256 + r.val) (512 + k.val) := by
  refine dotRow m c t r _ k _ (by omega) fun x => ?_
  have e : iblk m c 7 t (ix2 x k) = V m c main_v34 (ix2 x k) := by
    blk_ext [iblk, i7 t]
  rw [e, v_kva]
theorem d_qi (t : Fin cfg0.N) (r : Fin 256) (k : Fin 512) :
    dot (k0_pay1 (F := Ideal) (iblk m c 0 t) (iblk m c 3 t) (iblk m c 1 t) (iblk m c 2 t)) (iblk m c 8 t) r k = row m c (t.val / 16) (t.val % 16 * 256 + r.val) (1536 + k.val) := by
  refine dotRow m c t r _ k _ (by omega) fun x => ?_
  have e : iblk m c 8 t (ix2 x k) = V m c main_v35 (ix2 x k) := by
    blk_ext [iblk, i8 t]
  rw [e, v_qi]
theorem d_qb (t : Fin cfg0.N) (r : Fin 256) (k : Fin 512) :
    dot (k0_pay1 (F := Ideal) (iblk m c 0 t) (iblk m c 3 t) (iblk m c 1 t) (iblk m c 2 t)) (iblk m c 10 t) r k = row m c (t.val / 16) (t.val % 16 * 256 + r.val) (2120 + k.val) := by
  refine dotRow m c t r _ k _ (by omega) fun x => ?_
  have e : iblk m c 10 t (ix2 x k) = V m c main_v37 (ix2 x k) := by
    blk_ext [iblk, i10 t]
  rw [e, v_qb]
theorem d_kvb (t : Fin cfg0.N) (r : Fin 256) (k : Fin 1024) :
    dot (k0_pay1 (F := Ideal) (iblk m c 0 t) (iblk m c 3 t) (iblk m c 1 t) (iblk m c 2 t)) (iblk m c 11 t) r k = row m c (t.val / 16) (t.val % 16 * 256 + r.val) (2632 + k.val) := by
  refine dotRow m c t r _ k _ (by omega) fun x => ?_
  have e : iblk m c 11 t (ix2 x k) = V m c main_v38 (ix2 x k) := by
    blk_ext [iblk, i11 t]
  rw [e, v_kvb]
theorem d_ga (t : Fin cfg0.N) (r : Fin 256) (k : Fin 2048) :
    dot (k0_pay1 (F := Ideal) (iblk m c 0 t) (iblk m c 3 t) (iblk m c 1 t) (iblk m c 2 t)) (iblk m c 12 t) r k = row m c (t.val / 16) (t.val % 16 * 256 + r.val) (3656 + k.val) := by
  refine dotRow m c t r _ k _ (by omega) fun x => ?_
  have e : iblk m c 12 t (ix2 x k) = V m c main_v39 (ix2 x k) := by
    blk_ext [iblk, i12 t]
  rw [e, v_ga]
theorem b_sm (t : Fin cfg0.N) (x : Fin 1024) (k : Fin 128) : iblk m c 9 t (ix2 x k) = V m c main_v36 (ix2 x k) := by
  blk_ext [iblk, i9 t]
theorem d_sm (t : Fin cfg0.N) (r : Fin 256) (k : Fin 128) (hk : k.val < 72) :
    dot (k0_pay1 (F := Ideal) (iblk m c 0 t) (iblk m c 3 t) (iblk m c 1 t) (iblk m c 2 t)) (iblk m c 9 t) r k = row m c (t.val / 16) (t.val % 16 * 256 + r.val) (2048 + k.val) := by
  refine dotRow m c t r _ k _ (by omega) fun x => ?_
  rw [b_sm, v_sm, dif_pos hk]
theorem d_sm0 (t : Fin cfg0.N) (r : Fin 256) (k : Fin 128) (hk : ¬ k.val < 72) :
    dot (k0_pay1 (F := Ideal) (iblk m c 0 t) (iblk m c 3 t) (iblk m c 1 t) (iblk m c 2 t)) (iblk m c 9 t) r k = 0 := by
  unfold dot
  refine Finset.sum_eq_zero fun x _ => ?_
  rw [b_sm, v_sm, dif_neg hk]
  have z : (FloatOps.sitofp (F := Ideal) FTy.f32 0#32 : EReal) = 0 := zero0
  rw [z]
  exact mul_zero _

/-- A rotated weight column is the rotated row's lane. -/
theorem rotRow (t : Fin cfg0.N) (r : Fin 256) {n : ℕ} (w : Vec Ideal ⟨2, ![1024, n]⟩ .bf16) (k k' : Fin n) (e : Fin 128) (o j : ℕ)
    (hj : k.val = j) (he : e.val % 64 = j % 64) (hk' : Partner j k'.val)
    (h1 : dot (k0_pay1 (F := Ideal) (iblk m c 0 t) (iblk m c 3 t) (iblk m c 1 t) (iblk m c 2 t)) w r k = row m c (t.val / 16) (t.val % 16 * 256 + r.val) (o + k.val))
    (h2 : dot (k0_pay1 (F := Ideal) (iblk m c 0 t) (iblk m c 3 t) (iblk m c 1 t) (iblk m c 2 t)) w r k' = row m c (t.val / 16) (t.val % 16 * 256 + r.val) (o + k'.val)) :
    rotB (iblk m c 4 t) (iblk m c 5 t) (k0_pay1 (F := Ideal) (iblk m c 0 t) (iblk m c 3 t) (iblk m c 1 t) (iblk m c 2 t)) w r k k' e = rotE (row m c (t.val / 16) (t.val % 16 * 256 + r.val)) (posP (t.val % 16 * 256 + r.val)) o j := by
  unfold rotB
  rw [h1, h2, b_cos, b_sin, hj]
  exact rotE_eq _ _ _ _ _ _ he hk'

/-- The small operand's block, entry by entry. -/
theorem smallRow (t : Fin cfg0.N) (r : Fin 256) (k k' : Fin 128) (hk' : k.val < 64 → Partner k.val k'.val) :
    (if k.val < 64 then rotB (iblk m c 4 t) (iblk m c 5 t) (k0_pay1 (F := Ideal) (iblk m c 0 t) (iblk m c 3 t) (iblk m c 1 t) (iblk m c 2 t)) (iblk m c 9 t) r k k' k else dot (k0_pay1 (F := Ideal) (iblk m c 0 t) (iblk m c 3 t) (iblk m c 1 t) (iblk m c 2 t)) (iblk m c 9 t) r k)
      = small (row m c (t.val / 16) (t.val % 16 * 256 + r.val)) (posP (t.val % 16 * 256 + r.val)) k.val := by
  unfold small
  by_cases h : k.val < 64
  · rw [if_pos h, if_pos h]
    have hp := hk' h
    exact rotRow m c t r _ k k' k 2048 k.val rfl rfl hp (d_sm m c t r k (by omega)) (d_sm m c t r k' (by unfold Partner at hp; omega))
  · rw [if_neg h, if_neg h]
    by_cases h2 : k.val < 72
    · rw [if_pos h2]
      exact d_sm m c t r k h2
    · rw [if_neg h2]
      exact d_sm0 m c t r k h2

theorem small_ex (k : Fin 128) : ∃ k' : Fin 128, k.val < 64 → Partner k.val k'.val := by
  obtain ⟨k', h⟩ := partner_ex 128 rfl k
  exact ⟨k', fun _ => h⟩

/-! Each result array. -/

theorem w13 : (dats m 0 c).arrAt 13 cfg0.N = fun y => rotE (row m c ((y 0).val / 4096) ((y 0).val % 4096)) (posP ((y 0).val % 4096)) 0 (y 1).val := by
  refine (dats m 0 c).arrAt_eq_of_covers 13 _ (by decide +kernel) fun t hf y => ?_
  blk_simp
  rw [after0_13]
  idx_vars y
  have ht := lt64 t
  have e0 : win0_13.index t 0 * 256 + y0.val = t.val * 256 + y0.val := by rw [i13 t]; rfl
  have e1 : win0_13.index t 1 * 512 + y1.val = y1.val := by rw [i13 t]; simp
  have q1 : (t.val * 256 + y0.val) / 4096 = t.val / 16 := by omega
  have q2 : (t.val * 256 + y0.val) % 4096 = t.val % 16 * 256 + y0.val := by omega
  rw [e0, e1, q1, q2]
  obtain ⟨k', hk'⟩ := partner_ex 512 rfl y1
  refine (o13 _ _ _ _ _ _ _ _ _ _ _ _ _ y0 y1 k' ⟨y1.val % 128, by omega⟩ rfl hk').trans ?_
  exact rotRow m c t y0 _ y1 k' _ 0 _ rfl (by dsimp only; omega) hk' (d_qa m c t y0 y1) (d_qa m c t y0 k')
theorem w14 : (dats m 0 c).arrAt 14 cfg0.N = fun y => rotE (row m c ((y 0).val / 4096) ((y 0).val % 4096)) (posP ((y 0).val % 4096)) 1536 (y 1).val := by
  refine (dats m 0 c).arrAt_eq_of_covers 14 _ (by decide +kernel) fun t hf y => ?_
  blk_simp
  rw [after0_14]
  idx_vars y
  have ht := lt64 t
  have e0 : win0_14.index t 0 * 256 + y0.val = t.val * 256 + y0.val := by rw [i14 t]; rfl
  have e1 : win0_14.index t 1 * 512 + y1.val = y1.val := by rw [i14 t]; simp
  have q1 : (t.val * 256 + y0.val) / 4096 = t.val / 16 := by omega
  have q2 : (t.val * 256 + y0.val) % 4096 = t.val % 16 * 256 + y0.val := by omega
  rw [e0, e1, q1, q2]
  obtain ⟨k', hk'⟩ := partner_ex 512 rfl y1
  refine (o14 _ _ _ _ _ _ _ _ _ _ _ _ _ y0 y1 k' ⟨y1.val % 128, by omega⟩ rfl hk').trans ?_
  exact rotRow m c t y0 _ y1 k' _ 1536 _ rfl (by dsimp only; omega) hk' (d_qi m c t y0 y1) (d_qi m c t y0 k')
theorem w15 : (dats m 0 c).arrAt 15 cfg0.N = fun y => row m c ((y 0).val / 4096) ((y 0).val % 4096) (2120 + (y 1).val) := by
  refine (dats m 0 c).arrAt_eq_of_covers 15 _ (by decide +kernel) fun t hf y => ?_
  blk_simp
  rw [after0_15]
  idx_vars y
  have ht := lt64 t
  have e0 : win0_15.index t 0 * 256 + y0.val = t.val * 256 + y0.val := by rw [i15 t]; rfl
  have e1 : win0_15.index t 1 * 512 + y1.val = y1.val := by rw [i15 t]; simp
  have q1 : (t.val * 256 + y0.val) / 4096 = t.val / 16 := by omega
  have q2 : (t.val * 256 + y0.val) % 4096 = t.val % 16 * 256 + y0.val := by omega
  rw [e0, e1, q1, q2]
  refine (o15 _ _ _ _ _ _ _ _ _ _ _ _ _ y0 y1).trans ?_
  exact d_qb m c t y0 y1
theorem w16 : (dats m 0 c).arrAt 16 cfg0.N = fun y => small (row m c ((y 0).val / 4096) ((y 0).val % 4096)) (posP ((y 0).val % 4096)) (y 1).val := by
  refine (dats m 0 c).arrAt_eq_of_covers 16 _ (by decide +kernel) fun t hf y => ?_
  blk_simp
  rw [after0_16]
  idx_vars y
  have ht := lt64 t
  have e0 : win0_16.index t 0 * 256 + y0.val = t.val * 256 + y0.val := by rw [i16 t]; rfl
  have e1 : win0_16.index t 1 * 128 + y1.val = y1.val := by rw [i16 t]; simp
  have q1 : (t.val * 256 + y0.val) / 4096 = t.val / 16 := by omega
  have q2 : (t.val * 256 + y0.val) % 4096 = t.val % 16 * 256 + y0.val := by omega
  rw [e0, e1, q1, q2]
  obtain ⟨k', hk'⟩ := small_ex y1
  refine (o16 _ _ _ _ _ _ _ _ _ _ _ _ _ y0 y1 k' hk').trans ?_
  exact smallRow m c t y0 y1 k' hk'
theorem w17 : (dats m 0 c).arrAt 17 cfg0.N = fun y => rotE (row m c ((y 0).val / 4096) ((y 0).val % 4096)) (posP ((y 0).val % 4096)) 512 (y 1).val := by
  refine (dats m 0 c).arrAt_eq_of_covers 17 _ (by decide +kernel) fun t hf y => ?_
  blk_simp
  rw [after0_17]
  idx_vars y
  have ht := lt64 t
  have e0 : win0_17.index t 0 * 256 + y0.val = t.val * 256 + y0.val := by rw [i17 t]; rfl
  have e1 : win0_17.index t 1 * 512 + y1.val = y1.val := by rw [i17 t]; simp
  have q1 : (t.val * 256 + y0.val) / 4096 = t.val / 16 := by omega
  have q2 : (t.val * 256 + y0.val) % 4096 = t.val % 16 * 256 + y0.val := by omega
  rw [e0, e1, q1, q2]
  obtain ⟨k', hk'⟩ := partner_ex 1024 rfl ⟨y1.val, by omega⟩
  refine (o17 _ _ _ _ _ _ _ _ _ _ _ _ _ y0 y1 ⟨y1.val, by omega⟩ k' ⟨y1.val % 128, by omega⟩ rfl rfl hk').trans ?_
  exact rotRow m c t y0 _ _ k' _ 512 _ rfl (by dsimp only; omega) hk' (d_kva m c t y0 _) (d_kva m c t y0 k')
theorem w18 : (dats m 0 c).arrAt 18 cfg0.N = fun y => row m c ((y 0).val / 4096) ((y 0).val % 4096) (2632 + (y 1).val) := by
  refine (dats m 0 c).arrAt_eq_of_covers 18 _ (by decide +kernel) fun t hf y => ?_
  blk_simp
  rw [after0_18]
  idx_vars y
  have ht := lt64 t
  have e0 : win0_18.index t 0 * 256 + y0.val = t.val * 256 + y0.val := by rw [i18 t]; rfl
  have e1 : win0_18.index t 1 * 512 + y1.val = y1.val := by rw [i18 t]; simp
  have q1 : (t.val * 256 + y0.val) / 4096 = t.val / 16 := by omega
  have q2 : (t.val * 256 + y0.val) % 4096 = t.val % 16 * 256 + y0.val := by omega
  rw [e0, e1, q1, q2]
  refine (o18 _ _ _ _ _ _ _ _ _ _ _ _ _ y0 y1 ⟨y1.val, by omega⟩ rfl).trans ?_
  exact d_kvb m c t y0 _
theorem w19 : (dats m 0 c).arrAt 19 cfg0.N = fun y => small (row m c ((y 0).val / 4096) ((y 0).val % 4096)) (posP ((y 0).val % 4096)) (y 1).val := by
  refine (dats m 0 c).arrAt_eq_of_covers 19 _ (by decide +kernel) fun t hf y => ?_
  blk_simp
  rw [after0_19]
  idx_vars y
  have ht := lt64 t
  have e0 : win0_19.index t 0 * 256 + y0.val = t.val * 256 + y0.val := by rw [i19 t]; rfl
  have e1 : win0_19.index t 1 * 128 + y1.val = y1.val := by rw [i19 t]; simp
  have q1 : (t.val * 256 + y0.val) / 4096 = t.val / 16 := by omega
  have q2 : (t.val * 256 + y0.val) % 4096 = t.val % 16 * 256 + y0.val := by omega
  rw [e0, e1, q1, q2]
  obtain ⟨k', hk'⟩ := small_ex y1
  refine (o19 _ _ _ _ _ _ _ _ _ _ _ _ _ y0 y1 k' hk').trans ?_
  exact smallRow m c t y0 y1 k' hk'
theorem w20 : (dats m 0 c).arrAt 20 cfg0.N = fun y => sig (row m c ((y 0).val / 4096) ((y 0).val % 4096) (3656 + (y 1).val)) := by
  refine (dats m 0 c).arrAt_eq_of_covers 20 _ (by decide +kernel) fun t hf y => ?_
  blk_simp
  rw [after0_20]
  idx_vars y
  have ht := lt64 t
  have e0 : win0_20.index t 0 * 256 + y0.val = t.val * 256 + y0.val := by rw [i20 t]; rfl
  have e1 : win0_20.index t 1 * 1024 + y1.val = y1.val := by rw [i20 t]; simp
  have q1 : (t.val * 256 + y0.val) / 4096 = t.val / 16 := by omega
  have q2 : (t.val * 256 + y0.val) % 4096 = t.val % 16 * 256 + y0.val := by omega
  rw [e0, e1, q1, q2]
  refine (o20 _ _ _ _ _ _ _ _ _ _ _ _ _ y0 y1 ⟨0 + y1.val, by omega⟩ (by simp)).trans ?_
  rw [d_ga, sig_eq]
  exact congrArg (fun n => sig (row m c _ _ n)) (by dsimp only; omega)
theorem w21 : (dats m 0 c).arrAt 21 cfg0.N = fun y => sig (row m c ((y 0).val / 4096) ((y 0).val % 4096) (4680 + (y 1).val)) := by
  refine (dats m 0 c).arrAt_eq_of_covers 21 _ (by decide +kernel) fun t hf y => ?_
  blk_simp
  rw [after0_21]
  idx_vars y
  have ht := lt64 t
  have e0 : win0_21.index t 0 * 256 + y0.val = t.val * 256 + y0.val := by rw [i21 t]; rfl
  have e1 : win0_21.index t 1 * 1024 + y1.val = y1.val := by rw [i21 t]; simp
  have q1 : (t.val * 256 + y0.val) / 4096 = t.val / 16 := by omega
  have q2 : (t.val * 256 + y0.val) % 4096 = t.val % 16 * 256 + y0.val := by omega
  rw [e0, e1, q1, q2]
  refine (o21 _ _ _ _ _ _ _ _ _ _ _ _ _ y0 y1 ⟨1024 + y1.val, by omega⟩ (by rfl)).trans ?_
  rw [d_ga, sig_eq]
  exact congrArg (fun n => sig (row m c _ _ n)) (by dsimp only; omega)
theorem w22 : (dats m 0 c).arrAt 22 cfg0.N = fun y => kvA (row m c (y 0).val (y 2).val) (posP (y 2).val) (y 1).val := by
  refine (dats m 0 c).arrAt_eq_of_covers 22 _ (by decide +kernel) fun t hf y => ?_
  blk_simp
  rw [after0_22]
  idx_vars y
  have ht := lt64 t
  obtain rfl : y0 = 0 := Fin.ext (by omega)
  have e0 : win0_22.index t 0 = t.val / 16 := by rw [i22 t]; simp
  have e1 : win0_22.index t 1 * 1024 + y1.val = y1.val := by rw [i22 t]; simp
  have e2 : win0_22.index t 2 * 256 + y2.val = t.val % 16 * 256 + y2.val := by rw [i22 t]; rfl
  rw [e0, e1, e2]
  unfold kvA
  by_cases h : y1.val < 512
  · rw [if_pos h]
    obtain ⟨k', hk'⟩ := partner_ex 1024 rfl y1
    refine (o22 _ _ _ _ _ _ _ _ _ _ _ _ _ y2 y1 k' ⟨y1.val % 128, by omega⟩ h rfl hk').trans ?_
    exact rotRow m c t y2 _ _ k' _ 512 _ rfl (by dsimp only; omega) hk' (d_kva m c t y2 _) (d_kva m c t y2 k')
  · rw [if_neg h]
    refine (o22v _ _ _ _ _ _ _ _ _ _ _ _ _ y2 y1 h).trans ?_
    exact d_kva m c t y2 y1
theorem w23 : (dats m 0 c).arrAt 23 cfg0.N = fun y => row m c (y 0).val (y 2).val (2632 + (y 1).val) := by
  refine (dats m 0 c).arrAt_eq_of_covers 23 _ (by decide +kernel) fun t hf y => ?_
  blk_simp
  rw [after0_23]
  idx_vars y
  have ht := lt64 t
  obtain rfl : y0 = 0 := Fin.ext (by omega)
  have e0 : win0_23.index t 0 = t.val / 16 := by rw [i23 t]; simp
  have e1 : win0_23.index t 1 * 1024 + y1.val = y1.val := by rw [i23 t]; simp
  have e2 : win0_23.index t 2 * 256 + y2.val = t.val % 16 * 256 + y2.val := by rw [i23 t]; rfl
  rw [e0, e1, e2]
  refine (o23 _ _ _ _ _ _ _ _ _ _ _ _ _ y2 y1).trans ?_
  exact d_kvb m c t y2 y1
theorem w24 : (dats m 0 c).arrAt 24 cfg0.N = fun y => rotE (row m c (y 0).val (y 2).val) (posP (y 2).val) 2048 (y 1).val := by
  refine (dats m 0 c).arrAt_eq_of_covers 24 _ (by decide +kernel) fun t hf y => ?_
  blk_simp
  rw [after0_24]
  idx_vars y
  have ht := lt64 t
  obtain rfl : y0 = 0 := Fin.ext (by omega)
  have e0 : win0_24.index t 0 = t.val / 16 := by rw [i24 t]; simp
  have e1 : win0_24.index t 1 * 64 + y1.val = y1.val := by rw [i24 t]; simp
  have e2 : win0_24.index t 2 * 256 + y2.val = t.val % 16 * 256 + y2.val := by rw [i24 t]; rfl
  rw [e0, e1, e2]
  obtain ⟨k', hk'⟩ := partner_ex 128 rfl ⟨y1.val, by omega⟩
  refine (o24 _ _ _ _ _ _ _ _ _ _ _ _ _ y2 y1 ⟨y1.val, by omega⟩ k' rfl hk').trans ?_
  exact rotRow m c t y2 _ _ k' _ 2048 _ rfl rfl hk' (d_sm m c t y2 _ (by dsimp only; omega)) (d_sm m c t y2 k' (by unfold Partner at hk'; dsimp only at hk'; omega))
theorem w25 : (dats m 0 c).arrAt 25 cfg0.N = fun y => row m c (y 0).val ((y 1).val * 256 + (y 3).val) (1024 + (y 2).val) := by
  refine (dats m 0 c).arrAt_eq_of_covers 25 _ (by decide +kernel) fun t hf y => ?_
  blk_simp
  rw [after0_25]
  idx_vars y
  have ht := lt64 t
  obtain rfl : y0 = 0 := Fin.ext (by omega)
  obtain rfl : y1 = 0 := Fin.ext (by omega)
  have e0 : win0_25.index t 0 = t.val / 16 := by rw [i25 t]; simp
  have e1 : win0_25.index t 1 = t.val % 16 := by rw [i25 t]; simp
  have e2 : win0_25.index t 2 * 512 + y2.val = y2.val := by rw [i25 t]; simp
  have e3 : win0_25.index t 3 * 256 + y3.val = y3.val := by rw [i25 t]; simp
  rw [e0, e1, e2, e3]
  refine (o25 _ _ _ _ _ _ _ _ _ _ _ _ _ y3 y2 ⟨512 + y2.val, by omega⟩ rfl).trans ?_
  rw [d_kva]
  exact congrArg (row m c _ _) (by dsimp only; omega)
theorem w26 : (dats m 0 c).arrAt 26 cfg0.N = fun y => row m c (y 0).val ((y 1).val * 256 + (y 3).val) (3144 + (y 2).val) := by
  refine (dats m 0 c).arrAt_eq_of_covers 26 _ (by decide +kernel) fun t hf y => ?_
  blk_simp
  rw [after0_26]
  idx_vars y
  have ht := lt64 t
  obtain rfl : y0 = 0 := Fin.ext (by omega)
  obtain rfl : y1 = 0 := Fin.ext (by omega)
  have e0 : win0_26.index t 0 = t.val / 16 := by rw [i26 t]; simp
  have e1 : win0_26.index t 1 = t.val % 16 := by rw [i26 t]; simp
  have e2 : win0_26.index t 2 * 512 + y2.val = y2.val := by rw [i26 t]; simp
  have e3 : win0_26.index t 3 * 256 + y3.val = y3.val := by rw [i26 t]; simp
  rw [e0, e1, e2, e3]
  refine (o26 _ _ _ _ _ _ _ _ _ _ _ _ _ y3 y2 ⟨512 + y2.val, by omega⟩ rfl).trans ?_
  rw [d_kvb]
  exact congrArg (row m c _ _) (by dsimp only; omega)

end Cert.Proof.InPVal

end

end
-- ==== Proof.InPRefVal.lean ====
module

public import proofs.«01_k».proof.Proof.Gen.InPRefIdeal.Run
public import proofs.«01_k».proof.Proof.InSpec
public import Idealize.ShloMosaic.Lib.Pointwise

/-! The reference's result arrays, each equal to its array of row values, and its run ending in them. -/

@[expose] public section

set_option maxRecDepth 16384
set_option maxHeartbeats 2000000

noncomputable section

namespace Cert.Proof.InPRefVal

open Cert.InPRefIdeal Cert.InPRefIdeal.Gen Cert.InPRefIdeal.Value Cert.Proof.InSpec
open Idealize.ShloMosaic Idealize.ShloMosaic.TcCoe Idealize.ShloMosaic.StableHlo

/-- The projected row of a token, from the program's arguments. -/
def row (V0 : Valuation τ sig (Elt Ideal)) (b s : ℕ) : ℕ → EReal :=
  rowP (B := 4) (S := 4096) (V0 (Proc.devRef .tc main_arg0)) (V0 (Proc.devRef .tc main_arg1)) (V0 (Proc.devRef .tc main_arg2))
    (V0 (Proc.devRef .tc main_arg3)) (V0 (Proc.devRef .tc main_arg4)) b s

variable (V0 : Valuation τ sig (Elt Ideal))

theorem r20 (b : Fin 4) (s : Fin 4096) (c : Fin 5704) : res_main_v20 (F := Ideal) V0 (ix3 b s c) = row V0 b.val s.val c.val := by
  unfold row rowP colN
  rw [dif_pos c.isLt, Fin.ofNat_val_eq_self, Fin.ofNat_val_eq_self]
  pointwise [res_main_v20]
  rfl
theorem ang_qa (s : Fin 4096) (i : Fin 32) : res_main_v44 (F := Ideal) V0 (ix2 s i) = ang (posP s.val) i.val := by
  pointwise [res_main_v44, res_main_v0]
  rfl
theorem cos_qa (s : Fin 4096) (i : Fin 32) : res_main_v46 (F := Ideal) V0 (ix4 0 s 0 i) = Ideal.cos (ang (posP s.val) i.val) := by
  pointwise [res_main_v46]
  rw [ang_qa]
theorem sin_qa (s : Fin 4096) (i : Fin 32) : res_main_v48 (F := Ideal) V0 (ix4 0 s 0 i) = Ideal.sin (ang (posP s.val) i.val) := by
  pointwise [res_main_v48]
  rw [ang_qa]
theorem heads_qa (b : Fin 4) (s : Fin 4096) (h : Fin 8) (j : Fin 64) : res_main_v32 (F := Ideal) V0 (ix4 b s h j) = row V0 b.val s.val (0 + (h.val * 64 + j.val)) := by
  pointwise [res_main_v32]
  rw [r20]
theorem lo_qa (b : Fin 4) (s : Fin 4096) (h : Fin 8) (j : Fin 32) : res_main_v49 (F := Ideal) V0 (ix4 b s h j) = row V0 b.val s.val (0 + (h.val * 64 + j.val)) := by
  pointwise [res_main_v49]
  rw [heads_qa]
  exact congrArg (row V0 _ _) (by dsimp only; omega)
theorem hi_qa (b : Fin 4) (s : Fin 4096) (h : Fin 8) (j : Fin 32) : res_main_v50 (F := Ideal) V0 (ix4 b s h j) = row V0 b.val s.val (0 + (h.val * 64 + (32 + j.val))) := by
  pointwise [res_main_v50]
  rw [heads_qa]
  exact congrArg (row V0 _ _) (by dsimp only; omega)
theorem ang_ka (s : Fin 4096) (i : Fin 32) : res_main_v74 (F := Ideal) V0 (ix2 s i) = ang (posP s.val) i.val := by
  pointwise [res_main_v74, res_main_v0]
  rfl
theorem cos_ka (s : Fin 4096) (i : Fin 32) : res_main_v76 (F := Ideal) V0 (ix4 0 s 0 i) = Ideal.cos (ang (posP s.val) i.val) := by
  pointwise [res_main_v76]
  rw [ang_ka]
theorem sin_ka (s : Fin 4096) (i : Fin 32) : res_main_v78 (F := Ideal) V0 (ix4 0 s 0 i) = Ideal.sin (ang (posP s.val) i.val) := by
  pointwise [res_main_v78]
  rw [ang_ka]
theorem heads_ka (b : Fin 4) (s : Fin 4096) (h : Fin 8) (j : Fin 64) : res_main_v62 (F := Ideal) V0 (ix4 b s h j) = row V0 b.val s.val (512 + (h.val * 64 + j.val)) := by
  pointwise [res_main_v62]
  rw [r20]
theorem lo_ka (b : Fin 4) (s : Fin 4096) (h : Fin 8) (j : Fin 32) : res_main_v79 (F := Ideal) V0 (ix4 b s h j) = row V0 b.val s.val (512 + (h.val * 64 + j.val)) := by
  pointwise [res_main_v79]
  rw [heads_ka]
theorem hi_ka (b : Fin 4) (s : Fin 4096) (h : Fin 8) (j : Fin 32) : res_main_v80 (F := Ideal) V0 (ix4 b s h j) = row V0 b.val s.val (512 + (h.val * 64 + (32 + j.val))) := by
  pointwise [res_main_v80]
  rw [heads_ka]
theorem rope_ka (b : Fin 4) (s : Fin 4096) (h : Fin 8) (j : Fin 64) : res_main_v91 (F := Ideal) V0 (ix4 b s h j) = rotE (row V0 b.val s.val) (posP s.val) 512 (h.val * 64 + j.val) := by
  pointwise [res_main_v91]
  rw [← rope_eq _ _ _ _ _ j.isLt]
  simp only [lo_ka, hi_ka, cos_ka, sin_ka, dite_eq_ite]
theorem ang_qi (s : Fin 4096) (i : Fin 32) : res_main_v104 (F := Ideal) V0 (ix2 s i) = ang (posP s.val) i.val := by
  pointwise [res_main_v104, res_main_v0]
  rfl
theorem cos_qi (s : Fin 4096) (i : Fin 32) : res_main_v106 (F := Ideal) V0 (ix4 0 s 0 i) = Ideal.cos (ang (posP s.val) i.val) := by
  pointwise [res_main_v106]
  rw [ang_qi]
theorem sin_qi (s : Fin 4096) (i : Fin 32) : res_main_v108 (F := Ideal) V0 (ix4 0 s 0 i) = Ideal.sin (ang (posP s.val) i.val) := by
  pointwise [res_main_v108]
  rw [ang_qi]
theorem heads_qi (b : Fin 4) (s : Fin 4096) (h : Fin 8) (j : Fin 64) : res_main_v92 (F := Ideal) V0 (ix4 b s h j) = row V0 b.val s.val (1536 + (h.val * 64 + j.val)) := by
  pointwise [res_main_v92]
  rw [r20]
theorem lo_qi (b : Fin 4) (s : Fin 4096) (h : Fin 8) (j : Fin 32) : res_main_v109 (F := Ideal) V0 (ix4 b s h j) = row V0 b.val s.val (1536 + (h.val * 64 + j.val)) := by
  pointwise [res_main_v109]
  rw [heads_qi]
theorem hi_qi (b : Fin 4) (s : Fin 4096) (h : Fin 8) (j : Fin 32) : res_main_v110 (F := Ideal) V0 (ix4 b s h j) = row V0 b.val s.val (1536 + (h.val * 64 + (32 + j.val))) := by
  pointwise [res_main_v110]
  rw [heads_qi]
theorem ang_ki (s : Fin 4096) (i : Fin 32) : res_main_v134 (F := Ideal) V0 (ix2 s i) = ang (posP s.val) i.val := by
  pointwise [res_main_v134, res_main_v0]
  rfl
theorem cos_ki (s : Fin 4096) (i : Fin 32) : res_main_v136 (F := Ideal) V0 (ix4 0 s 0 i) = Ideal.cos (ang (posP s.val) i.val) := by
  pointwise [res_main_v136]
  rw [ang_ki]
theorem sin_ki (s : Fin 4096) (i : Fin 32) : res_main_v138 (F := Ideal) V0 (ix4 0 s 0 i) = Ideal.sin (ang (posP s.val) i.val) := by
  pointwise [res_main_v138]
  rw [ang_ki]
theorem lo_ki (b : Fin 4) (s : Fin 4096) (j : Fin 32) : res_main_v139 (F := Ideal) V0 (ix4 b s 0 j) = row V0 b.val s.val (2048 + (0 * 64 + j.val)) := by
  pointwise [res_main_v139, res_main_v122]
  rw [r20]
theorem hi_ki (b : Fin 4) (s : Fin 4096) (j : Fin 32) : res_main_v140 (F := Ideal) V0 (ix4 b s 0 j) = row V0 b.val s.val (2048 + (0 * 64 + (32 + j.val))) := by
  pointwise [res_main_v140, res_main_v122]
  rw [r20]
theorem rope_ki (b : Fin 4) (s : Fin 4096) (j : Fin 64) : res_main_v152 (F := Ideal) V0 (ix3 b s j) = rotE (row V0 b.val s.val) (posP s.val) 2048 j.val := by
  pointwise [res_main_v152]
  refine Eq.trans ?_ ((rope_eq (row V0 b.val s.val) (posP s.val) 2048 0 j.val j.isLt).trans (congrArg (rotE _ _ 2048) (by omega)))
  simp only [lo_ki, hi_ki, cos_ki, sin_ki, dite_eq_ite]
theorem heads_va (b : Fin 4) (s : Fin 4096) (h : Fin 8) (j : Fin 64) : res_main_v153 (F := Ideal) V0 (ix4 b s h j) = row V0 b.val s.val (1024 + (h.val * 64 + j.val)) := by
  pointwise [res_main_v153]
  rw [r20]
theorem heads_kb (b : Fin 4) (s : Fin 4096) (h : Fin 8) (j : Fin 64) : res_main_v155 (F := Ideal) V0 (ix4 b s h j) = row V0 b.val s.val (2632 + (h.val * 64 + j.val)) := by
  pointwise [res_main_v155]
  rw [r20]
theorem heads_vb (b : Fin 4) (s : Fin 4096) (h : Fin 8) (j : Fin 64) : res_main_v156 (F := Ideal) V0 (ix4 b s h j) = row V0 b.val s.val (3144 + (h.val * 64 + j.val)) := by
  pointwise [res_main_v156]
  rw [r20]
theorem r161 : (val4 (F := Ideal) V0 (Proc.devRef .tc main_v161) : Vec Ideal S16384x512 .bf16) = fun y => rotE (row V0 ((y 0).val / 4096) ((y 0).val % 4096)) (posP ((y 0).val % 4096)) 0 (y 1).val := by
  refine (val4_main_v161 (F := Ideal) V0).trans ?_
  funext y
  idx_vars y
  pointwise []
  refine Eq.trans ?_ ((rope_eq (row V0 (y0.val / 4096) (y0.val % 4096)) (posP (y0.val % 4096)) 0 (y1.val / 64) (y1.val % 64) (by omega)).trans (congrArg (rotE _ _ 0) (by omega)))
  simp only [lo_qa, hi_qa, cos_qa, sin_qa, dite_eq_ite]
theorem r163 : (val4 (F := Ideal) V0 (Proc.devRef .tc main_v163) : Vec Ideal S16384x512 .bf16) = fun y => rotE (row V0 ((y 0).val / 4096) ((y 0).val % 4096)) (posP ((y 0).val % 4096)) 1536 (y 1).val := by
  refine (val4_main_v163 (F := Ideal) V0).trans ?_
  funext y
  idx_vars y
  pointwise []
  refine Eq.trans ?_ ((rope_eq (row V0 (y0.val / 4096) (y0.val % 4096)) (posP (y0.val % 4096)) 1536 (y1.val / 64) (y1.val % 64) (by omega)).trans (congrArg (rotE _ _ 1536) (by omega)))
  simp only [lo_qi, hi_qi, cos_qi, sin_qi, dite_eq_ite]
theorem r165 : (val4 (F := Ideal) V0 (Proc.devRef .tc main_v165) : Vec Ideal S16384x512 .bf16) = fun y => row V0 ((y 0).val / 4096) ((y 0).val % 4096) (2120 + (y 1).val) := by
  refine (val4_main_v165 (F := Ideal) V0).trans ?_
  funext y
  idx_vars y
  pointwise []
  rw [r20]
theorem r159 : (val4 (F := Ideal) V0 (Proc.devRef .tc main_v159) : Vec Ideal S16384x128 .f32) = fun y => small (row V0 ((y 0).val / 4096) ((y 0).val % 4096)) (posP ((y 0).val % 4096)) (y 1).val := by
  refine (val4_main_v159 (F := Ideal) V0).trans ?_
  funext y
  idx_vars y
  pointwise []
  unfold small
  by_cases h : y1.val < 64
  · rw [dif_pos h, if_pos h]
    rw [rope_ki]
  · rw [dif_neg h, if_neg h]
    by_cases h2 : y1.val < 72
    · rw [dif_pos (by omega : y1.val - 64 < 8), if_pos h2, r20]
      exact congrArg (row V0 _ _) (by dsimp only; omega)
    · rw [dif_neg (by omega : ¬ y1.val - 64 < 8), if_neg h2]
theorem r167 : (val4 (F := Ideal) V0 (Proc.devRef .tc main_v167) : Vec Ideal S16384x512 .bf16) = fun y => rotE (row V0 ((y 0).val / 4096) ((y 0).val % 4096)) (posP ((y 0).val % 4096)) 512 (y 1).val := by
  refine (val4_main_v167 (F := Ideal) V0).trans ?_
  funext y
  idx_vars y
  pointwise []
  rw [rope_ka]
  exact congrArg (rotE _ _ 512) (by dsimp only; omega)
theorem r169 : (val4 (F := Ideal) V0 (Proc.devRef .tc main_v169) : Vec Ideal S16384x512 .bf16) = fun y => row V0 ((y 0).val / 4096) ((y 0).val % 4096) (2632 + (y 1).val) := by
  refine (val4_main_v169 (F := Ideal) V0).trans ?_
  funext y
  idx_vars y
  pointwise []
  rw [heads_kb]
  exact congrArg (row V0 _ _) (by dsimp only; omega)
theorem r170 : (val4 (F := Ideal) V0 (Proc.devRef .tc main_v170) : Vec Ideal S16384x128 .bf16) = fun y => small (row V0 ((y 0).val / 4096) ((y 0).val % 4096)) (posP ((y 0).val % 4096)) (y 1).val := by
  refine (val4_main_v170 (F := Ideal) V0).trans ?_
  funext y
  idx_vars y
  pointwise []
  unfold small
  by_cases h : y1.val < 64
  · rw [dif_pos h, if_pos h]
    rw [rope_ki]
  · rw [dif_neg h, if_neg h]
    by_cases h2 : y1.val < 72
    · rw [dif_pos (by omega : y1.val - 64 < 8), if_pos h2, r20]
      exact congrArg (row V0 _ _) (by dsimp only; omega)
    · rw [dif_neg (by omega : ¬ y1.val - 64 < 8), if_neg h2]
theorem r177 : (val4 (F := Ideal) V0 (Proc.devRef .tc main_v177) : Vec Ideal S16384x1024 .f32) = fun y => sig (row V0 ((y 0).val / 4096) ((y 0).val % 4096) (3656 + (y 1).val)) := by
  refine (val4_main_v177 (F := Ideal) V0).trans ?_
  funext y
  idx_vars y
  pointwise []
  rw [r20]
  rfl
theorem r184 : (val4 (F := Ideal) V0 (Proc.devRef .tc main_v184) : Vec Ideal S16384x1024 .f32) = fun y => sig (row V0 ((y 0).val / 4096) ((y 0).val % 4096) (4680 + (y 1).val)) := by
  refine (val4_main_v184 (F := Ideal) V0).trans ?_
  funext y
  idx_vars y
  pointwise []
  rw [r20]
  rfl
theorem r189 : (val4 (F := Ideal) V0 (Proc.devRef .tc main_v189) : Vec Ideal S4x1024x4096 .f32) = fun y => kvA (row V0 (y 0).val (y 2).val) (posP (y 2).val) (y 1).val := by
  refine (val4_main_v189 (F := Ideal) V0).trans ?_
  funext y
  idx_vars y
  pointwise []
  unfold kvA
  by_cases h : y1.val < 512
  · rw [dif_pos (by omega : y1.val / 512 < 1), if_pos h, rope_ka]
    exact congrArg (rotE _ _ 512) (by dsimp only; omega)
  · rw [dif_neg (by omega : ¬ y1.val / 512 < 1), if_neg h, heads_va]
    exact congrArg (row V0 _ _) (by dsimp only; omega)
theorem r194 : (val4 (F := Ideal) V0 (Proc.devRef .tc main_v194) : Vec Ideal S4x1024x4096 .f32) = fun y => row V0 (y 0).val (y 2).val (2632 + (y 1).val) := by
  refine (val4_main_v194 (F := Ideal) V0).trans ?_
  funext y
  idx_vars y
  pointwise []
  by_cases h : y1.val < 512
  · rw [dif_pos (by omega : y1.val / 512 < 1), heads_kb]
    exact congrArg (row V0 _ _) (by dsimp only; omega)
  · rw [dif_neg (by omega : ¬ y1.val / 512 < 1), heads_vb]
    exact congrArg (row V0 _ _) (by dsimp only; omega)
theorem r195 : (val4 (F := Ideal) V0 (Proc.devRef .tc main_v195) : Vec Ideal S4x64x4096 .f32) = fun y => rotE (row V0 (y 0).val (y 2).val) (posP (y 2).val) 2048 (y 1).val := by
  refine (val4_main_v195 (F := Ideal) V0).trans ?_
  funext y
  idx_vars y
  pointwise []
  rw [rope_ki]
theorem r198 : (val4 (F := Ideal) V0 (Proc.devRef .tc main_v198) : Vec Ideal S4x16x512x256 .bf16) = fun y => row V0 (y 0).val ((y 1).val * 256 + (y 3).val) (1024 + (y 2).val) := by
  refine (val4_main_v198 (F := Ideal) V0).trans ?_
  funext y
  idx_vars y
  pointwise []
  rw [heads_va]
  exact congrArg (row V0 _ _) (by dsimp only; omega)
theorem r201 : (val4 (F := Ideal) V0 (Proc.devRef .tc main_v201) : Vec Ideal S4x16x512x256 .bf16) = fun y => row V0 (y 0).val ((y 1).val * 256 + (y 3).val) (3144 + (y 2).val) := by
  refine (val4_main_v201 (F := Ideal) V0).trans ?_
  funext y
  idx_vars y
  pointwise []
  rw [heads_vb]
  exact congrArg (row V0 _ _) (by dsimp only; omega)

/-- The reference's run, with its results as arrays of row values. -/
theorem run_row (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v161) = (fun y => rotE (row (launchContents m c) ((y 0).val / 4096) ((y 0).val % 4096)) (posP ((y 0).val % 4096)) 0 (y 1).val : Vec Ideal S16384x512 .bf16)
      ∧ r.2.mem ((c.tc : Thread nD τ).loc main_v163) = (fun y => rotE (row (launchContents m c) ((y 0).val / 4096) ((y 0).val % 4096)) (posP ((y 0).val % 4096)) 1536 (y 1).val : Vec Ideal S16384x512 .bf16)
      ∧ r.2.mem ((c.tc : Thread nD τ).loc main_v165) = (fun y => row (launchContents m c) ((y 0).val / 4096) ((y 0).val % 4096) (2120 + (y 1).val) : Vec Ideal S16384x512 .bf16)
      ∧ r.2.mem ((c.tc : Thread nD τ).loc main_v159) = (fun y => small (row (launchContents m c) ((y 0).val / 4096) ((y 0).val % 4096)) (posP ((y 0).val % 4096)) (y 1).val : Vec Ideal S16384x128 .f32)
      ∧ r.2.mem ((c.tc : Thread nD τ).loc main_v167) = (fun y => rotE (row (launchContents m c) ((y 0).val / 4096) ((y 0).val % 4096)) (posP ((y 0).val % 4096)) 512 (y 1).val : Vec Ideal S16384x512 .bf16)
      ∧ r.2.mem ((c.tc : Thread nD τ).loc main_v169) = (fun y => row (launchContents m c) ((y 0).val / 4096) ((y 0).val % 4096) (2632 + (y 1).val) : Vec Ideal S16384x512 .bf16)
      ∧ r.2.mem ((c.tc : Thread nD τ).loc main_v170) = (fun y => small (row (launchContents m c) ((y 0).val / 4096) ((y 0).val % 4096)) (posP ((y 0).val % 4096)) (y 1).val : Vec Ideal S16384x128 .bf16)
      ∧ r.2.mem ((c.tc : Thread nD τ).loc main_v177) = (fun y => sig (row (launchContents m c) ((y 0).val / 4096) ((y 0).val % 4096) (3656 + (y 1).val)) : Vec Ideal S16384x1024 .f32)
      ∧ r.2.mem ((c.tc : Thread nD τ).loc main_v184) = (fun y => sig (row (launchContents m c) ((y 0).val / 4096) ((y 0).val % 4096) (4680 + (y 1).val)) : Vec Ideal S16384x1024 .f32)
      ∧ r.2.mem ((c.tc : Thread nD τ).loc main_v189) = (fun y => kvA (row (launchContents m c) (y 0).val (y 2).val) (posP (y 2).val) (y 1).val : Vec Ideal S4x1024x4096 .f32)
      ∧ r.2.mem ((c.tc : Thread nD τ).loc main_v194) = (fun y => row (launchContents m c) (y 0).val (y 2).val (2632 + (y 1).val) : Vec Ideal S4x1024x4096 .f32)
      ∧ r.2.mem ((c.tc : Thread nD τ).loc main_v195) = (fun y => rotE (row (launchContents m c) (y 0).val (y 2).val) (posP (y 2).val) 2048 (y 1).val : Vec Ideal S4x64x4096 .f32)
      ∧ r.2.mem ((c.tc : Thread nD τ).loc main_v198) = (fun y => row (launchContents m c) (y 0).val ((y 1).val * 256 + (y 3).val) (1024 + (y 2).val) : Vec Ideal S4x16x512x256 .bf16)
      ∧ r.2.mem ((c.tc : Thread nD τ).loc main_v201) = (fun y => row (launchContents m c) (y 0).val ((y 1).val * 256 + (y 3).val) (3144 + (y 2).val) : Vec Ideal S4x16x512x256 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v161).trans ((congrFun (after_ops (launchContents m c)) (Proc.devRef .tc main_v161)).trans (r161 (launchContents m c))),
      (h c main_v163).trans ((congrFun (after_ops (launchContents m c)) (Proc.devRef .tc main_v163)).trans (r163 (launchContents m c))),
      (h c main_v165).trans ((congrFun (after_ops (launchContents m c)) (Proc.devRef .tc main_v165)).trans (r165 (launchContents m c))),
      (h c main_v159).trans ((congrFun (after_ops (launchContents m c)) (Proc.devRef .tc main_v159)).trans (r159 (launchContents m c))),
      (h c main_v167).trans ((congrFun (after_ops (launchContents m c)) (Proc.devRef .tc main_v167)).trans (r167 (launchContents m c))),
      (h c main_v169).trans ((congrFun (after_ops (launchContents m c)) (Proc.devRef .tc main_v169)).trans (r169 (launchContents m c))),
      (h c main_v170).trans ((congrFun (after_ops (launchContents m c)) (Proc.devRef .tc main_v170)).trans (r170 (launchContents m c))),
      (h c main_v177).trans ((congrFun (after_ops (launchContents m c)) (Proc.devRef .tc main_v177)).trans (r177 (launchContents m c))),
      (h c main_v184).trans ((congrFun (after_ops (launchContents m c)) (Proc.devRef .tc main_v184)).trans (r184 (launchContents m c))),
      (h c main_v189).trans ((congrFun (after_ops (launchContents m c)) (Proc.devRef .tc main_v189)).trans (r189 (launchContents m c))),
      (h c main_v194).trans ((congrFun (after_ops (launchContents m c)) (Proc.devRef .tc main_v194)).trans (r194 (launchContents m c))),
      (h c main_v195).trans ((congrFun (after_ops (launchContents m c)) (Proc.devRef .tc main_v195)).trans (r195 (launchContents m c))),
      (h c main_v198).trans ((congrFun (after_ops (launchContents m c)) (Proc.devRef .tc main_v198)).trans (r198 (launchContents m c))),
      (h c main_v201).trans ((congrFun (after_ops (launchContents m c)) (Proc.devRef .tc main_v201)).trans (r201 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c)))⟩)
    (run_seq scopedRefs_eq scopedSems_eq defs main (fun _ => ops) main_eq (fun _ => ops_sub) m ρ fun _ => ops_fresh)

end Cert.Proof.InPRefVal

end

end
-- ==== Proof.InPClaim.lean ====
module

public import proofs.«01_k».proof.Defs
public import proofs.«01_k».proof.Proof.InPVal
public import proofs.«01_k».proof.Proof.InPRefVal

/-! The kernel's run and the reference's end in the same arrays of row values. -/

@[expose] public section

set_option maxRecDepth 16384
set_option maxHeartbeats 2000000

noncomputable section

namespace Cert.Proof.InPClaim

open Idealize.ShloMosaic Idealize.ShloMosaic.TcCoe Idealize.ShloMosaic.StableHlo Cert.Proof.InSpec

section Kernel

open Cert.InPIdeal Cert.InPIdeal.Gen Cert.Proof.InPRun Cert.Proof.InPVal

/-- The kernel's run, with its results as arrays of row values. -/
theorem run_row (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41_0) = (fun y => rotE (row m c ((y 0).val / 4096) ((y 0).val % 4096)) (posP ((y 0).val % 4096)) 0 (y 1).val : Vec Ideal S16384x512 .bf16)
      ∧ r.2.mem ((c.tc : Thread nD τ).loc main_v41_1) = (fun y => rotE (row m c ((y 0).val / 4096) ((y 0).val % 4096)) (posP ((y 0).val % 4096)) 1536 (y 1).val : Vec Ideal S16384x512 .bf16)
      ∧ r.2.mem ((c.tc : Thread nD τ).loc main_v41_2) = (fun y => row m c ((y 0).val / 4096) ((y 0).val % 4096) (2120 + (y 1).val) : Vec Ideal S16384x512 .bf16)
      ∧ r.2.mem ((c.tc : Thread nD τ).loc main_v41_3) = (fun y => small (row m c ((y 0).val / 4096) ((y 0).val % 4096)) (posP ((y 0).val % 4096)) (y 1).val : Vec Ideal S16384x128 .f32)
      ∧ r.2.mem ((c.tc : Thread nD τ).loc main_v41_4) = (fun y => rotE (row m c ((y 0).val / 4096) ((y 0).val % 4096)) (posP ((y 0).val % 4096)) 512 (y 1).val : Vec Ideal S16384x512 .bf16)
      ∧ r.2.mem ((c.tc : Thread nD τ).loc main_v41_5) = (fun y => row m c ((y 0).val / 4096) ((y 0).val % 4096) (2632 + (y 1).val) : Vec Ideal S16384x512 .bf16)
      ∧ r.2.mem ((c.tc : Thread nD τ).loc main_v41_6) = (fun y => small (row m c ((y 0).val / 4096) ((y 0).val % 4096)) (posP ((y 0).val % 4096)) (y 1).val : Vec Ideal S16384x128 .bf16)
      ∧ r.2.mem ((c.tc : Thread nD τ).loc main_v41_7) = (fun y => sig (row m c ((y 0).val / 4096) ((y 0).val % 4096) (3656 + (y 1).val)) : Vec Ideal S16384x1024 .f32)
      ∧ r.2.mem ((c.tc : Thread nD τ).loc main_v41_8) = (fun y => sig (row m c ((y 0).val / 4096) ((y 0).val % 4096) (4680 + (y 1).val)) : Vec Ideal S16384x1024 .f32)
      ∧ r.2.mem ((c.tc : Thread nD τ).loc main_v41_9) = (fun y => kvA (row m c (y 0).val (y 2).val) (posP (y 2).val) (y 1).val : Vec Ideal S4x1024x4096 .f32)
      ∧ r.2.mem ((c.tc : Thread nD τ).loc main_v41_10) = (fun y => row m c (y 0).val (y 2).val (2632 + (y 1).val) : Vec Ideal S4x1024x4096 .f32)
      ∧ r.2.mem ((c.tc : Thread nD τ).loc main_v41_11) = (fun y => rotE (row m c (y 0).val (y 2).val) (posP (y 2).val) 2048 (y 1).val : Vec Ideal S4x64x4096 .f32)
      ∧ r.2.mem ((c.tc : Thread nD τ).loc main_v41_12) = (fun y => row m c (y 0).val ((y 1).val * 256 + (y 3).val) (1024 + (y 2).val) : Vec Ideal S4x16x512x256 .bf16)
      ∧ r.2.mem ((c.tc : Thread nD τ).loc main_v41_13) = (fun y => row m c (y 0).val ((y 1).val * 256 + (y 3).val) (3144 + (y 2).val) : Vec Ideal S4x16x512x256 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 13).trans (w13 m c),
      ((h.1 c).1 14).trans (w14 m c),
      ((h.1 c).1 15).trans (w15 m c),
      ((h.1 c).1 16).trans (w16 m c),
      ((h.1 c).1 17).trans (w17 m c),
      ((h.1 c).1 18).trans (w18 m c),
      ((h.1 c).1 19).trans (w19 m c),
      ((h.1 c).1 20).trans (w20 m c),
      ((h.1 c).1 21).trans (w21 m c),
      ((h.1 c).1 22).trans (w22 m c),
      ((h.1 c).1 23).trans (w23 m c),
      ((h.1 c).1 24).trans (w24 m c),
      ((h.1 c).1 25).trans (w25 m c),
      ((h.1 c).1 26).trans (w26 m c),
      h.2 c⟩)
    (θ_run_and (run_main m ρ) (unchanged m ρ))

end Kernel

section Both

open Cert

/-- Equal arguments have equal rows. -/
theorem row_eq (m : (ℓ : Loc InPIdeal.nD InPIdeal.τ InPIdeal.sig) → Buf (Elt Ideal) ℓ)
    (m' : (ℓ : Loc InPRefIdeal.nD InPRefIdeal.τ InPRefIdeal.sig) → Buf (Elt Ideal) ℓ) (c : Dev InPIdeal.nD)
    (h : m' ((c.tc : Thread InPRefIdeal.nD InPRefIdeal.τ).loc InPRefIdeal.main_arg0) = m ((c.tc : Thread InPIdeal.nD InPIdeal.τ).loc InPIdeal.main_arg0)
      ∧ m' ((c.tc : Thread InPRefIdeal.nD InPRefIdeal.τ).loc InPRefIdeal.main_arg1) = m ((c.tc : Thread InPIdeal.nD InPIdeal.τ).loc InPIdeal.main_arg1)
      ∧ m' ((c.tc : Thread InPRefIdeal.nD InPRefIdeal.τ).loc InPRefIdeal.main_arg2) = m ((c.tc : Thread InPIdeal.nD InPIdeal.τ).loc InPIdeal.main_arg2)
      ∧ m' ((c.tc : Thread InPRefIdeal.nD InPRefIdeal.τ).loc InPRefIdeal.main_arg3) = m ((c.tc : Thread InPIdeal.nD InPIdeal.τ).loc InPIdeal.main_arg3)
      ∧ m' ((c.tc : Thread InPRefIdeal.nD InPRefIdeal.τ).loc InPRefIdeal.main_arg4) = m ((c.tc : Thread InPIdeal.nD InPIdeal.τ).loc InPIdeal.main_arg4)) :
    InPRefVal.row (launchContents m' c) = InPVal.row m c := by
  funext b s
  obtain ⟨h0, h1, h2, h3, h4⟩ := h
  unfold InPRefVal.row InPVal.row
  rw [← h0, ← h1, ← h2, ← h3, ← h4]

theorem algebraic : algebraic_InPIdeal_InPRefIdeal := fun m g m' g' _ hargs => by
  refine ⟨fun c => (fun y => rotE (InPVal.row m c ((y 0).val / 4096) ((y 0).val % 4096)) (posP ((y 0).val % 4096)) 0 (y 1).val : Vec Ideal InPIdeal.S16384x512 .bf16),
    fun c => (fun y => rotE (InPVal.row m c ((y 0).val / 4096) ((y 0).val % 4096)) (posP ((y 0).val % 4096)) 1536 (y 1).val : Vec Ideal InPIdeal.S16384x512 .bf16),
    fun c => (fun y => InPVal.row m c ((y 0).val / 4096) ((y 0).val % 4096) (2120 + (y 1).val) : Vec Ideal InPIdeal.S16384x512 .bf16),
    fun c => (fun y => small (InPVal.row m c ((y 0).val / 4096) ((y 0).val % 4096)) (posP ((y 0).val % 4096)) (y 1).val : Vec Ideal InPIdeal.S16384x128 .f32),
    fun c => (fun y => rotE (InPVal.row m c ((y 0).val / 4096) ((y 0).val % 4096)) (posP ((y 0).val % 4096)) 512 (y 1).val : Vec Ideal InPIdeal.S16384x512 .bf16),
    fun c => (fun y => InPVal.row m c ((y 0).val / 4096) ((y 0).val % 4096) (2632 + (y 1).val) : Vec Ideal InPIdeal.S16384x512 .bf16),
    fun c => (fun y => small (InPVal.row m c ((y 0).val / 4096) ((y 0).val % 4096)) (posP ((y 0).val % 4096)) (y 1).val : Vec Ideal InPIdeal.S16384x128 .bf16),
    fun c => (fun y => sig (InPVal.row m c ((y 0).val / 4096) ((y 0).val % 4096) (3656 + (y 1).val)) : Vec Ideal InPIdeal.S16384x1024 .f32),
    fun c => (fun y => sig (InPVal.row m c ((y 0).val / 4096) ((y 0).val % 4096) (4680 + (y 1).val)) : Vec Ideal InPIdeal.S16384x1024 .f32),
    fun c => (fun y => kvA (InPVal.row m c (y 0).val (y 2).val) (posP (y 2).val) (y 1).val : Vec Ideal InPIdeal.S4x1024x4096 .f32),
    fun c => (fun y => InPVal.row m c (y 0).val (y 2).val (2632 + (y 1).val) : Vec Ideal InPIdeal.S4x1024x4096 .f32),
    fun c => (fun y => rotE (InPVal.row m c (y 0).val (y 2).val) (posP (y 2).val) 2048 (y 1).val : Vec Ideal InPIdeal.S4x64x4096 .f32),
    fun c => (fun y => InPVal.row m c (y 0).val ((y 1).val * 256 + (y 3).val) (1024 + (y 2).val) : Vec Ideal InPIdeal.S4x16x512x256 .bf16),
    fun c => (fun y => InPVal.row m c (y 0).val ((y 1).val * 256 + (y 3).val) (3144 + (y 2).val) : Vec Ideal InPIdeal.S4x16x512x256 .bf16), run_row m g, (θ_run _ _ _).mono (fun r h c => ?_) (InPRefVal.run_row m' g')⟩
  have e := row_eq m m' c (hargs c)
  have hc := h c
  rw [e] at hc
  exact hc

end Both

/-- The reference's run leaves its arguments as they were, and no counter raised. -/
theorem frame_ref : quiescent_InPRefIdeal := fun m g _ =>
  (θ_run _ _ _).mono (fun r h => ⟨fun c => (h c).2.2.2.2.2.2.2.2.2.2.2.2.2.2, sem_eq_zero_of_no_sems rfl r.2⟩) (InPRefVal.run_row m g)

end Cert.Proof.InPClaim

end

end
-- ==== Proof.InSPay.lean ====
module

public import proofs.«01_k».proof.Proof.InSRun
public import proofs.«01_k».proof.Proof.InSpec
public import Idealize.ShloMosaic.Lib.StableHlo.ReadAt

/-! The kernel body's values, entry by entry, from the blocks it loads. -/

@[expose] public section

set_option maxRecDepth 16384
set_option maxHeartbeats 2000000

noncomputable section

namespace Cert.Proof.InSPay

open Cert.InSIdeal Cert.InSIdeal.Gen Cert.Proof.InSRun Cert.Proof.InSpec
open Idealize.ShloMosaic Idealize.ShloMosaic.TcCoe Idealize.ShloMosaic.StableHlo

variable (x0 : Vec Ideal S256x1024 .f32) (x1 x2 : Vec Ideal S1x256x1024 .f32) (x3 : Vec Ideal S1x1024 .f32)
  (x4 x5 : Vec Ideal S256x128 .f32) (x6 : Vec Ideal S1024x512 .bf16) (x7 : Vec Ideal S1024x1024 .bf16)
  (x8 : Vec Ideal S1024x512 .bf16) (x9 : Vec Ideal S1024x128 .bf16) (x10 : Vec Ideal S1024x512 .bf16)
  (x11 : Vec Ideal S1024x1024 .bf16) (x12 : Vec Ideal S1024x2048 .bf16)
  (H : FVec Ideal S256x1024 .bf16) (c s : FVec Ideal S256x128 .f32)

/-- A row of the block times one weight column. -/
def dot {n : ℕ} (h : FVec Ideal S256x1024 .bf16) (w : Vec Ideal ⟨2, ![1024, n]⟩ .bf16) (r : Fin 256) (c : Fin n) : EReal :=
  ∑ x, h (ix2 r x) * w (ix2 x c)

/-- A weight column rotated by the block's two tables. -/
def rotB {n : ℕ} (h : FVec Ideal S256x1024 .bf16) (w : Vec Ideal ⟨2, ![1024, n]⟩ .bf16) (r : Fin 256) (k k' : Fin n)
    (e : Fin 128) : EReal :=
  dot h w r k * c (ix2 r e) + dot h w r k' * s (ix2 r e)

/-- The normalised, scaled and shifted block. -/
theorem hid_eq (r : Fin 256) (k : Fin 1024) : k0_pay2 (F := Ideal) x0 x3 x1 x2 (ix2 r k)
    = hid (fun j => x0 (ix2 r j)) (fun j => x3 (ix2 0 j)) (fun j => x1 (ix3 0 r j)) (fun j => x2 (ix3 0 r j)) k := by
  pointwise [k0_pay2]
  rfl

theorem cos_eq : k0_pay3 (F := Ideal) x4 = x4 := by
  funext y
  pointwise [k0_pay3]

theorem sin_eq : k0_pay4 (F := Ideal) x5 = x5 := by
  funext y
  pointwise [k0_pay4]

theorem qa_eq (r : Fin 256) (k : Fin 512) : k0_pay5 (F := Ideal) x0 x3 x1 x2 x6 (ix2 r k)
    = dot (k0_pay2 (F := Ideal) x0 x3 x1 x2) x6 r k := by
  unfold dot
  pointwise [k0_pay5]

theorem m8_eq (r : Fin 256) (k : Fin 512) : k0_pay7 (F := Ideal) H x8 (ix2 r k) = dot H x8 r k := by
  unfold dot
  pointwise [k0_pay7]

theorem m7_eq (r : Fin 256) (k : Fin 1024) : k0_pay16 (F := Ideal) H x7 (ix2 r k) = dot H x7 r k := by
  unfold dot
  pointwise [k0_pay16]

theorem p13 (v : FVec Ideal S256x512 .f32) (r : Fin 256) (k k' : Fin 512) (e : Fin 128) (he : e.val = k.val % 128) (hk' : Partner k.val k'.val) :
    k0_pay6 c s v (iota .tc S256x128 32 [1] iota_S256x128_d1_w32) (Scalar.select (Scalar.cmpi .eq 64#32 0#32) 1#32 64#32) (ix2 r k) = (v (ix2 r k) * c (ix2 r e) + v (ix2 r k') * s (ix2 r e) : EReal) := by
  have hk := k.isLt
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  simp only [h64]
  exact rot4 (fun c => v (ix2 r c)) (fun e => c (ix2 r e)) (fun e => s (ix2 r e)) k k k' hk e rfl he hk'

theorem o13 (r : Fin 256) (k k' : Fin 512) (e : Fin 128) (he : e.val = k.val % 128) (hk' : Partner k.val k'.val) :
    out0_13 (F := Ideal) x0 x1 x2 x3 x4 x5 x6 x7 x8 x9 x10 x11 x12 (ix2 r k) = rotB x4 x5 (k0_pay2 (F := Ideal) x0 x3 x1 x2) x6 r k k' e := by
  frame_out
  try unfold k0_pay32
  try unfold k0_pay31
  try unfold k0_pay30
  try unfold k0_pay29
  try unfold k0_pay28
  try unfold k0_pay27
  try frame_out
  refine (p13  (k0_pay3 x4) (k0_pay4 x5) (k0_pay5 x0 x3 x1 x2 x6) r k k' e he hk').trans ?_
  rw [cos_eq, sin_eq]
  rw [qa_eq, qa_eq]
  rfl

theorem p14 (r : Fin 256) (k k' : Fin 512) (e : Fin 128) (he : e.val = k.val % 128) (hk' : Partner k.val k'.val) :
    k0_pay14 c s (k0_pay7 H x8) k0_pay8 (k0_pay9 H c s x8) (k0_pay10 H c s x8) (k0_pay12 H c x8) (k0_pay13 H s x8) (ix2 r k) = (rotB c s H x8 r k k' e : EReal) := by
  have hk := k.isLt
  unfold rotB
  rw [← m8_eq, ← m8_eq]
  pointwise [k0_pay1, k0_pay3, k0_pay4, k0_pay5, k0_pay6, k0_pay8, k0_pay9, k0_pay10, k0_pay11, k0_pay12, k0_pay13, k0_pay14, k0_pay15, k0_pay17, k0_pay18, k0_pay19, k0_pay20, k0_pay21, k0_pay22, k0_pay23, k0_pay24, k0_pay25, k0_pay26]
  simp only [h64]
  exact rot4 (fun c => k0_pay7 (F := Ideal) H x8 (ix2 r c)) (fun e => c (ix2 r e)) (fun e => s (ix2 r e)) k k k' hk e rfl he hk'

theorem o14 (r : Fin 256) (k k' : Fin 512) (e : Fin 128) (he : e.val = k.val % 128) (hk' : Partner k.val k'.val) :
    out0_14 (F := Ideal) x0 x1 x2 x3 x4 x5 x6 x7 x8 x9 x10 x11 x12 (ix2 r k) = rotB x4 x5 (k0_pay2 (F := Ideal) x0 x3 x1 x2) x8 r k k' e := by
  frame_out
  try unfold k0_pay32
  try unfold k0_pay31
  try unfold k0_pay30
  try unfold k0_pay29
  try unfold k0_pay28
  try unfold k0_pay27
  try frame_out
  refine (p14 x8 (k0_pay2 (F := Ideal) x0 x3 x1 x2) (k0_pay3 x4) (k0_pay4 x5) r k k' e he hk').trans ?_
  rw [cos_eq, sin_eq]

theorem p17 (r : Fin 256) (k : Fin 512) (k0 k' : Fin 1024) (e : Fin 128) (h0 : k0.val = k.val) (he : e.val = k.val % 128) (hk' : Partner k.val k'.val) :
    k0_pay20 c s (k0_pay16 H x7) (k0_pay17 H x7) (k0_pay18) (ix2 r k) = (rotB c s H x7 r k0 k' e : EReal) := by
  have hk := k.isLt
  rw [show k0 = ⟨k.val, by omega⟩ from Fin.ext h0]
  unfold rotB
  rw [← m7_eq, ← m7_eq]
  pointwise [k0_pay1, k0_pay3, k0_pay4, k0_pay5, k0_pay6, k0_pay8, k0_pay9, k0_pay10, k0_pay11, k0_pay12, k0_pay13, k0_pay14, k0_pay15, k0_pay17, k0_pay18, k0_pay19, k0_pay20, k0_pay21, k0_pay22, k0_pay23, k0_pay24, k0_pay25, k0_pay26]
  simp only [h64]
  exact rot4w (fun c => k0_pay16 (F := Ideal) H x7 (ix2 r c)) (fun e => c (ix2 r e)) (fun e => s (ix2 r e)) ⟨k.val, by omega⟩ ⟨k.val, by omega⟩ k' hk e rfl he hk'

theorem o17 (r : Fin 256) (k : Fin 512) (k0 k' : Fin 1024) (e : Fin 128) (h0 : k0.val = k.val) (he : e.val = k.val % 128) (hk' : Partner k.val k'.val) :
    out0_17 (F := Ideal) x0 x1 x2 x3 x4 x5 x6 x7 x8 x9 x10 x11 x12 (ix2 r k) = rotB x4 x5 (k0_pay2 (F := Ideal) x0 x3 x1 x2) x7 r k0 k' e := by
  frame_out
  try unfold k0_pay32
  try unfold k0_pay31
  try unfold k0_pay30
  try unfold k0_pay29
  try unfold k0_pay28
  try unfold k0_pay27
  try frame_out
  refine (p17 x7 (k0_pay2 (F := Ideal) x0 x3 x1 x2) (k0_pay3 x4) (k0_pay4 x5) r k k0 k' e h0 he hk').trans ?_
  rw [cos_eq, sin_eq]

theorem p22 (r : Fin 256) (k k' : Fin 1024) (e : Fin 128) (hh : k.val < 512) (he : e.val = k.val % 128) (hk' : Partner k.val k'.val) :
    k0_pay19 c s (k0_pay16 H x7) (k0_pay17 H x7) (k0_pay18) (ix2 r k) = (rotB c s H x7 r k k' e : EReal) := by
  have hk := k.isLt
  unfold rotB
  rw [← m7_eq, ← m7_eq]
  pointwise [k0_pay1, k0_pay3, k0_pay4, k0_pay5, k0_pay6, k0_pay8, k0_pay9, k0_pay10, k0_pay11, k0_pay12, k0_pay13, k0_pay14, k0_pay15, k0_pay17, k0_pay18, k0_pay19, k0_pay20, k0_pay21, k0_pay22, k0_pay23, k0_pay24, k0_pay25, k0_pay26]
  simp only [h64]
  rw [dif_pos hh]
  exact rot4w (fun c => k0_pay16 (F := Ideal) H x7 (ix2 r c)) (fun e => c (ix2 r e)) (fun e => s (ix2 r e)) k k k' hh e rfl he hk'

theorem o22 (r : Fin 256) (k k' : Fin 1024) (e : Fin 128) (hh : k.val < 512) (he : e.val = k.val % 128) (hk' : Partner k.val k'.val) :
    out0_22 (F := Ideal) x0 x1 x2 x3 x4 x5 x6 x7 x8 x9 x10 x11 x12 (ix2 r k) = rotB x4 x5 (k0_pay2 (F := Ideal) x0 x3 x1 x2) x7 r k k' e := by
  frame_out
  try unfold k0_pay32
  try unfold k0_pay31
  try unfold k0_pay30
  try unfold k0_pay29
  try unfold k0_pay28
  try unfold k0_pay27
  try frame_out
  refine (p22 x7 (k0_pay2 (F := Ideal) x0 x3 x1 x2) (k0_pay3 x4) (k0_pay4 x5) r k k' e hh he hk').trans ?_
  rw [cos_eq, sin_eq]

theorem p22v (r : Fin 256) (k : Fin 1024) (hh : ¬ k.val < 512) :
    k0_pay19 c s (k0_pay16 H x7) (k0_pay17 H x7) (k0_pay18) (ix2 r k) = (dot H x7 r k : EReal) := by
  rw [← m7_eq]
  pointwise [k0_pay1, k0_pay3, k0_pay4, k0_pay5, k0_pay6, k0_pay8, k0_pay9, k0_pay10, k0_pay11, k0_pay12, k0_pay13, k0_pay14, k0_pay15, k0_pay17, k0_pay18, k0_pay19, k0_pay20, k0_pay21, k0_pay22, k0_pay23, k0_pay24, k0_pay25, k0_pay26]
  simp only [h64]
  rw [dif_neg hh]
  refine congrArg (fun c : Fin 1024 => k0_pay16 (F := Ideal) H x7 (ix2 r c)) (Fin.ext ?_)
  dsimp only
  omega

theorem o22v (r : Fin 256) (k : Fin 1024) (hh : ¬ k.val < 512) :
    out0_22 (F := Ideal) x0 x1 x2 x3 x4 x5 x6 x7 x8 x9 x10 x11 x12 (ix2 r k) = dot (k0_pay2 (F := Ideal) x0 x3 x1 x2) x7 r k := by
  frame_out
  try unfold k0_pay32
  try unfold k0_pay31
  try unfold k0_pay30
  try unfold k0_pay29
  try unfold k0_pay28
  try unfold k0_pay27
  try frame_out
  refine (p22v x7 (k0_pay2 (F := Ideal) x0 x3 x1 x2) (k0_pay3 x4) (k0_pay4 x5) r k hh).trans ?_
  rfl

theorem p23 (r : Fin 256) (k : Fin 1024) :
    k0_pay21 H x11 (ix2 r k) = (dot H x11 r k : EReal) := by
  unfold dot
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

theorem o23 (r : Fin 256) (k : Fin 1024) :
    out0_23 (F := Ideal) x0 x1 x2 x3 x4 x5 x6 x7 x8 x9 x10 x11 x12 (ix2 r k) = dot (k0_pay2 (F := Ideal) x0 x3 x1 x2) x11 r k := by
  frame_out
  try unfold k0_pay32
  try unfold k0_pay31
  try unfold k0_pay30
  try unfold k0_pay29
  try unfold k0_pay28
  try unfold k0_pay27
  try frame_out
  refine (p23 x11 (k0_pay2 (F := Ideal) x0 x3 x1 x2) r k).trans ?_
  rfl

theorem p15 (r : Fin 256) (k : Fin 512) :
    k0_pay15 H x10 (ix2 r k) = (dot H x10 r k : EReal) := by
  unfold dot
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

theorem o15 (r : Fin 256) (k : Fin 512) :
    out0_15 (F := Ideal) x0 x1 x2 x3 x4 x5 x6 x7 x8 x9 x10 x11 x12 (ix2 r k) = dot (k0_pay2 (F := Ideal) x0 x3 x1 x2) x10 r k := by
  frame_out
  try unfold k0_pay32
  try unfold k0_pay31
  try unfold k0_pay30
  try unfold k0_pay29
  try unfold k0_pay28
  try unfold k0_pay27
  try frame_out
  refine (p15 x10 (k0_pay2 (F := Ideal) x0 x3 x1 x2) r k).trans ?_
  rfl

theorem p18 (r : Fin 256) (k : Fin 512) (k0 : Fin 1024) (h0 : k0.val = k.val) :
    k0_pay22 H x11 (ix2 r k) = (dot H x11 r k0 : EReal) := by
  rw [show k0 = ⟨k.val, by omega⟩ from Fin.ext h0]
  unfold dot
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

theorem o18 (r : Fin 256) (k : Fin 512) (k0 : Fin 1024) (h0 : k0.val = k.val) :
    out0_18 (F := Ideal) x0 x1 x2 x3 x4 x5 x6 x7 x8 x9 x10 x11 x12 (ix2 r k) = dot (k0_pay2 (F := Ideal) x0 x3 x1 x2) x11 r k0 := by
  frame_out
  try unfold k0_pay32
  try unfold k0_pay31
  try unfold k0_pay30
  try unfold k0_pay29
  try unfold k0_pay28
  try unfold k0_pay27
  try frame_out
  refine (p18 x11 (k0_pay2 (F := Ideal) x0 x3 x1 x2) r k k0 h0).trans ?_
  rfl

theorem p20 (r : Fin 256) (k : Fin 1024) (k0 : Fin 2048) (h0 : k0.val = k.val) :
    k0_pay26 H x12 (ix2 r k) = (Ideal.logistic (dot H x12 r k0) : EReal) := by
  rw [show k0 = ⟨k.val, by omega⟩ from Fin.ext h0]
  unfold dot
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

theorem o20 (r : Fin 256) (k : Fin 1024) (k0 : Fin 2048) (h0 : k0.val = k.val) :
    out0_20 (F := Ideal) x0 x1 x2 x3 x4 x5 x6 x7 x8 x9 x10 x11 x12 (ix2 r k) = Ideal.logistic (dot (k0_pay2 (F := Ideal) x0 x3 x1 x2) x12 r k0) := by
  frame_out
  try unfold k0_pay32
  try unfold k0_pay31
  try unfold k0_pay30
  try unfold k0_pay29
  try unfold k0_pay28
  try unfold k0_pay27
  try frame_out
  refine (p20 x12 (k0_pay2 (F := Ideal) x0 x3 x1 x2) r k k0 h0).trans ?_
  rfl

theorem p21 (r : Fin 256) (k : Fin 1024) (k0 : Fin 2048) (h0 : k0.val = 1024 + k.val) :
    k0_pay1 (k0_pay25 H x12) (ix2 r k) = (Ideal.logistic (dot H x12 r k0) : EReal) := by
  rw [show k0 = ⟨1024 + k.val, by omega⟩ from Fin.ext h0]
  unfold dot
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

theorem o21 (r : Fin 256) (k : Fin 1024) (k0 : Fin 2048) (h0 : k0.val = 1024 + k.val) :
    out0_21 (F := Ideal) x0 x1 x2 x3 x4 x5 x6 x7 x8 x9 x10 x11 x12 (ix2 r k) = Ideal.logistic (dot (k0_pay2 (F := Ideal) x0 x3 x1 x2) x12 r k0) := by
  frame_out
  try unfold k0_pay32
  try unfold k0_pay31
  try unfold k0_pay30
  try unfold k0_pay29
  try unfold k0_pay28
  try unfold k0_pay27
  try frame_out
  refine (p21 x12 (k0_pay2 (F := Ideal) x0 x3 x1 x2) r k k0 h0).trans ?_
  rfl

theorem p16 (r : Fin 256) (k k' : Fin 128) (hk' : k.val < 64 → Partner k.val k'.val) :
    k0_pay23 H c s x9 (ix2 r k) = (if k.val < 64 then rotB c s H x9 r k k' k else dot H x9 r k : EReal) := by
  have hk := k.isLt
  unfold rotB dot
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  simp only [h64]
  rw [lane64 _ (by omega)]
  by_cases hh : k.val < 64
  · rw [if_pos hh, if_pos hh, lane _ (by omega)]
    specialize hk' hh
    exact rot_sel (fun c => ∑ x, H (ix2 r x) * x9 (ix2 x c)) (fun e => c (ix2 r e)) (fun e => s (ix2 r e)) k.val k k _ _ k' k k k rfl (by unfold Partner at hk'; dsimp only; omega) rfl rfl
  · rw [if_neg hh, if_neg hh]

theorem o16 (r : Fin 256) (k k' : Fin 128) (hk' : k.val < 64 → Partner k.val k'.val) :
    out0_16 (F := Ideal) x0 x1 x2 x3 x4 x5 x6 x7 x8 x9 x10 x11 x12 (ix2 r k) = if k.val < 64 then rotB x4 x5 (k0_pay2 (F := Ideal) x0 x3 x1 x2) x9 r k k' k else dot (k0_pay2 (F := Ideal) x0 x3 x1 x2) x9 r k := by
  frame_out
  try unfold k0_pay32
  try unfold k0_pay31
  try unfold k0_pay30
  try unfold k0_pay29
  try unfold k0_pay28
  try unfold k0_pay27
  try frame_out
  refine (p16 x9 (k0_pay2 (F := Ideal) x0 x3 x1 x2) (k0_pay3 x4) (k0_pay4 x5) r k k' hk').trans ?_
  rw [cos_eq, sin_eq]

theorem p19 (r : Fin 256) (k k' : Fin 128) (hk' : k.val < 64 → Partner k.val k'.val) :
    k0_pay24 H c s x9 (ix2 r k) = (if k.val < 64 then rotB c s H x9 r k k' k else dot H x9 r k : EReal) := by
  have hk := k.isLt
  unfold rotB dot
  pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  simp only [h64]
  rw [lane64 _ (by omega)]
  by_cases hh : k.val < 64
  · rw [if_pos hh, if_pos hh, lane _ (by omega)]
    specialize hk' hh
    exact rot_sel (fun c => ∑ x, H (ix2 r x) * x9 (ix2 x c)) (fun e => c (ix2 r e)) (fun e => s (ix2 r e)) k.val k k _ _ k' k k k rfl (by unfold Partner at hk'; dsimp only; omega) rfl rfl
  · rw [if_neg hh, if_neg hh]

theorem o19 (r : Fin 256) (k k' : Fin 128) (hk' : k.val < 64 → Partner k.val k'.val) :
    out0_19 (F := Ideal) x0 x1 x2 x3 x4 x5 x6 x7 x8 x9 x10 x11 x12 (ix2 r k) = if k.val < 64 then rotB x4 x5 (k0_pay2 (F := Ideal) x0 x3 x1 x2) x9 r k k' k else dot (k0_pay2 (F := Ideal) x0 x3 x1 x2) x9 r k := by
  frame_out
  try unfold k0_pay32
  try unfold k0_pay31
  try unfold k0_pay30
  try unfold k0_pay29
  try unfold k0_pay28
  try unfold k0_pay27
  try frame_out
  refine (p19 x9 (k0_pay2 (F := Ideal) x0 x3 x1 x2) (k0_pay3 x4) (k0_pay4 x5) r k k' hk').trans ?_
  rw [cos_eq, sin_eq]

end Cert.Proof.InSPay

end

end
-- ==== Proof.InSVal.lean ====
module

public import proofs.«01_k».proof.Proof.InSPay
public import proofs.«01_k».proof.Proof.InSpec
public import Idealize.ShloMosaic.Lib.StableHlo.ReadAt

/-! The kernel's result arrays, each equal to its array of row values. -/

@[expose] public section

set_option maxRecDepth 16384
set_option maxHeartbeats 2000000

noncomputable section

namespace Cert.Proof.InSVal

open Cert.Proof.InSPay Cert.InSIdeal Cert.InSIdeal.Gen Cert.Proof.InSRun Cert.Proof.InSpec
open Idealize.ShloMosaic Idealize.ShloMosaic.TcCoe Idealize.ShloMosaic.StableHlo

/-- The projected row of a token, from the program's arguments. -/
def row (m : (ℓ : Loc nD τ sig) → Buf (Elt Ideal) ℓ) (c : Dev nD) (b s : ℕ) : ℕ → EReal :=
  rowP (B := 32) (S := 8) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b s

variable (m : (ℓ : Loc nD τ sig) → Buf (Elt Ideal) ℓ) (c : Dev nD)

/-! The arrays the host makes before the call, entry by entry. -/

theorem v_x (r : Fin 256) (k : Fin 1024) : V m c main_v40 (ix2 r k) = m ((c.tc : Thread nD τ).loc main_arg0) (ix3 ⟨r.val / 8, by omega⟩ ⟨r.val % 8, by omega⟩ k) := by
  unfold V
  after_reads_at
theorem v_sc (r : Fin 256) (k : Fin 1024) : V m c main_v35 (ix3 0 r k) = m ((c.tc : Thread nD τ).loc main_arg1) (ix3 ⟨r.val / 8, by omega⟩ 0 k) := by
  unfold V
  after_reads_at
theorem v_sh (r : Fin 256) (k : Fin 1024) : V m c main_v39 (ix3 0 r k) = m ((c.tc : Thread nD τ).loc main_arg2) (ix3 ⟨r.val / 8, by omega⟩ 0 k) := by
  unfold V
  after_reads_at
theorem v_g (k : Fin 1024) : V m c main_v56 (ix2 0 k) = m ((c.tc : Thread nD τ).loc main_arg3) (ix1 k) := by
  unfold V
  after_reads_at
theorem v_cos (r : Fin 256) (k : Fin 128) : V m c main_v28 (ix2 r k) = cosT (posS (r.val % 8)) k.val := by
  unfold V
  after_reads_at
  after_reads_at
  rfl
theorem v_sin (r : Fin 256) (k : Fin 128) : V m c main_v31 (ix2 r k) = sinT (posS (r.val % 8)) k.val := by
  unfold V
  after_reads_at
  after_reads_at
  rfl
theorem v_qa (x : Fin 1024) (k : Fin 512) : V m c main_v49 (ix2 x k) = m ((c.tc : Thread nD τ).loc main_arg4) (ix2 x ⟨0 + k.val, by omega⟩) := by
  unfold V
  after_reads_at
theorem v_kva (x : Fin 1024) (k : Fin 1024) : V m c main_v50 (ix2 x k) = m ((c.tc : Thread nD τ).loc main_arg4) (ix2 x ⟨512 + k.val, by omega⟩) := by
  unfold V
  after_reads_at
theorem v_qi (x : Fin 1024) (k : Fin 512) : V m c main_v51 (ix2 x k) = m ((c.tc : Thread nD τ).loc main_arg4) (ix2 x ⟨1536 + k.val, by omega⟩) := by
  unfold V
  after_reads_at
theorem v_qb (x : Fin 1024) (k : Fin 512) : V m c main_v53 (ix2 x k) = m ((c.tc : Thread nD τ).loc main_arg4) (ix2 x ⟨2120 + k.val, by omega⟩) := by
  unfold V
  after_reads_at
theorem v_kvb (x : Fin 1024) (k : Fin 1024) : V m c main_v54 (ix2 x k) = m ((c.tc : Thread nD τ).loc main_arg4) (ix2 x ⟨2632 + k.val, by omega⟩) := by
  unfold V
  after_reads_at
theorem v_ga (x : Fin 1024) (k : Fin 2048) : V m c main_v55 (ix2 x k) = m ((c.tc : Thread nD τ).loc main_arg4) (ix2 x ⟨3656 + k.val, by omega⟩) := by
  unfold V
  after_reads_at
theorem v_sm (x : Fin 1024) (k : Fin 128) : V m c main_v52 (ix2 x k) = if h : k.val < 72 then m ((c.tc : Thread nD τ).loc main_arg4) (ix2 x ⟨2048 + k.val, by omega⟩) else FloatOps.sitofp (F := Ideal) FTy.f32 0#32 := by
  unfold V
  after_reads_at

/-! The blocks a grid step reads. -/

theorem i0 : ∀ t : Fin cfg0.N, win0_0.index t = ![0, 0] := (by decide +kernel : ∀ t : Fin grid0.N, _)
theorem i1 : ∀ t : Fin cfg0.N, win0_1.index t = ![0, 0, 0] := (by decide +kernel : ∀ t : Fin grid0.N, _)
theorem i2 : ∀ t : Fin cfg0.N, win0_2.index t = ![0, 0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![0, 0] := (by decide +kernel : ∀ t : Fin grid0.N, _)
theorem i12 : ∀ t : Fin cfg0.N, win0_12.index t = ![0, 0] := (by decide +kernel : ∀ t : Fin grid0.N, _)
theorem i13 : ∀ t : Fin cfg0.N, win0_13.index t = ![0, 0] := (by decide +kernel : ∀ t : Fin grid0.N, _)
theorem i14 : ∀ t : Fin cfg0.N, win0_14.index t = ![0, 0] := (by decide +kernel : ∀ t : Fin grid0.N, _)
theorem i15 : ∀ t : Fin cfg0.N, win0_15.index t = ![0, 0] := (by decide +kernel : ∀ t : Fin grid0.N, _)
theorem i16 : ∀ t : Fin cfg0.N, win0_16.index t = ![0, 0] := (by decide +kernel : ∀ t : Fin grid0.N, _)
theorem i17 : ∀ t : Fin cfg0.N, win0_17.index t = ![0, 0] := (by decide +kernel : ∀ t : Fin grid0.N, _)
theorem i18 : ∀ t : Fin cfg0.N, win0_18.index t = ![0, 0] := (by decide +kernel : ∀ t : Fin grid0.N, _)
theorem i19 : ∀ t : Fin cfg0.N, win0_19.index t = ![0, 0] := (by decide +kernel : ∀ t : Fin grid0.N, _)
theorem i20 : ∀ t : Fin cfg0.N, win0_20.index t = ![0, 0] := (by decide +kernel : ∀ t : Fin grid0.N, _)
theorem i21 : ∀ t : Fin cfg0.N, win0_21.index t = ![0, 0] := (by decide +kernel : ∀ t : Fin grid0.N, _)
theorem i22 : ∀ t : Fin cfg0.N, win0_22.index t = ![0, 0] := (by decide +kernel : ∀ t : Fin grid0.N, _)
theorem i23 : ∀ t : Fin cfg0.N, win0_23.index t = ![0, 0] := (by decide +kernel : ∀ t : Fin grid0.N, _)

theorem b_x (t : Fin cfg0.N) (r : Fin 256) (k : Fin 1024) : iblk m c 0 t (ix2 r k) = m ((c.tc : Thread nD τ).loc main_arg0) (ix3 (Fin.ofNat 32 (r.val / 8)) (Fin.ofNat 8 (r.val % 8)) k) := by
  have e : iblk m c 0 t (ix2 r k) = V m c main_v40 (ix2 r k) := by
    blk_ext [iblk, i0 t]
  rw [e, v_x]
  exact congrArg (m _) (ix3_congr (Fin.ext (by simp only [Fin.ofNat]; omega)) (Fin.ext (by simp only [Fin.ofNat]; omega)) k)
theorem b_g (t : Fin cfg0.N) (k : Fin 1024) : iblk m c 3 t (ix2 0 k) = m ((c.tc : Thread nD τ).loc main_arg3) (ix1 k) := by
  have e : iblk m c 3 t (ix2 0 k) = V m c main_v56 (ix2 0 k) := by
    blk_ext [iblk, i3 t]
  rw [e, v_g]
theorem b_cos (t : Fin cfg0.N) (r : Fin 256) (k : Fin 128) : iblk m c 4 t (ix2 r k) = cosT (posS (r.val % 8)) k.val := by
  have e : iblk m c 4 t (ix2 r k) = V m c main_v28 (ix2 r k) := by
    blk_ext [iblk, i4 t]
  rw [e, v_cos]
theorem b_sin (t : Fin cfg0.N) (r : Fin 256) (k : Fin 128) : iblk m c 5 t (ix2 r k) = sinT (posS (r.val % 8)) k.val := by
  have e : iblk m c 5 t (ix2 r k) = V m c main_v31 (ix2 r k) := by
    blk_ext [iblk, i5 t]
  rw [e, v_sin]
theorem b_sc (t : Fin cfg0.N) (r : Fin 256) (k : Fin 1024) : iblk m c 1 t (ix3 0 r k) = m ((c.tc : Thread nD τ).loc main_arg1) (ix3 (Fin.ofNat 32 (r.val / 8)) 0 k) := by
  have e : iblk m c 1 t (ix3 0 r k) = V m c main_v35 (ix3 0 r k) := by
    blk_ext [iblk, i1 t]
  rw [e, v_sc]
  exact congrArg (m _) (ix3_congr (Fin.ext (by simp only [Fin.ofNat]; omega)) rfl k)
theorem b_sh (t : Fin cfg0.N) (r : Fin 256) (k : Fin 1024) : iblk m c 2 t (ix3 0 r k) = m ((c.tc : Thread nD τ).loc main_arg2) (ix3 (Fin.ofNat 32 (r.val / 8)) 0 k) := by
  have e : iblk m c 2 t (ix3 0 r k) = V m c main_v39 (ix3 0 r k) := by
    blk_ext [iblk, i2 t]
  rw [e, v_sh]
  exact congrArg (m _) (ix3_congr (Fin.ext (by simp only [Fin.ofNat]; omega)) rfl k)

/-- A weight column times the block's row is the projected row's entry. -/
theorem dotRow (t : Fin cfg0.N) (r : Fin 256) {n : ℕ} (w : Vec Ideal ⟨2, ![1024, n]⟩ .bf16) (k : Fin n) (cc : ℕ) (hcc : cc < 5704)
    (hw : ∀ x : Fin 1024, w (ix2 x k) = m ((c.tc : Thread nD τ).loc main_arg4) (ix2 x ⟨cc, hcc⟩)) :
    dot (k0_pay2 (F := Ideal) (iblk m c 0 t) (iblk m c 3 t) (iblk m c 1 t) (iblk m c 2 t)) w r k = row m c (r.val / 8) (r.val % 8) cc := by
  unfold dot row rowP colN
  rw [dif_pos hcc]
  refine Finset.sum_congr rfl fun x _ => ?_
  rw [hw, hid_eq]
  simp only [b_x, b_g, b_sc m c t r, b_sh m c t r]
theorem d_qa (t : Fin cfg0.N) (r : Fin 256) (k : Fin 512) :
    dot (k0_pay2 (F := Ideal) (iblk m c 0 t) (iblk m c 3 t) (iblk m c 1 t) (iblk m c 2 t)) (iblk m c 6 t) r k = row m c (r.val / 8) (r.val % 8) (0 + k.val) := by
  refine dotRow m c t r _ k _ (by omega) fun x => ?_
  have e : iblk m c 6 t (ix2 x k) = V m c main_v49 (ix2 x k) := by
    blk_ext [iblk, i6 t]
  rw [e, v_qa]
theorem d_kva (t : Fin cfg0.N) (r : Fin 256) (k : Fin 1024) :
    dot (k0_pay2 (F := Ideal) (iblk m c 0 t) (iblk m c 3 t) (iblk m c 1 t) (iblk m c 2 t)) (iblk m c 7 t) r k = row m c (r.val / 8) (r.val % 8) (512 + k.val) := by
  refine dotRow m c t r _ k _ (by omega) fun x => ?_
  have e : iblk m c 7 t (ix2 x k) = V m c main_v50 (ix2 x k) := by
    blk_ext [iblk, i7 t]
  rw [e, v_kva]
theorem d_qi (t : Fin cfg0.N) (r : Fin 256) (k : Fin 512) :
    dot (k0_pay2 (F := Ideal) (iblk m c 0 t) (iblk m c 3 t) (iblk m c 1 t) (iblk m c 2 t)) (iblk m c 8 t) r k = row m c (r.val / 8) (r.val % 8) (1536 + k.val) := by
  refine dotRow m c t r _ k _ (by omega) fun x => ?_
  have e : iblk m c 8 t (ix2 x k) = V m c main_v51 (ix2 x k) := by
    blk_ext [iblk, i8 t]
  rw [e, v_qi]
theorem d_qb (t : Fin cfg0.N) (r : Fin 256) (k : Fin 512) :
    dot (k0_pay2 (F := Ideal) (iblk m c 0 t) (iblk m c 3 t) (iblk m c 1 t) (iblk m c 2 t)) (iblk m c 10 t) r k = row m c (r.val / 8) (r.val % 8) (2120 + k.val) := by
  refine dotRow m c t r _ k _ (by omega) fun x => ?_
  have e : iblk m c 10 t (ix2 x k) = V m c main_v53 (ix2 x k) := by
    blk_ext [iblk, i10 t]
  rw [e, v_qb]
theorem d_kvb (t : Fin cfg0.N) (r : Fin 256) (k : Fin 1024) :
    dot (k0_pay2 (F := Ideal) (iblk m c 0 t) (iblk m c 3 t) (iblk m c 1 t) (iblk m c 2 t)) (iblk m c 11 t) r k = row m c (r.val / 8) (r.val % 8) (2632 + k.val) := by
  refine dotRow m c t r _ k _ (by omega) fun x => ?_
  have e : iblk m c 11 t (ix2 x k) = V m c main_v54 (ix2 x k) := by
    blk_ext [iblk, i11 t]
  rw [e, v_kvb]
theorem d_ga (t : Fin cfg0.N) (r : Fin 256) (k : Fin 2048) :
    dot (k0_pay2 (F := Ideal) (iblk m c 0 t) (iblk m c 3 t) (iblk m c 1 t) (iblk m c 2 t)) (iblk m c 12 t) r k = row m c (r.val / 8) (r.val % 8) (3656 + k.val) := by
  refine dotRow m c t r _ k _ (by omega) fun x => ?_
  have e : iblk m c 12 t (ix2 x k) = V m c main_v55 (ix2 x k) := by
    blk_ext [iblk, i12 t]
  rw [e, v_ga]
theorem b_sm (t : Fin cfg0.N) (x : Fin 1024) (k : Fin 128) : iblk m c 9 t (ix2 x k) = V m c main_v52 (ix2 x k) := by
  blk_ext [iblk, i9 t]
theorem d_sm (t : Fin cfg0.N) (r : Fin 256) (k : Fin 128) (hk : k.val < 72) :
    dot (k0_pay2 (F := Ideal) (iblk m c 0 t) (iblk m c 3 t) (iblk m c 1 t) (iblk m c 2 t)) (iblk m c 9 t) r k = row m c (r.val / 8) (r.val % 8) (2048 + k.val) := by
  refine dotRow m c t r _ k _ (by omega) fun x => ?_
  rw [b_sm, v_sm, dif_pos hk]
theorem d_sm0 (t : Fin cfg0.N) (r : Fin 256) (k : Fin 128) (hk : ¬ k.val < 72) :
    dot (k0_pay2 (F := Ideal) (iblk m c 0 t) (iblk m c 3 t) (iblk m c 1 t) (iblk m c 2 t)) (iblk m c 9 t) r k = 0 := by
  unfold dot
  refine Finset.sum_eq_zero fun x _ => ?_
  rw [b_sm, v_sm, dif_neg hk]
  have z : (FloatOps.sitofp (F := Ideal) FTy.f32 0#32 : EReal) = 0 := zero0
  rw [z]
  exact mul_zero _

/-- A rotated weight column is the rotated row's lane. -/
theorem rotRow (t : Fin cfg0.N) (r : Fin 256) {n : ℕ} (w : Vec Ideal ⟨2, ![1024, n]⟩ .bf16) (k k' : Fin n) (e : Fin 128) (o j : ℕ)
    (hj : k.val = j) (he : e.val % 64 = j % 64) (hk' : Partner j k'.val)
    (h1 : dot (k0_pay2 (F := Ideal) (iblk m c 0 t) (iblk m c 3 t) (iblk m c 1 t) (iblk m c 2 t)) w r k = row m c (r.val / 8) (r.val % 8) (o + k.val))
    (h2 : dot (k0_pay2 (F := Ideal) (iblk m c 0 t) (iblk m c 3 t) (iblk m c 1 t) (iblk m c 2 t)) w r k' = row m c (r.val / 8) (r.val % 8) (o + k'.val)) :
    rotB (iblk m c 4 t) (iblk m c 5 t) (k0_pay2 (F := Ideal) (iblk m c 0 t) (iblk m c 3 t) (iblk m c 1 t) (iblk m c 2 t)) w r k k' e = rotE (row m c (r.val / 8) (r.val % 8)) (posS (r.val % 8)) o j := by
  unfold rotB
  rw [h1, h2, b_cos, b_sin, hj]
  exact rotE_eq _ _ _ _ _ _ he hk'

/-- The small operand's block, entry by entry. -/
theorem smallRow (t : Fin cfg0.N) (r : Fin 256) (k k' : Fin 128) (hk' : k.val < 64 → Partner k.val k'.val) :
    (if k.val < 64 then rotB (iblk m c 4 t) (iblk m c 5 t) (k0_pay2 (F := Ideal) (iblk m c 0 t) (iblk m c 3 t) (iblk m c 1 t) (iblk m c 2 t)) (iblk m c 9 t) r k k' k else dot (k0_pay2 (F := Ideal) (iblk m c 0 t) (iblk m c 3 t) (iblk m c 1 t) (iblk m c 2 t)) (iblk m c 9 t) r k)
      = small (row m c (r.val / 8) (r.val % 8)) (posS (r.val % 8)) k.val := by
  unfold small
  by_cases h : k.val < 64
  · rw [if_pos h, if_pos h]
    have hp := hk' h
    exact rotRow m c t r _ k k' k 2048 k.val rfl rfl hp (d_sm m c t r k (by omega)) (d_sm m c t r k' (by unfold Partner at hp; omega))
  · rw [if_neg h, if_neg h]
    by_cases h2 : k.val < 72
    · rw [if_pos h2]
      exact d_sm m c t r k h2
    · rw [if_neg h2]
      exact d_sm0 m c t r k h2

theorem small_ex (k : Fin 128) : ∃ k' : Fin 128, k.val < 64 → Partner k.val k'.val := by
  obtain ⟨k', h⟩ := partner_ex 128 rfl k
  exact ⟨k', fun _ => h⟩

/-! Each result array. -/

theorem w13 : (dats m 0 c).arrAt 13 cfg0.N = fun y => rotE (row m c ((y 0).val / 8) ((y 0).val % 8)) (posS ((y 0).val % 8)) 0 (y 1).val := by
  refine (dats m 0 c).arrAt_eq_of_covers 13 _ (by decide +kernel) fun t hf y => ?_
  blk_simp
  rw [after0_13]
  idx_vars y
  have e0 : win0_13.index t 0 * 256 + y0.val = y0.val := by rw [i13 t]; simp
  have e1 : win0_13.index t 1 * 512 + y1.val = y1.val := by rw [i13 t]; simp
  rw [e0, e1]
  obtain ⟨k', hk'⟩ := partner_ex 512 rfl y1
  refine (o13 _ _ _ _ _ _ _ _ _ _ _ _ _ y0 y1 k' ⟨y1.val % 128, by omega⟩ rfl hk').trans ?_
  exact rotRow m c t y0 _ y1 k' _ 0 _ rfl (by dsimp only; omega) hk' (d_qa m c t y0 y1) (d_qa m c t y0 k')
theorem w14 : (dats m 0 c).arrAt 14 cfg0.N = fun y => rotE (row m c ((y 0).val / 8) ((y 0).val % 8)) (posS ((y 0).val % 8)) 1536 (y 1).val := by
  refine (dats m 0 c).arrAt_eq_of_covers 14 _ (by decide +kernel) fun t hf y => ?_
  blk_simp
  rw [after0_14]
  idx_vars y
  have e0 : win0_14.index t 0 * 256 + y0.val = y0.val := by rw [i14 t]; simp
  have e1 : win0_14.index t 1 * 512 + y1.val = y1.val := by rw [i14 t]; simp
  rw [e0, e1]
  obtain ⟨k', hk'⟩ := partner_ex 512 rfl y1
  refine (o14 _ _ _ _ _ _ _ _ _ _ _ _ _ y0 y1 k' ⟨y1.val % 128, by omega⟩ rfl hk').trans ?_
  exact rotRow m c t y0 _ y1 k' _ 1536 _ rfl (by dsimp only; omega) hk' (d_qi m c t y0 y1) (d_qi m c t y0 k')
theorem w15 : (dats m 0 c).arrAt 15 cfg0.N = fun y => row m c ((y 0).val / 8) ((y 0).val % 8) (2120 + (y 1).val) := by
  refine (dats m 0 c).arrAt_eq_of_covers 15 _ (by decide +kernel) fun t hf y => ?_
  blk_simp
  rw [after0_15]
  idx_vars y
  have e0 : win0_15.index t 0 * 256 + y0.val = y0.val := by rw [i15 t]; simp
  have e1 : win0_15.index t 1 * 512 + y1.val = y1.val := by rw [i15 t]; simp
  rw [e0, e1]
  refine (o15 _ _ _ _ _ _ _ _ _ _ _ _ _ y0 y1).trans ?_
  exact d_qb m c t y0 y1
theorem w16 : (dats m 0 c).arrAt 16 cfg0.N = fun y => small (row m c ((y 0).val / 8) ((y 0).val % 8)) (posS ((y 0).val % 8)) (y 1).val := by
  refine (dats m 0 c).arrAt_eq_of_covers 16 _ (by decide +kernel) fun t hf y => ?_
  blk_simp
  rw [after0_16]
  idx_vars y
  have e0 : win0_16.index t 0 * 256 + y0.val = y0.val := by rw [i16 t]; simp
  have e1 : win0_16.index t 1 * 128 + y1.val = y1.val := by rw [i16 t]; simp
  rw [e0, e1]
  obtain ⟨k', hk'⟩ := small_ex y1
  refine (o16 _ _ _ _ _ _ _ _ _ _ _ _ _ y0 y1 k' hk').trans ?_
  exact smallRow m c t y0 y1 k' hk'
theorem w17 : (dats m 0 c).arrAt 17 cfg0.N = fun y => rotE (row m c ((y 0).val / 8) ((y 0).val % 8)) (posS ((y 0).val % 8)) 512 (y 1).val := by
  refine (dats m 0 c).arrAt_eq_of_covers 17 _ (by decide +kernel) fun t hf y => ?_
  blk_simp
  rw [after0_17]
  idx_vars y
  have e0 : win0_17.index t 0 * 256 + y0.val = y0.val := by rw [i17 t]; simp
  have e1 : win0_17.index t 1 * 512 + y1.val = y1.val := by rw [i17 t]; simp
  rw [e0, e1]
  obtain ⟨k', hk'⟩ := partner_ex 1024 rfl ⟨y1.val, by omega⟩
  refine (o17 _ _ _ _ _ _ _ _ _ _ _ _ _ y0 y1 ⟨y1.val, by omega⟩ k' ⟨y1.val % 128, by omega⟩ rfl rfl hk').trans ?_
  exact rotRow m c t y0 _ _ k' _ 512 _ rfl (by dsimp only; omega) hk' (d_kva m c t y0 _) (d_kva m c t y0 k')
theorem w18 : (dats m 0 c).arrAt 18 cfg0.N = fun y => row m c ((y 0).val / 8) ((y 0).val % 8) (2632 + (y 1).val) := by
  refine (dats m 0 c).arrAt_eq_of_covers 18 _ (by decide +kernel) fun t hf y => ?_
  blk_simp
  rw [after0_18]
  idx_vars y
  have e0 : win0_18.index t 0 * 256 + y0.val = y0.val := by rw [i18 t]; simp
  have e1 : win0_18.index t 1 * 512 + y1.val = y1.val := by rw [i18 t]; simp
  rw [e0, e1]
  refine (o18 _ _ _ _ _ _ _ _ _ _ _ _ _ y0 y1 ⟨y1.val, by omega⟩ rfl).trans ?_
  exact d_kvb m c t y0 _
theorem w19 : (dats m 0 c).arrAt 19 cfg0.N = fun y => small (row m c ((y 0).val / 8) ((y 0).val % 8)) (posS ((y 0).val % 8)) (y 1).val := by
  refine (dats m 0 c).arrAt_eq_of_covers 19 _ (by decide +kernel) fun t hf y => ?_
  blk_simp
  rw [after0_19]
  idx_vars y
  have e0 : win0_19.index t 0 * 256 + y0.val = y0.val := by rw [i19 t]; simp
  have e1 : win0_19.index t 1 * 128 + y1.val = y1.val := by rw [i19 t]; simp
  rw [e0, e1]
  obtain ⟨k', hk'⟩ := small_ex y1
  refine (o19 _ _ _ _ _ _ _ _ _ _ _ _ _ y0 y1 k' hk').trans ?_
  exact smallRow m c t y0 y1 k' hk'
theorem w20 : (dats m 0 c).arrAt 20 cfg0.N = fun y => sig (row m c ((y 0).val / 8) ((y 0).val % 8) (3656 + (y 1).val)) := by
  refine (dats m 0 c).arrAt_eq_of_covers 20 _ (by decide +kernel) fun t hf y => ?_
  blk_simp
  rw [after0_20]
  idx_vars y
  have e0 : win0_20.index t 0 * 256 + y0.val = y0.val := by rw [i20 t]; simp
  have e1 : win0_20.index t 1 * 1024 + y1.val = y1.val := by rw [i20 t]; simp
  rw [e0, e1]
  refine (o20 _ _ _ _ _ _ _ _ _ _ _ _ _ y0 y1 ⟨0 + y1.val, by omega⟩ (by simp)).trans ?_
  rw [d_ga, sig_eq]
  exact congrArg (fun n => sig (row m c _ _ n)) (by dsimp only; omega)
theorem w21 : (dats m 0 c).arrAt 21 cfg0.N = fun y => sig (row m c ((y 0).val / 8) ((y 0).val % 8) (4680 + (y 1).val)) := by
  refine (dats m 0 c).arrAt_eq_of_covers 21 _ (by decide +kernel) fun t hf y => ?_
  blk_simp
  rw [after0_21]
  idx_vars y
  have e0 : win0_21.index t 0 * 256 + y0.val = y0.val := by rw [i21 t]; simp
  have e1 : win0_21.index t 1 * 1024 + y1.val = y1.val := by rw [i21 t]; simp
  rw [e0, e1]
  refine (o21 _ _ _ _ _ _ _ _ _ _ _ _ _ y0 y1 ⟨1024 + y1.val, by omega⟩ (by rfl)).trans ?_
  rw [d_ga, sig_eq]
  exact congrArg (fun n => sig (row m c _ _ n)) (by dsimp only; omega)
theorem w22 : (dats m 0 c).arrAt 22 cfg0.N = fun y => kvA (row m c ((y 0).val / 8) ((y 0).val % 8)) (posS ((y 0).val % 8)) (y 1).val := by
  refine (dats m 0 c).arrAt_eq_of_covers 22 _ (by decide +kernel) fun t hf y => ?_
  blk_simp
  rw [after0_22]
  idx_vars y
  have e0 : win0_22.index t 0 * 256 + y0.val = y0.val := by rw [i22 t]; simp
  have e1 : win0_22.index t 1 * 1024 + y1.val = y1.val := by rw [i22 t]; simp
  rw [e0, e1]
  unfold kvA
  by_cases h : y1.val < 512
  · rw [if_pos h]
    obtain ⟨k', hk'⟩ := partner_ex 1024 rfl y1
    refine (o22 _ _ _ _ _ _ _ _ _ _ _ _ _ y0 y1 k' ⟨y1.val % 128, by omega⟩ h rfl hk').trans ?_
    exact rotRow m c t y0 _ _ k' _ 512 _ rfl (by dsimp only; omega) hk' (d_kva m c t y0 _) (d_kva m c t y0 k')
  · rw [if_neg h]
    refine (o22v _ _ _ _ _ _ _ _ _ _ _ _ _ y0 y1 h).trans ?_
    exact d_kva m c t y0 y1
theorem w23 : (dats m 0 c).arrAt 23 cfg0.N = fun y => row m c ((y 0).val / 8) ((y 0).val % 8) (2632 + (y 1).val) := by
  refine (dats m 0 c).arrAt_eq_of_covers 23 _ (by decide +kernel) fun t hf y => ?_
  blk_simp
  rw [after0_23]
  idx_vars y
  have e0 : win0_23.index t 0 * 256 + y0.val = y0.val := by rw [i23 t]; simp
  have e1 : win0_23.index t 1 * 1024 + y1.val = y1.val := by rw [i23 t]; simp
  rw [e0, e1]
  refine (o23 _ _ _ _ _ _ _ _ _ _ _ _ _ y0 y1).trans ?_
  exact d_kvb m c t y0 y1

end Cert.Proof.InSVal

end

end
-- ==== Proof.InSRefVal.lean ====
module

public import proofs.«01_k».proof.Proof.Gen.InSRefIdeal.Run
public import proofs.«01_k».proof.Proof.InSpec
public import Idealize.ShloMosaic.Lib.Pointwise

/-! The reference's result arrays, each equal to its array of row values, and its run ending in them. -/

@[expose] public section

set_option maxRecDepth 16384
set_option maxHeartbeats 2000000

noncomputable section

namespace Cert.Proof.InSRefVal

open Cert.InSRefIdeal Cert.InSRefIdeal.Gen Cert.InSRefIdeal.Value Cert.Proof.InSpec
open Idealize.ShloMosaic Idealize.ShloMosaic.TcCoe Idealize.ShloMosaic.StableHlo

/-- The projected row of a token, from the program's arguments. -/
def row (V0 : Valuation τ sig (Elt Ideal)) (b s : ℕ) : ℕ → EReal :=
  rowP (B := 32) (S := 8) (V0 (Proc.devRef .tc main_arg0)) (V0 (Proc.devRef .tc main_arg1)) (V0 (Proc.devRef .tc main_arg2))
    (V0 (Proc.devRef .tc main_arg3)) (V0 (Proc.devRef .tc main_arg4)) b s

variable (V0 : Valuation τ sig (Elt Ideal))

theorem r20 (b : Fin 32) (s : Fin 8) (c : Fin 5704) : res_main_v22 (F := Ideal) V0 (ix3 b s c) = row V0 b.val s.val c.val := by
  unfold row rowP colN
  rw [dif_pos c.isLt, Fin.ofNat_val_eq_self, Fin.ofNat_val_eq_self]
  pointwise [res_main_v22]
  rfl
theorem ang_qa (s : Fin 8) (i : Fin 32) : res_main_v46 (F := Ideal) V0 (ix2 s i) = ang (posS s.val) i.val := by
  pointwise [res_main_v46, res_main_v2]
  rfl
theorem cos_qa (s : Fin 8) (i : Fin 32) : res_main_v48 (F := Ideal) V0 (ix4 0 s 0 i) = Ideal.cos (ang (posS s.val) i.val) := by
  pointwise [res_main_v48]
  rw [ang_qa]
theorem sin_qa (s : Fin 8) (i : Fin 32) : res_main_v50 (F := Ideal) V0 (ix4 0 s 0 i) = Ideal.sin (ang (posS s.val) i.val) := by
  pointwise [res_main_v50]
  rw [ang_qa]
theorem heads_qa (b : Fin 32) (s : Fin 8) (h : Fin 8) (j : Fin 64) : res_main_v34 (F := Ideal) V0 (ix4 b s h j) = row V0 b.val s.val (0 + (h.val * 64 + j.val)) := by
  pointwise [res_main_v34]
  rw [r20]
theorem lo_qa (b : Fin 32) (s : Fin 8) (h : Fin 8) (j : Fin 32) : res_main_v51 (F := Ideal) V0 (ix4 b s h j) = row V0 b.val s.val (0 + (h.val * 64 + j.val)) := by
  pointwise [res_main_v51]
  rw [heads_qa]
  exact congrArg (row V0 _ _) (by dsimp only; omega)
theorem hi_qa (b : Fin 32) (s : Fin 8) (h : Fin 8) (j : Fin 32) : res_main_v52 (F := Ideal) V0 (ix4 b s h j) = row V0 b.val s.val (0 + (h.val * 64 + (32 + j.val))) := by
  pointwise [res_main_v52]
  rw [heads_qa]
  exact congrArg (row V0 _ _) (by dsimp only; omega)
theorem ang_ka (s : Fin 8) (i : Fin 32) : res_main_v76 (F := Ideal) V0 (ix2 s i) = ang (posS s.val) i.val := by
  pointwise [res_main_v76, res_main_v2]
  rfl
theorem cos_ka (s : Fin 8) (i : Fin 32) : res_main_v78 (F := Ideal) V0 (ix4 0 s 0 i) = Ideal.cos (ang (posS s.val) i.val) := by
  pointwise [res_main_v78]
  rw [ang_ka]
theorem sin_ka (s : Fin 8) (i : Fin 32) : res_main_v80 (F := Ideal) V0 (ix4 0 s 0 i) = Ideal.sin (ang (posS s.val) i.val) := by
  pointwise [res_main_v80]
  rw [ang_ka]
theorem heads_ka (b : Fin 32) (s : Fin 8) (h : Fin 8) (j : Fin 64) : res_main_v64 (F := Ideal) V0 (ix4 b s h j) = row V0 b.val s.val (512 + (h.val * 64 + j.val)) := by
  pointwise [res_main_v64]
  rw [r20]
theorem lo_ka (b : Fin 32) (s : Fin 8) (h : Fin 8) (j : Fin 32) : res_main_v81 (F := Ideal) V0 (ix4 b s h j) = row V0 b.val s.val (512 + (h.val * 64 + j.val)) := by
  pointwise [res_main_v81]
  rw [heads_ka]
theorem hi_ka (b : Fin 32) (s : Fin 8) (h : Fin 8) (j : Fin 32) : res_main_v82 (F := Ideal) V0 (ix4 b s h j) = row V0 b.val s.val (512 + (h.val * 64 + (32 + j.val))) := by
  pointwise [res_main_v82]
  rw [heads_ka]
theorem rope_ka (b : Fin 32) (s : Fin 8) (h : Fin 8) (j : Fin 64) : res_main_v93 (F := Ideal) V0 (ix4 b s h j) = rotE (row V0 b.val s.val) (posS s.val) 512 (h.val * 64 + j.val) := by
  pointwise [res_main_v93]
  rw [← rope_eq _ _ _ _ _ j.isLt]
  simp only [lo_ka, hi_ka, cos_ka, sin_ka, dite_eq_ite]
theorem ang_qi (s : Fin 8) (i : Fin 32) : res_main_v106 (F := Ideal) V0 (ix2 s i) = ang (posS s.val) i.val := by
  pointwise [res_main_v106, res_main_v2]
  rfl
theorem cos_qi (s : Fin 8) (i : Fin 32) : res_main_v108 (F := Ideal) V0 (ix4 0 s 0 i) = Ideal.cos (ang (posS s.val) i.val) := by
  pointwise [res_main_v108]
  rw [ang_qi]
theorem sin_qi (s : Fin 8) (i : Fin 32) : res_main_v110 (F := Ideal) V0 (ix4 0 s 0 i) = Ideal.sin (ang (posS s.val) i.val) := by
  pointwise [res_main_v110]
  rw [ang_qi]
theorem heads_qi (b : Fin 32) (s : Fin 8) (h : Fin 8) (j : Fin 64) : res_main_v94 (F := Ideal) V0 (ix4 b s h j) = row V0 b.val s.val (1536 + (h.val * 64 + j.val)) := by
  pointwise [res_main_v94]
  rw [r20]
theorem lo_qi (b : Fin 32) (s : Fin 8) (h : Fin 8) (j : Fin 32) : res_main_v111 (F := Ideal) V0 (ix4 b s h j) = row V0 b.val s.val (1536 + (h.val * 64 + j.val)) := by
  pointwise [res_main_v111]
  rw [heads_qi]
theorem hi_qi (b : Fin 32) (s : Fin 8) (h : Fin 8) (j : Fin 32) : res_main_v112 (F := Ideal) V0 (ix4 b s h j) = row V0 b.val s.val (1536 + (h.val * 64 + (32 + j.val))) := by
  pointwise [res_main_v112]
  rw [heads_qi]
theorem ang_ki (s : Fin 8) (i : Fin 32) : res_main_v136 (F := Ideal) V0 (ix2 s i) = ang (posS s.val) i.val := by
  pointwise [res_main_v136, res_main_v2]
  rfl
theorem cos_ki (s : Fin 8) (i : Fin 32) : res_main_v138 (F := Ideal) V0 (ix4 0 s 0 i) = Ideal.cos (ang (posS s.val) i.val) := by
  pointwise [res_main_v138]
  rw [ang_ki]
theorem sin_ki (s : Fin 8) (i : Fin 32) : res_main_v140 (F := Ideal) V0 (ix4 0 s 0 i) = Ideal.sin (ang (posS s.val) i.val) := by
  pointwise [res_main_v140]
  rw [ang_ki]
theorem lo_ki (b : Fin 32) (s : Fin 8) (j : Fin 32) : res_main_v141 (F := Ideal) V0 (ix4 b s 0 j) = row V0 b.val s.val (2048 + (0 * 64 + j.val)) := by
  pointwise [res_main_v141, res_main_v124]
  rw [r20]
theorem hi_ki (b : Fin 32) (s : Fin 8) (j : Fin 32) : res_main_v142 (F := Ideal) V0 (ix4 b s 0 j) = row V0 b.val s.val (2048 + (0 * 64 + (32 + j.val))) := by
  pointwise [res_main_v142, res_main_v124]
  rw [r20]
theorem heads_kb (b : Fin 32) (s : Fin 8) (h : Fin 8) (j : Fin 64) : res_main_v157 (F := Ideal) V0 (ix4 b s h j) = row V0 b.val s.val (2632 + (h.val * 64 + j.val)) := by
  pointwise [res_main_v157]
  rw [r20]
theorem r163 : (val4 (F := Ideal) V0 (Proc.devRef .tc main_v163) : Vec Ideal S256x512 .bf16) = fun y => rotE (row V0 ((y 0).val / 8) ((y 0).val % 8)) (posS ((y 0).val % 8)) 0 (y 1).val := by
  refine (val4_main_v163 (F := Ideal) V0).trans ?_
  funext y
  idx_vars y
  pointwise []
  refine Eq.trans ?_ ((rope_eq (row V0 (y0.val / 8) (y0.val % 8)) (posS (y0.val % 8)) 0 (y1.val / 64) (y1.val % 64) (by omega)).trans (congrArg (rotE _ _ 0) (by omega)))
  simp only [lo_qa, hi_qa, cos_qa, sin_qa, dite_eq_ite]
theorem r165 : (val4 (F := Ideal) V0 (Proc.devRef .tc main_v165) : Vec Ideal S256x512 .bf16) = fun y => rotE (row V0 ((y 0).val / 8) ((y 0).val % 8)) (posS ((y 0).val % 8)) 1536 (y 1).val := by
  refine (val4_main_v165 (F := Ideal) V0).trans ?_
  funext y
  idx_vars y
  pointwise []
  refine Eq.trans ?_ ((rope_eq (row V0 (y0.val / 8) (y0.val % 8)) (posS (y0.val % 8)) 1536 (y1.val / 64) (y1.val % 64) (by omega)).trans (congrArg (rotE _ _ 1536) (by omega)))
  simp only [lo_qi, hi_qi, cos_qi, sin_qi, dite_eq_ite]
theorem r167 : (val4 (F := Ideal) V0 (Proc.devRef .tc main_v167) : Vec Ideal S256x512 .bf16) = fun y => row V0 ((y 0).val / 8) ((y 0).val % 8) (2120 + (y 1).val) := by
  refine (val4_main_v167 (F := Ideal) V0).trans ?_
  funext y
  idx_vars y
  pointwise []
  rw [r20]
theorem r161 : (val4 (F := Ideal) V0 (Proc.devRef .tc main_v161) : Vec Ideal S256x128 .f32) = fun y => small (row V0 ((y 0).val / 8) ((y 0).val % 8)) (posS ((y 0).val % 8)) (y 1).val := by
  refine (val4_main_v161 (F := Ideal) V0).trans ?_
  funext y
  idx_vars y
  pointwise []
  unfold small
  by_cases h : y1.val < 64
  · rw [dif_pos h, if_pos h]
    refine Eq.trans ?_ ((rope_eq (row V0 (y0.val / 8) (y0.val % 8)) (posS (y0.val % 8)) 2048 0 y1.val h).trans (congrArg (rotE _ _ 2048) (by omega)))
    simp only [lo_ki, hi_ki, cos_ki, sin_ki, dite_eq_ite]
  · rw [dif_neg h, if_neg h]
    by_cases h2 : y1.val < 72
    · rw [dif_pos (by omega : y1.val - 64 < 8), if_pos h2, r20]
      exact congrArg (row V0 _ _) (by dsimp only; omega)
    · rw [dif_neg (by omega : ¬ y1.val - 64 < 8), if_neg h2]
theorem r169 : (val4 (F := Ideal) V0 (Proc.devRef .tc main_v169) : Vec Ideal S256x512 .bf16) = fun y => rotE (row V0 ((y 0).val / 8) ((y 0).val % 8)) (posS ((y 0).val % 8)) 512 (y 1).val := by
  refine (val4_main_v169 (F := Ideal) V0).trans ?_
  funext y
  idx_vars y
  pointwise []
  rw [rope_ka]
  exact congrArg (rotE _ _ 512) (by dsimp only; omega)
theorem r171 : (val4 (F := Ideal) V0 (Proc.devRef .tc main_v171) : Vec Ideal S256x512 .bf16) = fun y => row V0 ((y 0).val / 8) ((y 0).val % 8) (2632 + (y 1).val) := by
  refine (val4_main_v171 (F := Ideal) V0).trans ?_
  funext y
  idx_vars y
  pointwise []
  rw [heads_kb]
  exact congrArg (row V0 _ _) (by dsimp only; omega)
theorem r172 : (val4 (F := Ideal) V0 (Proc.devRef .tc main_v172) : Vec Ideal S256x128 .bf16) = fun y => small (row V0 ((y 0).val / 8) ((y 0).val % 8)) (posS ((y 0).val % 8)) (y 1).val := by
  refine (val4_main_v172 (F := Ideal) V0).trans ?_
  funext y
  idx_vars y
  pointwise []
  unfold small
  by_cases h : y1.val < 64
  · rw [dif_pos h, if_pos h]
    refine Eq.trans ?_ ((rope_eq (row V0 (y0.val / 8) (y0.val % 8)) (posS (y0.val % 8)) 2048 0 y1.val h).trans (congrArg (rotE _ _ 2048) (by omega)))
    simp only [lo_ki, hi_ki, cos_ki, sin_ki, dite_eq_ite]
  · rw [dif_neg h, if_neg h]
    by_cases h2 : y1.val < 72
    · rw [dif_pos (by omega : y1.val - 64 < 8), if_pos h2, r20]
      exact congrArg (row V0 _ _) (by dsimp only; omega)
    · rw [dif_neg (by omega : ¬ y1.val - 64 < 8), if_neg h2]
theorem r179 : (val4 (F := Ideal) V0 (Proc.devRef .tc main_v179) : Vec Ideal S256x1024 .f32) = fun y => sig (row V0 ((y 0).val / 8) ((y 0).val % 8) (3656 + (y 1).val)) := by
  refine (val4_main_v179 (F := Ideal) V0).trans ?_
  funext y
  idx_vars y
  pointwise []
  rw [r20]
  rfl
theorem r186 : (val4 (F := Ideal) V0 (Proc.devRef .tc main_v186) : Vec Ideal S256x1024 .f32) = fun y => sig (row V0 ((y 0).val / 8) ((y 0).val % 8) (4680 + (y 1).val)) := by
  refine (val4_main_v186 (F := Ideal) V0).trans ?_
  funext y
  idx_vars y
  pointwise []
  rw [r20]
  rfl
theorem r190 : (val4 (F := Ideal) V0 (Proc.devRef .tc main_v190) : Vec Ideal S256x1024 .f32) = fun y => kvA (row V0 ((y 0).val / 8) ((y 0).val % 8)) (posS ((y 0).val % 8)) (y 1).val := by
  refine (val4_main_v190 (F := Ideal) V0).trans ?_
  funext y
  idx_vars y
  pointwise []
  unfold kvA
  by_cases h : y1.val < 512
  · rw [dif_pos (by omega : y1.val / 512 < 1), if_pos h, rope_ka]
    exact congrArg (rotE _ _ 512) (by dsimp only; omega)
  · rw [dif_neg (by omega : ¬ y1.val / 512 < 1), if_neg h, r20]
    exact congrArg (row V0 _ _) (by dsimp only; omega)
theorem r194 : (val4 (F := Ideal) V0 (Proc.devRef .tc main_v194) : Vec Ideal S256x1024 .f32) = fun y => row V0 ((y 0).val / 8) ((y 0).val % 8) (2632 + (y 1).val) := by
  refine (val4_main_v194 (F := Ideal) V0).trans ?_
  funext y
  idx_vars y
  pointwise []
  by_cases h : y1.val < 512
  · rw [dif_pos (by omega : y1.val / 512 < 1), heads_kb]
    exact congrArg (row V0 _ _) (by dsimp only; omega)
  · rw [dif_neg (by omega : ¬ y1.val / 512 < 1), r20]
    exact congrArg (row V0 _ _) (by dsimp only; omega)

/-- The reference's run, with its results as arrays of row values. -/
theorem run_row (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v163) = (fun y => rotE (row (launchContents m c) ((y 0).val / 8) ((y 0).val % 8)) (posS ((y 0).val % 8)) 0 (y 1).val : Vec Ideal S256x512 .bf16)
      ∧ r.2.mem ((c.tc : Thread nD τ).loc main_v165) = (fun y => rotE (row (launchContents m c) ((y 0).val / 8) ((y 0).val % 8)) (posS ((y 0).val % 8)) 1536 (y 1).val : Vec Ideal S256x512 .bf16)
      ∧ r.2.mem ((c.tc : Thread nD τ).loc main_v167) = (fun y => row (launchContents m c) ((y 0).val / 8) ((y 0).val % 8) (2120 + (y 1).val) : Vec Ideal S256x512 .bf16)
      ∧ r.2.mem ((c.tc : Thread nD τ).loc main_v161) = (fun y => small (row (launchContents m c) ((y 0).val / 8) ((y 0).val % 8)) (posS ((y 0).val % 8)) (y 1).val : Vec Ideal S256x128 .f32)
      ∧ r.2.mem ((c.tc : Thread nD τ).loc main_v169) = (fun y => rotE (row (launchContents m c) ((y 0).val / 8) ((y 0).val % 8)) (posS ((y 0).val % 8)) 512 (y 1).val : Vec Ideal S256x512 .bf16)
      ∧ r.2.mem ((c.tc : Thread nD τ).loc main_v171) = (fun y => row (launchContents m c) ((y 0).val / 8) ((y 0).val % 8) (2632 + (y 1).val) : Vec Ideal S256x512 .bf16)
      ∧ r.2.mem ((c.tc : Thread nD τ).loc main_v172) = (fun y => small (row (launchContents m c) ((y 0).val / 8) ((y 0).val % 8)) (posS ((y 0).val % 8)) (y 1).val : Vec Ideal S256x128 .bf16)
      ∧ r.2.mem ((c.tc : Thread nD τ).loc main_v179) = (fun y => sig (row (launchContents m c) ((y 0).val / 8) ((y 0).val % 8) (3656 + (y 1).val)) : Vec Ideal S256x1024 .f32)
      ∧ r.2.mem ((c.tc : Thread nD τ).loc main_v186) = (fun y => sig (row (launchContents m c) ((y 0).val / 8) ((y 0).val % 8) (4680 + (y 1).val)) : Vec Ideal S256x1024 .f32)
      ∧ r.2.mem ((c.tc : Thread nD τ).loc main_v190) = (fun y => kvA (row (launchContents m c) ((y 0).val / 8) ((y 0).val % 8)) (posS ((y 0).val % 8)) (y 1).val : Vec Ideal S256x1024 .f32)
      ∧ r.2.mem ((c.tc : Thread nD τ).loc main_v194) = (fun y => row (launchContents m c) ((y 0).val / 8) ((y 0).val % 8) (2632 + (y 1).val) : Vec Ideal S256x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v163).trans ((congrFun (after_ops (launchContents m c)) (Proc.devRef .tc main_v163)).trans (r163 (launchContents m c))),
      (h c main_v165).trans ((congrFun (after_ops (launchContents m c)) (Proc.devRef .tc main_v165)).trans (r165 (launchContents m c))),
      (h c main_v167).trans ((congrFun (after_ops (launchContents m c)) (Proc.devRef .tc main_v167)).trans (r167 (launchContents m c))),
      (h c main_v161).trans ((congrFun (after_ops (launchContents m c)) (Proc.devRef .tc main_v161)).trans (r161 (launchContents m c))),
      (h c main_v169).trans ((congrFun (after_ops (launchContents m c)) (Proc.devRef .tc main_v169)).trans (r169 (launchContents m c))),
      (h c main_v171).trans ((congrFun (after_ops (launchContents m c)) (Proc.devRef .tc main_v171)).trans (r171 (launchContents m c))),
      (h c main_v172).trans ((congrFun (after_ops (launchContents m c)) (Proc.devRef .tc main_v172)).trans (r172 (launchContents m c))),
      (h c main_v179).trans ((congrFun (after_ops (launchContents m c)) (Proc.devRef .tc main_v179)).trans (r179 (launchContents m c))),
      (h c main_v186).trans ((congrFun (after_ops (launchContents m c)) (Proc.devRef .tc main_v186)).trans (r186 (launchContents m c))),
      (h c main_v190).trans ((congrFun (after_ops (launchContents m c)) (Proc.devRef .tc main_v190)).trans (r190 (launchContents m c))),
      (h c main_v194).trans ((congrFun (after_ops (launchContents m c)) (Proc.devRef .tc main_v194)).trans (r194 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c)))⟩)
    (run_seq scopedRefs_eq scopedSems_eq defs main (fun _ => ops) main_eq (fun _ => ops_sub) m ρ fun _ => ops_fresh)

end Cert.Proof.InSRefVal

end

end
-- ==== Proof.InSClaim.lean ====
module

public import proofs.«01_k».proof.Defs
public import proofs.«01_k».proof.Proof.InSVal
public import proofs.«01_k».proof.Proof.InSRefVal

/-! The kernel's run and the reference's end in the same arrays of row values. -/

@[expose] public section

set_option maxRecDepth 16384
set_option maxHeartbeats 2000000

noncomputable section

namespace Cert.Proof.InSClaim

open Idealize.ShloMosaic Idealize.ShloMosaic.TcCoe Idealize.ShloMosaic.StableHlo Cert.Proof.InSpec

section Kernel

open Cert.InSIdeal Cert.InSIdeal.Gen Cert.Proof.InSRun Cert.Proof.InSVal

/-- The kernel's run, with its results as arrays of row values. -/
theorem run_row (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57_0) = (fun y => rotE (row m c ((y 0).val / 8) ((y 0).val % 8)) (posS ((y 0).val % 8)) 0 (y 1).val : Vec Ideal S256x512 .bf16)
      ∧ r.2.mem ((c.tc : Thread nD τ).loc main_v57_1) = (fun y => rotE (row m c ((y 0).val / 8) ((y 0).val % 8)) (posS ((y 0).val % 8)) 1536 (y 1).val : Vec Ideal S256x512 .bf16)
      ∧ r.2.mem ((c.tc : Thread nD τ).loc main_v57_2) = (fun y => row m c ((y 0).val / 8) ((y 0).val % 8) (2120 + (y 1).val) : Vec Ideal S256x512 .bf16)
      ∧ r.2.mem ((c.tc : Thread nD τ).loc main_v57_3) = (fun y => small (row m c ((y 0).val / 8) ((y 0).val % 8)) (posS ((y 0).val % 8)) (y 1).val : Vec Ideal S256x128 .f32)
      ∧ r.2.mem ((c.tc : Thread nD τ).loc main_v57_4) = (fun y => rotE (row m c ((y 0).val / 8) ((y 0).val % 8)) (posS ((y 0).val % 8)) 512 (y 1).val : Vec Ideal S256x512 .bf16)
      ∧ r.2.mem ((c.tc : Thread nD τ).loc main_v57_5) = (fun y => row m c ((y 0).val / 8) ((y 0).val % 8) (2632 + (y 1).val) : Vec Ideal S256x512 .bf16)
      ∧ r.2.mem ((c.tc : Thread nD τ).loc main_v57_6) = (fun y => small (row m c ((y 0).val / 8) ((y 0).val % 8)) (posS ((y 0).val % 8)) (y 1).val : Vec Ideal S256x128 .bf16)
      ∧ r.2.mem ((c.tc : Thread nD τ).loc main_v57_7) = (fun y => sig (row m c ((y 0).val / 8) ((y 0).val % 8) (3656 + (y 1).val)) : Vec Ideal S256x1024 .f32)
      ∧ r.2.mem ((c.tc : Thread nD τ).loc main_v57_8) = (fun y => sig (row m c ((y 0).val / 8) ((y 0).val % 8) (4680 + (y 1).val)) : Vec Ideal S256x1024 .f32)
      ∧ r.2.mem ((c.tc : Thread nD τ).loc main_v57_9) = (fun y => kvA (row m c ((y 0).val / 8) ((y 0).val % 8)) (posS ((y 0).val % 8)) (y 1).val : Vec Ideal S256x1024 .f32)
      ∧ r.2.mem ((c.tc : Thread nD τ).loc main_v57_10) = (fun y => row m c ((y 0).val / 8) ((y 0).val % 8) (2632 + (y 1).val) : Vec Ideal S256x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 13).trans (w13 m c),
      ((h.1 c).1 14).trans (w14 m c),
      ((h.1 c).1 15).trans (w15 m c),
      ((h.1 c).1 16).trans (w16 m c),
      ((h.1 c).1 17).trans (w17 m c),
      ((h.1 c).1 18).trans (w18 m c),
      ((h.1 c).1 19).trans (w19 m c),
      ((h.1 c).1 20).trans (w20 m c),
      ((h.1 c).1 21).trans (w21 m c),
      ((h.1 c).1 22).trans (w22 m c),
      ((h.1 c).1 23).trans (w23 m c),
      h.2 c⟩)
    (θ_run_and (run_main m ρ) (unchanged m ρ))

end Kernel

section Both

open Cert

/-- Equal arguments have equal rows. -/
theorem row_eq (m : (ℓ : Loc InSIdeal.nD InSIdeal.τ InSIdeal.sig) → Buf (Elt Ideal) ℓ)
    (m' : (ℓ : Loc InSRefIdeal.nD InSRefIdeal.τ InSRefIdeal.sig) → Buf (Elt Ideal) ℓ) (c : Dev InSIdeal.nD)
    (h : m' ((c.tc : Thread InSRefIdeal.nD InSRefIdeal.τ).loc InSRefIdeal.main_arg0) = m ((c.tc : Thread InSIdeal.nD InSIdeal.τ).loc InSIdeal.main_arg0)
      ∧ m' ((c.tc : Thread InSRefIdeal.nD InSRefIdeal.τ).loc InSRefIdeal.main_arg1) = m ((c.tc : Thread InSIdeal.nD InSIdeal.τ).loc InSIdeal.main_arg1)
      ∧ m' ((c.tc : Thread InSRefIdeal.nD InSRefIdeal.τ).loc InSRefIdeal.main_arg2) = m ((c.tc : Thread InSIdeal.nD InSIdeal.τ).loc InSIdeal.main_arg2)
      ∧ m' ((c.tc : Thread InSRefIdeal.nD InSRefIdeal.τ).loc InSRefIdeal.main_arg3) = m ((c.tc : Thread InSIdeal.nD InSIdeal.τ).loc InSIdeal.main_arg3)
      ∧ m' ((c.tc : Thread InSRefIdeal.nD InSRefIdeal.τ).loc InSRefIdeal.main_arg4) = m ((c.tc : Thread InSIdeal.nD InSIdeal.τ).loc InSIdeal.main_arg4)) :
    InSRefVal.row (launchContents m' c) = InSVal.row m c := by
  funext b s
  obtain ⟨h0, h1, h2, h3, h4⟩ := h
  unfold InSRefVal.row InSVal.row
  rw [← h0, ← h1, ← h2, ← h3, ← h4]

theorem algebraic : algebraic_InSIdeal_InSRefIdeal := fun m g m' g' _ hargs => by
  refine ⟨fun c => (fun y => rotE (InSVal.row m c ((y 0).val / 8) ((y 0).val % 8)) (posS ((y 0).val % 8)) 0 (y 1).val : Vec Ideal InSIdeal.S256x512 .bf16),
    fun c => (fun y => rotE (InSVal.row m c ((y 0).val / 8) ((y 0).val % 8)) (posS ((y 0).val % 8)) 1536 (y 1).val : Vec Ideal InSIdeal.S256x512 .bf16),
    fun c => (fun y => InSVal.row m c ((y 0).val / 8) ((y 0).val % 8) (2120 + (y 1).val) : Vec Ideal InSIdeal.S256x512 .bf16),
    fun c => (fun y => small (InSVal.row m c ((y 0).val / 8) ((y 0).val % 8)) (posS ((y 0).val % 8)) (y 1).val : Vec Ideal InSIdeal.S256x128 .f32),
    fun c => (fun y => rotE (InSVal.row m c ((y 0).val / 8) ((y 0).val % 8)) (posS ((y 0).val % 8)) 512 (y 1).val : Vec Ideal InSIdeal.S256x512 .bf16),
    fun c => (fun y => InSVal.row m c ((y 0).val / 8) ((y 0).val % 8) (2632 + (y 1).val) : Vec Ideal InSIdeal.S256x512 .bf16),
    fun c => (fun y => small (InSVal.row m c ((y 0).val / 8) ((y 0).val % 8)) (posS ((y 0).val % 8)) (y 1).val : Vec Ideal InSIdeal.S256x128 .bf16),
    fun c => (fun y => sig (InSVal.row m c ((y 0).val / 8) ((y 0).val % 8) (3656 + (y 1).val)) : Vec Ideal InSIdeal.S256x1024 .f32),
    fun c => (fun y => sig (InSVal.row m c ((y 0).val / 8) ((y 0).val % 8) (4680 + (y 1).val)) : Vec Ideal InSIdeal.S256x1024 .f32),
    fun c => (fun y => kvA (InSVal.row m c ((y 0).val / 8) ((y 0).val % 8)) (posS ((y 0).val % 8)) (y 1).val : Vec Ideal InSIdeal.S256x1024 .f32),
    fun c => (fun y => InSVal.row m c ((y 0).val / 8) ((y 0).val % 8) (2632 + (y 1).val) : Vec Ideal InSIdeal.S256x1024 .f32), run_row m g, (θ_run _ _ _).mono (fun r h c => ?_) (InSRefVal.run_row m' g')⟩
  have e := row_eq m m' c (hargs c)
  have hc := h c
  rw [e] at hc
  exact hc

end Both

/-- The reference's run leaves its arguments as they were, and no counter raised. -/
theorem frame_ref : quiescent_InSRefIdeal := fun m g _ =>
  (θ_run _ _ _).mono (fun r h => ⟨fun c => (h c).2.2.2.2.2.2.2.2.2.2.2, sem_eq_zero_of_no_sems rfl r.2⟩) (InSRefVal.run_row m g)

end Cert.Proof.InSClaim

end

end
-- ==== Proof.SbMath.lean ====
module

public import Idealize.ShloMosaic.Lib.Pointwise
public import Idealize.ShloMosaic.Lib.Tactic

/-! Stick-breaking weights of one query over the keys before it, in real numbers, and how they grow by a chunk of keys. -/

@[expose] public section

noncomputable section

namespace Cert.Proof.SbMath

open Idealize.ShloMosaic

/-- The logarithm of one plus the exponential of minus the absolute score. -/
def lg (x : ℝ) : ℝ := Real.log (1 + Real.exp (-|x|))
/-- The logarithm of the chance to pass a key by. -/
def lkR (x : ℝ) : ℝ := min (-x) 0 - lg x
/-- The logarithm of the chance to stop at a key. -/
def lbR (x : ℝ) : ℝ := min x 0 - lg x

variable (Z : ℕ → ℝ) (t : ℕ) (v : ℕ → EReal)

/-- The same, of keys before the query. -/
def lkm (j : ℕ) : ℝ := if j < t then lkR (Z j) else 0
/-- The sum from key `a` on. -/
def suf (a : ℕ) : ℝ := ∑ j ∈ Finset.Ico a 4096, lkm Z t j
/-- The weight of a key. -/
def wt (s : ℕ) : ℝ := if s < t then Real.exp (lbR (Z s) + suf Z t (s + 1)) else 0
/-- The weighted values from key `a` on. -/
def acc (a : ℕ) : EReal := ∑ s ∈ Finset.Ico a 4096, v s * ((wt Z t s : ℝ) : EReal)

theorem suf_succ (a : ℕ) (h : a < 4096) : suf Z t a = lkm Z t a + suf Z t (a + 1) := by
  unfold suf
  rw [Finset.sum_eq_sum_Ico_succ_bot h]

theorem suf_past (a : ℕ) (h : t ≤ a) : suf Z t a = 0 := by
  unfold suf
  refine Finset.sum_eq_zero fun j hj => ?_
  have := (Finset.mem_Ico.mp hj).1
  unfold lkm
  rw [if_neg (by omega)]

theorem acc_past (a : ℕ) (h : t ≤ a) : acc Z t v a = 0 := by
  unfold acc
  refine Finset.sum_eq_zero fun j hj => ?_
  have := (Finset.mem_Ico.mp hj).1
  unfold wt
  rw [if_neg (by omega), EReal.coe_zero, mul_zero]

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_chunk {M : Type} [AddCommMonoid M] (f : ℕ → M) (a b n : ℕ) (h : a + n ≤ b) :
    ∑ j ∈ Finset.Ico a b, f j = ∑ j : Fin n, f (a + j.val) + ∑ j ∈ Finset.Ico (a + n) b, f j := by
  rw [← Finset.sum_Ico_consecutive f (Nat.le_add_right a n) h]
  congr 1
  rw [Finset.sum_Ico_eq_sum_range, Nat.add_sub_cancel_left, Finset.sum_range]

/-- The carry grows by a chunk. -/
theorem suf_chunk (a : ℕ) (h : a + 256 ≤ 4096) :
    ((suf Z t (a + 256) : ℝ) : EReal) + ∑ j : Fin 256, ((lkm Z t (a + j.val) : ℝ) : EReal) = ((suf Z t a : ℝ) : EReal) := by
  rw [← coe_sum, ← EReal.coe_add]
  unfold suf
  rw [sum_chunk _ a 4096 256 h, add_comm]

/-- The sum past a key of a chunk: later keys of the chunk, and the carry. -/
theorem suf_within (a : ℕ) (h : a + 256 ≤ 4096) (j : Fin 256) :
    (∑ i : Fin 256, (if j.val < i.val then (1 : EReal) else 0) * ((lkm Z t (a + i.val) : ℝ) : EReal))
      + (∑ i : Fin 256, (if j.val < i.val then (1 : EReal) else 0) * (((lkm Z t (a + i.val) : ℝ) : EReal) - ((lkm Z t (a + i.val) : ℝ) : EReal)))
      + ((suf Z t (a + 256) : ℝ) : EReal) = ((suf Z t (a + j.val + 1) : ℝ) : EReal) := by
  have h2 : (∑ i : Fin 256, (if j.val < i.val then (1 : EReal) else 0) * (((lkm Z t (a + i.val) : ℝ) : EReal) - ((lkm Z t (a + i.val) : ℝ) : EReal))) = 0 := by
    refine Finset.sum_eq_zero fun i _ => ?_
    rw [← EReal.coe_sub, sub_self, EReal.coe_zero, mul_zero]
  have h1 : ∀ i : Fin 256, (if j.val < i.val then (1 : EReal) else 0) * ((lkm Z t (a + i.val) : ℝ) : EReal)
      = (((if a + j.val + 1 ≤ a + i.val then lkm Z t (a + i.val) else 0 : ℝ)) : EReal) := by
    intro i
    by_cases hi : j.val < i.val
    · rw [if_pos hi, if_pos (by omega), one_mul]
    · rw [if_neg hi, if_neg (by omega), zero_mul, EReal.coe_zero]
  rw [h2, add_zero, Finset.sum_congr rfl fun i _ => h1 i, ← coe_sum, ← EReal.coe_add]
  congr 1
  unfold suf
  have e := sum_chunk (fun i => if a + j.val + 1 ≤ i then lkm Z t i else 0) a 4096 256 h
  have hj := j.isLt
  have e2 : ∑ i ∈ Finset.Ico (a + 256) 4096, lkm Z t i = ∑ i ∈ Finset.Ico (a + 256) 4096, (if a + j.val + 1 ≤ i then lkm Z t i else 0) :=
    Finset.sum_congr rfl fun i hi => by rw [if_pos (by have := (Finset.mem_Ico.mp hi).1; omega)]
  rw [e2, ← e, ← Finset.sum_filter]
  congr 1
  ext i
  simp only [Finset.mem_filter, Finset.mem_Ico]
  omega

/-- The accumulator grows by a chunk. -/
theorem acc_chunk (a : ℕ) (h : a + 256 ≤ 4096) :
    acc Z t v (a + 256) + ∑ j : Fin 256, v (a + j.val) * ((wt Z t (a + j.val) : ℝ) : EReal) = acc Z t v a := by
  unfold acc
  rw [sum_chunk _ a 4096 256 h, add_comm]

theorem lgE (r : ℝ) : Ideal.log (1 + Ideal.exp (0 - max (r : EReal) (-(r : EReal)))) = ((lg r : ℝ) : EReal) := by
  have e1 : (0 : EReal) - max (r : EReal) (-(r : EReal)) = ((-|r| : ℝ) : EReal) := by
    rw [← EReal.coe_neg, ← EReal.coe_strictMono.monotone.map_max, zero_sub, ← EReal.coe_neg, abs_eq_max_neg]
  rw [e1, Ideal.exp_coe, ← EReal.coe_one, ← EReal.coe_add, Ideal.log_coe, if_neg (by have := Real.exp_pos (-|r|); linarith)]
  rfl

theorem lkE (r : ℝ) : min (0 - (r : EReal)) 0 - Ideal.log (1 + Ideal.exp (0 - FloatOps.absf (F := Ideal) (φ := .f32) (r : EReal))) = ((lkR r : ℝ) : EReal) := by
  rw [show FloatOps.absf (F := Ideal) (φ := .f32) (r : EReal) = max (r : EReal) (-(r : EReal)) from rfl, lgE, zero_sub, ← EReal.coe_neg, ← EReal.coe_zero,
    ← EReal.coe_strictMono.monotone.map_min, ← EReal.coe_sub]
  rfl

theorem lbE (r : ℝ) : min (r : EReal) 0 - Ideal.log (1 + Ideal.exp (0 - FloatOps.absf (F := Ideal) (φ := .f32) (r : EReal))) = ((lbR r : ℝ) : EReal) := by
  rw [show FloatOps.absf (F := Ideal) (φ := .f32) (r : EReal) = max (r : EReal) (-(r : EReal)) from rfl, lgE, ← EReal.coe_zero,
    ← EReal.coe_strictMono.monotone.map_min, ← EReal.coe_sub]
  rfl

/-- The logarithm of the logistic, written with the maximum. -/
theorem spE (r : ℝ) : -(max (-(r : EReal)) 0 + Ideal.log1p (Ideal.exp (-(max (-(r : EReal)) (-(-(r : EReal))))))) = ((lbR r : ℝ) : EReal) := by
  have e := lgE (-r)
  rw [zero_sub, EReal.coe_neg] at e
  unfold Ideal.log1p
  rw [e, ← EReal.coe_neg, ← EReal.coe_zero, ← EReal.coe_strictMono.monotone.map_max, ← EReal.coe_add, ← EReal.coe_neg]
  congr 1
  unfold lbR lg
  rw [abs_neg, neg_add, ← min_neg_neg, neg_neg, neg_zero, sub_eq_add_neg]

end Cert.Proof.SbMath

end
-- ==== Proof.SbPay.lean ====
module

public import proofs.«01_k».proof.Proof.Gen.SbIdeal.Value
public import Idealize.ShloMosaic.Lib.Tactic
public import Idealize.ShloMosaic.Lib.StableHlo.ReadAt
public import Idealize.ShloMosaic.Lib.Pointwise
public import Idealize.ShloMosaic.Lib.WordCmp
public import proofs.«01_k».proof.Proof.SbMath

/-! The kernel body's values for one head and one chunk of keys, the same for every head, entry by entry. -/

@[expose] public section

set_option maxRecDepth 16384
set_option maxHeartbeats 2000000

noncomputable section

namespace Cert.Proof.SbPay

open Cert.Proof.SbMath Cert.SbIdeal Cert.SbIdeal.Gen Idealize.ShloMosaic.StableHlo Idealize.ShloMosaic Idealize.ShloMosaic.TcCoe Idealize.SL.Sem

variable {F : FTy → Type} [FloatOps F]

/-- The scores of head `h`: keys by queries. -/
def zH (q : FVec F S512x256 .bf16) (kk : Vec F S256x512 .bf16) : Fin 8 → FVec F S256x256 .f32
  | 0 => k0_pay13 q kk | 1 => k0_pay14 q kk | 2 => k0_pay15 q kk | 3 => k0_pay16 q kk
  | 4 => k0_pay17 q kk | 5 => k0_pay18 q kk | 6 => k0_pay19 q kk | 7 => k0_pay20 q kk

variable (z : FVec F S256x256 .f32) (c : Vec F S1x256 .f32) (V : Vec F S1x1x64x256 .bf16) (a : Vec F S64x256 .f32)
  (w : FVec F S256x256 .bf16) (m : IVec S256x256 1) (q : FVec F S512x256 .bf16) (kk : Vec F S256x512 .bf16)

/-- The carry after a whole chunk. -/
def carT : FVec F S1x256 .f32 := k0_pay87 (k0_pay27 z) c
/-- The accumulator after a whole chunk. -/
def accT : FVec F S64x256 .f32 :=
  k0_pay86 (k0_pay76 (k0_pay26 z) (k0_pay64 w (k0_pay48 (k0_pay27 z)) (k0_pay49 (k0_pay27 z)) c) V) a
/-- The carry after a masked chunk. -/
def carD : FVec F S1x256 .f32 := k0_pay87 (k0_pay225 m (k0_pay27 z)) c
/-- The accumulator after a masked chunk. -/
def accD : FVec F S64x256 .f32 :=
  k0_pay275 (k0_pay263 (k0_pay255 m (k0_pay26 z) (k0_pay64 w (k0_pay48 (k0_pay225 m (k0_pay27 z))) (k0_pay49 (k0_pay225 m (k0_pay27 z))) c)) V) a

/-! Each head's carry and accumulator are these. -/

theorem tc0 : k0_pay85 (k0_pay84 (k0_pay24 (k0_pay21 q kk) (k0_pay23 q kk) (FloatOps.ofBits .f32 0#32)) c) = carT (k0_pay13 q kk) c := rfl
theorem ta0 : k0_pay83 (k0_pay75 (k0_pay22 q kk) (k0_pay63 (k0_pay62 w (k0_pay24 (k0_pay21 q kk) (k0_pay23 q kk) (FloatOps.ofBits .f32 0#32))) c) V) a = accT (k0_pay13 q kk) c V a w := rfl
theorem tc1 : k0_pay87 (k0_pay27 z) c = carT z c := rfl
theorem ta1 : k0_pay86 (k0_pay76 (k0_pay26 z) (k0_pay64 w (k0_pay48 (k0_pay27 z)) (k0_pay49 (k0_pay27 z)) c) V) a = accT z c V a w := rfl
theorem tc2 : k0_pay89 (k0_pay30 z) c = carT z c := rfl
theorem ta2 : k0_pay88 (k0_pay77 (k0_pay29 z) (k0_pay65 w (k0_pay50 (k0_pay30 z)) (k0_pay51 (k0_pay30 z)) c) V) a = accT z c V a w := rfl
theorem tc3 : k0_pay92 (k0_pay34 (k0_pay31 z) (k0_pay33 z) (FloatOps.ofBits .f32 0#32)) c = carT z c := rfl
theorem ta3 : k0_pay91 (k0_pay90 (k0_pay78 (k0_pay70 (k0_pay32 z) (k0_pay66 w (k0_pay52 (k0_pay34 (k0_pay31 z) (k0_pay33 z) (FloatOps.ofBits .f32 0#32))) (k0_pay53 (k0_pay34 (k0_pay31 z) (k0_pay33 z) (FloatOps.ofBits .f32 0#32))) c)) V) a) = accT z c V a w := rfl
theorem tc4 : k0_pay94 (k0_pay37 z) c = carT z c := rfl
theorem ta4 : k0_pay93 (k0_pay79 (k0_pay71 (k0_pay36 z) (k0_pay67 w (k0_pay54 (k0_pay37 z)) (k0_pay55 (k0_pay37 z)) c)) V) a = accT z c V a w := rfl
theorem tc5 : k0_pay96 (k0_pay40 z) c = carT z c := rfl
theorem ta5 : k0_pay95 (k0_pay80 (k0_pay72 (k0_pay39 z) (k0_pay68 w (k0_pay56 (k0_pay40 z)) (k0_pay57 (k0_pay40 z)) c)) V) a = accT z c V a w := rfl
theorem tc6 : k0_pay4 (k0_pay44 (k0_pay41 z) (k0_pay43 z) (FloatOps.ofBits .f32 0#32)) c = carT z c := rfl
theorem ta6 : k0_pay3 (k0_pay81 (k0_pay73 (k0_pay42 z) (k0_pay69 w (k0_pay58 (k0_pay41 z) (k0_pay43 z) (FloatOps.ofBits .f32 0#32)) (k0_pay59 (k0_pay41 z) (k0_pay43 z) (FloatOps.ofBits .f32 0#32))) c) V) a = accT z c V a w := rfl
theorem tc7 : k0_pay6 (k0_pay47 z) c = carT z c := rfl
theorem ta7 : k0_pay5 (k0_pay82 (k0_pay74 w (k0_pay46 z) (k0_pay60 z) (k0_pay61 z) c) V) a = accT z c V a w := rfl
theorem dz0 (x : Vec F S256x512 .bf16) : k0_pay188 x kk = zH (k0_pay183 x) kk 0 := rfl
theorem dz1 (x : Vec F S256x512 .bf16) : k0_pay189 x kk = zH (k0_pay183 x) kk 1 := rfl
theorem dz2 : k0_pay191 q (k0_pay190 kk) = zH q kk 2 := rfl
theorem dz3 : k0_pay192 q (k0_pay187 kk) = zH q kk 3 := rfl
theorem dz4 : k0_pay193 q (k0_pay187 kk) = zH q kk 4 := rfl
theorem dz5 : k0_pay194 q (k0_pay187 kk) = zH q kk 5 := rfl
theorem dz6 : k0_pay195 q (k0_pay187 kk) = zH q kk 6 := rfl
theorem dz7 : k0_pay196 q (k0_pay187 kk) = zH q kk 7 := rfl

/-! The entries of the values at exact arithmetic. -/

section Entries

variable (z : FVec Ideal S256x256 .f32) (c : Vec Ideal S1x256 .f32) (V : Vec Ideal S1x1x64x256 .bf16) (a : Vec Ideal S64x256 .f32)
  (w : FVec Ideal S256x256 .bf16) (m : IVec S256x256 1) (q : FVec Ideal S512x256 .bf16) (kk : Vec Ideal S256x512 .bf16)

theorem z_apply (h : Fin 8) (j x : Fin 256) :
    zH q kk h (ix2 j x) = ∑ d : Fin 64, kk (ix2 j ⟨64 * h.val + d.val, by omega⟩) * q (ix2 ⟨64 * h.val + d.val, by omega⟩ x) := by
  fin_cases h <;> pointwise [zH, k0_pay12, k0_pay13, k0_pay14, k0_pay15, k0_pay16, k0_pay17, k0_pay18, k0_pay19, k0_pay20]

theorem car_apply (x : Fin 256) : k0_pay87 z c (ix2 0 x) = c (ix2 0 x) + ∑ j : Fin 256, z (ix2 j x) := by
  pointwise [k0_pay87]

theorem lk_apply (j x : Fin 256) (r : ℝ) (h : z (ix2 j x) = (r : EReal)) : k0_pay27 z (ix2 j x) = ((lkR r : ℝ) : EReal) := by
  pointwise [k0_pay27, k0_pay25]
  rw [h]
  exact lkE r
theorem lb_apply (j x : Fin 256) (r : ℝ) (h : z (ix2 j x) = (r : EReal)) : k0_pay26 z (ix2 j x) = ((lbR r : ℝ) : EReal) := by
  pointwise [k0_pay26, k0_pay25]
  rw [h]
  exact lbE r
theorem acc_apply (d : Fin 64) (x : Fin 256) : k0_pay275 (k0_pay263 z V) a (ix2 d x) = a (ix2 d x) + ∑ j : Fin 256, V (ix4 0 0 d j) * z (ix2 j x) := by
  pointwise [k0_pay275, k0_pay263]
theorem acc'_apply (u : FVec Ideal S256x256 .f32) (d : Fin 64) (x : Fin 256) : k0_pay86 (k0_pay76 z u V) a (ix2 d x) = a (ix2 d x) + ∑ j : Fin 256, V (ix4 0 0 d j) * Ideal.exp (z (ix2 j x) + u (ix2 j x)) := by
  pointwise [k0_pay86, k0_pay76]
theorem suf_apply (j x : Fin 256) : k0_pay64 w (k0_pay48 z) (k0_pay49 z) c (ix2 j x)
    = (∑ i : Fin 256, w (ix2 j i) * z (ix2 i x)) + (∑ i : Fin 256, w (ix2 j i) * (z (ix2 i x) - z (ix2 i x))) + c (ix2 0 x) := by
  pointwise [k0_pay64, k0_pay48, k0_pay49]
theorem msk_apply (j x : Fin 256) : k0_pay225 m z (ix2 j x) = Scalar.select (m (ix2 j x)) (z (ix2 j x)) 0 := by
  pointwise [k0_pay225]
theorem wmsk_apply (u : FVec Ideal S256x256 .f32) (j x : Fin 256) : k0_pay255 m z u (ix2 j x) = Scalar.select (m (ix2 j x)) (Ideal.exp (z (ix2 j x) + u (ix2 j x))) 0 := by
  pointwise [k0_pay255]
theorem q_apply (x : Vec Ideal S256x512 .bf16) (e : Fin 512) (r : Fin 256) : k0_pay183 x (ix2 e r) = x (ix2 r e) * ((1 / 8 : ℝ) : EReal) := by
  have e8 : Ideal.ofBits .f32 0x3E000000#32 = ((1 / 8 : ℝ) : EReal) := by
    simp [Ideal.ofBits, Ideal.ieee, -EReal.coe_mul]; norm_num
  pointwise [k0_pay183]
  rw [← e8]
theorem later_apply (j i : Fin 256) : k0_pay182 (F := Ideal) (ix2 j i) = if j.val < i.val then (1 : EReal) else 0 := by
  have w : ∀ j i : Fin 256, BitVec.setWidth 32 (IntOp.cmpi CmpIPredicate.sgt (BitVec.ofNat 32 i.val) (BitVec.ofNat 32 j.val)) = if j.val < i.val then 1#32 else 0#32 := by
    intro j i
    rw [WordCmp.cmpi_sgt_of_lt (by rw [BitVec.toNat_ofNat]; omega) (by rw [BitVec.toNat_ofNat]; omega), BitVec.toNat_ofNat, BitVec.toNat_ofNat,
      Nat.mod_eq_of_lt (by omega), Nat.mod_eq_of_lt (by omega)]
    by_cases h : j.val < i.val
    · rw [if_pos h, decide_eq_true h]; rfl
    · rw [if_neg h, decide_eq_false h]; rfl
  pointwise [k0_pay182]
  rw [w]
  by_cases h : j.val < i.val
  · rw [if_pos h, if_pos h]; show (((1#32 : BitVec 32).toInt : ℝ) : EReal) = 1; norm_num
  · rw [if_neg h, if_neg h]; show (((0#32 : BitVec 32).toInt : ℝ) : EReal) = 0; norm_num
theorem mask_apply (i : grid0.Coords) (j x : Fin 256) : k0_pay186 i (ix2 j x) = if j.val < x.val then 1#1 else 0#1 := by
  pointwise [k0_pay186]
  have hi : (i 1).val < 16 := (i 1).isLt
  have w : ∀ n : ℕ, n < 256 → (IntOp.addi (Scalar.muli (BitVec.ofNat 32 (i 1).val) 256#32) (BitVec.ofNat 32 n)).toNat = (i 1).val * 256 + n := by
    intro n hn
    show ((BitVec.ofNat 32 (i 1).val) * 256#32 + BitVec.ofNat 32 n).toNat = _
    simp only [BitVec.toNat_add, BitVec.toNat_mul, BitVec.toNat_ofNat]
    omega
  rw [WordCmp.cmpi_slt_of_lt (by rw [w _ j.isLt]; omega) (by rw [w _ x.isLt]; omega), w _ j.isLt, w _ x.isLt]
  by_cases h : j.val < x.val
  · rw [if_pos h, decide_eq_true (by omega)]; rfl
  · rw [if_neg h, decide_eq_false (by omega)]; rfl
theorem out_apply (a : Vec Ideal S512x256 .f32) (r : Fin 256) (e : Fin 512) : k0_pay11 a (ix2 r e) = a (ix2 e r) := by
  pointwise [k0_pay11]
theorem zero6_apply (e : Fin 512) (r : Fin 256) : k0_pay184 (F := Ideal) (ix2 e r) = 0 := by
  pointwise [k0_pay184]
theorem zero7_apply (e : Fin 8) (r : Fin 256) : k0_pay185 (F := Ideal) (ix2 e r) = 0 := by
  pointwise [k0_pay185]

end Entries

end Cert.Proof.SbPay

end
-- ==== Proof.SbTrip.lean ====
module

public import proofs.«01_k».proof.Proof.Gen.SbIdeal.Value
public import proofs.«01_k».proof.Proof.SbPay
public import Idealize.ShloMosaic.Lib.WritesUnit
public import Idealize.ShloMosaic.Lib.Pipeline.ValueKit.Tiles
public import Idealize.ShloMosaic.Lib.Tactic

/-! What one trip of the kernel's loop over the earlier chunks of keys leaves in the accumulator and the carry. -/

@[expose] public section

set_option maxRecDepth 16384
set_option maxHeartbeats 8000000

noncomputable section

namespace Cert.Proof.SbTrip

open Cert.Proof.SbPay Cert.SbIdeal Cert.SbIdeal.Gen Idealize.ShloMosaic.StableHlo Idealize.ShloMosaic Idealize.ShloMosaic.TcCoe Idealize.SL.Sem

variable {F : FTy → Type} [FloatOps F]

/-- The block of keys of chunk `o`. -/
def kkOf (X : Vec F S4096x512 .bf16) (o : Fin 16) : Vec F S256x512 .bf16 :=
  fun y => X (ix2 ⟨256 * o.val + (y 0).val, by have : (y 0).val < 256 := (y 0).isLt; omega⟩ (y 1 : Fin 512))
/-- One head's values of chunk `o`. -/
def vOf (X : Vec F S1x16x512x256 .bf16) (o : Fin 16) (h : Fin 8) : Vec F S1x1x64x256 .bf16 :=
  fun y => X (ix4 0 o ⟨64 * h.val + (y 2).val, by have : (y 2).val < 64 := (y 2).isLt; omega⟩ (y 3 : Fin 256))
/-- One head's carry. -/
def row7 (X : Vec F S8x256 .f32) (h : Fin 8) : Vec F S1x256 .f32 := fun y => X (ix2 h (y 1 : Fin 256))
/-- One head's accumulator. -/
def row6 (X : Vec F S512x256 .f32) (h : Fin 8) : Vec F S64x256 .f32 :=
  fun y => X (ix2 ⟨64 * h.val + (y 0).val, by have : (y 0).val < 64 := (y 0).isLt; omega⟩ (y 1 : Fin 256))

theorem kk_eq {κ : Kind} {sp : Space} (v : View sig κ sp S4096x512 .bf16) (X : BufTy.Contents (Elt F) v.ty) (off : Fin 2 → ℕ) (inb) (o : Fin 16)
    (h : off = ![256 * o.val, 0]) : View.readAt (Elt F) v (Rect.unit (s := S4096x512) off S256x512.size inb).toLoadRect X = kkOf (v.read (Elt F) X) o := by
  subst h
  funext y
  exact View.ld_unit_apply_of (v.read (Elt F) X) _ _ inb y _ (Fin.forall_fin_two.mpr ⟨rfl, (Nat.zero_add _).symm⟩)

theorem v_eq {κ : Kind} {sp : Space} (v : View sig κ sp S1x16x512x256 .bf16) (X : BufTy.Contents (Elt F) v.ty) (off : Fin 4 → ℕ) (inb) (o : Fin 16) (n : Fin 8)
    (h : off = ![0, o.val, 64 * n.val, 0]) : View.readAt (Elt F) v (Rect.unit (s := S1x16x512x256) off S1x1x64x256.size inb).toLoadRect X = vOf (v.read (Elt F) X) o n := by
  subst h
  funext y
  refine View.ld_unit_apply_of (v.read (Elt F) X) _ _ inb y _ fun a => ?_
  have h0 : (y 0).val < 1 := (y 0).isLt
  have h1 : (y 1).val < 1 := (y 1).isLt
  match a with
  | 0 => show 0 = 0 + (y 0).val; omega
  | 1 => show o.val = o.val + (y 1).val; omega
  | 2 => rfl
  | 3 => exact (Nat.zero_add _).symm

theorem r7_eq {κ : Kind} {sp : Space} (v : View sig κ sp S8x256 .f32) (X : BufTy.Contents (Elt F) v.ty) (off : Fin 2 → ℕ) (inb) (n : Fin 8)
    (h : off = ![n.val, 0]) : View.readAt (Elt F) v (Rect.unit (s := S8x256) off S1x256.size inb).toLoadRect X = row7 (v.read (Elt F) X) n := by
  subst h
  funext y
  have h0 : (y 0).val < 1 := (y 0).isLt
  exact View.ld_unit_apply_of (v.read (Elt F) X) _ _ inb y _ (Fin.forall_fin_two.mpr ⟨by show n.val = n.val + (y 0).val; omega, (Nat.zero_add _).symm⟩)

theorem r6_eq {κ : Kind} {sp : Space} (v : View sig κ sp S512x256 .f32) (X : BufTy.Contents (Elt F) v.ty) (off : Fin 2 → ℕ) (inb) (n : Fin 8)
    (h : off = ![64 * n.val, 0]) : View.readAt (Elt F) v (Rect.unit (s := S512x256) off S64x256.size inb).toLoadRect X = row6 (v.read (Elt F) X) n := by
  subst h
  funext y
  exact View.ld_unit_apply_of (v.read (Elt F) X) _ _ inb y _ (Fin.forall_fin_two.mpr ⟨rfl, (Nat.zero_add _).symm⟩)

/-- The chunk a trip reads. -/
def trO (i : grid0.Coords) (k : Fin (k0_t1_loop i).trips) : Fin 16 := ⟨(i 1).val - 1 - k.val, by have : (i 1).val < 16 := (i 1).isLt; omega⟩

theorem trips1 (i : grid0.Coords) : (k0_t1_loop i).trips = (i 1).val := by
  have h : ∀ n : Fin 16, Scf.trips 0#32 (Scalar.addi 0#32 (Scalar.muli (Scalar.divsi (Scalar.subi (BitVec.ofNat 32 n.val) 0#32) 1#32) 1#32)) 1#32 = n.val := by decide +kernel
  exact h ⟨(i 1).val, (i 1).isLt⟩

theorem tr_word (i : grid0.Coords) (k : Fin (k0_t1_loop i).trips) :
    (Scalar.subi (Scalar.subi (BitVec.ofNat 32 (i 1).val) 1#32) (Scf.iv 0#32 1#32 k.val)).toNat = (trO i k).val := by
  have h1 : (i 1).val < 16 := (i 1).isLt
  have h2 : k.val < (i 1).val := lt_of_lt_of_eq k.isLt (trips1 i)
  show (BitVec.ofNat 32 (i 1).val - 1#32 - (0#32 + BitVec.ofNat 32 k.val * 1#32)).toNat = (i 1).val - 1 - k.val
  simp only [BitVec.toNat_sub, BitVec.toNat_add, BitVec.toNat_mul, BitVec.toNat_ofNat]
  omega

theorem off10 (i : grid0.Coords) (k : Fin (k0_t1_loop i).trips) : k0_off10 i k = ![256 * (trO i k).val, 0] := by
  have e : (Scalar.muli (Scalar.subi (Scalar.subi (BitVec.ofNat 32 (i 1).val) 1#32) (Scf.iv 0#32 1#32 k.val)) 256#32).toNat = 256 * (trO i k).val := by
    show ((Scalar.subi (Scalar.subi (BitVec.ofNat 32 (i 1).val) 1#32) (Scf.iv 0#32 1#32 k.val)) * 256#32).toNat = _
    rw [BitVec.toNat_mul, tr_word]
    have := (trO i k).isLt
    simp only [BitVec.toNat_ofNat]
    omega
  show ![_, 0] = _
  rw [← e]
  rfl

theorem off11 (i : grid0.Coords) (k : Fin (k0_t1_loop i).trips) : k0_off11 i k = ![0, (trO i k).val, 64 * (0 : Fin 8).val, 0] := by
  rw [← tr_word]
  rfl

theorem off12 (i : grid0.Coords) (k : Fin (k0_t1_loop i).trips) : k0_off12 i k = ![0, (trO i k).val, 64 * (1 : Fin 8).val, 0] := by
  rw [← tr_word]
  rfl

theorem off13 (i : grid0.Coords) (k : Fin (k0_t1_loop i).trips) : k0_off13 i k = ![0, (trO i k).val, 64 * (2 : Fin 8).val, 0] := by
  rw [← tr_word]
  rfl

theorem off14 (i : grid0.Coords) (k : Fin (k0_t1_loop i).trips) : k0_off14 i k = ![0, (trO i k).val, 64 * (3 : Fin 8).val, 0] := by
  rw [← tr_word]
  rfl

theorem off15 (i : grid0.Coords) (k : Fin (k0_t1_loop i).trips) : k0_off15 i k = ![0, (trO i k).val, 64 * (4 : Fin 8).val, 0] := by
  rw [← tr_word]
  rfl

theorem off16 (i : grid0.Coords) (k : Fin (k0_t1_loop i).trips) : k0_off16 i k = ![0, (trO i k).val, 64 * (5 : Fin 8).val, 0] := by
  rw [← tr_word]
  rfl

theorem off17 (i : grid0.Coords) (k : Fin (k0_t1_loop i).trips) : k0_off17 i k = ![0, (trO i k).val, 64 * (6 : Fin 8).val, 0] := by
  rw [← tr_word]
  rfl

theorem off18 (i : grid0.Coords) (k : Fin (k0_t1_loop i).trips) : k0_off18 i k = ![0, (trO i k).val, 64 * (7 : Fin 8).val, 0] := by
  rw [← tr_word]
  rfl

theorem c4 {α β γ δ ε : Type} (f : α → β → γ → δ → ε) {a a' : α} {b b' : β} {c c' : γ} {d d' : δ} (h1 : a = a') (h2 : b = b') (h3 : c = c') (h4 : d = d') :
    f a b c d = f a' b' c' d' := by
  subst h1 h2 h3 h4; rfl

/-- The carry after a trip, head by head. -/
theorem trip7 (𝒱 : Variants) (c : Dev nD) (bd : Option 𝒱.V) (i : grid0.Coords) (arg2 : Memref sig .tc .vmem S256x512 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S256x512 .bf16) (harg5 : arg5.IsWhole) (arg6 : Memref sig .tc .vmem S512x256 .f32) (harg6 : arg6.IsWhole) (arg7 : Memref sig .tc .vmem S8x256 .f32) (harg7 : arg7.IsWhole) (arg1 : BitVec 32) (v9 : FVec F S256x256 .bf16) (v16 : FVec F S512x256 .bf16) (X_arg3 : BufTy.Contents (Elt F) arg3.view.ty) (X_arg4 : BufTy.Contents (Elt F) arg4.view.ty) (k : Fin (k0_t1_loop i).trips) (f6 : BufTy.Contents (Elt F) arg6.view.ty) (f7 : BufTy.Contents (Elt F) arg7.view.ty) :
    (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 0 x) = carT (zH v16 (kkOf (arg3.view.read (Elt F) X_arg3) (trO i k)) 0) (row7 (arg7.view.read (Elt F) f7) 0) (ix2 0 x))
    ∧ (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 1 x) = carT (zH v16 (kkOf (arg3.view.read (Elt F) X_arg3) (trO i k)) 1) (row7 (arg7.view.read (Elt F) f7) 1) (ix2 0 x))
    ∧ (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 2 x) = carT (zH v16 (kkOf (arg3.view.read (Elt F) X_arg3) (trO i k)) 2) (row7 (arg7.view.read (Elt F) f7) 2) (ix2 0 x))
    ∧ (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 3 x) = carT (zH v16 (kkOf (arg3.view.read (Elt F) X_arg3) (trO i k)) 3) (row7 (arg7.view.read (Elt F) f7) 3) (ix2 0 x))
    ∧ (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 4 x) = carT (zH v16 (kkOf (arg3.view.read (Elt F) X_arg3) (trO i k)) 4) (row7 (arg7.view.read (Elt F) f7) 4) (ix2 0 x))
    ∧ (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 5 x) = carT (zH v16 (kkOf (arg3.view.read (Elt F) X_arg3) (trO i k)) 5) (row7 (arg7.view.read (Elt F) f7) 5) (ix2 0 x))
    ∧ (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 6 x) = carT (zH v16 (kkOf (arg3.view.read (Elt F) X_arg3) (trO i k)) 6) (row7 (arg7.view.read (Elt F) f7) 6) (ix2 0 x))
    ∧ (∀ x : Fin 256, arg7.view.read (Elt F) (arg7.view.writes (Elt F) f7 ((trip_k0_t1 (F := F) 𝒱 c bd i arg2 harg2 arg3 harg3 arg4 harg4 arg5 harg5 arg6 harg6 arg7 harg7 arg1 v9 v16 X_arg3 X_arg4 k).2.1 f6 f7)) (ix2 7 x) = carT (zH v16 (kkOf (arg3.view.read (Elt F) X_arg3) (trO i k)) 7) (row7 (arg7.view.read (Elt F) f7) 7) (ix2 0 x)) := by
  unfold trip_k0_t1
  dsimp only
  sl_unfold_words
  refine ⟨?_, ?_, ?_, ?_, ?_, ?_, ?_, ?_⟩
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_not_mem (o := 3) (W := 1) _ _ _ _ _ _ rfl rfl (by simp [ix2])).trans ?_
    refine (View.read_writes_cons_rows_of_not_mem (o := 2) (W := 1) _ _ _ _ _ _ rfl rfl (by simp [ix2])).trans ?_
    refine (View.read_writes_cons_rows_of_not_mem (o := 1) (W := 1) _ _ _ _ _ _ rfl rfl (by simp [ix2])).trans ?_
    refine (View.read_writes_cons_rows_of_mem (o := 0) _ _ _ _ _ (ix2 0 x) (ix2 0 x) (by rfl) (by rfl) (by rfl)).trans ?_
    refine (congrArg₂ (fun kk c => (k0_pay85 (k0_pay84 (k0_pay24 (k0_pay21 v16 kk) (k0_pay23 v16 kk) (FloatOps.ofBits .f32 0#32)) c) : FVec F S1x256 .f32) (ix2 0 x)) (kk_eq arg3.view X_arg3 (k0_off10 i k) _ _ (off10 i k)) (r7_eq arg7.view f7 _ _ 0 rfl)).trans ?_
    exact congrFun (tc0 ..) _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_not_mem (o := 3) (W := 1) _ _ _ _ _ _ rfl rfl (by simp [ix2])).trans ?_
    refine (View.read_writes_cons_rows_of_not_mem (o := 2) (W := 1) _ _ _ _ _ _ rfl rfl (by simp [ix2])).trans ?_
    refine (View.read_writes_cons_rows_of_mem (o := 1) _ _ _ _ _ (ix2 1 x) (ix2 0 x) (by rfl) (by rfl) (by rfl)).trans ?_
    refine (congrArg₂ (fun kk c => (k0_pay87 (k0_pay27 (k0_pay14 v16 kk)) c : FVec F S1x256 .f32) (ix2 0 x)) (kk_eq arg3.view X_arg3 (k0_off10 i k) _ _ (off10 i k)) (r7_eq arg7.view f7 _ _ 1 rfl)).trans ?_
    exact congrFun (tc1 ..) _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_not_mem (o := 3) (W := 1) _ _ _ _ _ _ rfl rfl (by simp [ix2])).trans ?_
    refine (View.read_writes_cons_rows_of_mem (o := 2) _ _ _ _ _ (ix2 2 x) (ix2 0 x) (by rfl) (by rfl) (by rfl)).trans ?_
    refine (congrArg₂ (fun kk c => (k0_pay89 (k0_pay30 (k0_pay15 v16 kk)) c : FVec F S1x256 .f32) (ix2 0 x)) (kk_eq arg3.view X_arg3 (k0_off10 i k) _ _ (off10 i k)) (r7_eq arg7.view f7 _ _ 2 rfl)).trans ?_
    exact congrFun (tc2 ..) _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_mem (o := 3) _ _ _ _ _ (ix2 3 x) (ix2 0 x) (by rfl) (by rfl) (by rfl)).trans ?_
    refine (congrArg₂ (fun kk c => (k0_pay92 (k0_pay34 (k0_pay31 (k0_pay16 v16 kk)) (k0_pay33 (k0_pay16 v16 kk)) (FloatOps.ofBits .f32 0#32)) c : FVec F S1x256 .f32) (ix2 0 x)) (kk_eq arg3.view X_arg3 (k0_off10 i k) _ _ (off10 i k)) (r7_eq arg7.view f7 _ _ 3 rfl)).trans ?_
    exact congrFun (tc3 ..) _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_mem (o := 4) _ _ _ _ _ (ix2 4 x) (ix2 0 x) (by rfl) (by rfl) (by rfl)).trans ?_
    refine (congrArg₂ (fun kk c => (k0_pay94 (k0_pay37 (k0_pay17 v16 kk)) c : FVec F S1x256 .f32) (ix2 0 x)) (kk_eq arg3.view X_arg3 (k0_off10 i k) _ _ (off10 i k)) (r7_eq arg7.view f7 _ _ 4 rfl)).trans ?_
    exact congrFun (tc4 ..) _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_mem (o := 5) _ _ _ _ _ (ix2 5 x) (ix2 0 x) (by rfl) (by rfl) (by rfl)).trans ?_
    refine (congrArg₂ (fun kk c => (k0_pay96 (k0_pay40 (k0_pay18 v16 kk)) c : FVec F S1x256 .f32) (ix2 0 x)) (kk_eq arg3.view X_arg3 (k0_off10 i k) _ _ (off10 i k)) (r7_eq arg7.view f7 _ _ 5 rfl)).trans ?_
    exact congrFun (tc5 ..) _
  · intro x
    refine (View.read_writes_cons_rows_of_not_mem (o := 7) (W := 1) _ _ _ _ _ _ rfl rfl (by simp [ix2])).trans ?_
    refine (View.read_writes_cons_rows_of_mem (o := 6) _ _ _ _ _ (ix2 6 x) (ix2 0 x) (by rfl) (by rfl) (by rfl)).trans ?_
    refine (congrArg₂ (fun kk c => (k0_pay4 (k0_pay44 (k0_pay41 (k0_pay19 v16 kk)) (k0_pay43 (k0_pay19 v16 kk)) (FloatOps.ofBits .f32 0#32)) c : FVec F S1x256 .f32) (ix2 0 x)) (kk_eq arg3.view X_arg3 (k0_off10 i k) _ _ (off10 i k)) (r7_eq arg7.view f7 _ _ 6 rfl)).trans ?_
    exact congrFun (tc6 ..) _
  · intro x
    refine (View.read_writes_cons_rows_of_mem (o := 7) _ _ _ _ _ (ix2 7 x) (ix2 0 x) (by rfl) (by rfl) (by rfl)).trans ?_
    refine (congrArg₂ (fun kk c => (k0_pay6 (k0_pay47 (k0_pay20 v16 kk)) c : FVec F S1x256 .f32) (ix2 0 x)) (kk_eq arg3.view X_arg3 (k0_off10 i k) _ _ (off10 i k)) (r7_eq arg7.view f7 _ _ 7 rfl)).trans ?_
    exact congrFun (tc7 ..) _

/-- The accumulator after a trip, head by head. -/
theorem trip6 (𝒱 : Variants) (c : Dev nD) (bd : Option 𝒱.V) (i : grid0.Coords) (arg2 : Memref sig .tc .vmem S256x512 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S256x512 .bf16) (harg5 : arg5.IsWhole) (arg6 : Memref sig .tc .vmem S512x256 .f32) (harg6 : arg6.IsWhole) (arg7 : Memref sig .tc .vmem S8x256 .f32) (harg7 : arg7.IsWhole) (arg1 : BitVec 32) (v9 : FVec F S256x256 .bf16) (v16 : FVec F S512x256 .bf16) (X_arg3 : BufTy.Contents (Elt F) arg3.view.ty) (X_arg4 : BufTy.Contents (Elt F) arg4.view.ty) (k : Fin (k0_t1_loop i).trips) (f6 : BufTy.Contents (Elt F) arg6.view.ty) (f7 : BufTy.Contents (Elt F) arg7.view.ty) :
    (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (0 : Fin 8).val + d.val, by omega⟩ x) = accT (zH v16 (kkOf (arg3.view.read (Elt F) X_arg3) (trO i k)) 0) (row7 (arg7.view.read (Elt F) f7) 0) (vOf (arg4.view.read (Elt F) X_arg4) (trO i k) 0) (row6 (arg6.view.read (Elt F) f6) 0) v9 (ix2 d x))
    ∧ (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (1 : Fin 8).val + d.val, by omega⟩ x) = accT (zH v16 (kkOf (arg3.view.read (Elt F) X_arg3) (trO i k)) 1) (row7 (arg7.view.read (Elt F) f7) 1) (vOf (arg4.view.read (Elt F) X_arg4) (trO i k) 1) (row6 (arg6.view.read (Elt F) f6) 1) v9 (ix2 d x))
    ∧ (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (2 : Fin 8).val + d.val, by omega⟩ x) = accT (zH v16 (kkOf (arg3.view.read (Elt F) X_arg3) (trO i k)) 2) (row7 (arg7.view.read (Elt F) f7) 2) (vOf (arg4.view.read (Elt F) X_arg4) (trO i k) 2) (row6 (arg6.view.read (Elt F) f6) 2) v9 (ix2 d x))
    ∧ (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (3 : Fin 8).val + d.val, by omega⟩ x) = accT (zH v16 (kkOf (arg3.view.read (Elt F) X_arg3) (trO i k)) 3) (row7 (arg7.view.read (Elt F) f7) 3) (vOf (arg4.view.read (Elt F) X_arg4) (trO i k) 3) (row6 (arg6.view.read (Elt F) f6) 3) v9 (ix2 d x))
    ∧ (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (4 : Fin 8).val + d.val, by omega⟩ x) = accT (zH v16 (kkOf (arg3.view.read (Elt F) X_arg3) (trO i k)) 4) (row7 (arg7.view.read (Elt F) f7) 4) (vOf (arg4.view.read (Elt F) X_arg4) (trO i k) 4) (row6 (arg6.view.read (Elt F) f6) 4) v9 (ix2 d x))
    ∧ (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (5 : Fin 8).val + d.val, by omega⟩ x) = accT (zH v16 (kkOf (arg3.view.read (Elt F) X_arg3) (trO i k)) 5) (row7 (arg7.view.read (Elt F) f7) 5) (vOf (arg4.view.read (Elt F) X_arg4) (trO i k) 5) (row6 (arg6.view.read (Elt F) f6) 5) v9 (ix2 d x))
    ∧ (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (6 : Fin 8).val + d.val, by omega⟩ x) = accT (zH v16 (kkOf (arg3.view.read (Elt F) X_arg3) (trO i k)) 6) (row7 (arg7.view.read (Elt F) f7) 6) (vOf (arg4.view.read (Elt F) X_arg4) (trO i k) 6) (row6 (arg6.view.read (Elt F) f6) 6) v9 (ix2 d x))
    ∧ (∀ (d : Fin 64) (x : Fin 256), arg6.view.read (Elt F) (arg6.view.writes (Elt F) f6 ((trip_k0_t1 (F := F) 𝒱 c bd i arg2 harg2 arg3 harg3 arg4 harg4 arg5 harg5 arg6 harg6 arg7 harg7 arg1 v9 v16 X_arg3 X_arg4 k).1 f6 f7)) (ix2 ⟨64 * (7 : Fin 8).val + d.val, by omega⟩ x) = accT (zH v16 (kkOf (arg3.view.read (Elt F) X_arg3) (trO i k)) 7) (row7 (arg7.view.read (Elt F) f7) 7) (vOf (arg4.view.read (Elt F) X_arg4) (trO i k) 7) (row6 (arg6.view.read (Elt F) f6) 7) v9 (ix2 d x)) := by
  unfold trip_k0_t1
  dsimp only
  sl_unfold_words
  refine ⟨?_, ?_, ?_, ?_, ?_, ?_, ?_, ?_⟩
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_not_mem (o := 192) (W := 64) _ _ _ _ _ _ rfl rfl (by simp [ix2] <;> omega)).trans ?_
    refine (View.read_writes_cons_rows_of_not_mem (o := 128) (W := 64) _ _ _ _ _ _ rfl rfl (by simp [ix2] <;> omega)).trans ?_
    refine (View.read_writes_cons_rows_of_not_mem (o := 64) (W := 64) _ _ _ _ _ _ rfl rfl (by simp [ix2] <;> omega)).trans ?_
    refine (View.read_writes_cons_rows_of_mem (o := 0) _ _ _ _ _ (ix2 ⟨64 * (0 : Fin 8).val + d.val, by omega⟩ x) (ix2 d x) (by rfl) (by rfl) (by rfl)).trans ?_
    refine (c4 (fun kk c V a => (k0_pay83 (k0_pay75 (k0_pay22 v16 kk) (k0_pay63 (k0_pay62 v9 (k0_pay24 (k0_pay21 v16 kk) (k0_pay23 v16 kk) (FloatOps.ofBits .f32 0#32))) c) V) a : FVec F S64x256 .f32) (ix2 d x)) (kk_eq arg3.view X_arg3 (k0_off10 i k) _ _ (off10 i k)) (r7_eq arg7.view f7 _ _ 0 rfl)
      (v_eq arg4.view X_arg4 (k0_off11 i k) _ _ 0 (off11 i k)) (r6_eq arg6.view f6 _ _ 0 rfl)).trans ?_
    exact congrFun (ta0 ..) _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_not_mem (o := 192) (W := 64) _ _ _ _ _ _ rfl rfl (by simp [ix2] <;> omega)).trans ?_
    refine (View.read_writes_cons_rows_of_not_mem (o := 128) (W := 64) _ _ _ _ _ _ rfl rfl (by simp [ix2] <;> omega)).trans ?_
    refine (View.read_writes_cons_rows_of_mem (o := 64) _ _ _ _ _ (ix2 ⟨64 * (1 : Fin 8).val + d.val, by omega⟩ x) (ix2 d x) (by rfl) (by rfl) (by rfl)).trans ?_
    refine (c4 (fun kk c V a => (k0_pay86 (k0_pay76 (k0_pay26 (k0_pay14 v16 kk)) (k0_pay64 v9 (k0_pay48 (k0_pay27 (k0_pay14 v16 kk))) (k0_pay49 (k0_pay27 (k0_pay14 v16 kk))) c) V) a : FVec F S64x256 .f32) (ix2 d x)) (kk_eq arg3.view X_arg3 (k0_off10 i k) _ _ (off10 i k)) (r7_eq arg7.view f7 _ _ 1 rfl)
      (v_eq arg4.view X_arg4 (k0_off12 i k) _ _ 1 (off12 i k)) (r6_eq arg6.view f6 _ _ 1 rfl)).trans ?_
    exact congrFun (ta1 ..) _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_not_mem (o := 192) (W := 64) _ _ _ _ _ _ rfl rfl (by simp [ix2] <;> omega)).trans ?_
    refine (View.read_writes_cons_rows_of_mem (o := 128) _ _ _ _ _ (ix2 ⟨64 * (2 : Fin 8).val + d.val, by omega⟩ x) (ix2 d x) (by rfl) (by rfl) (by rfl)).trans ?_
    refine (c4 (fun kk c V a => (k0_pay88 (k0_pay77 (k0_pay29 (k0_pay15 v16 kk)) (k0_pay65 v9 (k0_pay50 (k0_pay30 (k0_pay15 v16 kk))) (k0_pay51 (k0_pay30 (k0_pay15 v16 kk))) c) V) a : FVec F S64x256 .f32) (ix2 d x)) (kk_eq arg3.view X_arg3 (k0_off10 i k) _ _ (off10 i k)) (r7_eq arg7.view f7 _ _ 2 rfl)
      (v_eq arg4.view X_arg4 (k0_off13 i k) _ _ 2 (off13 i k)) (r6_eq arg6.view f6 _ _ 2 rfl)).trans ?_
    exact congrFun (ta2 ..) _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_mem (o := 192) _ _ _ _ _ (ix2 ⟨64 * (3 : Fin 8).val + d.val, by omega⟩ x) (ix2 d x) (by rfl) (by rfl) (by rfl)).trans ?_
    refine (c4 (fun kk c V a => (k0_pay91 (k0_pay90 (k0_pay78 (k0_pay70 (k0_pay32 (k0_pay16 v16 kk)) (k0_pay66 v9 (k0_pay52 (k0_pay34 (k0_pay31 (k0_pay16 v16 kk)) (k0_pay33 (k0_pay16 v16 kk)) (FloatOps.ofBits .f32 0#32))) (k0_pay53 (k0_pay34 (k0_pay31 (k0_pay16 v16 kk)) (k0_pay33 (k0_pay16 v16 kk)) (FloatOps.ofBits .f32 0#32))) c)) V) a) : FVec F S64x256 .f32) (ix2 d x)) (kk_eq arg3.view X_arg3 (k0_off10 i k) _ _ (off10 i k)) (r7_eq arg7.view f7 _ _ 3 rfl)
      (v_eq arg4.view X_arg4 (k0_off14 i k) _ _ 3 (off14 i k)) (r6_eq arg6.view f6 _ _ 3 rfl)).trans ?_
    exact congrFun (ta3 ..) _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_mem (o := 256) _ _ _ _ _ (ix2 ⟨64 * (4 : Fin 8).val + d.val, by omega⟩ x) (ix2 d x) (by rfl) (by rfl) (by rfl)).trans ?_
    refine (c4 (fun kk c V a => (k0_pay93 (k0_pay79 (k0_pay71 (k0_pay36 (k0_pay17 v16 kk)) (k0_pay67 v9 (k0_pay54 (k0_pay37 (k0_pay17 v16 kk))) (k0_pay55 (k0_pay37 (k0_pay17 v16 kk))) c)) V) a : FVec F S64x256 .f32) (ix2 d x)) (kk_eq arg3.view X_arg3 (k0_off10 i k) _ _ (off10 i k)) (r7_eq arg7.view f7 _ _ 4 rfl)
      (v_eq arg4.view X_arg4 (k0_off15 i k) _ _ 4 (off15 i k)) (r6_eq arg6.view f6 _ _ 4 rfl)).trans ?_
    exact congrFun (ta4 ..) _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_mem (o := 320) _ _ _ _ _ (ix2 ⟨64 * (5 : Fin 8).val + d.val, by omega⟩ x) (ix2 d x) (by rfl) (by rfl) (by rfl)).trans ?_
    refine (c4 (fun kk c V a => (k0_pay95 (k0_pay80 (k0_pay72 (k0_pay39 (k0_pay18 v16 kk)) (k0_pay68 v9 (k0_pay56 (k0_pay40 (k0_pay18 v16 kk))) (k0_pay57 (k0_pay40 (k0_pay18 v16 kk))) c)) V) a : FVec F S64x256 .f32) (ix2 d x)) (kk_eq arg3.view X_arg3 (k0_off10 i k) _ _ (off10 i k)) (r7_eq arg7.view f7 _ _ 5 rfl)
      (v_eq arg4.view X_arg4 (k0_off16 i k) _ _ 5 (off16 i k)) (r6_eq arg6.view f6 _ _ 5 rfl)).trans ?_
    exact congrFun (ta5 ..) _
  · intro d x
    refine (View.read_writes_cons_rows_of_not_mem (o := 448) (W := 64) _ _ _ _ _ _ rfl rfl (by simp [ix2] <;> omega)).trans ?_
    refine (View.read_writes_cons_rows_of_mem (o := 384) _ _ _ _ _ (ix2 ⟨64 * (6 : Fin 8).val + d.val, by omega⟩ x) (ix2 d x) (by rfl) (by rfl) (by rfl)).trans ?_
    refine (c4 (fun kk c V a => (k0_pay3 (k0_pay81 (k0_pay73 (k0_pay42 (k0_pay19 v16 kk)) (k0_pay69 v9 (k0_pay58 (k0_pay41 (k0_pay19 v16 kk)) (k0_pay43 (k0_pay19 v16 kk)) (FloatOps.ofBits .f32 0#32)) (k0_pay59 (k0_pay41 (k0_pay19 v16 kk)) (k0_pay43 (k0_pay19 v16 kk)) (FloatOps.ofBits .f32 0#32))) c) V) a : FVec F S64x256 .f32) (ix2 d x)) (kk_eq arg3.view X_arg3 (k0_off10 i k) _ _ (off10 i k)) (r7_eq arg7.view f7 _ _ 6 rfl)
      (v_eq arg4.view X_arg4 (k0_off17 i k) _ _ 6 (off17 i k)) (r6_eq arg6.view f6 _ _ 6 rfl)).trans ?_
    exact congrFun (ta6 ..) _
  · intro d x
    refine (View.read_writes_cons_rows_of_mem (o := 448) _ _ _ _ _ (ix2 ⟨64 * (7 : Fin 8).val + d.val, by omega⟩ x) (ix2 d x) (by rfl) (by rfl) (by rfl)).trans ?_
    refine (c4 (fun kk c V a => (k0_pay5 (k0_pay82 (k0_pay74 v9 (k0_pay46 (k0_pay20 v16 kk)) (k0_pay60 (k0_pay20 v16 kk)) (k0_pay61 (k0_pay20 v16 kk)) c) V) a : FVec F S64x256 .f32) (ix2 d x)) (kk_eq arg3.view X_arg3 (k0_off10 i k) _ _ (off10 i k)) (r7_eq arg7.view f7 _ _ 7 rfl)
      (v_eq arg4.view X_arg4 (k0_off18 i k) _ _ 7 (off18 i k)) (r6_eq arg6.view f6 _ _ 7 rfl)).trans ?_
    exact congrFun (ta7 ..) _

end Cert.Proof.SbTrip

end
-- ==== Proof.SbDiag.lean ====
module

public import proofs.«01_k».proof.Proof.Gen.SbIdeal.Value
public import proofs.«01_k».proof.Proof.SbTrip
public import Idealize.ShloMosaic.Lib.Tactic

/-! What the chunk that holds the queries leaves in the accumulator and the carry, and the block the kernel returns. -/

@[expose] public section

set_option maxRecDepth 16384
set_option maxHeartbeats 8000000

noncomputable section

namespace Cert.Proof.SbDiag

open Cert.Proof.SbPay Cert.Proof.SbTrip Cert.SbIdeal Cert.SbIdeal.Gen Idealize.ShloMosaic.StableHlo Idealize.ShloMosaic Idealize.ShloMosaic.TcCoe Idealize.SL.Sem

variable {F : FTy → Type} [FloatOps F]

theorem trips2 (i : grid0.Coords) : (k0_t2_loop i).trips = 0 := by
  have h : ∀ n : Fin 16, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide +kernel
  exact h ⟨(i 1).val, (i 1).isLt⟩

theorem off1 (i : grid0.Coords) : k0_off1 i = ![256 * (i 1 : Fin 16).val, 0] := by
  have h1 : (i 1).val < 16 := (i 1).isLt
  have e : (BitVec.ofNat 32 (i 1).val * 256#32).toNat = 256 * (i 1 : Fin 16).val := by
    simp only [BitVec.toNat_mul, BitVec.toNat_ofNat]
    omega
  show ![(BitVec.ofNat 32 (i 1).val * 256#32).toNat, 0] = _
  rw [e]

theorem word1 (i : grid0.Coords) : (BitVec.ofNat 32 (i 1).val).toNat = (i 1 : Fin 16).val := by
  have h1 : (i 1).val < 16 := (i 1).isLt
  rw [BitVec.toNat_ofNat]
  exact Nat.mod_eq_of_lt (by omega)

theorem off2 (i : grid0.Coords) : k0_off2 i = ![0, (i 1 : Fin 16).val, 64 * (0 : Fin 8).val, 0] := by
  rw [← word1]
  rfl

theorem off3 (i : grid0.Coords) : k0_off3 i = ![0, (i 1 : Fin 16).val, 64 * (1 : Fin 8).val, 0] := by
  rw [← word1]
  rfl

theorem off4 (i : grid0.Coords) : k0_off4 i = ![0, (i 1 : Fin 16).val, 64 * (2 : Fin 8).val, 0] := by
  rw [← word1]
  rfl

theorem off5 (i : grid0.Coords) : k0_off5 i = ![0, (i 1 : Fin 16).val, 64 * (3 : Fin 8).val, 0] := by
  rw [← word1]
  rfl

theorem off6 (i : grid0.Coords) : k0_off6 i = ![0, (i 1 : Fin 16).val, 64 * (4 : Fin 8).val, 0] := by
  rw [← word1]
  rfl

theorem off7 (i : grid0.Coords) : k0_off7 i = ![0, (i 1 : Fin 16).val, 64 * (5 : Fin 8).val, 0] := by
  rw [← word1]
  rfl

theorem off8 (i : grid0.Coords) : k0_off8 i = ![0, (i 1 : Fin 16).val, 64 * (6 : Fin 8).val, 0] := by
  rw [← word1]
  rfl

theorem off9 (i : grid0.Coords) : k0_off9 i = ![0, (i 1 : Fin 16).val, 64 * (7 : Fin 8).val, 0] := by
  rw [← word1]
  rfl

variable (c' : Vec F S1x256 .f32) (V : Vec F S1x1x64x256 .bf16) (a : Vec F S64x256 .f32) (w : FVec F S256x256 .bf16) (m : IVec S256x256 1) (X : Vec F S256x512 .bf16) (K : Vec F S256x512 .bf16)

/-! Each head's masked carry and accumulator are the same ones. -/

theorem dc0 : k0_pay272 (k0_pay223 m (k0_pay199 (k0_pay188 X K))) c' = carD (zH (k0_pay183 X) K 0) c' m := rfl
theorem da0 : k0_pay271 (k0_pay261 (k0_pay253 m (k0_pay198 (k0_pay188 X K)) (k0_pay247 w (k0_pay231 m (k0_pay199 (k0_pay188 X K))) (k0_pay232 m (k0_pay199 (k0_pay188 X K))) (constant S256x256 .f32 0#32) c')) V) a = accD (zH (k0_pay183 X) K 0) c' V a w m := rfl
theorem dc1 : k0_pay274 (k0_pay224 m (k0_pay203 (k0_pay200 (k0_pay189 X K)) (k0_pay202 (k0_pay189 X K)) (FloatOps.ofBits .f32 0#32))) c' = carD (zH (k0_pay183 X) K 1) c' m := rfl
theorem da1 : k0_pay273 (k0_pay262 (k0_pay254 m (k0_pay201 (k0_pay189 X K)) (k0_pay248 w (k0_pay233 m (k0_pay203 (k0_pay200 (k0_pay189 X K)) (k0_pay202 (k0_pay189 X K)) (FloatOps.ofBits .f32 0#32))) (k0_pay234 m (k0_pay203 (k0_pay200 (k0_pay189 X K)) (k0_pay202 (k0_pay189 X K)) (FloatOps.ofBits .f32 0#32))) c')) V) a = accD (zH (k0_pay183 X) K 1) c' V a w m := rfl
theorem dc2 : k0_pay276 (k0_pay225 m (k0_pay206 (k0_pay191 (k0_pay183 X) (k0_pay190 K)))) c' = carD (zH (k0_pay183 X) K 2) c' m := rfl
theorem da2 : k0_pay275 (k0_pay263 (k0_pay255 m (k0_pay205 (k0_pay191 (k0_pay183 X) (k0_pay190 K))) (k0_pay249 w (k0_pay235 m (k0_pay206 (k0_pay191 (k0_pay183 X) (k0_pay190 K)))) (k0_pay236 m (k0_pay206 (k0_pay191 (k0_pay183 X) (k0_pay190 K)))) c')) V) a = accD (zH (k0_pay183 X) K 2) c' V a w m := rfl
theorem dc3 : k0_pay278 (k0_pay226 m (k0_pay209 (k0_pay192 (k0_pay183 X) (k0_pay187 K)))) c' = carD (zH (k0_pay183 X) K 3) c' m := rfl
theorem da3 : k0_pay277 (k0_pay264 (k0_pay256 m (k0_pay208 (k0_pay192 (k0_pay183 X) (k0_pay187 K))) (k0_pay250 w (k0_pay237 m (k0_pay209 (k0_pay192 (k0_pay183 X) (k0_pay187 K)))) (k0_pay238 m (k0_pay209 (k0_pay192 (k0_pay183 X) (k0_pay187 K)))) c')) V) a = accD (zH (k0_pay183 X) K 3) c' V a w m := rfl
theorem dc4 : k0_pay281 (k0_pay280 (k0_pay227 m (k0_pay213 (k0_pay210 (k0_pay193 (k0_pay183 X) (k0_pay187 K))) (k0_pay212 (k0_pay193 (k0_pay183 X) (k0_pay187 K))) (FloatOps.ofBits .f32 0#32))) c') = carD (zH (k0_pay183 X) K 4) c' m := rfl
theorem da4 : k0_pay279 (k0_pay265 (k0_pay257 m (k0_pay211 (k0_pay193 (k0_pay183 X) (k0_pay187 K))) (k0_pay251 w (k0_pay239 m (k0_pay213 (k0_pay210 (k0_pay193 (k0_pay183 X) (k0_pay187 K))) (k0_pay212 (k0_pay193 (k0_pay183 X) (k0_pay187 K))) (FloatOps.ofBits .f32 0#32))) (k0_pay240 m (k0_pay213 (k0_pay210 (k0_pay193 (k0_pay183 X) (k0_pay187 K))) (k0_pay212 (k0_pay193 (k0_pay183 X) (k0_pay187 K))) (FloatOps.ofBits .f32 0#32))) c')) V) a = accD (zH (k0_pay183 X) K 4) c' V a w m := rfl
theorem dc5 : k0_pay283 (k0_pay228 m (k0_pay216 (k0_pay194 (k0_pay183 X) (k0_pay187 K)))) c' = carD (zH (k0_pay183 X) K 5) c' m := rfl
theorem da5 : k0_pay282 (k0_pay266 (k0_pay258 m (k0_pay215 (k0_pay194 (k0_pay183 X) (k0_pay187 K))) (k0_pay252 w (k0_pay241 m (k0_pay216 (k0_pay194 (k0_pay183 X) (k0_pay187 K)))) (k0_pay242 m (k0_pay216 (k0_pay194 (k0_pay183 X) (k0_pay187 K)))) c')) V) a = accD (zH (k0_pay183 X) K 5) c' V a w m := rfl
theorem dc6 : k0_pay285 (k0_pay229 m (k0_pay219 (k0_pay195 (k0_pay183 X) (k0_pay187 K)))) c' = carD (zH (k0_pay183 X) K 6) c' m := rfl
theorem da6 : k0_pay284 (k0_pay269 (k0_pay267 V) (k0_pay268 (k0_pay259 w m (k0_pay218 (k0_pay195 (k0_pay183 X) (k0_pay187 K))) (k0_pay243 m (k0_pay219 (k0_pay195 (k0_pay183 X) (k0_pay187 K)))) (k0_pay244 m (k0_pay219 (k0_pay195 (k0_pay183 X) (k0_pay187 K)))) (constant S256x256 .f32 0#32) c'))) a = accD (zH (k0_pay183 X) K 6) c' V a w m := rfl
theorem dc7 : k0_pay2 (k0_pay230 m (k0_pay220 (k0_pay196 (k0_pay183 X) (k0_pay187 K))) (k0_pay222 (k0_pay196 (k0_pay183 X) (k0_pay187 K))) (FloatOps.ofBits .f32 0#32)) c' = carD (zH (k0_pay183 X) K 7) c' m := rfl
theorem da7 : k0_pay1 (k0_pay286 (k0_pay270 (k0_pay260 w m (k0_pay221 (k0_pay196 (k0_pay183 X) (k0_pay187 K))) (k0_pay245 m (k0_pay220 (k0_pay196 (k0_pay183 X) (k0_pay187 K))) (k0_pay222 (k0_pay196 (k0_pay183 X) (k0_pay187 K))) (FloatOps.ofBits .f32 0#32)) (k0_pay246 m (k0_pay220 (k0_pay196 (k0_pay183 X) (k0_pay187 K))) (k0_pay222 (k0_pay196 (k0_pay183 X) (k0_pay187 K))) (FloatOps.ofBits .f32 0#32)) c') V) a) = accD (zH (k0_pay183 X) K 7) c' V a w m := rfl

theorem t2_nil (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S256x512 .bf16) (harg5 : arg5.IsWhole) (arg6 : Memref sig .tc .vmem S512x256 .f32) (harg6 : arg6.IsWhole) (arg7 : Memref sig .tc .vmem S8x256 .f32) (harg7 : arg7.IsWhole) (v9 : FVec F S256x256 .bf16) (v16 : FVec F S512x256 .bf16) (e : BitVec 32) (X3 : BufTy.Contents (Elt F) arg3.view.ty) (X4 : BufTy.Contents (Elt F) arg4.view.ty) (G6 : BufTy.Contents (Elt F) arg6.view.ty) (G7 : BufTy.Contents (Elt F) arg7.view.ty) (n : ℕ) (h : n = 0) :
    pb_k0_t2 (F := F) Variants.none c none i arg2 harg2 arg3 harg3 arg4 harg4 arg5 harg5 arg6 harg6 arg7 harg7 (BitVec.ofNat 32 (i 1).val) v9 v16 e X3 X4 G6 G7 n = ([], []) := by
  subst h
  rfl

/-- What a row of the carry reads under the pieces of other heads. -/
theorem row7_skip {κ : Kind} {sp : Space} (v : View sig κ sp S8x256 .f32) (f : BufTy.Contents (Elt F) v.ty) (n : Fin 8) (o : ℕ) (inb) (w) (L)
    (h : n.val ≠ o) : row7 (v.read (Elt F) (v.writes (Elt F) f ((⟨Rect.unit (s := S8x256) ![o, 0] S1x256.size inb, w⟩ : View.Piece (Elt F) S8x256 .f32) :: L))) n
      = row7 (v.read (Elt F) (v.writes (Elt F) f L)) n := by
  funext y
  exact View.read_writes_cons_rows_of_not_mem (o := o) (W := 1) _ _ _ _ _ _ rfl rfl (by show n.val < o ∨ o + 1 ≤ n.val; omega)

theorem row6_skip {κ : Kind} {sp : Space} (v : View sig κ sp S512x256 .f32) (f : BufTy.Contents (Elt F) v.ty) (n : Fin 8) (o : ℕ) (inb) (w) (L)
    (h : 64 * n.val + 64 ≤ o ∨ o + 64 ≤ 64 * n.val) : row6 (v.read (Elt F) (v.writes (Elt F) f ((⟨Rect.unit (s := S512x256) ![o, 0] S64x256.size inb, w⟩ : View.Piece (Elt F) S512x256 .f32) :: L))) n
      = row6 (v.read (Elt F) (v.writes (Elt F) f L)) n := by
  funext y
  have hy : (y 0).val < 64 := (y 0).isLt
  exact View.read_writes_cons_rows_of_not_mem (o := o) (W := 64) _ _ _ _ _ _ rfl rfl (by show 64 * n.val + (y 0).val < o ∨ o + 64 ≤ 64 * n.val + (y 0).val; omega)

theorem row7_all {κ : Kind} {sp : Space} (v : View sig κ sp S8x256 .f32) (f : BufTy.Contents (Elt F) v.ty) (n : Fin 8) (inb) (w) (L) :
    row7 (v.read (Elt F) (v.writes (Elt F) f ((⟨Rect.unit (s := S8x256) ![0, 0] S8x256.size inb, w⟩ : View.Piece (Elt F) S8x256 .f32) :: L))) n = row7 w n := by
  funext y
  exact View.read_writes_cons_rows_of_mem (o := 0) _ _ _ _ _ _ _ rfl (Nat.zero_add _).symm rfl

theorem row6_all {κ : Kind} {sp : Space} (v : View sig κ sp S512x256 .f32) (f : BufTy.Contents (Elt F) v.ty) (n : Fin 8) (inb) (w) (L) :
    row6 (v.read (Elt F) (v.writes (Elt F) f ((⟨Rect.unit (s := S512x256) ![0, 0] S512x256.size inb, w⟩ : View.Piece (Elt F) S512x256 .f32) :: L))) n = row6 w n := by
  funext y
  exact View.read_writes_cons_rows_of_mem (o := 0) _ _ _ _ _ _ _ rfl (Nat.zero_add _).symm rfl

theorem x_eq {κ : Kind} {sp : Space} (v : View sig κ sp S256x512 .bf16) (X : BufTy.Contents (Elt F) v.ty) (inb) :
    View.readAt (Elt F) v (Rect.unit (s := S256x512) ![0, 0] S256x512.size inb).toLoadRect X = v.read (Elt F) X := by
  funext y
  exact View.ld_unit_apply_of (v.read (Elt F) X) _ _ inb y _ (Fin.forall_fin_two.mpr ⟨(Nat.zero_add _).symm, (Nat.zero_add _).symm⟩)

theorem c5 {α β γ δ ε ζ : Type} (f : α → β → γ → δ → ε → ζ) {a a' : α} {b b' : β} {c c' : γ} {d d' : δ} {e e' : ε} (h0 : a = a') (h1 : b = b') (h2 : c = c') (h3 : d = d') (h4 : e = e') :
    f a b c d e = f a' b' c' d' e' := by
  subst h0 h1 h2 h3 h4; rfl

theorem run (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S256x512 .bf16) (harg5 : arg5.IsWhole) (arg6 : Memref sig .tc .vmem S512x256 .f32) (harg6 : arg6.IsWhole) (arg7 : Memref sig .tc .vmem S8x256 .f32) (harg7 : arg7.IsWhole) (x0 : Vec F S256x512 .bf16) (x1 : Vec F S4096x512 .bf16) (x2 : Vec F S1x16x512x256 .bf16) :
    ∃ (D6 : List (View.Piece (Elt F) S512x256 .f32)) (D7 : List (View.Piece (Elt F) S8x256 .f32)),
    (kernelRun0_A (F := F) c i arg2 harg2 arg3 harg3 arg4 harg4 arg5 harg5 arg6 harg6 arg7 harg7 x0 x1 x2).1 = [⟨Rect.unit ![0, 0] ![256, 512] inb_S256x512_S256x512_0_0, k0_pay11 (View.readAt (Elt F) arg6.view (Rect.unit ![0, 0] ![512, 256] inb_S512x256_S512x256_0_0).toLoadRect
      (arg6.view.writes (Elt F) arg6.view.junk ((pb_k0_t1 Variants.none c none i arg2 harg2 arg3 harg3 arg4 harg4 arg5 harg5 arg6 harg6 arg7 harg7 (BitVec.ofNat 32 (i 1).val) k0_pay182 (k0_pay183 x0) (harg3.unread x1) (harg4.unread x2)
        (arg6.view.writes (Elt F) arg6.view.junk D6) (arg7.view.writes (Elt F) arg7.view.junk D7) (k0_t1_loop i).trips).1 ++ D6)))⟩]
    ∧ (∀ x : Fin 256, arg7.view.read (Elt F) (arg7.view.writes (Elt F) arg7.view.junk D7) (ix2 0 x) = carD (zH (k0_pay183 x0) (kkOf x1 (i 1)) 0) (row7 k0_pay185 0) (k0_pay186 i) (ix2 0 x))
    ∧ (∀ x : Fin 256, arg7.view.read (Elt F) (arg7.view.writes (Elt F) arg7.view.junk D7) (ix2 1 x) = carD (zH (k0_pay183 x0) (kkOf x1 (i 1)) 1) (row7 k0_pay185 1) (k0_pay186 i) (ix2 0 x))
    ∧ (∀ x : Fin 256, arg7.view.read (Elt F) (arg7.view.writes (Elt F) arg7.view.junk D7) (ix2 2 x) = carD (zH (k0_pay183 x0) (kkOf x1 (i 1)) 2) (row7 k0_pay185 2) (k0_pay186 i) (ix2 0 x))
    ∧ (∀ x : Fin 256, arg7.view.read (Elt F) (arg7.view.writes (Elt F) arg7.view.junk D7) (ix2 3 x) = carD (zH (k0_pay183 x0) (kkOf x1 (i 1)) 3) (row7 k0_pay185 3) (k0_pay186 i) (ix2 0 x))
    ∧ (∀ x : Fin 256, arg7.view.read (Elt F) (arg7.view.writes (Elt F) arg7.view.junk D7) (ix2 4 x) = carD (zH (k0_pay183 x0) (kkOf x1 (i 1)) 4) (row7 k0_pay185 4) (k0_pay186 i) (ix2 0 x))
    ∧ (∀ x : Fin 256, arg7.view.read (Elt F) (arg7.view.writes (Elt F) arg7.view.junk D7) (ix2 5 x) = carD (zH (k0_pay183 x0) (kkOf x1 (i 1)) 5) (row7 k0_pay185 5) (k0_pay186 i) (ix2 0 x))
    ∧ (∀ x : Fin 256, arg7.view.read (Elt F) (arg7.view.writes (Elt F) arg7.view.junk D7) (ix2 6 x) = carD (zH (k0_pay183 x0) (kkOf x1 (i 1)) 6) (row7 k0_pay185 6) (k0_pay186 i) (ix2 0 x))
    ∧ (∀ x : Fin 256, arg7.view.read (Elt F) (arg7.view.writes (Elt F) arg7.view.junk D7) (ix2 7 x) = carD (zH (k0_pay183 x0) (kkOf x1 (i 1)) 7) (row7 k0_pay185 7) (k0_pay186 i) (ix2 0 x))
    ∧ (∀ (d : Fin 64) (x : Fin 256), arg6.view.read (Elt F) (arg6.view.writes (Elt F) arg6.view.junk D6) (ix2 ⟨64 * (0 : Fin 8).val + d.val, by omega⟩ x) = accD (zH (k0_pay183 x0) (kkOf x1 (i 1)) 0) (row7 k0_pay185 0) (vOf x2 (i 1) 0) (row6 k0_pay184 0) k0_pay182 (k0_pay186 i) (ix2 d x))
    ∧ (∀ (d : Fin 64) (x : Fin 256), arg6.view.read (Elt F) (arg6.view.writes (Elt F) arg6.view.junk D6) (ix2 ⟨64 * (1 : Fin 8).val + d.val, by omega⟩ x) = accD (zH (k0_pay183 x0) (kkOf x1 (i 1)) 1) (row7 k0_pay185 1) (vOf x2 (i 1) 1) (row6 k0_pay184 1) k0_pay182 (k0_pay186 i) (ix2 d x))
    ∧ (∀ (d : Fin 64) (x : Fin 256), arg6.view.read (Elt F) (arg6.view.writes (Elt F) arg6.view.junk D6) (ix2 ⟨64 * (2 : Fin 8).val + d.val, by omega⟩ x) = accD (zH (k0_pay183 x0) (kkOf x1 (i 1)) 2) (row7 k0_pay185 2) (vOf x2 (i 1) 2) (row6 k0_pay184 2) k0_pay182 (k0_pay186 i) (ix2 d x))
    ∧ (∀ (d : Fin 64) (x : Fin 256), arg6.view.read (Elt F) (arg6.view.writes (Elt F) arg6.view.junk D6) (ix2 ⟨64 * (3 : Fin 8).val + d.val, by omega⟩ x) = accD (zH (k0_pay183 x0) (kkOf x1 (i 1)) 3) (row7 k0_pay185 3) (vOf x2 (i 1) 3) (row6 k0_pay184 3) k0_pay182 (k0_pay186 i) (ix2 d x))
    ∧ (∀ (d : Fin 64) (x : Fin 256), arg6.view.read (Elt F) (arg6.view.writes (Elt F) arg6.view.junk D6) (ix2 ⟨64 * (4 : Fin 8).val + d.val, by omega⟩ x) = accD (zH (k0_pay183 x0) (kkOf x1 (i 1)) 4) (row7 k0_pay185 4) (vOf x2 (i 1) 4) (row6 k0_pay184 4) k0_pay182 (k0_pay186 i) (ix2 d x))
    ∧ (∀ (d : Fin 64) (x : Fin 256), arg6.view.read (Elt F) (arg6.view.writes (Elt F) arg6.view.junk D6) (ix2 ⟨64 * (5 : Fin 8).val + d.val, by omega⟩ x) = accD (zH (k0_pay183 x0) (kkOf x1 (i 1)) 5) (row7 k0_pay185 5) (vOf x2 (i 1) 5) (row6 k0_pay184 5) k0_pay182 (k0_pay186 i) (ix2 d x))
    ∧ (∀ (d : Fin 64) (x : Fin 256), arg6.view.read (Elt F) (arg6.view.writes (Elt F) arg6.view.junk D6) (ix2 ⟨64 * (6 : Fin 8).val + d.val, by omega⟩ x) = accD (zH (k0_pay183 x0) (kkOf x1 (i 1)) 6) (row7 k0_pay185 6) (vOf x2 (i 1) 6) (row6 k0_pay184 6) k0_pay182 (k0_pay186 i) (ix2 d x))
    ∧ (∀ (d : Fin 64) (x : Fin 256), arg6.view.read (Elt F) (arg6.view.writes (Elt F) arg6.view.junk D6) (ix2 ⟨64 * (7 : Fin 8).val + d.val, by omega⟩ x) = accD (zH (k0_pay183 x0) (kkOf x1 (i 1)) 7) (row7 k0_pay185 7) (vOf x2 (i 1) 7) (row6 k0_pay184 7) k0_pay182 (k0_pay186 i) (ix2 d x)) := by
  have hq := (x_eq arg2.view (harg2.unread x0) inb_S256x512_S256x512_0_0).trans (harg2.read_unread x0)
  have hk := (kk_eq arg3.view (harg3.unread x1) (k0_off1 i) (Facts₀.k0_off1_inb i) (i 1) (off1 i)).trans (congrArg (kkOf · (i 1)) (harg3.read_unread x1))
  unfold kernelRun0_A
  dsimp only
  sl_unfold_words
  rw [hq]
  rw [t2_nil (h := trips2 i)]
  refine ⟨_, _, rfl, ?_, ?_, ?_, ?_, ?_, ?_, ?_, ?_, ?_, ?_, ?_, ?_, ?_, ?_, ?_, ?_⟩
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_not_mem (o := 3) (W := 1) _ _ _ _ _ _ rfl rfl (by simp [ix2])).trans ?_
    refine (View.read_writes_cons_rows_of_not_mem (o := 2) (W := 1) _ _ _ _ _ _ rfl rfl (by simp [ix2])).trans ?_
    refine (View.read_writes_cons_rows_of_not_mem (o := 1) (W := 1) _ _ _ _ _ _ rfl rfl (by simp [ix2])).trans ?_
    refine (View.read_writes_cons_rows_of_mem (o := 0) _ _ _ _ _ (ix2 0 x) (ix2 0 x) (by rfl) (by rfl) (by rfl)).trans ?_
    refine (congrFun (dc0 _ _ _ _) _).trans ?_
    refine congrArg₂ (fun kk c => carD (zH (k0_pay183 x0) kk 0) c (k0_pay186 i) (ix2 0 x)) hk ?_
    refine (r7_eq arg7.view _ _ _ 0 rfl).trans ?_
    exact row7_all (F := F) arg7.view arg7.view.junk 0 _ _ _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_not_mem (o := 3) (W := 1) _ _ _ _ _ _ rfl rfl (by simp [ix2])).trans ?_
    refine (View.read_writes_cons_rows_of_not_mem (o := 2) (W := 1) _ _ _ _ _ _ rfl rfl (by simp [ix2])).trans ?_
    refine (View.read_writes_cons_rows_of_mem (o := 1) _ _ _ _ _ (ix2 1 x) (ix2 0 x) (by rfl) (by rfl) (by rfl)).trans ?_
    refine (congrFun (dc1 _ _ _ _) _).trans ?_
    refine congrArg₂ (fun kk c => carD (zH (k0_pay183 x0) kk 1) c (k0_pay186 i) (ix2 0 x)) hk ?_
    refine (r7_eq arg7.view _ _ _ 1 rfl).trans ?_
    refine (row7_skip (F := F) arg7.view arg7.view.junk 1 0 _ _ _ (by decide)).trans ?_
    exact row7_all (F := F) arg7.view arg7.view.junk 1 _ _ _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_not_mem (o := 3) (W := 1) _ _ _ _ _ _ rfl rfl (by simp [ix2])).trans ?_
    refine (View.read_writes_cons_rows_of_mem (o := 2) _ _ _ _ _ (ix2 2 x) (ix2 0 x) (by rfl) (by rfl) (by rfl)).trans ?_
    refine (congrFun (dc2 _ _ _ _) _).trans ?_
    refine congrArg₂ (fun kk c => carD (zH (k0_pay183 x0) kk 2) c (k0_pay186 i) (ix2 0 x)) hk ?_
    refine (r7_eq arg7.view _ _ _ 2 rfl).trans ?_
    refine (row7_skip (F := F) arg7.view arg7.view.junk 2 1 _ _ _ (by decide)).trans ?_
    refine (row7_skip (F := F) arg7.view arg7.view.junk 2 0 _ _ _ (by decide)).trans ?_
    exact row7_all (F := F) arg7.view arg7.view.junk 2 _ _ _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_not_mem (o := 4) (W := 1) _ _ _ _ _ _ rfl rfl (by simp [ix2])).trans ?_
    refine (View.read_writes_cons_rows_of_mem (o := 3) _ _ _ _ _ (ix2 3 x) (ix2 0 x) (by rfl) (by rfl) (by rfl)).trans ?_
    refine (congrFun (dc3 _ _ _ _) _).trans ?_
    refine congrArg₂ (fun kk c => carD (zH (k0_pay183 x0) kk 3) c (k0_pay186 i) (ix2 0 x)) hk ?_
    refine (r7_eq arg7.view _ _ _ 3 rfl).trans ?_
    refine (row7_skip (F := F) arg7.view arg7.view.junk 3 2 _ _ _ (by decide)).trans ?_
    refine (row7_skip (F := F) arg7.view arg7.view.junk 3 1 _ _ _ (by decide)).trans ?_
    refine (row7_skip (F := F) arg7.view arg7.view.junk 3 0 _ _ _ (by decide)).trans ?_
    exact row7_all (F := F) arg7.view arg7.view.junk 3 _ _ _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_not_mem (o := 5) (W := 1) _ _ _ _ _ _ rfl rfl (by simp [ix2])).trans ?_
    refine (View.read_writes_cons_rows_of_mem (o := 4) _ _ _ _ _ (ix2 4 x) (ix2 0 x) (by rfl) (by rfl) (by rfl)).trans ?_
    refine (congrFun (dc4 _ _ _ _) _).trans ?_
    refine congrArg₂ (fun kk c => carD (zH (k0_pay183 x0) kk 4) c (k0_pay186 i) (ix2 0 x)) hk ?_
    refine (r7_eq arg7.view _ _ _ 4 rfl).trans ?_
    refine (row7_skip (F := F) arg7.view arg7.view.junk 4 3 _ _ _ (by decide)).trans ?_
    refine (row7_skip (F := F) arg7.view arg7.view.junk 4 2 _ _ _ (by decide)).trans ?_
    refine (row7_skip (F := F) arg7.view arg7.view.junk 4 1 _ _ _ (by decide)).trans ?_
    refine (row7_skip (F := F) arg7.view arg7.view.junk 4 0 _ _ _ (by decide)).trans ?_
    exact row7_all (F := F) arg7.view arg7.view.junk 4 _ _ _
  · intro x
    refine (View.read_writes_cons_rows_of_not_mem (o := 7) (W := 1) _ _ _ _ _ _ rfl rfl (by simp [ix2])).trans ?_
    refine (View.read_writes_cons_rows_of_not_mem (o := 6) (W := 1) _ _ _ _ _ _ rfl rfl (by simp [ix2])).trans ?_
    refine (View.read_writes_cons_rows_of_mem (o := 5) _ _ _ _ _ (ix2 5 x) (ix2 0 x) (by rfl) (by rfl) (by rfl)).trans ?_
    refine (congrFun (dc5 _ _ _ _) _).trans ?_
    refine congrArg₂ (fun kk c => carD (zH (k0_pay183 x0) kk 5) c (k0_pay186 i) (ix2 0 x)) hk ?_
    refine (r7_eq arg7.view _ _ _ 5 rfl).trans ?_
    refine (row7_skip (F := F) arg7.view arg7.view.junk 5 4 _ _ _ (by decide)).trans ?_
    refine (row7_skip (F := F) arg7.view arg7.view.junk 5 3 _ _ _ (by decide)).trans ?_
    refine (row7_skip (F := F) arg7.view arg7.view.junk 5 2 _ _ _ (by decide)).trans ?_
    refine (row7_skip (F := F) arg7.view arg7.view.junk 5 1 _ _ _ (by decide)).trans ?_
    refine (row7_skip (F := F) arg7.view arg7.view.junk 5 0 _ _ _ (by decide)).trans ?_
    exact row7_all (F := F) arg7.view arg7.view.junk 5 _ _ _
  · intro x
    refine (View.read_writes_cons_rows_of_not_mem (o := 7) (W := 1) _ _ _ _ _ _ rfl rfl (by simp [ix2])).trans ?_
    refine (View.read_writes_cons_rows_of_mem (o := 6) _ _ _ _ _ (ix2 6 x) (ix2 0 x) (by rfl) (by rfl) (by rfl)).trans ?_
    refine (congrFun (dc6 _ _ _ _) _).trans ?_
    refine congrArg₂ (fun kk c => carD (zH (k0_pay183 x0) kk 6) c (k0_pay186 i) (ix2 0 x)) hk ?_
    refine (r7_eq arg7.view _ _ _ 6 rfl).trans ?_
    refine (row7_skip (F := F) arg7.view arg7.view.junk 6 5 _ _ _ (by decide)).trans ?_
    refine (row7_skip (F := F) arg7.view arg7.view.junk 6 4 _ _ _ (by decide)).trans ?_
    refine (row7_skip (F := F) arg7.view arg7.view.junk 6 3 _ _ _ (by decide)).trans ?_
    refine (row7_skip (F := F) arg7.view arg7.view.junk 6 2 _ _ _ (by decide)).trans ?_
    refine (row7_skip (F := F) arg7.view arg7.view.junk 6 1 _ _ _ (by decide)).trans ?_
    refine (row7_skip (F := F) arg7.view arg7.view.junk 6 0 _ _ _ (by decide)).trans ?_
    exact row7_all (F := F) arg7.view arg7.view.junk 6 _ _ _
  · intro x
    refine (View.read_writes_cons_rows_of_mem (o := 7) _ _ _ _ _ (ix2 7 x) (ix2 0 x) (by rfl) (by rfl) (by rfl)).trans ?_
    refine (congrFun (dc7 _ _ _ _) _).trans ?_
    refine congrArg₂ (fun kk c => carD (zH (k0_pay183 x0) kk 7) c (k0_pay186 i) (ix2 0 x)) hk ?_
    refine (r7_eq arg7.view _ _ _ 7 rfl).trans ?_
    refine (row7_skip (F := F) arg7.view arg7.view.junk 7 6 _ _ _ (by decide)).trans ?_
    refine (row7_skip (F := F) arg7.view arg7.view.junk 7 5 _ _ _ (by decide)).trans ?_
    refine (row7_skip (F := F) arg7.view arg7.view.junk 7 4 _ _ _ (by decide)).trans ?_
    refine (row7_skip (F := F) arg7.view arg7.view.junk 7 3 _ _ _ (by decide)).trans ?_
    refine (row7_skip (F := F) arg7.view arg7.view.junk 7 2 _ _ _ (by decide)).trans ?_
    refine (row7_skip (F := F) arg7.view arg7.view.junk 7 1 _ _ _ (by decide)).trans ?_
    refine (row7_skip (F := F) arg7.view arg7.view.junk 7 0 _ _ _ (by decide)).trans ?_
    exact row7_all (F := F) arg7.view arg7.view.junk 7 _ _ _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_not_mem (o := 192) (W := 64) _ _ _ _ _ _ rfl rfl (by simp [ix2] <;> omega)).trans ?_
    refine (View.read_writes_cons_rows_of_not_mem (o := 128) (W := 64) _ _ _ _ _ _ rfl rfl (by simp [ix2] <;> omega)).trans ?_
    refine (View.read_writes_cons_rows_of_not_mem (o := 64) (W := 64) _ _ _ _ _ _ rfl rfl (by simp [ix2] <;> omega)).trans ?_
    refine (View.read_writes_cons_rows_of_mem (o := 0) _ _ _ _ _ (ix2 ⟨64 * (0 : Fin 8).val + d.val, by omega⟩ x) (ix2 d x) (by rfl) (by rfl) (by rfl)).trans ?_
    refine (congrFun (da0 _ _ _ _ _ _ _) _).trans ?_
    refine c4 (fun kk c V a => accD (zH (k0_pay183 x0) kk 0) c V a k0_pay182 (k0_pay186 i) (ix2 d x)) hk ?_
      ((v_eq arg4.view (harg4.unread x2) (k0_off2 i) (_) (i 1) 0 (off2 i)).trans (congrArg (vOf · (i 1) 0) (harg4.read_unread x2))) ?_
    · refine (r7_eq arg7.view _ _ _ 0 rfl).trans ?_
      exact row7_all (F := F) arg7.view arg7.view.junk 0 _ _ _
    · refine (r6_eq arg6.view _ _ _ 0 rfl).trans ?_
      exact row6_all (F := F) arg6.view arg6.view.junk 0 _ _ _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_not_mem (o := 192) (W := 64) _ _ _ _ _ _ rfl rfl (by simp [ix2] <;> omega)).trans ?_
    refine (View.read_writes_cons_rows_of_not_mem (o := 128) (W := 64) _ _ _ _ _ _ rfl rfl (by simp [ix2] <;> omega)).trans ?_
    refine (View.read_writes_cons_rows_of_mem (o := 64) _ _ _ _ _ (ix2 ⟨64 * (1 : Fin 8).val + d.val, by omega⟩ x) (ix2 d x) (by rfl) (by rfl) (by rfl)).trans ?_
    refine (congrFun (da1 _ _ _ _ _ _ _) _).trans ?_
    refine c4 (fun kk c V a => accD (zH (k0_pay183 x0) kk 1) c V a k0_pay182 (k0_pay186 i) (ix2 d x)) hk ?_
      ((v_eq arg4.view (harg4.unread x2) (k0_off3 i) (_) (i 1) 1 (off3 i)).trans (congrArg (vOf · (i 1) 1) (harg4.read_unread x2))) ?_
    · refine (r7_eq arg7.view _ _ _ 1 rfl).trans ?_
      exact row7_all (F := F) arg7.view arg7.view.junk 1 _ _ _
    · refine (r6_eq arg6.view _ _ _ 1 rfl).trans ?_
      refine (row6_skip (F := F) arg6.view arg6.view.junk 1 0 _ _ _ (by decide)).trans ?_
      exact row6_all (F := F) arg6.view arg6.view.junk 1 _ _ _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_not_mem (o := 192) (W := 64) _ _ _ _ _ _ rfl rfl (by simp [ix2] <;> omega)).trans ?_
    refine (View.read_writes_cons_rows_of_mem (o := 128) _ _ _ _ _ (ix2 ⟨64 * (2 : Fin 8).val + d.val, by omega⟩ x) (ix2 d x) (by rfl) (by rfl) (by rfl)).trans ?_
    refine (congrFun (da2 _ _ _ _ _ _ _) _).trans ?_
    refine c4 (fun kk c V a => accD (zH (k0_pay183 x0) kk 2) c V a k0_pay182 (k0_pay186 i) (ix2 d x)) hk ?_
      ((v_eq arg4.view (harg4.unread x2) (k0_off4 i) (_) (i 1) 2 (off4 i)).trans (congrArg (vOf · (i 1) 2) (harg4.read_unread x2))) ?_
    · refine (r7_eq arg7.view _ _ _ 2 rfl).trans ?_
      exact row7_all (F := F) arg7.view arg7.view.junk 2 _ _ _
    · refine (r6_eq arg6.view _ _ _ 2 rfl).trans ?_
      refine (row6_skip (F := F) arg6.view arg6.view.junk 2 64 _ _ _ (by decide)).trans ?_
      refine (row6_skip (F := F) arg6.view arg6.view.junk 2 0 _ _ _ (by decide)).trans ?_
      exact row6_all (F := F) arg6.view arg6.view.junk 2 _ _ _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_not_mem (o := 256) (W := 64) _ _ _ _ _ _ rfl rfl (by simp [ix2] <;> omega)).trans ?_
    refine (View.read_writes_cons_rows_of_mem (o := 192) _ _ _ _ _ (ix2 ⟨64 * (3 : Fin 8).val + d.val, by omega⟩ x) (ix2 d x) (by rfl) (by rfl) (by rfl)).trans ?_
    refine (congrFun (da3 _ _ _ _ _ _ _) _).trans ?_
    refine c4 (fun kk c V a => accD (zH (k0_pay183 x0) kk 3) c V a k0_pay182 (k0_pay186 i) (ix2 d x)) hk ?_
      ((v_eq arg4.view (harg4.unread x2) (k0_off5 i) (_) (i 1) 3 (off5 i)).trans (congrArg (vOf · (i 1) 3) (harg4.read_unread x2))) ?_
    · refine (r7_eq arg7.view _ _ _ 3 rfl).trans ?_
      exact row7_all (F := F) arg7.view arg7.view.junk 3 _ _ _
    · refine (r6_eq arg6.view _ _ _ 3 rfl).trans ?_
      refine (row6_skip (F := F) arg6.view arg6.view.junk 3 128 _ _ _ (by decide)).trans ?_
      refine (row6_skip (F := F) arg6.view arg6.view.junk 3 64 _ _ _ (by decide)).trans ?_
      refine (row6_skip (F := F) arg6.view arg6.view.junk 3 0 _ _ _ (by decide)).trans ?_
      exact row6_all (F := F) arg6.view arg6.view.junk 3 _ _ _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_not_mem (o := 320) (W := 64) _ _ _ _ _ _ rfl rfl (by simp [ix2] <;> omega)).trans ?_
    refine (View.read_writes_cons_rows_of_mem (o := 256) _ _ _ _ _ (ix2 ⟨64 * (4 : Fin 8).val + d.val, by omega⟩ x) (ix2 d x) (by rfl) (by rfl) (by rfl)).trans ?_
    refine (congrFun (da4 _ _ _ _ _ _ _) _).trans ?_
    refine c4 (fun kk c V a => accD (zH (k0_pay183 x0) kk 4) c V a k0_pay182 (k0_pay186 i) (ix2 d x)) hk ?_
      ((v_eq arg4.view (harg4.unread x2) (k0_off6 i) (_) (i 1) 4 (off6 i)).trans (congrArg (vOf · (i 1) 4) (harg4.read_unread x2))) ?_
    · refine (r7_eq arg7.view _ _ _ 4 rfl).trans ?_
      exact row7_all (F := F) arg7.view arg7.view.junk 4 _ _ _
    · refine (r6_eq arg6.view _ _ _ 4 rfl).trans ?_
      refine (row6_skip (F := F) arg6.view arg6.view.junk 4 192 _ _ _ (by decide)).trans ?_
      refine (row6_skip (F := F) arg6.view arg6.view.junk 4 128 _ _ _ (by decide)).trans ?_
      refine (row6_skip (F := F) arg6.view arg6.view.junk 4 64 _ _ _ (by decide)).trans ?_
      refine (row6_skip (F := F) arg6.view arg6.view.junk 4 0 _ _ _ (by decide)).trans ?_
      exact row6_all (F := F) arg6.view arg6.view.junk 4 _ _ _
  · intro d x
    refine (View.read_writes_cons_rows_of_not_mem (o := 448) (W := 64) _ _ _ _ _ _ rfl rfl (by simp [ix2] <;> omega)).trans ?_
    refine (View.read_writes_cons_rows_of_not_mem (o := 384) (W := 64) _ _ _ _ _ _ rfl rfl (by simp [ix2] <;> omega)).trans ?_
    refine (View.read_writes_cons_rows_of_mem (o := 320) _ _ _ _ _ (ix2 ⟨64 * (5 : Fin 8).val + d.val, by omega⟩ x) (ix2 d x) (by rfl) (by rfl) (by rfl)).trans ?_
    refine (congrFun (da5 _ _ _ _ _ _ _) _).trans ?_
    refine c4 (fun kk c V a => accD (zH (k0_pay183 x0) kk 5) c V a k0_pay182 (k0_pay186 i) (ix2 d x)) hk ?_
      ((v_eq arg4.view (harg4.unread x2) (k0_off7 i) (_) (i 1) 5 (off7 i)).trans (congrArg (vOf · (i 1) 5) (harg4.read_unread x2))) ?_
    · refine (r7_eq arg7.view _ _ _ 5 rfl).trans ?_
      exact row7_all (F := F) arg7.view arg7.view.junk 5 _ _ _
    · refine (r6_eq arg6.view _ _ _ 5 rfl).trans ?_
      refine (row6_skip (F := F) arg6.view arg6.view.junk 5 256 _ _ _ (by decide)).trans ?_
      refine (row6_skip (F := F) arg6.view arg6.view.junk 5 192 _ _ _ (by decide)).trans ?_
      refine (row6_skip (F := F) arg6.view arg6.view.junk 5 128 _ _ _ (by decide)).trans ?_
      refine (row6_skip (F := F) arg6.view arg6.view.junk 5 64 _ _ _ (by decide)).trans ?_
      refine (row6_skip (F := F) arg6.view arg6.view.junk 5 0 _ _ _ (by decide)).trans ?_
      exact row6_all (F := F) arg6.view arg6.view.junk 5 _ _ _
  · intro d x
    refine (View.read_writes_cons_rows_of_not_mem (o := 448) (W := 64) _ _ _ _ _ _ rfl rfl (by simp [ix2] <;> omega)).trans ?_
    refine (View.read_writes_cons_rows_of_mem (o := 384) _ _ _ _ _ (ix2 ⟨64 * (6 : Fin 8).val + d.val, by omega⟩ x) (ix2 d x) (by rfl) (by rfl) (by rfl)).trans ?_
    refine (congrFun (da6 _ _ _ _ _ _ _) _).trans ?_
    refine c4 (fun kk c V a => accD (zH (k0_pay183 x0) kk 6) c V a k0_pay182 (k0_pay186 i) (ix2 d x)) hk ?_
      ((v_eq arg4.view (harg4.unread x2) (k0_off8 i) (_) (i 1) 6 (off8 i)).trans (congrArg (vOf · (i 1) 6) (harg4.read_unread x2))) ?_
    · refine (r7_eq arg7.view _ _ _ 6 rfl).trans ?_
      exact row7_all (F := F) arg7.view arg7.view.junk 6 _ _ _
    · refine (r6_eq arg6.view _ _ _ 6 rfl).trans ?_
      refine (row6_skip (F := F) arg6.view arg6.view.junk 6 320 _ _ _ (by decide)).trans ?_
      refine (row6_skip (F := F) arg6.view arg6.view.junk 6 256 _ _ _ (by decide)).trans ?_
      refine (row6_skip (F := F) arg6.view arg6.view.junk 6 192 _ _ _ (by decide)).trans ?_
      refine (row6_skip (F := F) arg6.view arg6.view.junk 6 128 _ _ _ (by decide)).trans ?_
      refine (row6_skip (F := F) arg6.view arg6.view.junk 6 64 _ _ _ (by decide)).trans ?_
      refine (row6_skip (F := F) arg6.view arg6.view.junk 6 0 _ _ _ (by decide)).trans ?_
      exact row6_all (F := F) arg6.view arg6.view.junk 6 _ _ _
  · intro d x
    refine (View.read_writes_cons_rows_of_mem (o := 448) _ _ _ _ _ (ix2 ⟨64 * (7 : Fin 8).val + d.val, by omega⟩ x) (ix2 d x) (by rfl) (by rfl) (by rfl)).trans ?_
    refine (congrFun (da7 _ _ _ _ _ _ _) _).trans ?_
    refine c4 (fun kk c V a => accD (zH (k0_pay183 x0) kk 7) c V a k0_pay182 (k0_pay186 i) (ix2 d x)) hk ?_
      ((v_eq arg4.view (harg4.unread x2) (k0_off9 i) (_) (i 1) 7 (off9 i)).trans (congrArg (vOf · (i 1) 7) (harg4.read_unread x2))) ?_
    · refine (r7_eq arg7.view _ _ _ 7 rfl).trans ?_
      exact row7_all (F := F) arg7.view arg7.view.junk 7 _ _ _
    · refine (r6_eq arg6.view _ _ _ 7 rfl).trans ?_
      refine (row6_skip (F := F) arg6.view arg6.view.junk 7 384 _ _ _ (by decide)).trans ?_
      refine (row6_skip (F := F) arg6.view arg6.view.junk 7 320 _ _ _ (by decide)).trans ?_
      refine (row6_skip (F := F) arg6.view arg6.view.junk 7 256 _ _ _ (by decide)).trans ?_
      refine (row6_skip (F := F) arg6.view arg6.view.junk 7 192 _ _ _ (by decide)).trans ?_
      refine (row6_skip (F := F) arg6.view arg6.view.junk 7 128 _ _ _ (by decide)).trans ?_
      refine (row6_skip (F := F) arg6.view arg6.view.junk 7 64 _ _ _ (by decide)).trans ?_
      refine (row6_skip (F := F) arg6.view arg6.view.junk 7 0 _ _ _ (by decide)).trans ?_
      exact row6_all (F := F) arg6.view arg6.view.junk 7 _ _ _

end Cert.Proof.SbDiag

end
-- ==== Proof.SbState.lean ====
module

public import proofs.«01_k».proof.Proof.Gen.SbIdeal.Value
public import proofs.«01_k».proof.Proof.SbDiag
public import Idealize.ShloMosaic.Lib.Tactic

/-! What the accumulator and the carry hold at exact arithmetic, from the diagonal chunk back to the first. -/

@[expose] public section

set_option maxRecDepth 16384
set_option maxHeartbeats 4000000

noncomputable section

namespace Cert.Proof.SbState

open Cert.Proof.SbMath Cert.Proof.SbPay Cert.Proof.SbTrip Cert.Proof.SbDiag Cert.SbIdeal Cert.SbIdeal.Gen Idealize.ShloMosaic.StableHlo Idealize.ShloMosaic Idealize.ShloMosaic.TcCoe Idealize.SL.Sem

section Chunk

variable (Z : ℕ → ℝ) (t : ℕ) (u : ℕ → EReal)
  (z : FVec Ideal S256x256 .f32) (c : Vec Ideal S1x256 .f32) (V : Vec Ideal S1x1x64x256 .bf16) (A : Vec Ideal S64x256 .f32) (m : IVec S256x256 1) (a : ℕ) (d : Fin 64) (x : Fin 256)

/-- The carry after a chunk that lies wholly before the query. -/
theorem car_whole (h : a + 256 ≤ 4096) (ht : a + 256 ≤ t) (hz : ∀ j : Fin 256, z (ix2 j x) = ((Z (a + j.val) : ℝ) : EReal))
    (hc : c (ix2 0 x) = ((suf Z t (a + 256) : ℝ) : EReal)) : carT z c (ix2 0 x) = ((suf Z t a : ℝ) : EReal) := by
  rw [carT, car_apply, hc, ← suf_chunk Z t a h]
  congr 1
  refine Finset.sum_congr rfl fun j _ => ?_
  rw [lk_apply z j x _ (hz j), lkm, if_pos (by omega)]

/-- The accumulator after a chunk that lies wholly before the query. -/
theorem acc_whole (h : a + 256 ≤ 4096) (ht : a + 256 ≤ t) (hz : ∀ j : Fin 256, z (ix2 j x) = ((Z (a + j.val) : ℝ) : EReal))
    (hc : c (ix2 0 x) = ((suf Z t (a + 256) : ℝ) : EReal)) (hV : ∀ j : Fin 256, V (ix4 0 0 d j) = u (a + j.val))
    (hA : A (ix2 d x) = acc Z t u (a + 256)) : accT z c V A k0_pay182 (ix2 d x) = acc Z t u a := by
  have hl : ∀ j : Fin 256, k0_pay27 z (ix2 j x) = ((lkm Z t (a + j.val) : ℝ) : EReal) := fun j => by
    rw [lk_apply z j x _ (hz j), lkm, if_pos (by omega)]
  rw [accT, acc'_apply, hA, ← acc_chunk Z t u a h]
  congr 1
  refine Finset.sum_congr rfl fun j _ => ?_
  rw [hV, suf_apply]
  simp only [later_apply, hl]
  rw [hc, suf_within Z t a h j, lb_apply z j x _ (hz j), ← EReal.coe_add, Ideal.exp_coe, wt, if_pos (by omega)]

/-- The carry after the chunk that holds the query. -/
theorem car_diag (h : a + 256 ≤ 4096) (ht : t = a + x.val) (hz : ∀ j : Fin 256, z (ix2 j x) = ((Z (a + j.val) : ℝ) : EReal))
    (hm : ∀ j : Fin 256, m (ix2 j x) = if j.val < x.val then 1#1 else 0#1) (hc : c (ix2 0 x) = 0) :
    carD z c m (ix2 0 x) = ((suf Z t a : ℝ) : EReal) := by
  rw [carD, car_apply, hc, ← suf_chunk Z t a h, suf_past Z t (a + 256) (by omega), EReal.coe_zero]
  congr 1
  refine Finset.sum_congr rfl fun j _ => ?_
  rw [msk_apply, lk_apply z j x _ (hz j), hm, lkm]
  by_cases hj : j.val < x.val
  · rw [if_pos hj, if_pos (by omega)]; rfl
  · rw [if_neg hj, if_neg (by omega)]; rfl

/-- The accumulator after the chunk that holds the query. -/
theorem acc_diag (h : a + 256 ≤ 4096) (ht : t = a + x.val) (hz : ∀ j : Fin 256, z (ix2 j x) = ((Z (a + j.val) : ℝ) : EReal))
    (hm : ∀ j : Fin 256, m (ix2 j x) = if j.val < x.val then 1#1 else 0#1) (hc : c (ix2 0 x) = 0)
    (hV : ∀ j : Fin 256, V (ix4 0 0 d j) = u (a + j.val)) (hA : A (ix2 d x) = 0) :
    accD z c V A k0_pay182 m (ix2 d x) = acc Z t u a := by
  have hl : ∀ j : Fin 256, k0_pay225 m (k0_pay27 z) (ix2 j x) = ((lkm Z t (a + j.val) : ℝ) : EReal) := fun j => by
    rw [msk_apply, lk_apply z j x _ (hz j), hm, lkm]
    by_cases hj : j.val < x.val
    · rw [if_pos hj, if_pos (by omega)]; rfl
    · rw [if_neg hj, if_neg (by omega)]; rfl
  have hc' : c (ix2 0 x) = ((suf Z t (a + 256) : ℝ) : EReal) := by rw [hc, suf_past Z t (a + 256) (by omega), EReal.coe_zero]
  rw [accD, acc_apply, hA, ← acc_chunk Z t u a h, acc_past Z t u (a + 256) (by omega)]
  congr 1
  refine Finset.sum_congr rfl fun j _ => ?_
  rw [hV, wmsk_apply, suf_apply]
  simp only [later_apply, hl]
  rw [hc', suf_within Z t a h j, lb_apply z j x _ (hz j), ← EReal.coe_add, Ideal.exp_coe, hm, wt]
  by_cases hj : j.val < x.val
  · rw [if_pos hj, if_pos (by omega)]; rfl
  · rw [if_neg hj, if_neg (by omega), EReal.coe_zero]; rfl

end Chunk

section Trip

variable (𝒱 : Variants) (c : Dev nD) (bd : Option 𝒱.V) (i : grid0.Coords) (arg2 : Memref sig .tc .vmem S256x512 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S256x512 .bf16) (harg5 : arg5.IsWhole) (arg6 : Memref sig .tc .vmem S512x256 .f32) (harg6 : arg6.IsWhole) (arg7 : Memref sig .tc .vmem S8x256 .f32) (harg7 : arg7.IsWhole) (arg1 : BitVec 32) (v9 : FVec Ideal S256x256 .bf16) (v16 : FVec Ideal S512x256 .bf16) (X3 : BufTy.Contents (Elt Ideal) arg3.view.ty) (X4 : BufTy.Contents (Elt Ideal) arg4.view.ty) (k : Fin (k0_t1_loop i).trips) (f6 : BufTy.Contents (Elt Ideal) arg6.view.ty) (f7 : BufTy.Contents (Elt Ideal) arg7.view.ty)

theorem trip7h (h : Fin 8) (x : Fin 256) : arg7.view.read (Elt Ideal) (arg7.view.writes (Elt Ideal) f7 ((trip_k0_t1 (F := Ideal) 𝒱 c bd i arg2 harg2 arg3 harg3 arg4 harg4 arg5 harg5 arg6 harg6 arg7 harg7 arg1 v9 v16 X3 X4 k).2.1 f6 f7)) (ix2 h x)
    = carT (zH v16 (kkOf (arg3.view.read (Elt Ideal) X3) (trO i k)) h) (row7 (arg7.view.read (Elt Ideal) f7) h) (ix2 0 x) := by
  have t := trip7 (F := Ideal) 𝒱 c bd i arg2 harg2 arg3 harg3 arg4 harg4 arg5 harg5 arg6 harg6 arg7 harg7 arg1 v9 v16 X3 X4 k f6 f7
  match h with
  | 0 => exact t.1 x
  | 1 => exact t.2.1 x
  | 2 => exact t.2.2.1 x
  | 3 => exact t.2.2.2.1 x
  | 4 => exact t.2.2.2.2.1 x
  | 5 => exact t.2.2.2.2.2.1 x
  | 6 => exact t.2.2.2.2.2.2.1 x
  | 7 => exact t.2.2.2.2.2.2.2 x

theorem trip6h (h : Fin 8) (d : Fin 64) (x : Fin 256) : arg6.view.read (Elt Ideal) (arg6.view.writes (Elt Ideal) f6 ((trip_k0_t1 (F := Ideal) 𝒱 c bd i arg2 harg2 arg3 harg3 arg4 harg4 arg5 harg5 arg6 harg6 arg7 harg7 arg1 v9 v16 X3 X4 k).1 f6 f7)) (ix2 ⟨64 * h.val + d.val, by omega⟩ x)
    = accT (zH v16 (kkOf (arg3.view.read (Elt Ideal) X3) (trO i k)) h) (row7 (arg7.view.read (Elt Ideal) f7) h) (vOf (arg4.view.read (Elt Ideal) X4) (trO i k) h) (row6 (arg6.view.read (Elt Ideal) f6) h) v9 (ix2 d x) := by
  have t := trip6 (F := Ideal) 𝒱 c bd i arg2 harg2 arg3 harg3 arg4 harg4 arg5 harg5 arg6 harg6 arg7 harg7 arg1 v9 v16 X3 X4 k f6 f7
  match h with
  | 0 => exact t.1 d x
  | 1 => exact t.2.1 d x
  | 2 => exact t.2.2.1 d x
  | 3 => exact t.2.2.2.1 d x
  | 4 => exact t.2.2.2.2.1 d x
  | 5 => exact t.2.2.2.2.2.1 d x
  | 6 => exact t.2.2.2.2.2.2.1 d x
  | 7 => exact t.2.2.2.2.2.2.2 d x

end Trip

/-- After `k` trips the carry holds the sums, and the accumulator the weighted values, from chunk `n - k` on. -/
theorem loop (𝒱 : Variants) (c : Dev nD) (bd : Option 𝒱.V) (i : grid0.Coords) (arg2 : Memref sig .tc .vmem S256x512 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S256x512 .bf16) (harg5 : arg5.IsWhole) (arg6 : Memref sig .tc .vmem S512x256 .f32) (harg6 : arg6.IsWhole) (arg7 : Memref sig .tc .vmem S8x256 .f32) (harg7 : arg7.IsWhole) (arg1 : BitVec 32) (q : FVec Ideal S512x256 .bf16) (X3 : BufTy.Contents (Elt Ideal) arg3.view.ty) (X4 : BufTy.Contents (Elt Ideal) arg4.view.ty)
    (G6 : BufTy.Contents (Elt Ideal) arg6.view.ty) (G7 : BufTy.Contents (Elt Ideal) arg7.view.ty)
    (Z : Fin 8 → Fin 256 → ℕ → ℝ) (u : Fin 8 → Fin 64 → ℕ → EReal)
    (hz : ∀ (o : Fin 16) (h : Fin 8) (j x : Fin 256), zH q (kkOf (arg3.view.read (Elt Ideal) X3) o) h (ix2 j x) = ((Z h x (256 * o.val + j.val) : ℝ) : EReal))
    (hv : ∀ (o : Fin 16) (h : Fin 8) (d : Fin 64) (j : Fin 256), vOf (arg4.view.read (Elt Ideal) X4) o h (ix4 0 0 d j) = u h d (256 * o.val + j.val))
    (h7 : ∀ (h : Fin 8) (x : Fin 256), arg7.view.read (Elt Ideal) G7 (ix2 h x) = ((suf (Z h x) (256 * (i 1).val + x.val) (256 * (i 1).val) : ℝ) : EReal))
    (h6 : ∀ (h : Fin 8) (d : Fin 64) (x : Fin 256), arg6.view.read (Elt Ideal) G6 (ix2 ⟨64 * h.val + d.val, by omega⟩ x) = acc (Z h x) (256 * (i 1).val + x.val) (u h d) (256 * (i 1).val)) :
    ∀ k : ℕ, k ≤ (i 1).val →
      (∀ (h : Fin 8) (x : Fin 256), arg7.view.read (Elt Ideal) (arg7.view.writes (Elt Ideal) G7 (pb_k0_t1 (F := Ideal) 𝒱 c bd i arg2 harg2 arg3 harg3 arg4 harg4 arg5 harg5 arg6 harg6 arg7 harg7 arg1 k0_pay182 q X3 X4 G6 G7 k).2) (ix2 h x) = ((suf (Z h x) (256 * (i 1).val + x.val) (256 * ((i 1).val - k)) : ℝ) : EReal))
      ∧ (∀ (h : Fin 8) (d : Fin 64) (x : Fin 256), arg6.view.read (Elt Ideal) (arg6.view.writes (Elt Ideal) G6 (pb_k0_t1 (F := Ideal) 𝒱 c bd i arg2 harg2 arg3 harg3 arg4 harg4 arg5 harg5 arg6 harg6 arg7 harg7 arg1 k0_pay182 q X3 X4 G6 G7 k).1) (ix2 ⟨64 * h.val + d.val, by omega⟩ x) = acc (Z h x) (256 * (i 1).val + x.val) (u h d) (256 * ((i 1).val - k))) := by
  intro k
  induction k with
  | zero => exact fun _ => ⟨h7, h6⟩
  | succ k ih =>
    intro hk
    obtain ⟨i7, i6⟩ := ih (by omega)
    have hi : (i 1).val < 16 := (i 1).isLt
    have hlt : k < (k0_t1_loop i).trips := by rw [trips1]; omega
    have e := pb_k0_t1_succ (F := Ideal) 𝒱 c bd i arg2 harg2 arg3 harg3 arg4 harg4 arg5 harg5 arg6 harg6 arg7 harg7 arg1 k0_pay182 q X3 X4 G6 G7 ⟨k, hlt⟩
    have ho : (trO i ⟨k, hlt⟩).val = (i 1).val - 1 - k := rfl
    have ho' : 256 * (trO i ⟨k, hlt⟩).val = 256 * ((i 1).val - (k + 1)) := by rw [ho]; omega
    have ho1 : 256 * (trO i ⟨k, hlt⟩).val + 256 = 256 * ((i 1).val - k) := by rw [ho]; omega
    have e : pb_k0_t1 (F := Ideal) 𝒱 c bd i arg2 harg2 arg3 harg3 arg4 harg4 arg5 harg5 arg6 harg6 arg7 harg7 arg1 k0_pay182 q X3 X4 G6 G7 (k + 1) = _ := e
    rw [e, ← ho']
    constructor
    · intro h x
      rw [View.writes_append]
      refine (trip7h ..).trans ?_
      exact car_whole _ _ _ _ _ _ (by omega) (by omega) (fun j => hz _ h j x) ((i7 h x).trans (by rw [ho1]))
    · intro h d x
      rw [View.writes_append]
      refine (trip6h ..).trans ?_
      exact acc_whole _ _ _ _ _ _ _ _ _ _ (by omega) (by omega) (fun j => hz _ h j x) ((i7 h x).trans (by rw [ho1])) (fun j => hv _ h d j) ((i6 h d x).trans (by rw [ho1]))

/-- The block the kernel returns. -/
theorem block (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S1x16x512x256 .bf16) (harg4 : arg4.IsWhole) (arg5 : Memref sig .tc .vmem S256x512 .bf16) (harg5 : arg5.IsWhole) (arg6 : Memref sig .tc .vmem S512x256 .f32) (harg6 : arg6.IsWhole) (arg7 : Memref sig .tc .vmem S8x256 .f32) (harg7 : arg7.IsWhole) (x0 : Vec Ideal S256x512 .bf16) (x1 : Vec Ideal S4096x512 .bf16) (x2 : Vec Ideal S1x16x512x256 .bf16)
    (Z : Fin 8 → Fin 256 → ℕ → ℝ) (u : Fin 8 → Fin 64 → ℕ → EReal)
    (hz : ∀ (o : Fin 16) (h : Fin 8) (j x : Fin 256), zH (k0_pay183 x0) (kkOf x1 o) h (ix2 j x) = ((Z h x (256 * o.val + j.val) : ℝ) : EReal))
    (hv : ∀ (o : Fin 16) (h : Fin 8) (d : Fin 64) (j : Fin 256), vOf x2 o h (ix4 0 0 d j) = u h d (256 * o.val + j.val)) :
    ∃ a : Vec Ideal S512x256 .f32, (kernelRun0_A (F := Ideal) c i arg2 harg2 arg3 harg3 arg4 harg4 arg5 harg5 arg6 harg6 arg7 harg7 x0 x1 x2).1 = [⟨Rect.unit ![0, 0] ![256, 512] inb_S256x512_S256x512_0_0, k0_pay11 a⟩]
      ∧ ∀ (h : Fin 8) (d : Fin 64) (x : Fin 256), a (ix2 ⟨64 * h.val + d.val, by omega⟩ x) = acc (Z h x) (256 * (i 1).val + x.val) (u h d) 0 := by
  obtain ⟨D6, D7, hr, t⟩ := run (F := Ideal) c i arg2 harg2 arg3 harg3 arg4 harg4 arg5 harg5 arg6 harg6 arg7 harg7 x0 x1 x2
  have hi : (i 1).val < 16 := (i 1).isLt
  refine ⟨_, hr, ?_⟩
  have g7 : ∀ (h : Fin 8) (x : Fin 256), arg7.view.read (Elt Ideal) (arg7.view.writes (Elt Ideal) arg7.view.junk D7) (ix2 h x)
      = carD (zH (k0_pay183 x0) (kkOf x1 (i 1)) h) (row7 (k0_pay185 (F := Ideal)) h) (k0_pay186 i) (ix2 0 x) := by
    intro h x
    match h with
    | 0 => exact t.1 x
    | 1 => exact t.2.1 x
    | 2 => exact t.2.2.1 x
    | 3 => exact t.2.2.2.1 x
    | 4 => exact t.2.2.2.2.1 x
    | 5 => exact t.2.2.2.2.2.1 x
    | 6 => exact t.2.2.2.2.2.2.1 x
    | 7 => exact t.2.2.2.2.2.2.2.1 x
  have g6 : ∀ (h : Fin 8) (d : Fin 64) (x : Fin 256), arg6.view.read (Elt Ideal) (arg6.view.writes (Elt Ideal) arg6.view.junk D6) (ix2 ⟨64 * h.val + d.val, by omega⟩ x)
      = accD (zH (k0_pay183 x0) (kkOf x1 (i 1)) h) (row7 (k0_pay185 (F := Ideal)) h) (vOf x2 (i 1) h) (row6 (k0_pay184 (F := Ideal)) h) k0_pay182 (k0_pay186 i) (ix2 d x) := by
    intro h d x
    match h with
    | 0 => exact t.2.2.2.2.2.2.2.2.1 d x
    | 1 => exact t.2.2.2.2.2.2.2.2.2.1 d x
    | 2 => exact t.2.2.2.2.2.2.2.2.2.2.1 d x
    | 3 => exact t.2.2.2.2.2.2.2.2.2.2.2.1 d x
    | 4 => exact t.2.2.2.2.2.2.2.2.2.2.2.2.1 d x
    | 5 => exact t.2.2.2.2.2.2.2.2.2.2.2.2.2.1 d x
    | 6 => exact t.2.2.2.2.2.2.2.2.2.2.2.2.2.2.1 d x
    | 7 => exact t.2.2.2.2.2.2.2.2.2.2.2.2.2.2.2 d x
  have l := loop Variants.none c none i arg2 harg2 arg3 harg3 arg4 harg4 arg5 harg5 arg6 harg6 arg7 harg7 (BitVec.ofNat 32 (i 1).val) (k0_pay183 x0) (harg3.unread x1) (harg4.unread x2)
    (arg6.view.writes (Elt Ideal) arg6.view.junk D6) (arg7.view.writes (Elt Ideal) arg7.view.junk D7) Z u
    (by rw [harg3.read_unread]; exact hz) (by rw [harg4.read_unread]; exact hv)
    (fun h x => (g7 h x).trans (car_diag _ _ _ _ _ _ _ (by omega) rfl (fun j => hz (i 1) h j x) (fun j => mask_apply i j x) (zero7_apply h x)))
    (fun h d x => (g6 h d x).trans (acc_diag _ _ _ _ _ _ _ _ _ _ _ (by omega) rfl (fun j => hz (i 1) h j x) (fun j => mask_apply i j x) (zero7_apply h x)
      (fun j => hv (i 1) h d j) (zero6_apply _ x)))
    (i 1).val le_rfl
  intro h d x
  rw [trips1, View.writes_append]
  refine Eq.trans ?_ ((l.2 h d x).trans (by rw [Nat.sub_self, Nat.mul_zero]))
  exact View.ld_unit_apply_of _ _ _ inb_S512x256_S512x256_0_0 _ _ (Fin.forall_fin_two.mpr ⟨(Nat.zero_add _).symm, (Nat.zero_add _).symm⟩)

end Cert.Proof.SbState

end
-- ==== Proof.SbSpec.lean ====
module

public import proofs.«01_k».proof.Proof.SbMath
public import Idealize.ShloMosaic.Lib.Pointwise
public import Idealize.ShloMosaic.Lib.Tactic

/-! The stick-breaking output of one query, from arrays of queries, keys and values whose queries and keys are finite. -/

@[expose] public section

noncomputable section

namespace Cert.Proof.SbSpec

open Idealize.ShloMosaic Cert.Proof.SbMath

/-- The shape of queries, keys and values: batch, token, head, dimension. -/
abbrev A4 : Shape := ⟨4, ![4, 4096, 8, 64]⟩

/-- Every entry is a real number. -/
def AllReal (X : A4.Idx → EReal) : Prop := ∀ y, ((X y).toReal : EReal) = X y

/-- The scaled score of a query and a key. -/
def zr (Q K : A4.Idx → EReal) (b : ℕ) (h : Fin 8) (t s : ℕ) : ℝ :=
  (∑ d : Fin 64, (Q (ix4 (Fin.ofNat 4 b) (Fin.ofNat 4096 t) h d)).toReal * (K (ix4 (Fin.ofNat 4 b) (Fin.ofNat 4096 s) h d)).toReal) * (1 / 8)

/-- The values of one dimension of a head, by key. -/
def vals (W : A4.Idx → EReal) (b : ℕ) (h : Fin 8) (d : Fin 64) (s : ℕ) : EReal := W (ix4 (Fin.ofNat 4 b) (Fin.ofNat 4096 s) h d)

/-- The output of one query, head and dimension. -/
def outS (Q K W : A4.Idx → EReal) (b : ℕ) (h : Fin 8) (d : Fin 64) (t : ℕ) : EReal := acc (zr Q K b h t) t (vals W b h d) 0

/-- The score, scaled after the sum. -/
theorem score_after (Q K : A4.Idx → EReal) (hQ : AllReal Q) (hK : AllReal K) (b : ℕ) (h : Fin 8) (t s : ℕ) :
    (∑ d : Fin 64, Q (ix4 (Fin.ofNat 4 b) (Fin.ofNat 4096 t) h d) * K (ix4 (Fin.ofNat 4 b) (Fin.ofNat 4096 s) h d)) * ((1 / 8 : ℝ) : EReal)
      = ((zr Q K b h t s : ℝ) : EReal) := by
  unfold zr
  rw [EReal.coe_mul, coe_sum]
  congr 1
  exact Finset.sum_congr rfl fun d _ => by rw [EReal.coe_mul, hQ, hK]

/-- The score, each query entry scaled before the sum. -/
theorem score_before (Q K : A4.Idx → EReal) (hQ : AllReal Q) (hK : AllReal K) (b : ℕ) (h : Fin 8) (t s : ℕ) :
    (∑ d : Fin 64, K (ix4 (Fin.ofNat 4 b) (Fin.ofNat 4096 s) h d) * (Q (ix4 (Fin.ofNat 4 b) (Fin.ofNat 4096 t) h d) * ((1 / 8 : ℝ) : EReal)))
      = ((zr Q K b h t s : ℝ) : EReal) := by
  unfold zr
  rw [Finset.sum_mul, coe_sum]
  refine Finset.sum_congr rfl fun d _ => ?_
  rw [← hQ, ← hK, ← EReal.coe_mul, ← EReal.coe_mul]
  congr 1
  simp only [EReal.toReal_coe]
  ring

/-- An entry below infinity in absolute value is a real number. -/
theorem real_of_abs_lt (x : EReal) (h : max x (-x) < ⊤) : ((x.toReal : ℝ) : EReal) = x := by
  refine EReal.coe_toReal ?_ ?_
  · rintro rfl
    exact absurd h (by simp)
  · rintro rfl
    exact absurd h (by simp)

end Cert.Proof.SbSpec

end
-- ==== Proof.SbVal.lean ====
module

public import proofs.«01_k».proof.Proof.SbState
public import proofs.«01_k».proof.Proof.SbSpec
public import Idealize.ShloMosaic.Lib.StableHlo.ReadAt
public import Idealize.ShloMosaic.Lib.Pipeline.ValueKit.Geometry
public import Idealize.ShloMosaic.Lib.WritesUnit

/-! The kernel's result array, entry by entry, and its run ending in it. -/

@[expose] public section

set_option maxRecDepth 16384
set_option maxHeartbeats 2000000

noncomputable section

namespace Cert.Proof.SbVal

open Cert.SbIdeal Cert.SbIdeal.Gen Cert.Proof.SbSpec Cert.Proof.SbMath Cert.Proof.SbPay Cert.Proof.SbTrip Cert.Proof.SbState
open Idealize.ShloMosaic Idealize.ShloMosaic.TcCoe Idealize.ShloMosaic.StableHlo

variable (m : (ℓ : Loc nD τ sig) → Buf (Elt Ideal) ℓ) (c : Dev nD)

theorem lt64 (t : Fin cfg0.N) : t.val < 64 := t.isLt

/-- The queries. -/
def argQ : A4.Idx → EReal := m ((c.tc : Thread nD τ).loc main_arg0)
/-- The keys. -/
def argK : A4.Idx → EReal := m ((c.tc : Thread nD τ).loc main_arg1)
/-- The values. -/
def argV : A4.Idx → EReal := m ((c.tc : Thread nD τ).loc main_arg2)

/-! The arrays the host makes before the call, entry by entry. -/

theorem v_q (r : Fin 16384) (e : Fin 512) : V m c main_v4 (ix2 r e) = argQ m c (ix4 ⟨r.val / 4096, by omega⟩ ⟨r.val % 4096, by omega⟩ ⟨e.val / 64, by omega⟩ ⟨e.val % 64, by omega⟩) := by
  unfold V argQ
  after_reads_at
theorem v_k (r : Fin 16384) (e : Fin 512) : V m c main_v6 (ix2 r e) = argK m c (ix4 ⟨r.val / 4096, by omega⟩ ⟨r.val % 4096, by omega⟩ ⟨e.val / 64, by omega⟩ ⟨e.val % 64, by omega⟩) := by
  unfold V argK
  after_reads_at
theorem v_v (b : Fin 4) (o : Fin 16) (e : Fin 512) (j : Fin 256) : V m c main_v2 (ix4 b o e j) = argV m c (ix4 b ⟨o.val * 256 + j.val, by omega⟩ ⟨e.val / 64, by omega⟩ ⟨e.val % 64, by omega⟩) := by
  unfold V argV
  after_reads_at

/-! The blocks a grid step reads. -/

theorem i0 : ∀ t : Fin cfg0.N, win0_0.index t = ![t.val, 0] := (by decide +kernel : ∀ t : Fin grid0.N, _)
theorem i1 : ∀ t : Fin cfg0.N, win0_1.index t = ![t.val / 16, 0] := (by decide +kernel : ∀ t : Fin grid0.N, _)
theorem i2 : ∀ t : Fin cfg0.N, win0_2.index t = ![t.val / 16, 0, 0, 0] := (by decide +kernel : ∀ t : Fin grid0.N, _)
theorem i3 : ∀ t : Fin cfg0.N, win0_3.index t = ![t.val, 0] := (by decide +kernel : ∀ t : Fin grid0.N, _)
theorem c1 : ∀ t : Fin cfg0.N, (grid0.coords t 1).val = t.val % 16 := (by decide +kernel : ∀ t : Fin grid0.N, _)

theorem b_q (t : Fin cfg0.N) (r : Fin 256) (h : Fin 8) (d : Fin 64) : iblk m c 0 t (ix2 r ⟨64 * h.val + d.val, by omega⟩)
    = argQ m c (ix4 (Fin.ofNat 4 (t.val / 16)) (Fin.ofNat 4096 (256 * (t.val % 16) + r.val)) h d) := by
  have := lt64 t
  have e : iblk m c 0 t (ix2 r ⟨64 * h.val + d.val, by omega⟩) = V m c main_v4 (ix2 ⟨t.val * 256 + r.val, by omega⟩ ⟨64 * h.val + d.val, by omega⟩) := by
    blk_ext [iblk, i0 t]
  rw [e, v_q]
  have q0 : (⟨(t.val * 256 + r.val) / 4096, by omega⟩ : Fin 4) = Fin.ofNat 4 (t.val / 16) := Fin.ext (by simp only [Fin.ofNat]; omega)
  have q1 : (⟨(t.val * 256 + r.val) % 4096, by omega⟩ : Fin 4096) = Fin.ofNat 4096 (256 * (t.val % 16) + r.val) := Fin.ext (by simp only [Fin.ofNat]; omega)
  have q2 : (⟨(64 * h.val + d.val) / 64, by omega⟩ : Fin 8) = h := Fin.ext (by dsimp only; omega)
  have q3 : (⟨(64 * h.val + d.val) % 64, by omega⟩ : Fin 64) = d := Fin.ext (by dsimp only; omega)
  rw [q0, q1, q2, q3]
theorem b_k (t : Fin cfg0.N) (s : Fin 4096) (h : Fin 8) (d : Fin 64) : iblk m c 1 t (ix2 s ⟨64 * h.val + d.val, by omega⟩)
    = argK m c (ix4 (Fin.ofNat 4 (t.val / 16)) (Fin.ofNat 4096 s.val) h d) := by
  have := lt64 t
  have e : iblk m c 1 t (ix2 s ⟨64 * h.val + d.val, by omega⟩) = V m c main_v6 (ix2 ⟨t.val / 16 * 4096 + s.val, by omega⟩ ⟨64 * h.val + d.val, by omega⟩) := by
    blk_ext [iblk, i1 t]
  rw [e, v_k]
  have q0 : (⟨(t.val / 16 * 4096 + s.val) / 4096, by omega⟩ : Fin 4) = Fin.ofNat 4 (t.val / 16) := Fin.ext (by simp only [Fin.ofNat]; omega)
  have q1 : (⟨(t.val / 16 * 4096 + s.val) % 4096, by omega⟩ : Fin 4096) = Fin.ofNat 4096 s.val := Fin.ext (by simp only [Fin.ofNat]; omega)
  have q2 : (⟨(64 * h.val + d.val) / 64, by omega⟩ : Fin 8) = h := Fin.ext (by dsimp only; omega)
  have q3 : (⟨(64 * h.val + d.val) % 64, by omega⟩ : Fin 64) = d := Fin.ext (by dsimp only; omega)
  rw [q0, q1, q2, q3]
theorem b_v (t : Fin cfg0.N) (o : Fin 16) (h : Fin 8) (d : Fin 64) (j : Fin 256) : iblk m c 2 t (ix4 0 o ⟨64 * h.val + d.val, by omega⟩ j)
    = vals (argV m c) (t.val / 16) h d (256 * o.val + j.val) := by
  have := lt64 t
  have e : iblk m c 2 t (ix4 0 o ⟨64 * h.val + d.val, by omega⟩ j) = V m c main_v2 (ix4 ⟨t.val / 16, by omega⟩ o ⟨64 * h.val + d.val, by omega⟩ j) := by
    blk_ext [iblk, i2 t]
  rw [e, v_v]
  unfold vals
  have q0 : (⟨t.val / 16, by omega⟩ : Fin 4) = Fin.ofNat 4 (t.val / 16) := Fin.ext (by simp only [Fin.ofNat]; omega)
  have q1 : (⟨o.val * 256 + j.val, by omega⟩ : Fin 4096) = Fin.ofNat 4096 (256 * o.val + j.val) := Fin.ext (by simp only [Fin.ofNat]; omega)
  have q2 : (⟨(64 * h.val + d.val) / 64, by omega⟩ : Fin 8) = h := Fin.ext (by dsimp only; omega)
  have q3 : (⟨(64 * h.val + d.val) % 64, by omega⟩ : Fin 64) = d := Fin.ext (by dsimp only; omega)
  rw [q0, q1, q2, q3]

/-- The scores of a grid step's queries and a chunk of keys. -/
theorem z_eq (hQ : AllReal (argQ m c)) (hK : AllReal (argK m c)) (t : Fin cfg0.N) (o : Fin 16) (h : Fin 8) (j x : Fin 256) :
    zH (k0_pay183 (iblk m c 0 t)) (kkOf (iblk m c 1 t) o) h (ix2 j x)
      = ((zr (argQ m c) (argK m c) (t.val / 16) h (256 * (t.val % 16) + x.val) (256 * o.val + j.val) : ℝ) : EReal) := by
  rw [z_apply, ← score_before _ _ hQ hK]
  refine Finset.sum_congr rfl fun d _ => ?_
  rw [q_apply, b_q]
  exact congrArg (· * _) (b_k m c t ⟨256 * o.val + j.val, by omega⟩ h d)

/-- The block a grid step writes. -/
theorem out_eq (hQ : AllReal (argQ m c)) (hK : AllReal (argK m c)) (t : Fin cfg0.N) (r : Fin 256) (h : Fin 8) (d : Fin 64) :
    (dats m 0 c).after 3 t (ix2 r ⟨64 * h.val + d.val, by omega⟩) = outS (argQ m c) (argK m c) (argV m c) (t.val / 16) h d (256 * (t.val % 16) + r.val) := by
  rw [after0_3]
  unfold outsAt0 out0_A_3
  obtain ⟨a, e, ha⟩ := block c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (iblk m c 0 t) (iblk m c 1 t) (iblk m c 2 t) (fun h x s => zr (argQ m c) (argK m c) (t.val / 16) h (256 * (t.val % 16) + x.val) s)
    (vals (argV m c) (t.val / 16)) (fun o h j x => z_eq m c hQ hK t o h j x) (fun o h d j => b_v m c t o h d j)
  rw [e]
  have w : VO0_3.read (Elt Ideal) (VO0_3.writes (Elt Ideal) VO0_3.junk [⟨Rect.unit ![0, 0] ![256, 512] inb_S256x512_S256x512_0_0, k0_pay11 a⟩]) = k0_pay11 a := by
    funext y
    exact View.read_writes_cons_rows_of_mem (o := 0) _ _ _ _ [] y y (by rfl) (by exact (Nat.zero_add _).symm) (by rfl)
  rw [w, out_apply, ha, c1]
  rfl

theorem w3 (hQ : AllReal (argQ m c)) (hK : AllReal (argK m c)) : (dats m 0 c).arrAt 3 cfg0.N
    = fun y => outS (argQ m c) (argK m c) (argV m c) ((y 0).val / 4096) (Fin.ofNat 8 ((y 1).val / 64)) (Fin.ofNat 64 ((y 1).val % 64)) ((y 0).val % 4096) := by
  refine (dats m 0 c).arrAt_eq_of_covers 3 _ (by decide +kernel) fun t hf y => ?_
  blk_simp
  idx_vars y
  have ht := lt64 t
  have e0 : win0_3.index t 0 * 256 + y0.val = t.val * 256 + y0.val := by rw [i3 t]; rfl
  have e1 : win0_3.index t 1 * 512 + y1.val = y1.val := by rw [i3 t]; simp
  have q0 : (t.val * 256 + y0.val) / 4096 = t.val / 16 := by omega
  have q1 : (t.val * 256 + y0.val) % 4096 = 256 * (t.val % 16) + y0.val := by omega
  rw [e0, e1, q0, q1]
  have h1 : y1 = ⟨64 * (Fin.ofNat 8 (y1.val / 64)).val + (Fin.ofNat 64 (y1.val % 64)).val, by simp only [Fin.ofNat]; omega⟩ := Fin.ext (by simp only [Fin.ofNat]; omega)
  refine Eq.trans ?_ (out_eq m c hQ hK t y0 (Fin.ofNat 8 (y1.val / 64)) (Fin.ofNat 64 (y1.val % 64)))
  exact congrArg (fun z => (dats m 0 c).after 3 t (ix2 y0 z)) h1

end Cert.Proof.SbVal

end
-- ==== Proof.SbRefVal.lean ====
module

public import proofs.«01_k».proof.Proof.Gen.SbRefIdeal.Run
public import proofs.«01_k».proof.Proof.SbSpec
public import Idealize.ShloMosaic.Lib.Pointwise
public import Idealize.ShloMosaic.Lib.WordCmp

/-! The reference's result array, entry by entry, and its run ending in it. -/

@[expose] public section

set_option maxRecDepth 16384
set_option maxHeartbeats 2000000

noncomputable section

namespace Cert.Proof.SbRefVal

open Cert.SbRefIdeal Cert.SbRefIdeal.Gen Cert.SbRefIdeal.Value Cert.Proof.SbSpec Cert.Proof.SbMath
open Idealize.ShloMosaic Idealize.ShloMosaic.TcCoe Idealize.ShloMosaic.StableHlo

/-- A left fold that adds is the start plus the sum. -/
theorem foldl_add {ι : Type} (g : ι → EReal) (l : List ι) : ∀ v : EReal, l.foldl (fun r n => r + g n) v = v + (l.map g).sum := by
  induction l with
  | nil => intro v; simp
  | cons a l ih => intro v; rw [List.foldl_cons, ih, List.map_cons, List.sum_cons, add_assoc]

/-- A window along the last axis only is given by its place there. -/
def lastE : (⟨4, ![1, 1, 1, 4096]⟩ : Shape).Idx ≃ Fin 4096 where
  toFun w := (w 3 : Fin 4096)
  invFun k := ix4 0 0 0 k
  left_inv w := by
    idx_vars w
    rw [Subsingleton.elim w0 (0 : Fin 1), Subsingleton.elim w1 (0 : Fin 1), Subsingleton.elim w2 (0 : Fin 1)]
  right_inv k := rfl

/-- The windowed sum of an array of real numbers from a place to the end of the last axis. -/
theorem window_sum (x : S4x8x4096x4096.Idx → EReal) (init : S_.Idx → EReal) (hi : ∀ y, init y = 0) (f : ℕ → ℝ) (b : Fin 4) (h : Fin 8) (t s : Fin 4096)
    (hx : ∀ j : Fin 4096, x (ix4 b h t j) = ((f j.val : ℝ) : EReal)) :
    Host.reduceWindowAdd (F := Ideal) (φ := .f32) ![1, 1, 1, 4096] ![1, 1, 1, 1] ![0, 0, 0, 0] ![0, 0, 0, 4095] x init reduceWindows_S4x8x4096x4096_S4x8x4096x4096_w1s1p0_0_w1s1p0_0_w1s1p0_0_w4096s1p0_4095 h_S_ (ix4 b h t s)
      = ((∑ j ∈ Finset.Ico s.val 4096, f j : ℝ) : EReal) := by
  have e : ∀ (w : (⟨4, ![1, 1, 1, 4096]⟩ : Shape).Idx) (D : Decidable (∀ a : Fin 4, (![0, 0, 0, 0] : Fin 4 → ℕ) a ≤ ((ix4 b h t s : S4x8x4096x4096.Idx) a).val * (![1, 1, 1, 1] : Fin 4 → ℕ) a + (w a).val
          ∧ ((ix4 b h t s : S4x8x4096x4096.Idx) a).val * (![1, 1, 1, 1] : Fin 4 → ℕ) a + (w a).val - (![0, 0, 0, 0] : Fin 4 → ℕ) a < S4x8x4096x4096.size a)),
      (if hin : ∀ a : Fin 4, (![0, 0, 0, 0] : Fin 4 → ℕ) a ≤ ((ix4 b h t s : S4x8x4096x4096.Idx) a).val * (![1, 1, 1, 1] : Fin 4 → ℕ) a + (w a).val
          ∧ ((ix4 b h t s : S4x8x4096x4096.Idx) a).val * (![1, 1, 1, 1] : Fin 4 → ℕ) a + (w a).val - (![0, 0, 0, 0] : Fin 4 → ℕ) a < S4x8x4096x4096.size a
        then x (fun a => ⟨((ix4 b h t s : S4x8x4096x4096.Idx) a).val * (![1, 1, 1, 1] : Fin 4 → ℕ) a + (w a).val - (![0, 0, 0, 0] : Fin 4 → ℕ) a, (hin a).2⟩) else 0)
      = ((if s.val + (lastE w).val < 4096 then f (s.val + (lastE w).val) else 0 : ℝ) : EReal) := by
    intro w _
    have w0 : (w 0).val = 0 := by have : (w 0).val < 1 := (w 0).isLt; omega
    have w1 : (w 1).val = 0 := by have : (w 1).val < 1 := (w 1).isLt; omega
    have w2 : (w 2).val = 0 := by have : (w 2).val < 1 := (w 2).isLt; omega
    have w3 : (w 3).val = (lastE w).val := rfl
    by_cases hl : s.val + (lastE w).val < 4096
    · have hin : ∀ a : Fin 4, (![0, 0, 0, 0] : Fin 4 → ℕ) a ≤ ((ix4 b h t s : S4x8x4096x4096.Idx) a).val * (![1, 1, 1, 1] : Fin 4 → ℕ) a + (w a).val
          ∧ ((ix4 b h t s : S4x8x4096x4096.Idx) a).val * (![1, 1, 1, 1] : Fin 4 → ℕ) a + (w a).val - (![0, 0, 0, 0] : Fin 4 → ℕ) a < S4x8x4096x4096.size a := by
        intro a
        match a with
        | 0 => exact ⟨Nat.zero_le _, show b.val * 1 + (w 0).val - 0 < 4 by omega⟩
        | 1 => exact ⟨Nat.zero_le _, show h.val * 1 + (w 1).val - 0 < 8 by omega⟩
        | 2 => exact ⟨Nat.zero_le _, show t.val * 1 + (w 2).val - 0 < 4096 by omega⟩
        | 3 => exact ⟨Nat.zero_le _, show s.val * 1 + (w 3).val - 0 < 4096 by omega⟩
      rw [dif_pos hin, if_pos hl]
      refine Eq.trans (congrArg x ?_) (hx ⟨s.val + (lastE w).val, hl⟩)
      funext a
      refine Fin.ext ?_
      match a with
      | 0 => exact (show b.val * 1 + (w 0).val - 0 = b.val by omega)
      | 1 => exact (show h.val * 1 + (w 1).val - 0 = h.val by omega)
      | 2 => exact (show t.val * 1 + (w 2).val - 0 = t.val by omega)
      | 3 => exact (show s.val * 1 + (w 3).val - 0 = s.val + (lastE w).val by omega)
    · rw [dif_neg, if_neg hl, EReal.coe_zero]
      intro hin
      have := (hin 3).2
      have : s.val * 1 + (w 3).val - 0 < 4096 := this
      omega
  unfold Host.reduceWindowAdd
  change Ideal.hostReduceWindowAdd _ _ _ _ _ x (init (Shape.Idx.first h_S_)) _ = _
  unfold Ideal.hostReduceWindowAdd Host.reduceWindow
  dsimp only
  rw [foldl_add]
  rw [← Fin.sum_univ_def]
  rw [hi, zero_add]
  refine (Finset.sum_congr rfl fun n _ => e ((Shape.rowMajor ⟨4, ![1, 1, 1, 4096]⟩).symm n) _).trans ?_
  refine (Equiv.sum_comp (M := EReal) (Shape.rowMajor ⟨4, ![1, 1, 1, 4096]⟩).symm
    fun w => ((if s.val + (lastE w).val < 4096 then f (s.val + (lastE w).val) else 0 : ℝ) : EReal)).trans ?_
  refine (Equiv.sum_comp (M := EReal) lastE fun k : Fin 4096 => ((if s.val + k.val < 4096 then f (s.val + k.val) else 0 : ℝ) : EReal)).trans ?_
  rw [← coe_sum]
  congr 1
  rw [Finset.sum_Ico_eq_sum_range, Finset.sum_range fun i => f (s.val + i)]
  have hs := s.isLt
  rw [← Finset.sum_range fun k => if s.val + k < 4096 then f (s.val + k) else 0, ← Finset.sum_range fun i => f (s.val + i), ← Finset.sum_filter]
  congr 1
  ext k
  simp only [Finset.mem_filter, Finset.mem_range]
  omega

/-! The reference's arrays: scores, mask, logarithms, weights. -/

/-- The scaled scores. -/
def scores (Q K : FVec Ideal S4x4096x8x64 .f32) : FVec Ideal S4x8x4096x4096 .f32 :=
  mulf (Host.dotGeneral dot_S4x4096x8x64_S4x4096x8x64_S4x8x4096x4096_3_3_1_1_02_02 none Q K) (broadcastInDim S4x8x4096x4096 ![] bcast_S_S4x8x4096x4096 (constant S_ .f32 0x3E000000#32))
/-- Zeros. -/
def zeros : FVec Ideal S4x8x4096x4096 .f32 := broadcastInDim S4x8x4096x4096 ![] bcast_S_S4x8x4096x4096 (constant S_ .f32 0x00000000#32)
/-- Keys before the query. -/
def before : IVec S4x8x4096x4096 1 :=
  broadcastInDim S4x8x4096x4096 ![2, 3] bcast_S4096x4096_S4x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- The logarithm of the logistic of the negated array. -/
def logSig (x : FVec Ideal S4x8x4096x4096 .f32) : FVec Ideal S4x8x4096x4096 .f32 :=
  Host.negf (select (cmpf .une (subf x zeros) (subf x zeros)) (addf x zeros) (addf (maximumf x zeros) (Host.log1p (Host.exp (Host.negf (Host.absf (subf x zeros)))))))
/-- The logarithm of passing a key by, zero from the query on. -/
def logKeep (Q K : FVec Ideal S4x4096x8x64 .f32) : FVec Ideal S4x8x4096x4096 .f32 :=
  select before (logSig (Host.negf (Host.negf (scores Q K)))) (broadcastInDim S4x8x4096x4096 ![] bcast_S_S4x8x4096x4096 (id (constant S_ .f32 0x00000000#32)))
/-- Its sums from each key on. -/
def sums (x : FVec Ideal S4x8x4096x4096 .f32) : FVec Ideal S4x8x4096x4096 .f32 :=
  Host.reduceWindowAdd ![1, 1, 1, 4096] ![1, 1, 1, 1] ![0, 0, 0, 0] ![0, 0, 0, 4095] x (broadcastInDim S_ ![] bcast_S_S_ (constant S_ .f32 0x00000000#32)) reduceWindows_S4x8x4096x4096_S4x8x4096x4096_w1s1p0_0_w1s1p0_0_w1s1p0_0_w4096s1p0_4095 h_S_
/-- The weights. -/
def weights (Q K : FVec Ideal S4x4096x8x64 .f32) : FVec Ideal S4x8x4096x4096 .f32 :=
  select before (Host.exp (addf (logSig (Host.negf (scores Q K))) (subf (sums (logKeep Q K)) (logKeep Q K)))) (broadcastInDim S4x8x4096x4096 ![] bcast_S_S4x8x4096x4096 (id (constant S_ .f32 0x00000000#32)))
/-- The output. -/
def outA (Q K W : FVec Ideal S4x4096x8x64 .f32) : FVec Ideal S16384x512 .bf16 :=
  truncf .bf16 (shapeCast _ (transpose S4x4096x8x64 [0, 3, 1, 2] (Host.dotGeneral dot_S4x4096x8x64_S4x8x4096x4096_S4x8x64x4096_1_3_3_2_02_01 none W (weights Q K)) transposes_S4x8x64x4096_S4x4096x8x64_0_3_1_2) shapeCasts_S4x4096x8x64_S16384x512) bitsLt_bf16_f32

theorem res_eq (m : (ℓ : Loc nD τ sig) → Buf (Elt Ideal) ℓ) (c : Dev nD) : res_main_v21 (F := Ideal) m c
    = outA (m ((c.tc : Thread nD τ).loc main_arg0)) (m ((c.tc : Thread nD τ).loc main_arg1)) (m ((c.tc : Thread nD τ).loc main_arg2)) := rfl

theorem eighth : Ideal.ofBits .f32 0x3E000000#32 = ((1 / 8 : ℝ) : EReal) := by
  simp [Ideal.ofBits, Ideal.ieee, -EReal.coe_mul]
  norm_num
theorem zeros_apply (y : S4x8x4096x4096.Idx) : zeros y = 0 := by
  idx_vars y
  pointwise [zeros]

variable (Q K W : FVec Ideal S4x4096x8x64 .f32) (b : Fin 4) (h : Fin 8) (t s : Fin 4096)

theorem scores_sum : scores Q K (ix4 b h t s) = (∑ d : Fin 64, Q (ix4 b t h d) * K (ix4 b s h d)) * ((1 / 8 : ℝ) : EReal) := by
  pointwise [scores]
  rw [eighth]
theorem scores_apply (hQ : AllReal Q) (hK : AllReal K) : scores Q K (ix4 b h t s) = ((zr Q K b.val h t.val s.val : ℝ) : EReal) := by
  rw [scores_sum]
  have e := score_after Q K hQ hK b.val h t.val s.val
  rw [Fin.ofNat_val_eq_self, Fin.ofNat_val_eq_self, Fin.ofNat_val_eq_self] at e
  exact e
theorem before_apply : before (ix4 b h t s) = if s.val < t.val then 1#1 else 0#1 := by
  pointwise [before]
  rw [WordCmp.cmpi_slt_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases hl : s.val < t.val
  · rw [if_pos hl, decide_eq_true hl]; rfl
  · rw [if_neg hl, decide_eq_false hl]; rfl

/-- The logarithm of the logistic, from a real number. -/
theorem logSig_apply (x : FVec Ideal S4x8x4096x4096 .f32) (y : S4x8x4096x4096.Idx) (r : ℝ) (hx : x y = -((r : ℝ) : EReal)) : logSig x y = ((lbR r : ℝ) : EReal) := by
  rw [← spE r, ← hx]
  have e : logSig x y = -(if FloatOps.cmpf (F := Ideal) (φ := .f32) .une (x y - 0) (x y - 0) = 1#1 then x y + 0 else max (x y) 0 + Ideal.log1p (Ideal.exp (-(max (x y - 0) (-(x y - 0)))))) := by
    rw [← zeros_apply y]
    rfl
  rw [e, if_neg, sub_zero]
  simp [FloatOps.cmpf, Ideal.cmp]

theorem logKeep_apply (hQ : AllReal Q) (hK : AllReal K) : logKeep Q K (ix4 b h t s) = ((lkm (zr Q K b.val h t.val) t.val s.val : ℝ) : EReal) := by
  have e : logKeep Q K (ix4 b h t s) = if before (ix4 b h t s) = 1#1 then logSig (Host.negf (Host.negf (scores Q K))) (ix4 b h t s) else zeros (ix4 b h t s) := rfl
  rw [e, before_apply, zeros_apply]
  unfold lkm
  by_cases hl : s.val < t.val
  · rw [if_pos hl, if_pos hl, if_pos rfl, logSig_apply _ _ (-(zr Q K b.val h t.val s.val)) ?_]
    · unfold lbR lkR lg
      rw [abs_neg]
    · rw [EReal.coe_neg, ← scores_apply Q K b h t s hQ hK]
      rfl
  · rw [if_neg hl, if_neg hl, if_neg (by decide), EReal.coe_zero]

theorem sums_apply (hQ : AllReal Q) (hK : AllReal K) : sums (logKeep Q K) (ix4 b h t s) = ((suf (zr Q K b.val h t.val) t.val s.val : ℝ) : EReal) :=
  window_sum _ _ (fun y => by pointwise []) _ b h t s fun j => logKeep_apply Q K b h t j hQ hK

theorem weights_apply (hQ : AllReal Q) (hK : AllReal K) : weights Q K (ix4 b h t s) = ((wt (zr Q K b.val h t.val) t.val s.val : ℝ) : EReal) := by
  have e : weights Q K (ix4 b h t s) = if before (ix4 b h t s) = 1#1 then Ideal.exp (logSig (Host.negf (scores Q K)) (ix4 b h t s) + (sums (logKeep Q K) (ix4 b h t s) - logKeep Q K (ix4 b h t s))) else zeros (ix4 b h t s) := rfl
  rw [e, before_apply, zeros_apply]
  unfold wt
  by_cases hl : s.val < t.val
  · rw [if_pos hl, if_pos hl, if_pos rfl, sums_apply Q K b h t s hQ hK, logKeep_apply Q K b h t s hQ hK,
      logSig_apply _ _ (zr Q K b.val h t.val s.val) (by rw [← scores_apply Q K b h t s hQ hK]; rfl), ← EReal.coe_sub, ← EReal.coe_add, Ideal.exp_coe,
      suf_succ _ _ _ s.isLt, add_sub_cancel_left]
  · rw [if_neg hl, if_neg hl, if_neg (by decide), EReal.coe_zero]

theorem outA_sum (r : Fin 16384) (e : Fin 512) : outA Q K W (ix2 r e)
    = ∑ j : Fin 4096, W (ix4 ⟨r.val / 4096, by omega⟩ j ⟨e.val / 64, by omega⟩ ⟨e.val % 64, by omega⟩)
        * weights Q K (ix4 ⟨r.val / 4096, by omega⟩ ⟨e.val / 64, by omega⟩ ⟨r.val % 4096, by omega⟩ j) := by
  pointwise [outA]

theorem outA_apply (hQ : AllReal Q) (hK : AllReal K) (r : Fin 16384) (e : Fin 512) : outA Q K W (ix2 r e)
    = outS Q K W (r.val / 4096) ⟨e.val / 64, by omega⟩ ⟨e.val % 64, by omega⟩ (r.val % 4096) := by
  rw [outA_sum]
  unfold outS acc
  rw [Nat.Ico_zero_eq_range, Finset.sum_range]
  refine Finset.sum_congr rfl fun j _ => ?_
  rw [weights_apply Q K _ _ _ _ hQ hK]
  unfold vals
  rw [Fin.ofNat_val_eq_self]
  have hb : Fin.ofNat 4 (r.val / 4096) = ⟨r.val / 4096, by omega⟩ := Fin.ext (by simp only [Fin.ofNat]; omega)
  rw [hb]

/-- The reference's run, its result by entries. -/
theorem run_out (m : (ℓ : Loc nD τ sig) → Buf (Elt Ideal) ℓ) (ρ : Dev nD → PrngReg)
    (hm : ∀ c : Dev nD, AllReal (m ((c.tc : Thread nD τ).loc main_arg0)) ∧ AllReal (m ((c.tc : Thread nD τ).loc main_arg1))) :
    θ_run defs (onTc (τ := τ) (main (F := Ideal))) ⟨m, fun _ => 0, ρ⟩ fun r => ∀ c : Dev nD,
      r.2.mem ((c.tc : Thread nD τ).loc main_v21) = (fun y => outS (m ((c.tc : Thread nD τ).loc main_arg0)) (m ((c.tc : Thread nD τ).loc main_arg1)) (m ((c.tc : Thread nD τ).loc main_arg2))
        ((y 0).val / 4096) (Fin.ofNat 8 ((y 1).val / 64)) (Fin.ofNat 64 ((y 1).val % 64)) ((y 0).val % 4096) : Vec Ideal S16384x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => by
    refine ⟨(hr c).1.trans ?_, (hr c).2⟩
    rw [res_eq]
    funext y
    idx_vars y
    refine (outA_apply _ _ _ (hm c).1 (hm c).2 y0 y1).trans ?_
    have h0 : (⟨y1.val / 64, by omega⟩ : Fin 8) = Fin.ofNat 8 (y1.val / 64) := Fin.ext (by simp only [Fin.ofNat]; omega)
    have h1 : (⟨y1.val % 64, by omega⟩ : Fin 64) = Fin.ofNat 64 (y1.val % 64) := Fin.ext (by simp only [Fin.ofNat]; omega)
    rw [h0, h1]) (Cert.SbRefIdeal.Value.run m ρ)

end Cert.Proof.SbRefVal

end
-- ==== Proof.SbClaim.lean ====
module

public import proofs.«01_k».proof.Defs
public import proofs.«01_k».proof.Proof.Gen.Pre_finite_qk
public import proofs.«01_k».proof.Proof.SbVal
public import proofs.«01_k».proof.Proof.SbRefVal
public import Idealize.ShloMosaic.Lib.ReduceAll

/-! From finite queries and keys, the kernel's run and the reference's end in the same array. -/

@[expose] public section

set_option maxRecDepth 16384
set_option maxHeartbeats 2000000

noncomputable section

namespace Cert.Proof.SbClaim

open Cert Idealize.ShloMosaic Idealize.ShloMosaic.TcCoe Idealize.ShloMosaic.StableHlo Cert.Proof.SbSpec

theorem inf_eq : Ideal.ofBits .f32 0x7F800000#32 = (⊤ : EReal) := by
  simp [Ideal.ofBits, Ideal.ieee]

theorem andi_eq_one (a b : BitVec 1) : IntOp.andi a b = 1#1 → a = 1#1 ∧ b = 1#1 := by
  revert a b
  decide

instance : Subsingleton (Pre_finite_qk.S_).Idx := ⟨fun a b => funext fun i => i.elim0⟩

/-- An entry that compares below infinity in absolute value is a real number. -/
theorem real_of_cmp (x : EReal) (h : Ideal.cmp .olt (max x (-x)) (Ideal.ofBits .f32 0x7F800000#32) = 1#1) : ((x.toReal : ℝ) : EReal) = x := by
  refine real_of_abs_lt x ?_
  rw [inf_eq] at h
  by_contra hn
  unfold Ideal.cmp at h
  dsimp only at h
  rw [decide_eq_false hn] at h
  exact absurd h (by decide)

/-- The precondition says of queries and keys that every entry is a real number. -/
theorem real_of_pre (Q K W : FVec Ideal Pre_finite_qk.S4x4096x8x64 .f32) (h : Pre_finite_qk.fn (F := Ideal) Q K W = fun _ => 1#1) : AllReal Q ∧ AllReal K := by
  have e := andi_eq_one _ _ (congrFun h (fun i => i.elim0))
  exact ⟨fun y => real_of_cmp _ (Host.reduce_andi_all _ _ _ _ _ e.1 y), fun y => real_of_cmp _ (Host.reduce_andi_all _ _ _ _ _ e.2 y)⟩

/-- The kernel's run, its result by entries. -/
theorem run_out (m : (ℓ : Loc SbIdeal.nD SbIdeal.τ SbIdeal.sig) → Buf (Elt Ideal) ℓ) (ρ : Dev SbIdeal.nD → PrngReg)
    (hm : ∀ c : Dev SbIdeal.nD, AllReal (SbVal.argQ m c) ∧ AllReal (SbVal.argK m c)) :
    θ_run SbIdeal.defs (onTc (τ := SbIdeal.τ) (SbIdeal.main (F := Ideal))) ⟨m, fun _ => 0, ρ⟩ fun r => ∀ c : Dev SbIdeal.nD,
      r.2.mem ((c.tc : Thread SbIdeal.nD SbIdeal.τ).loc SbIdeal.main_v7) = (fun y => outS (SbVal.argQ m c) (SbVal.argK m c) (SbVal.argV m c)
        ((y 0).val / 4096) (Fin.ofNat 8 ((y 1).val / 64)) (Fin.ofNat 64 ((y 1).val % 64)) ((y 0).val % 4096) : Vec Ideal SbIdeal.S16384x512 .bf16)
      ∧ r.2.mem ((c.tc : Thread SbIdeal.nD SbIdeal.τ).loc SbIdeal.main_arg0) = m ((c.tc : Thread SbIdeal.nD SbIdeal.τ).loc SbIdeal.main_arg0)
      ∧ r.2.mem ((c.tc : Thread SbIdeal.nD SbIdeal.τ).loc SbIdeal.main_arg1) = m ((c.tc : Thread SbIdeal.nD SbIdeal.τ).loc SbIdeal.main_arg1)
      ∧ r.2.mem ((c.tc : Thread SbIdeal.nD SbIdeal.τ).loc SbIdeal.main_arg2) = m ((c.tc : Thread SbIdeal.nD SbIdeal.τ).loc SbIdeal.main_arg2) :=
  (θ_run SbIdeal.defs _ _).mono (fun r hr c => ⟨(hr c).1.trans (SbVal.w3 m c (hm c).1 (hm c).2), (hr c).2⟩) (SbIdeal.Value.run_blocks m ρ)

theorem algebraic : algebraic_SbIdeal_SbRefIdeal_pre_finite_qk := fun m g m' g' hp hargs => by
  have hm : ∀ c : Dev SbIdeal.nD, AllReal (SbVal.argQ m c) ∧ AllReal (SbVal.argK m c) := fun c => real_of_pre _ _ _ (hp c)
  refine ⟨fun c => (fun y => outS (SbVal.argQ m c) (SbVal.argK m c) (SbVal.argV m c)
        ((y 0).val / 4096) (Fin.ofNat 8 ((y 1).val / 64)) (Fin.ofNat 64 ((y 1).val % 64)) ((y 0).val % 4096) : Vec Ideal SbIdeal.S16384x512 .bf16),
    run_out m g hm, (θ_run _ _ _).mono (fun r h c => ?_) (SbRefVal.run_out m' g' fun c => ?_)⟩
  · obtain ⟨h0, h1, h2⟩ := hargs c
    refine ⟨(h c).1.trans ?_, (h c).2⟩
    rw [h0, h1, h2]
    rfl
  · obtain ⟨h0, h1, h2⟩ := hargs c
    rw [h0, h1]
    exact hm c

/-- The reference's run leaves its arguments as they were, and no counter raised. -/
theorem frame_ref (m : (ℓ : Loc SbRefIdeal.nD SbRefIdeal.τ SbRefIdeal.sig) → Buf (Elt Ideal) ℓ) (g : Dev SbRefIdeal.nD → PrngReg) :
    θ_run (SbRefIdeal.defs (F := Ideal)) (onTc (τ := SbRefIdeal.τ) (SbRefIdeal.main (F := Ideal))) ⟨m, fun _ => 0, g⟩ (fun r => (∀ c : Dev SbRefIdeal.nD,
      r.2.mem ((c.tc : Thread SbRefIdeal.nD SbRefIdeal.τ).loc SbRefIdeal.main_arg0) = m ((c.tc : Thread SbRefIdeal.nD SbRefIdeal.τ).loc SbRefIdeal.main_arg0)
      ∧ r.2.mem ((c.tc : Thread SbRefIdeal.nD SbRefIdeal.τ).loc SbRefIdeal.main_arg1) = m ((c.tc : Thread SbRefIdeal.nD SbRefIdeal.τ).loc SbRefIdeal.main_arg1)
      ∧ r.2.mem ((c.tc : Thread SbRefIdeal.nD SbRefIdeal.τ).loc SbRefIdeal.main_arg2) = m ((c.tc : Thread SbRefIdeal.nD SbRefIdeal.τ).loc SbRefIdeal.main_arg2))
      ∧ r.2.sem = fun _ => 0) :=
  (θ_run _ _ _).mono (fun r h => ⟨fun c => (h c).2, sem_eq_zero_of_no_sems rfl r.2⟩) (SbRefIdeal.Value.run m g)

end Cert.Proof.SbClaim

end
-- ==== Proof.OutSpec.lean ====
module

public import proofs.«01_k».proof.Proof.InSpec
public import proofs.«01_k».proof.Proof.SbSpec

/-! The output projection's values, one token row at a time, over the ideal numbers.

Two mixers' outputs are projected, gated and added (`mix`), multiplied with the output weight (`mo`), normalised and added
to the residual (`x1`); the new residual is normalised again, scaled and shifted (`InSpec.hid`), and multiplied with the
router's weight (`lg`).

The kernel multiplies the router's weight in two parts, a rounded one and what rounding left over. Over the ideal numbers
nothing is left over from a real number, and the normalised row is real whatever the row was: a row with an infinite entry
has an infinite mean square, whose inverse root is zero. -/

@[expose] public section

set_option maxRecDepth 16384

noncomputable section

namespace Cert.Proof.OutSpec

open Idealize.ShloMosaic Cert.Proof.InSpec

/-- The inverse root of a row's mean square. -/
def nrm (v : Fin 1024 → EReal) : EReal :=
  Ideal.rsqrt (Ideal.div (∑ j, v j * v j) (Ideal.ofBits FTy.f32 1149239296#32) + Ideal.ofBits FTy.f32 897988541#32)

/-- The gated sum of the two mixers' projections. -/
def mix (oa ob : Fin 512 → EReal) (ga gb : Fin 1024 → EReal) (wa wb : Fin 512 → Fin 1024 → EReal) (k : Fin 1024) : EReal :=
  ga k * (∑ i, oa i * wa i k) + gb k * (∑ i, ob i * wb i k)

/-- The gated sum times the output weight. -/
def mo (oa ob : Fin 512 → EReal) (ga gb : Fin 1024 → EReal) (wa wb : Fin 512 → Fin 1024 → EReal)
    (wo : Fin 1024 → Fin 1024 → EReal) (j : Fin 1024) : EReal :=
  ∑ k, mix oa ob ga gb wa wb k * wo k j

/-- The residual with the gated, normalised product added. -/
def x1 (x gate g v : Fin 1024 → EReal) (j : Fin 1024) : EReal := x j + gate j * (v j * nrm v * g j)

/-- One logit. -/
def lg (h w : Fin 1024 → EReal) : EReal := ∑ k, h k * w k

/-- An entry is a real number. -/
def Rl (x : EReal) : Prop := ((x.toReal : ℝ) : EReal) = x

theorem rl_coe (r : ℝ) : Rl (r : EReal) := by unfold Rl; rw [EReal.toReal_coe]
theorem rl_add {x y : EReal} (hx : Rl x) (hy : Rl y) : Rl (x + y) := by
  rw [← hx, ← hy, ← EReal.coe_add]; exact rl_coe _
theorem rl_mul {x y : EReal} (hx : Rl x) (hy : Rl y) : Rl (x * y) := by
  rw [← hx, ← hy, ← EReal.coe_mul]; exact rl_coe _
theorem sub_self_rl {x : EReal} (hx : Rl x) : x - x = 0 := by
  rw [← hx, ← EReal.coe_sub, sub_self, EReal.coe_zero]

theorem n1024 : Ideal.ofBits FTy.f32 1149239296#32 = ((1024 : ℝ) : EReal) := by
  simp [Ideal.ofBits, Ideal.ieee]
  norm_num
  rw [← EReal.coe_mul]
  norm_num

theorem rsqrt_rl (r : ℝ) (h : 0 < r) : Rl (Ideal.rsqrt (r : EReal)) := by
  have e : Ideal.rsqrt (r : EReal) = if r < 0 then ⊥ else if r = 0 then ⊤ else (((Real.sqrt r)⁻¹ : ℝ) : EReal) := rfl
  rw [e, if_neg (not_lt.mpr h.le), if_neg h.ne']
  exact rl_coe _

theorem eps_pos : ∃ e : ℝ, 0 < e ∧ Ideal.ofBits FTy.f32 897988541#32 = (e : EReal) := by
  refine ⟨_, ?_, by simp only [Ideal.ofBits, Ideal.ieee]; simp; rfl⟩
  norm_num

theorem sq_nonneg (x : EReal) : 0 ≤ x * x := by
  rcases le_total 0 x with h | h
  · exact mul_nonneg h h
  · exact EReal.mul_nonneg_iff.mpr (Or.inr ⟨h, h⟩)

/-- An infinite entry makes the sum of squares infinite. -/
theorem sum_top (v : Fin 1024 → EReal) (k : Fin 1024) (h : v k = ⊤ ∨ v k = ⊥) : ∑ j, v j * v j = ⊤ := by
  have e : v k * v k = ⊤ := by
    rcases h with h | h <;> rw [h] <;> simp
  refine top_le_iff.mp ?_
  rw [← e]
  exact Finset.single_le_sum (f := fun j => v j * v j) (fun j _ => sq_nonneg (v j)) (Finset.mem_univ k)

/-- A normalised entry is a real number. -/
theorem nrm_rl (v : Fin 1024 → EReal) (k : Fin 1024) : Rl (v k * nrm v) := by
  obtain ⟨e, he, hb⟩ := eps_pos
  unfold nrm
  rw [hb, n1024]
  by_cases h : ∀ j, Rl (v j)
  · have hs : ∑ j, v j * v j = ((∑ j, (v j).toReal * (v j).toReal : ℝ) : EReal) := by
      rw [SbMath.coe_sum]
      exact Finset.sum_congr rfl fun j _ => by rw [EReal.coe_mul, h j]
    have hn : 0 ≤ ∑ j, (v j).toReal * (v j).toReal := Finset.sum_nonneg fun j _ => mul_self_nonneg _
    refine rl_mul (h k) ?_
    rw [hs]
    unfold Ideal.div
    rw [if_neg (by norm_num), ← EReal.coe_inv, ← EReal.coe_mul, ← EReal.coe_add]
    have hp : 0 < (∑ j, (v j).toReal * (v j).toReal) * (1024 : ℝ)⁻¹ + e := by positivity
    exact rsqrt_rl _ hp
  · obtain ⟨j, hj⟩ := not_forall.mp h
    have ht : v j = ⊤ ∨ v j = ⊥ := by
      by_contra hn
      exact hj (EReal.coe_toReal (fun h => hn (Or.inl h)) fun h => hn (Or.inr h))
    have hd : Ideal.div ⊤ ((1024 : ℝ) : EReal) = ⊤ := by
      unfold Ideal.div
      rw [if_neg (by norm_num), ← EReal.coe_inv]
      exact EReal.top_mul_coe_of_pos (by norm_num)
    rw [sum_top v j ht, hd, EReal.top_add_coe]
    have hr : Ideal.rsqrt ⊤ = 0 := rfl
    rw [hr, mul_zero]
    exact rl_coe 0

theorem hid_rl (x g sc sh : Fin 1024 → EReal) (k : Fin 1024) (hg : Rl (g k)) (hsc : Rl (sc k)) (hsh : Rl (sh k)) : Rl (hid x g sc sh k) := by
  unfold hid
  exact rl_add (rl_mul (rl_mul (nrm_rl x k) hg) (rl_add (rl_coe 1) hsc)) hsh

/-- The logit from the weight's two parts and the row's two parts. -/
theorem lg_parts (h w : Fin 1024 → EReal) (hh : ∀ k, Rl (h k)) (hw : ∀ k, Rl (w k)) :
    (∑ k, w k * h k) + (∑ k, w k * (h k - h k)) + (∑ k, (w k - w k) * h k) = lg h w := by
  unfold lg
  have a : ∑ k, w k * (h k - h k) = 0 := Finset.sum_eq_zero fun k _ => by rw [sub_self_rl (hh k), mul_zero]
  have b : ∑ k, (w k - w k) * h k = 0 := Finset.sum_eq_zero fun k _ => by rw [sub_self_rl (hw k), zero_mul]
  rw [a, b, add_zero, add_zero]
  exact Finset.sum_congr rfl fun k _ => mul_comm _ _

/-- A token's product with the output weight, from the arrays. -/
def moP (oa ob : Vec Ideal ⟨2, ![16384, 512]⟩ .bf16) (ga gb : Vec Ideal ⟨2, ![16384, 1024]⟩ .f32) (wa wb : Vec Ideal ⟨2, ![512, 1024]⟩ .f32)
    (wo : Vec Ideal ⟨2, ![1024, 1024]⟩ .f32) (n : Fin 16384) : Fin 1024 → EReal :=
  mo (fun i => oa (ix2 n i)) (fun i => ob (ix2 n i)) (fun k => ga (ix2 n k)) (fun k => gb (ix2 n k)) (fun i k => wa (ix2 i k)) (fun i k => wb (ix2 i k))
    (fun k j => wo (ix2 k j))

/-- A token's new residual, from the arrays and the product. -/
def x1P (v : Fin 16384 → Fin 1024 → EReal) (x : Vec Ideal ⟨3, ![4, 4096, 1024]⟩ .f32) (gate : Vec Ideal ⟨3, ![4, 1, 1024]⟩ .f32)
    (g : Vec Ideal ⟨1, ![1024]⟩ .f32) (n : Fin 16384) : Fin 1024 → EReal :=
  x1 (fun j => x (ix3 ⟨n.val / 4096, by omega⟩ ⟨n.val % 4096, by omega⟩ j)) (fun j => gate (ix3 ⟨n.val / 4096, by omega⟩ 0 j)) (fun j => g (ix1 j)) (v n)

/-- A token's normalised row, from the arrays and the new residual. -/
def h2P (v : Fin 16384 → Fin 1024 → EReal) (sc sh : Vec Ideal ⟨3, ![4, 1, 1024]⟩ .f32) (g : Vec Ideal ⟨1, ![1024]⟩ .f32) (n : Fin 16384) :
    Fin 1024 → EReal :=
  hid (v n) (fun j => g (ix1 j)) (fun j => sc (ix3 ⟨n.val / 4096, by omega⟩ 0 j)) (fun j => sh (ix3 ⟨n.val / 4096, by omega⟩ 0 j))

/-- A token's logit of an expert. -/
def lgP (v : Fin 16384 → Fin 1024 → EReal) (w : Vec Ideal ⟨2, ![1024, 256]⟩ .f32) (e : Fin 256) (n : Fin 16384) : EReal :=
  lg (v n) fun k => w (ix2 k e)

end Cert.Proof.OutSpec

end
-- ==== Proof.FfnSpec.lean ====
module

public import proofs.«01_k».proof.Proof.OutSpec

/-! The feed-forward output's values, one token row at a time, over the ideal numbers.

A row of numbers comes as words of two bfloat16 numbers each, column `j` in the high half of word `j` and column `j + 512`
in its low half (`num`). The shared expert's activation (`act`) and output (`shr`) are added to the eight routed experts'
weighted rows (`ff`); the sum is normalised, gated and added to the residual (`OutSpec.x1`). -/

@[expose] public section

set_option maxRecDepth 16384

noncomputable section

namespace Cert.Proof.FfnSpec

open Idealize.ShloMosaic Cert.Proof.InSpec Cert.Proof.OutSpec

/-- The number in a word's high half, and in its low half. -/
def hi (w : BitVec 32) : EReal := Ideal.ofBits FTy.f32 (w &&& 4294901760#32)
def lo (w : BitVec 32) : EReal := Ideal.ofBits FTy.f32 (w <<< 16)

/-- A row of words as numbers. -/
def num (w : Fin 512 → BitVec 32) (j : Fin 1024) : EReal :=
  if h : j.val < 512 then hi (w ⟨j.val, h⟩) else lo (w ⟨j.val - 512, by omega⟩)

/-- One column of the shared expert's first product. -/
def pre (h : Fin 1024 → EReal) (wg : Fin 1024 → Fin 512 → EReal) (l : Fin 512) : EReal := ∑ k, h k * wg k l

/-- The shared expert's activation. -/
def act (h : Fin 1024 → EReal) (wg : Fin 1024 → Fin 512 → EReal) (i : Fin 256) : EReal :=
  pre h wg ⟨i.val, by omega⟩ * Ideal.logistic (pre h wg ⟨i.val, by omega⟩) * pre h wg ⟨256 + i.val, by omega⟩

/-- The shared expert's output. -/
def shr (h : Fin 1024 → EReal) (wg : Fin 1024 → Fin 512 → EReal) (wd : Fin 256 → Fin 1024 → EReal) (j : Fin 1024) : EReal :=
  ∑ i, act h wg i * wd i j

/-- The shared and the routed experts' sum. -/
def ff (s : Fin 1024 → EReal) (y : Fin 8 → Fin 1024 → EReal) (w : Fin 8 → EReal) (j : Fin 1024) : EReal :=
  s j + ∑ k, y k j * w k

/-- A prompt's token among all tokens. -/
def up (n : Fin 16384) : Fin 16640 := ⟨n.val, by omega⟩

/-- A token's sum of the experts, from the arrays. -/
def ffP (h : Vec Ideal ⟨2, ![16384, 512]⟩ .i32) (y : Vec Ideal ⟨3, ![8, 16640, 512]⟩ .i32) (w : Vec Ideal ⟨2, ![8, 16640]⟩ .f32)
    (wg : Vec Ideal ⟨2, ![1024, 512]⟩ .f32) (wd : Vec Ideal ⟨2, ![256, 1024]⟩ .f32) (n : Fin 16384) : Fin 1024 → EReal :=
  ff (shr (num fun k => h (ix2 n k)) (fun k l => wg (ix2 k l)) fun i j => wd (ix2 i j)) (fun k => num fun l => y (ix3 k (up n) l)) fun k => w (ix2 k (up n))

/-- A token's new residual, from the arrays and the sum. -/
def xP (v : Fin 16384 → Fin 1024 → EReal) (x : Vec Ideal ⟨2, ![16384, 1024]⟩ .f32) (gate : Vec Ideal ⟨3, ![4, 1, 1024]⟩ .f32)
    (g : Vec Ideal ⟨1, ![1024]⟩ .f32) (n : Fin 16384) : Fin 1024 → EReal :=
  x1 (fun j => x (ix2 n j)) (fun j => gate (ix3 ⟨n.val / 4096, by omega⟩ 0 j)) (fun j => g (ix1 j)) (v n)

end Cert.Proof.FfnSpec

end
-- ==== Proof.FfnPay.lean ====
module

public import proofs.«01_k».proof.Proof.Gen.FfnIdeal.Value
public import proofs.«01_k».proof.Proof.FfnSpec
public import Idealize.ShloMosaic.Lib.StableHlo.ReadAt

/-! The kernel body's values, entry by entry, from the blocks it loads. -/

@[expose] public section

set_option maxRecDepth 16384
set_option maxHeartbeats 400000

noncomputable section

namespace Cert.Proof.FfnPay

open Cert.FfnIdeal Cert.FfnIdeal.Gen Cert.Proof.InSpec Cert.Proof.OutSpec Cert.Proof.FfnSpec
open Idealize.ShloMosaic Idealize.ShloMosaic.TcCoe Idealize.ShloMosaic.StableHlo

/-- A block of words as numbers, as the body reads them. -/
def un (x : IVec S256x512 32) : FVec Ideal S256x1024 .f32 :=
  concatenate S256x1024 1 [⟨S256x512, bitcastToFloat .f32 (andi x (broadcast S256x512 4294901760#32))⟩,
    ⟨S256x512, bitcastToFloat .f32 (shli x (broadcast S256x512 16#32))⟩] concatenates_S256x512_S256x512_S256x1024_d1

theorem un_at (x : IVec S256x512 32) (r : Fin 256) (j : Fin 1024) : un x (ix2 r j) = num (fun k => x (ix2 r k)) j := by
  unfold num hi lo
  pointwise [un]
  rfl

/-- One expert's rows, weighted and added. -/
def add1 (v : FVec Ideal S256x1024 .f32) (y : FVec Ideal S256x1024 .f32) (w : FVec Ideal S256x1 .f32) : FVec Ideal S256x1024 .f32 :=
  addf v (mulf y (broadcastTo S256x1024 w broadcasts_S256x1_S256x1024))

theorem add1_at (v y : FVec Ideal S256x1024 .f32) (w : FVec Ideal S256x1 .f32) (r : Fin 256) (j : Fin 1024) :
    add1 v y w (ix2 r j) = v (ix2 r j) + y (ix2 r j) * w (ix2 r 0) := by
  pointwise [add1]

/-- The shared expert's rows, from the numbers. -/
def shr0 (h : FVec Ideal S256x1024 .f32) (v9 : Vec Ideal S1024x512 .bf16) (v18 : Vec Ideal S256x1024 .bf16) : FVec Ideal S256x1024 .f32 :=
  have v8 : FVec Ideal S256x1024 .bf16 := truncf .bf16 h bitsLt_bf16_f32
  have v10 : FVec Ideal S1024x512 .bf16 := shapeCast S1024x512 v9 shapeCasts_S1024x512_S1024x512
  have v11 : FVec Ideal S256x512 .f32 := matmul dot_S256x1024_S1024x512_S256x512_1_0_0_1_n_n none v8 v10 (constant S256x512 .f32 0x00000000#32)
  have v12 : FVec Ideal S256x256 .f32 := extractStridedSlice S256x256 ![0, 0] v11 slices_S256x512_o0_0_S256x256
  have v14 : FVec Ideal S256x256 .f32 := mulf v12 (logistic v12)
  have v15 : FVec Ideal S256x256 .f32 := extractStridedSlice S256x256 ![0, 256] v11 slices_S256x512_o0_256_S256x256
  have v17 : FVec Ideal S256x256 .bf16 := truncf .bf16 (mulf v14 v15) bitsLt_bf16_f32
  have v19 : FVec Ideal S256x1024 .bf16 := shapeCast S256x1024 v18 shapeCasts_S256x1024_S256x1024
  matmul dot_S256x256_S256x1024_S256x1024_1_0_0_1_n_n none v17 v19 (constant S256x1024 .f32 0x00000000#32)

theorem shr0_at (h : FVec Ideal S256x1024 .f32) (v9 : Vec Ideal S1024x512 .bf16) (v18 : Vec Ideal S256x1024 .bf16) (r : Fin 256) (j : Fin 1024) :
    shr0 h v9 v18 (ix2 r j) = shr (fun k => h (ix2 r k)) (fun k l => v9 (ix2 k l)) (fun i j => v18 (ix2 i j)) j := by
  unfold shr act pre
  pointwise [shr0]

theorem p1 (v126 v125 : FVec Ideal S256x1024 .f32) (v127 : Vec Ideal S1x1x1024 .f32) (v129 : Vec Ideal S1x1024 .f32) (r : Fin 256) (j : Fin 1024) :
    k0_pay1 (F := Ideal) v125 v126 v127 v129 (ix2 r j)
      = OutSpec.x1 (fun j => v126 (ix2 r j)) (fun j => v127 (ix3 0 0 j)) (fun j => v129 (ix2 0 j)) (fun j => v125 (ix2 r j)) j := by
  pointwise [k0_pay1]
  rfl

/-- A slot's block as words. -/
abbrev yw (y : Vec Ideal S1x256x512 .i32) : IVec S256x512 32 := shapeCast S256x512 y shapeCasts_S1x256x512_S256x512

/-- The weight of one slot. -/
abbrev w1 (v : Vec Ideal S256x8 .f32) (k : ℕ) (h : S256x8.Slices ![0, k] S256x1) : FVec Ideal S256x1 .f32 :=
  extractStridedSlice S256x1 ![0, k] v h

theorem q3 (v0 : Vec Ideal S256x512 .i32) (v9 : Vec Ideal S1024x512 .bf16) (v18 : Vec Ideal S256x1024 .bf16) (v21 : Vec Ideal S256x8 .f32) (y0 : Vec Ideal S1x256x512 .i32) :
    k0_pay3 (F := Ideal) v0 v9 v18 v21 y0 = add1 (shr0 (un v0) v9 v18) (un (yw y0)) (w1 (k0_pay2 v21) 0 slices_S256x8_o0_0_S256x1) := rfl
theorem q5 (v21 : FVec Ideal S256x8 .f32) (v34 : FVec Ideal S256x1024 .f32) (y1 y2 y3 : Vec Ideal S1x256x512 .i32) :
    k0_pay5 (F := Ideal) v21 v34 (k0_pay4 (F := Ideal) y1) 4294901760#32 y2 y3 = add1 (add1 (add1 v34 (un (yw y1)) (w1 v21 1 slices_S256x8_o0_1_S256x1)) (un (yw y2)) (w1 v21 2 slices_S256x8_o0_2_S256x1)) (un (yw y3)) (w1 v21 3 slices_S256x8_o0_3_S256x1) := rfl
theorem q9 (v21 : FVec Ideal S256x8 .f32) (v73 : FVec Ideal S256x1024 .f32) (y4 y5 y6 y7 : Vec Ideal S1x256x512 .i32) :
    k0_pay9 (F := Ideal) v21 v73 (k0_pay7 y4) (k0_pay8 (F := Ideal) y4) y5 y6 y7 = add1 (add1 (add1 (add1 v73 (un (yw y4)) (w1 v21 4 slices_S256x8_o0_4_S256x1)) (un (yw y5)) (w1 v21 5 slices_S256x8_o0_5_S256x1)) (un (yw y6)) (w1 v21 6 slices_S256x8_o0_6_S256x1)) (un (yw y7)) (w1 v21 7 slices_S256x8_o0_7_S256x1) := rfl
theorem pw_at (v : Vec Ideal S256x8 .f32) (r : Fin 256) (k : Fin 8) : k0_pay2 (F := Ideal) v (ix2 r k) = v (ix2 r k) := by
  pointwise [k0_pay2]

variable (x0 : Vec Ideal S256x512 .i32) (x1 : Vec Ideal S8x256x512 .i32) (x2 : Vec Ideal S256x8 .f32) (x3 : Vec Ideal S256x1024 .f32)
  (x4 : Vec Ideal S1x1x1024 .f32) (x5 : Vec Ideal S1x1024 .f32) (x6 : Vec Ideal S1024x512 .bf16) (x7 : Vec Ideal S256x1024 .bf16)

theorem yw_at (y : Vec Ideal S1x256x512 .i32) (r : Fin 256) (k : Fin 512) : yw y (ix2 r k) = y (ix3 0 r k) := by
  pointwise [yw]

theorem w1_at (v : Vec Ideal S256x8 .f32) (k : ℕ) (h : S256x8.Slices ![0, k] S256x1) (hk : k < 8) (r : Fin 256) :
    w1 v k h (ix2 r 0) = v (ix2 r ⟨k, hk⟩) := by
  pointwise [w1]

/-! The eight slots' blocks, as loaded. -/

theorem l0 (r : Fin 256) : (fun k => yw (View.ld x1 r0_4) (ix2 r k)) = fun k => x1 (ix3 0 r k) :=
  funext fun k => (yw_at _ r k).trans (View.ld_unit_apply_of _ _ _ _ _ _ fun a => by fin_cases a <;> simp [ix3])
theorem l1 (r : Fin 256) : (fun k => yw (View.ld x1 r0_5) (ix2 r k)) = fun k => x1 (ix3 1 r k) :=
  funext fun k => (yw_at _ r k).trans (View.ld_unit_apply_of _ _ _ _ _ _ fun a => by fin_cases a <;> simp [ix3])
theorem l2 (r : Fin 256) : (fun k => yw (View.ld x1 r0_6) (ix2 r k)) = fun k => x1 (ix3 2 r k) :=
  funext fun k => (yw_at _ r k).trans (View.ld_unit_apply_of _ _ _ _ _ _ fun a => by fin_cases a <;> simp [ix3])
theorem l3 (r : Fin 256) : (fun k => yw (View.ld x1 r0_7) (ix2 r k)) = fun k => x1 (ix3 3 r k) :=
  funext fun k => (yw_at _ r k).trans (View.ld_unit_apply_of _ _ _ _ _ _ fun a => by fin_cases a <;> simp [ix3])
theorem l4 (r : Fin 256) : (fun k => yw (View.ld x1 r0_8) (ix2 r k)) = fun k => x1 (ix3 4 r k) :=
  funext fun k => (yw_at _ r k).trans (View.ld_unit_apply_of _ _ _ _ _ _ fun a => by fin_cases a <;> simp [ix3])
theorem l5 (r : Fin 256) : (fun k => yw (View.ld x1 r0_9) (ix2 r k)) = fun k => x1 (ix3 5 r k) :=
  funext fun k => (yw_at _ r k).trans (View.ld_unit_apply_of _ _ _ _ _ _ fun a => by fin_cases a <;> simp [ix3])
theorem l6 (r : Fin 256) : (fun k => yw (View.ld x1 r0_10) (ix2 r k)) = fun k => x1 (ix3 6 r k) :=
  funext fun k => (yw_at _ r k).trans (View.ld_unit_apply_of _ _ _ _ _ _ fun a => by fin_cases a <;> simp [ix3])
theorem l7 (r : Fin 256) : (fun k => yw (View.ld x1 r0_11) (ix2 r k)) = fun k => x1 (ix3 7 r k) :=
  funext fun k => (yw_at _ r k).trans (View.ld_unit_apply_of _ _ _ _ _ _ fun a => by fin_cases a <;> simp [ix3])

/-- The weights of the slots, as loaded. -/
theorem p10 (r : Fin 256) (k : Fin 8) : k0_pay10 (F := Ideal) x0 x1 x2 x3 x4 x5 x6 x7 (ix2 r k) = x2 (ix2 r k) := by
  unfold k0_pay10
  exact (pw_at _ r k).trans (View.ld_unit_apply_of _ _ _ _ _ _ fun a => by fin_cases a <;> simp [ix2])

/-- The written block, entry by entry. -/
theorem o8 (r : Fin 256) (j : Fin 1024) : out0_8 (F := Ideal) x0 x1 x2 x3 x4 x5 x6 x7 (ix2 r j)
    = OutSpec.x1 (fun j => x3 (ix2 r j)) (fun j => x4 (ix3 0 0 j)) (fun j => x5 (ix2 0 j))
        (ff (shr (num fun k => x0 (ix2 r k)) (fun k l => x6 (ix2 k l)) (fun i j => x7 (ix2 i j)))
          (fun k => num fun l => x1 (ix3 k r l)) (fun k => x2 (ix2 r k))) j := by
  frame_out
  rw [q3, q5, q9, p1]
  congr 1
  funext j
  unfold ff
  simp only [add1_at, shr0_at, un_at, Fin.sum_univ_eight, add_assoc]
  rw [l0, l1, l2, l3, l4, l5, l6, l7]
  rw [w1_at _ 0 _ (by omega), w1_at _ 1 _ (by omega), w1_at _ 2 _ (by omega), w1_at _ 3 _ (by omega), w1_at _ 4 _ (by omega),
    w1_at _ 5 _ (by omega), w1_at _ 6 _ (by omega), w1_at _ 7 _ (by omega)]
  simp only [pw_at, p10]
  rfl

end Cert.Proof.FfnPay

end
-- ==== Proof.FfnVal.lean ====
module

public import proofs.«01_k».proof.Proof.FfnPay
public import Idealize.ShloMosaic.Lib.Pipeline.ValueKit.Geometry
public import Idealize.ShloMosaic.Lib.StableHlo.ReadAt

/-! The kernel's result array, equal to its array of row values. -/

@[expose] public section

set_option maxRecDepth 16384
set_option maxHeartbeats 2000000

noncomputable section

namespace Cert.Proof.FfnVal

open Cert.Proof.FfnPay Cert.FfnIdeal Cert.FfnIdeal.Gen Cert.Proof.InSpec Cert.Proof.OutSpec Cert.Proof.FfnSpec
open Idealize.ShloMosaic Idealize.ShloMosaic.TcCoe Idealize.ShloMosaic.StableHlo

variable (m : (ℓ : Loc nD τ sig) → Buf (Elt Ideal) ℓ) (c : Dev nD)

/-- Every token's sum of the experts, from the program's arguments. -/
def ffA : Fin 16384 → Fin 1024 → EReal :=
  ffP (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))

/-- Every token's new residual. -/
def xA : Fin 16384 → Fin 1024 → EReal := xP (ffA m c) (m ((c.tc : Thread nD τ).loc main_arg3)) (m ((c.tc : Thread nD τ).loc main_arg4)) (m ((c.tc : Thread nD τ).loc main_arg5))

theorem lt64 (t : Fin cfg0.N) : t.val < 64 := t.isLt

/-- The token of a row of a step's block. -/
def tk (t : Fin cfg0.N) (r : Fin 256) : Fin 16384 := ⟨t.val * 256 + r.val, by have := lt64 t; omega⟩

/-! The arrays the host makes before the call, entry by entry. -/

theorem v_w (n : Fin 16640) (k : Fin 8) : V m c main_v0 (ix2 n k) = m ((c.tc : Thread nD τ).loc main_arg2) (ix2 k n) := by
  unfold V
  after_reads_at
theorem v_g (k : Fin 1024) : V m c main_v3 (ix2 0 k) = m ((c.tc : Thread nD τ).loc main_arg5) (ix1 k) := by
  unfold V
  after_reads_at
theorem v_wg (i : Fin 1024) (k : Fin 512) : V m c main_v1 (ix2 i k) = m ((c.tc : Thread nD τ).loc main_arg6) (ix2 i k) := by
  unfold V
  after_reads_at
theorem v_wd (i : Fin 256) (k : Fin 1024) : V m c main_v2 (ix2 i k) = m ((c.tc : Thread nD τ).loc main_arg7) (ix2 i k) := by
  unfold V
  after_reads_at

/-! The blocks a grid step reads. -/

theorem i0 : ∀ t : Fin cfg0.N, win0_0.index t = ![t.val, 0] := (by decide +kernel : ∀ t : Fin grid0.N, _)
theorem i1 : ∀ t : Fin cfg0.N, win0_1.index t = ![0, t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val / 16, 0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![t.val, 0] := (by decide +kernel : ∀ t : Fin grid0.N, _)

theorem b_h (t : Fin cfg0.N) (r : Fin 256) (k : Fin 512) : iblk m c 0 t (ix2 r k) = m ((c.tc : Thread nD τ).loc main_arg0) (ix2 (tk t r) k) := by
  have := lt64 t
  unfold tk
  blk_ext [iblk, V, i0 t]
theorem b_w (t : Fin cfg0.N) (r : Fin 256) (k : Fin 8) : iblk m c 2 t (ix2 r k) = m ((c.tc : Thread nD τ).loc main_arg2) (ix2 k (up (tk t r))) := by
  have := lt64 t
  have e : iblk m c 2 t (ix2 r k) = V m c main_v0 (ix2 (up (tk t r)) k) := by
    unfold up tk
    blk_ext [iblk, i2 t]
  rw [e, v_w]
theorem b_x (t : Fin cfg0.N) (r : Fin 256) (k : Fin 1024) : iblk m c 3 t (ix2 r k) = m ((c.tc : Thread nD τ).loc main_arg3) (ix2 (tk t r) k) := by
  have := lt64 t
  unfold tk
  blk_ext [iblk, V, i3 t]
theorem b_y (t : Fin cfg0.N) (s : Fin 8) (r : Fin 256) (k : Fin 512) : iblk m c 1 t (ix3 s r k) = m ((c.tc : Thread nD τ).loc main_arg1) (ix3 s (up (tk t r)) k) := by
  have := lt64 t
  unfold up tk
  blk_ext [iblk, V, i1 t]
theorem b_gate (t : Fin cfg0.N) (r : Fin 256) (k : Fin 1024) : iblk m c 4 t (ix3 0 0 k)
    = m ((c.tc : Thread nD τ).loc main_arg4) (ix3 ⟨(tk t r).val / 4096, by have := (tk t r).isLt; omega⟩ 0 k) := by
  have := lt64 t
  have e : iblk m c 4 t (ix3 0 0 k) = m ((c.tc : Thread nD τ).loc main_arg4) (ix3 ⟨t.val / 16, by omega⟩ 0 k) := by
    blk_ext [iblk, V, i4 t]
  rw [e]
  exact congrArg (m _) (ix3_congr (Fin.ext (by unfold tk; dsimp only; omega)) rfl k)
theorem b_g (t : Fin cfg0.N) (k : Fin 1024) : iblk m c 5 t (ix2 0 k) = m ((c.tc : Thread nD τ).loc main_arg5) (ix1 k) := by
  have e : iblk m c 5 t (ix2 0 k) = V m c main_v3 (ix2 0 k) := by
    blk_ext [iblk, i5 t]
  rw [e, v_g]
theorem b_wg (t : Fin cfg0.N) (i : Fin 1024) (k : Fin 512) : iblk m c 6 t (ix2 i k) = m ((c.tc : Thread nD τ).loc main_arg6) (ix2 i k) := by
  have e : iblk m c 6 t (ix2 i k) = V m c main_v1 (ix2 i k) := by
    blk_ext [iblk, i6 t]
  rw [e, v_wg]
theorem b_wd (t : Fin cfg0.N) (i : Fin 256) (k : Fin 1024) : iblk m c 7 t (ix2 i k) = m ((c.tc : Thread nD τ).loc main_arg7) (ix2 i k) := by
  have e : iblk m c 7 t (ix2 i k) = V m c main_v2 (ix2 i k) := by
    blk_ext [iblk, i7 t]
  rw [e, v_wd]

/-- The result array. -/
theorem w8 : (dats m 0 c).arrAt 8 cfg0.N = (fun y => xA m c (Fin.ofNat 16384 (y 0).val) (Fin.ofNat 1024 (y 1).val) : Vec Ideal S16384x1024 .f32) := by
  refine (dats m 0 c).arrAt_eq_of_covers 8 _ (by decide +kernel) fun t hf y => ?_
  blk_simp
  rw [after0_8]
  idx_vars y
  have ht := lt64 t
  have e0 : Fin.ofNat 16384 (win0_8.index t 0 * 256 + y0.val) = tk t y0 := by rw [i8 t]; exact Fin.ext (Nat.mod_eq_of_lt (tk t y0).isLt)
  have e1 : Fin.ofNat 1024 (win0_8.index t 1 * 1024 + y1.val) = y1 := by rw [i8 t]; simp
  rw [e0, e1]
  refine (o8 _ _ _ _ _ _ _ _ y0 y1).trans ?_
  unfold xA xP ffA ffP
  simp only [b_h, b_w, b_x, b_y, b_gate m c t y0, b_g, b_wg, b_wd]

end Cert.Proof.FfnVal

end
-- ==== Proof.FfnRefVal.lean ====
module

public import proofs.«01_k».proof.Proof.Gen.FfnRefIdeal.Run
public import proofs.«01_k».proof.Proof.FfnSpec
public import Idealize.ShloMosaic.Lib.StableHlo.ReadAt

/-! The reference's result array, equal to its array of row values. -/

@[expose] public section

set_option maxRecDepth 16384
set_option maxHeartbeats 2000000

noncomputable section

namespace Cert.Proof.FfnRefVal

open Cert.FfnRefIdeal Cert.FfnRefIdeal.Gen Cert.Proof.InSpec Cert.Proof.OutSpec Cert.Proof.FfnSpec
open Idealize.ShloMosaic Idealize.ShloMosaic.TcCoe Idealize.ShloMosaic.StableHlo

/-- The rows of words as numbers, one token's row each, and one slot's and token's row each. -/
def unR (x : IVec S16384x512 32) : FVec Ideal S16384x1024 .f32 :=
  concatenate S16384x1024 1 [⟨S16384x512, (bitcastToFloat (F := Ideal) .f32 (andi x (broadcastInDim S16384x512 ![] bcast_S_S16384x512 (constantI S_ 32 4294901760#32))))⟩, ⟨S16384x512, (bitcastToFloat (F := Ideal) .f32 (Host.shli x (broadcastInDim S16384x512 ![] bcast_S_S16384x512 (constantI S_ 32 16#32))))⟩] concatenates_S16384x512_S16384x512_S16384x1024_d1
def unY (x : IVec S8x16384x512 32) : FVec Ideal S8x16384x1024 .f32 :=
  concatenate S8x16384x1024 2 [⟨S8x16384x512, (bitcastToFloat (F := Ideal) .f32 (andi x (broadcastInDim S8x16384x512 ![] bcast_S_S8x16384x512 (constantI S_ 32 4294901760#32))))⟩, ⟨S8x16384x512, (bitcastToFloat (F := Ideal) .f32 (Host.shli x (broadcastInDim S8x16384x512 ![] bcast_S_S8x16384x512 (constantI S_ 32 16#32))))⟩] concatenates_S8x16384x512_S8x16384x512_S8x16384x1024_d2

theorem unR_at (x : IVec S16384x512 32) (n : Fin 16384) (j : Fin 1024) : unR x (ix2 n j) = num (fun k => x (ix2 n k)) j := by
  unfold num hi lo
  pointwise [unR]
  rfl
theorem unY_at (x : IVec S8x16384x512 32) (k : Fin 8) (n : Fin 16384) (j : Fin 1024) : unY x (ix3 k n j) = num (fun l => x (ix3 k n l)) j := by
  unfold num hi lo
  pointwise [unY]
  rfl

variable (a0 : IVec S16384x512 32) (a1 : IVec S8x16640x512 32) (a2 : FVec Ideal S8x16640 .f32) (a3 : FVec Ideal S16384x1024 .f32)
  (a4 : FVec Ideal S4x1x1024 .f32) (a5 : FVec Ideal S1024 .f32) (a6 : FVec Ideal S1024x512 .f32) (a7 : FVec Ideal S256x1024 .f32)

/-- The shared expert's first product. -/
def preR (h : FVec Ideal S16384x1024 .f32) : FVec Ideal S16384x512 .f32 :=
  Host.dotGeneral dot_S16384x1024_S1024x512_S16384x512_1_0_0_1_n_n none h a6

/-- The shared expert's output, from its first product. -/
def shrR (p : FVec Ideal S16384x512 .f32) : FVec Ideal S16384x1024 .f32 :=
  Host.dotGeneral dot_S16384x256_S256x1024_S16384x1024_1_0_0_1_n_n none (mulf (mulf (extractStridedSlice S16384x256 ![0, 0] p slices_S16384x512_S16384x256_0_0) (Host.divf (broadcastInDim S16384x256 ![] bcast_S_S16384x256 (constant S_ .f32 0x3F800000#32)) (addf (broadcastInDim S16384x256 ![] bcast_S_S16384x256 (constant S_ .f32 0x3F800000#32)) (Host.exp (Host.negf (extractStridedSlice S16384x256 ![0, 0] p slices_S16384x512_S16384x256_0_0)))))) (extractStridedSlice S16384x256 ![0, 256] p slices_S16384x512_S16384x256_0_256)) a7

/-- The routed experts' weighted sum. -/
def rouR (y : FVec Ideal S8x16384x1024 .f32) : FVec Ideal S16384x1024 .f32 :=
  Host.reduceAdd (mulf y (broadcastInDim S8x16384x1024 ![0, 1, 2] bcast_S8x16384x1_S8x16384x1024_0_1_2 (broadcastInDim S8x16384x1 ![0, 1] bcast_S8x16384_S8x16384x1_0_1 (extractStridedSlice S8x16384 ![0, 0] a2 slices_S8x16640_S8x16384_0_0)))) (constant S_ .f32 0x00000000#32) reducesTo_S8x16384x1024_S16384x1024_d0 h_S_

/-- The rows' inverse root mean squares, spread over the lanes. -/
def nrmR (v : FVec Ideal S16384x1024 .f32) : FVec Ideal S16384x1024 .f32 :=
  broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))

/-- The new residual, from the experts' sum. -/
def xR (v : FVec Ideal S16384x1024 .f32) : FVec Ideal S16384x1024 .f32 :=
  addf a3 (mulf (shapeCast S16384x1024 (broadcastInDim S4x4096x1024 ![0, 2] bcast_S4x1024_S4x4096x1024_0_2 (shapeCast S4x1024 a4 shapeCasts_S4x1x1024_S4x1024)) shapeCasts_S4x4096x1024_S16384x1024) (mulf (mulf v (nrmR v)) (broadcastInDim S16384x1024 ![0, 1] bcast_S1x1024_S16384x1024_0_1 (broadcastInDim S1x1024 ![1] bcast_S1024_S1x1024_1 a5))))

/-- The prompt's part of the routed experts' words. -/
def cutR : IVec S8x16384x512 32 := extractStridedSlice S8x16384x512 ![0, 0, 0] a1 slices_S8x16640x512_S8x16384x512_0_0_0

/-- The experts' sum. -/
def ffR : FVec Ideal S16384x1024 .f32 := addf (shrR a7 (preR a6 (unR a0))) (rouR a2 (unY (cutR a1)))

theorem pre_at (h : FVec Ideal S16384x1024 .f32) (n : Fin 16384) (l : Fin 512) : preR a6 h (ix2 n l) = pre (fun k => h (ix2 n k)) (fun k l => a6 (ix2 k l)) l := by
  unfold pre
  pointwise [preR]

theorem shr_at (h : FVec Ideal S16384x1024 .f32) (n : Fin 16384) (j : Fin 1024) :
    shrR a7 (preR a6 h) (ix2 n j) = shr (fun k => h (ix2 n k)) (fun k l => a6 (ix2 k l)) (fun i j => a7 (ix2 i j)) j := by
  unfold shr act Ideal.logistic
  simp only [← pre_at]
  generalize preR a6 h = p
  pointwise [shrR]

theorem rou_at (y : FVec Ideal S8x16384x1024 .f32) (n : Fin 16384) (j : Fin 1024) : rouR a2 y (ix2 n j) = ∑ k, y (ix3 k n j) * a2 (ix2 k (up n)) := by
  unfold up
  pointwise [rouR]

theorem cut_at (k : Fin 8) (n : Fin 16384) (l : Fin 512) : cutR a1 (ix3 k n l) = a1 (ix3 k (up n) l) := by
  unfold up
  pointwise [cutR]

theorem ff_at (n : Fin 16384) (j : Fin 1024) : ffR a0 a1 a2 a6 a7 (ix2 n j) = ffP a0 a1 a2 a6 a7 n j := by
  unfold ffP ff
  have e : ffR a0 a1 a2 a6 a7 (ix2 n j) = shrR a7 (preR a6 (unR a0)) (ix2 n j) + rouR a2 (unY (cutR a1)) (ix2 n j) := rfl
  rw [e, shr_at, rou_at]
  simp only [unR_at, unY_at, cut_at]

theorem nrm_at (v : FVec Ideal S16384x1024 .f32) (n : Fin 16384) (j : Fin 1024) : nrmR v (ix2 n j) = nrm fun k => v (ix2 n k) := by
  pointwise [nrmR]
  rfl

theorem x_at (v : FVec Ideal S16384x1024 .f32) (n : Fin 16384) (j : Fin 1024) :
    xR a3 a4 a5 v (ix2 n j) = xP (fun n k => v (ix2 n k)) a3 a4 a5 n j := by
  unfold xP x1
  pointwise [xR]
  rw [nrm_at]

/-- The result. -/
theorem r44 : xR a3 a4 a5 (ffR a0 a1 a2 a6 a7) = fun y => xP (ffP a0 a1 a2 a6 a7) a3 a4 a5 (y 0) (y 1) := by
  funext y
  idx_vars y
  rw [x_at]
  unfold xP
  simp only [ff_at]

/-- The reference's run, its result by entries. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = (fun y => xP (ffP (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))) (m ((c.tc : Thread nD τ).loc main_arg3)) (m ((c.tc : Thread nD τ).loc main_arg4)) (m ((c.tc : Thread nD τ).loc main_arg5)) (y 0) (y 1) : Vec Ideal S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (r44 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), (h c).2⟩) (Value.run m ρ)

end Cert.Proof.FfnRefVal

end
-- ==== Proof.FfnClaim.lean ====
module

public import proofs.«01_k».proof.Defs
public import proofs.«01_k».proof.Proof.FfnVal
public import proofs.«01_k».proof.Proof.FfnRefVal

/-! The kernel's run and the reference's end in the same array. -/

@[expose] public section

set_option maxRecDepth 16384
set_option maxHeartbeats 2000000

noncomputable section

namespace Cert.Proof.FfnClaim

open Cert Cert.Proof.OutSpec Cert.Proof.FfnSpec
open Idealize.ShloMosaic Idealize.ShloMosaic.TcCoe Idealize.ShloMosaic.StableHlo

/-- The kernel's run, its result by entries. -/
theorem run_out (m : (ℓ : Loc FfnIdeal.nD FfnIdeal.τ FfnIdeal.sig) → Buf (Elt Ideal) ℓ) (ρ : Dev FfnIdeal.nD → PrngReg) :
    θ_run FfnIdeal.defs (onTc (τ := FfnIdeal.τ) (FfnIdeal.main (F := Ideal))) ⟨m, fun _ => 0, ρ⟩ fun r => ∀ c : Dev FfnIdeal.nD,
      r.2.mem ((c.tc : Thread FfnIdeal.nD FfnIdeal.τ).loc FfnIdeal.main_v4) = (fun y => FfnVal.xA m c (Fin.ofNat 16384 (y 0).val) (Fin.ofNat 1024 (y 1).val) : Vec Ideal FfnIdeal.S16384x1024 .f32)
      ∧ r.2.mem ((c.tc : Thread FfnIdeal.nD FfnIdeal.τ).loc FfnIdeal.main_arg0) = m ((c.tc : Thread FfnIdeal.nD FfnIdeal.τ).loc FfnIdeal.main_arg0)
      ∧ r.2.mem ((c.tc : Thread FfnIdeal.nD FfnIdeal.τ).loc FfnIdeal.main_arg1) = m ((c.tc : Thread FfnIdeal.nD FfnIdeal.τ).loc FfnIdeal.main_arg1)
      ∧ r.2.mem ((c.tc : Thread FfnIdeal.nD FfnIdeal.τ).loc FfnIdeal.main_arg2) = m ((c.tc : Thread FfnIdeal.nD FfnIdeal.τ).loc FfnIdeal.main_arg2)
      ∧ r.2.mem ((c.tc : Thread FfnIdeal.nD FfnIdeal.τ).loc FfnIdeal.main_arg3) = m ((c.tc : Thread FfnIdeal.nD FfnIdeal.τ).loc FfnIdeal.main_arg3)
      ∧ r.2.mem ((c.tc : Thread FfnIdeal.nD FfnIdeal.τ).loc FfnIdeal.main_arg4) = m ((c.tc : Thread FfnIdeal.nD FfnIdeal.τ).loc FfnIdeal.main_arg4)
      ∧ r.2.mem ((c.tc : Thread FfnIdeal.nD FfnIdeal.τ).loc FfnIdeal.main_arg5) = m ((c.tc : Thread FfnIdeal.nD FfnIdeal.τ).loc FfnIdeal.main_arg5)
      ∧ r.2.mem ((c.tc : Thread FfnIdeal.nD FfnIdeal.τ).loc FfnIdeal.main_arg6) = m ((c.tc : Thread FfnIdeal.nD FfnIdeal.τ).loc FfnIdeal.main_arg6)
      ∧ r.2.mem ((c.tc : Thread FfnIdeal.nD FfnIdeal.τ).loc FfnIdeal.main_arg7) = m ((c.tc : Thread FfnIdeal.nD FfnIdeal.τ).loc FfnIdeal.main_arg7) :=
  (θ_run FfnIdeal.defs _ _).mono (fun r hr c => ⟨(hr c).1.trans (FfnVal.w8 m c), (hr c).2⟩) (FfnIdeal.Value.run_blocks m ρ)

theorem algebraic : algebraic_FfnIdeal_FfnRefIdeal := fun m g m' g' _ hargs => by
  refine ⟨fun c => (fun y => FfnVal.xA m c (Fin.ofNat 16384 (y 0).val) (Fin.ofNat 1024 (y 1).val) : Vec Ideal FfnIdeal.S16384x1024 .f32), run_out m g, (θ_run _ _ _).mono (fun r h c => ?_) (FfnRefVal.run_out m' g')⟩
  obtain ⟨h0, h1, h2, h3, h4, h5, h6, h7⟩ := hargs c
  refine ⟨(h c).1.trans ?_, (h c).2⟩
  rw [h0, h1, h2, h3, h4, h5, h6, h7]
  funext y
  exact (congrArg₂ (FfnVal.xA m c) (Fin.ofNat_val_eq_self (n := 16384) (y 0)) (Fin.ofNat_val_eq_self (n := 1024) (y 1))).symm

/-- The reference's run leaves its arguments as they were, and no counter raised. -/
theorem frame_ref : quiescent_FfnRefIdeal := fun m g _ =>
  (θ_run _ _ _).mono (fun r h => ⟨fun c => (h c).2, sem_eq_zero_of_no_sems rfl r.2⟩) (FfnRefIdeal.Value.run m g)

end Cert.Proof.FfnClaim

end
-- ==== Proof.FfnSPay.lean ====
module

public import proofs.«01_k».proof.Proof.Gen.FfnSIdeal.Value
public import proofs.«01_k».proof.Proof.FfnSpec
public import Idealize.ShloMosaic.Lib.StableHlo.ReadAt

/-! The kernel body's values, entry by entry, from the blocks it loads. -/

@[expose] public section

set_option maxRecDepth 16384
set_option maxHeartbeats 400000

noncomputable section

namespace Cert.Proof.FfnSPay

open Cert.FfnSIdeal Cert.FfnSIdeal.Gen Cert.Proof.InSpec Cert.Proof.OutSpec Cert.Proof.FfnSpec
open Idealize.ShloMosaic Idealize.ShloMosaic.TcCoe Idealize.ShloMosaic.StableHlo

/-- A block of words as numbers, as the body reads them. -/
def un (x : IVec S256x512 32) : FVec Ideal S256x1024 .f32 :=
  concatenate S256x1024 1 [⟨S256x512, bitcastToFloat .f32 (andi x (broadcast S256x512 4294901760#32))⟩,
    ⟨S256x512, bitcastToFloat .f32 (shli x (broadcast S256x512 16#32))⟩] concatenates_S256x512_S256x512_S256x1024_d1

theorem un_at (x : IVec S256x512 32) (r : Fin 256) (j : Fin 1024) : un x (ix2 r j) = num (fun k => x (ix2 r k)) j := by
  unfold num hi lo
  pointwise [un]
  rfl

/-- One expert's rows, weighted and added. -/
def add1 (v : FVec Ideal S256x1024 .f32) (y : FVec Ideal S256x1024 .f32) (w : FVec Ideal S256x1 .f32) : FVec Ideal S256x1024 .f32 :=
  addf v (mulf y (broadcastTo S256x1024 w broadcasts_S256x1_S256x1024))

theorem add1_at (v y : FVec Ideal S256x1024 .f32) (w : FVec Ideal S256x1 .f32) (r : Fin 256) (j : Fin 1024) :
    add1 v y w (ix2 r j) = v (ix2 r j) + y (ix2 r j) * w (ix2 r 0) := by
  pointwise [add1]

/-- The shared expert's rows, from the numbers. -/
def shr0 (h : FVec Ideal S256x1024 .f32) (v9 : Vec Ideal S1024x512 .bf16) (v18 : Vec Ideal S256x1024 .bf16) : FVec Ideal S256x1024 .f32 :=
  have v8 : FVec Ideal S256x1024 .bf16 := truncf .bf16 h bitsLt_bf16_f32
  have v10 : FVec Ideal S1024x512 .bf16 := shapeCast S1024x512 v9 shapeCasts_S1024x512_S1024x512
  have v11 : FVec Ideal S256x512 .f32 := matmul dot_S256x1024_S1024x512_S256x512_1_0_0_1_n_n none v8 v10 (constant S256x512 .f32 0x00000000#32)
  have v12 : FVec Ideal S256x256 .f32 := extractStridedSlice S256x256 ![0, 0] v11 slices_S256x512_o0_0_S256x256
  have v14 : FVec Ideal S256x256 .f32 := mulf v12 (logistic v12)
  have v15 : FVec Ideal S256x256 .f32 := extractStridedSlice S256x256 ![0, 256] v11 slices_S256x512_o0_256_S256x256
  have v17 : FVec Ideal S256x256 .bf16 := truncf .bf16 (mulf v14 v15) bitsLt_bf16_f32
  have v19 : FVec Ideal S256x1024 .bf16 := shapeCast S256x1024 v18 shapeCasts_S256x1024_S256x1024
  matmul dot_S256x256_S256x1024_S256x1024_1_0_0_1_n_n none v17 v19 (constant S256x1024 .f32 0x00000000#32)

theorem shr0_at (h : FVec Ideal S256x1024 .f32) (v9 : Vec Ideal S1024x512 .bf16) (v18 : Vec Ideal S256x1024 .bf16) (r : Fin 256) (j : Fin 1024) :
    shr0 h v9 v18 (ix2 r j) = shr (fun k => h (ix2 r k)) (fun k l => v9 (ix2 k l)) (fun i j => v18 (ix2 i j)) j := by
  unfold shr act pre
  pointwise [shr0]

theorem p1 (v126 v125 : FVec Ideal S256x1024 .f32) (v127 : Vec Ideal S1x256x1024 .f32) (v129 : Vec Ideal S1x1024 .f32) (r : Fin 256) (j : Fin 1024) :
    k0_pay1 (F := Ideal) v125 v126 v127 v129 (ix2 r j)
      = OutSpec.x1 (fun j => v126 (ix2 r j)) (fun j => v127 (ix3 0 r j)) (fun j => v129 (ix2 0 j)) (fun j => v125 (ix2 r j)) j := by
  pointwise [k0_pay1]
  rfl

/-- A slot's block as words. -/
abbrev yw (y : Vec Ideal S1x256x512 .i32) : IVec S256x512 32 := shapeCast S256x512 y shapeCasts_S1x256x512_S256x512

/-- The weight of one slot. -/
abbrev w1 (v : Vec Ideal S256x8 .f32) (k : ℕ) (h : S256x8.Slices ![0, k] S256x1) : FVec Ideal S256x1 .f32 :=
  extractStridedSlice S256x1 ![0, k] v h

theorem q3 (v0 : Vec Ideal S256x512 .i32) (v9 : Vec Ideal S1024x512 .bf16) (v18 : Vec Ideal S256x1024 .bf16) (v21 : Vec Ideal S256x8 .f32) (y0 : Vec Ideal S1x256x512 .i32) :
    k0_pay3 (F := Ideal) v0 v9 v18 v21 y0 = add1 (shr0 (un v0) v9 v18) (un (yw y0)) (w1 (k0_pay2 v21) 0 slices_S256x8_o0_0_S256x1) := rfl
theorem q5 (v21 : FVec Ideal S256x8 .f32) (v34 : FVec Ideal S256x1024 .f32) (y1 y2 y3 : Vec Ideal S1x256x512 .i32) :
    k0_pay5 (F := Ideal) v21 v34 (k0_pay4 (F := Ideal) y1) 4294901760#32 y2 y3 = add1 (add1 (add1 v34 (un (yw y1)) (w1 v21 1 slices_S256x8_o0_1_S256x1)) (un (yw y2)) (w1 v21 2 slices_S256x8_o0_2_S256x1)) (un (yw y3)) (w1 v21 3 slices_S256x8_o0_3_S256x1) := rfl
theorem q9 (v21 : FVec Ideal S256x8 .f32) (v73 : FVec Ideal S256x1024 .f32) (y4 y5 y6 y7 : Vec Ideal S1x256x512 .i32) :
    k0_pay9 (F := Ideal) v21 v73 (k0_pay7 y4) (k0_pay8 (F := Ideal) y4) y5 y6 y7 = add1 (add1 (add1 (add1 v73 (un (yw y4)) (w1 v21 4 slices_S256x8_o0_4_S256x1)) (un (yw y5)) (w1 v21 5 slices_S256x8_o0_5_S256x1)) (un (yw y6)) (w1 v21 6 slices_S256x8_o0_6_S256x1)) (un (yw y7)) (w1 v21 7 slices_S256x8_o0_7_S256x1) := rfl
theorem pw_at (v : Vec Ideal S256x8 .f32) (r : Fin 256) (k : Fin 8) : k0_pay2 (F := Ideal) v (ix2 r k) = v (ix2 r k) := by
  pointwise [k0_pay2]

variable (x0 : Vec Ideal S256x512 .i32) (x1 : Vec Ideal S8x256x512 .i32) (x2 : Vec Ideal S256x8 .f32) (x3 : Vec Ideal S256x1024 .f32)
  (x4 : Vec Ideal S1x256x1024 .f32) (x5 : Vec Ideal S1x1024 .f32) (x6 : Vec Ideal S1024x512 .bf16) (x7 : Vec Ideal S256x1024 .bf16)

theorem yw_at (y : Vec Ideal S1x256x512 .i32) (r : Fin 256) (k : Fin 512) : yw y (ix2 r k) = y (ix3 0 r k) := by
  pointwise [yw]

theorem w1_at (v : Vec Ideal S256x8 .f32) (k : ℕ) (h : S256x8.Slices ![0, k] S256x1) (hk : k < 8) (r : Fin 256) :
    w1 v k h (ix2 r 0) = v (ix2 r ⟨k, hk⟩) := by
  pointwise [w1]

/-! The eight slots' blocks, as loaded. -/

theorem l0 (r : Fin 256) : (fun k => yw (View.ld x1 r0_4) (ix2 r k)) = fun k => x1 (ix3 0 r k) :=
  funext fun k => (yw_at _ r k).trans (View.ld_unit_apply_of _ _ _ _ _ _ fun a => by fin_cases a <;> simp [ix3])
theorem l1 (r : Fin 256) : (fun k => yw (View.ld x1 r0_5) (ix2 r k)) = fun k => x1 (ix3 1 r k) :=
  funext fun k => (yw_at _ r k).trans (View.ld_unit_apply_of _ _ _ _ _ _ fun a => by fin_cases a <;> simp [ix3])
theorem l2 (r : Fin 256) : (fun k => yw (View.ld x1 r0_6) (ix2 r k)) = fun k => x1 (ix3 2 r k) :=
  funext fun k => (yw_at _ r k).trans (View.ld_unit_apply_of _ _ _ _ _ _ fun a => by fin_cases a <;> simp [ix3])
theorem l3 (r : Fin 256) : (fun k => yw (View.ld x1 r0_7) (ix2 r k)) = fun k => x1 (ix3 3 r k) :=
  funext fun k => (yw_at _ r k).trans (View.ld_unit_apply_of _ _ _ _ _ _ fun a => by fin_cases a <;> simp [ix3])
theorem l4 (r : Fin 256) : (fun k => yw (View.ld x1 r0_8) (ix2 r k)) = fun k => x1 (ix3 4 r k) :=
  funext fun k => (yw_at _ r k).trans (View.ld_unit_apply_of _ _ _ _ _ _ fun a => by fin_cases a <;> simp [ix3])
theorem l5 (r : Fin 256) : (fun k => yw (View.ld x1 r0_9) (ix2 r k)) = fun k => x1 (ix3 5 r k) :=
  funext fun k => (yw_at _ r k).trans (View.ld_unit_apply_of _ _ _ _ _ _ fun a => by fin_cases a <;> simp [ix3])
theorem l6 (r : Fin 256) : (fun k => yw (View.ld x1 r0_10) (ix2 r k)) = fun k => x1 (ix3 6 r k) :=
  funext fun k => (yw_at _ r k).trans (View.ld_unit_apply_of _ _ _ _ _ _ fun a => by fin_cases a <;> simp [ix3])
theorem l7 (r : Fin 256) : (fun k => yw (View.ld x1 r0_11) (ix2 r k)) = fun k => x1 (ix3 7 r k) :=
  funext fun k => (yw_at _ r k).trans (View.ld_unit_apply_of _ _ _ _ _ _ fun a => by fin_cases a <;> simp [ix3])

/-- The weights of the slots, as loaded. -/
theorem p10 (r : Fin 256) (k : Fin 8) : k0_pay10 (F := Ideal) x0 x1 x2 x3 x4 x5 x6 x7 (ix2 r k) = x2 (ix2 r k) := by
  unfold k0_pay10
  exact (pw_at _ r k).trans (View.ld_unit_apply_of _ _ _ _ _ _ fun a => by fin_cases a <;> simp [ix2])

/-- The written block, entry by entry. -/
theorem o8 (r : Fin 256) (j : Fin 1024) : out0_8 (F := Ideal) x0 x1 x2 x3 x4 x5 x6 x7 (ix2 r j)
    = OutSpec.x1 (fun j => x3 (ix2 r j)) (fun j => x4 (ix3 0 r j)) (fun j => x5 (ix2 0 j))
        (ff (shr (num fun k => x0 (ix2 r k)) (fun k l => x6 (ix2 k l)) (fun i j => x7 (ix2 i j)))
          (fun k => num fun l => x1 (ix3 k r l)) (fun k => x2 (ix2 r k))) j := by
  frame_out
  rw [q3, q5, q9, p1]
  congr 1
  funext j
  unfold ff
  simp only [add1_at, shr0_at, un_at, Fin.sum_univ_eight, add_assoc]
  rw [l0, l1, l2, l3, l4, l5, l6, l7]
  rw [w1_at _ 0 _ (by omega), w1_at _ 1 _ (by omega), w1_at _ 2 _ (by omega), w1_at _ 3 _ (by omega), w1_at _ 4 _ (by omega),
    w1_at _ 5 _ (by omega), w1_at _ 6 _ (by omega), w1_at _ 7 _ (by omega)]
  simp only [pw_at, p10]
  rfl

end Cert.Proof.FfnSPay

end
-- ==== Proof.FfnSSpec.lean ====
module

public import proofs.«01_k».proof.Proof.FfnSpec

/-! The feed-forward output's arrays on the sampled tokens, from their row values. -/

@[expose] public section

set_option maxRecDepth 16384

noncomputable section

namespace Cert.Proof.FfnSSpec

open Idealize.ShloMosaic Cert.Proof.InSpec Cert.Proof.OutSpec Cert.Proof.FfnSpec

/-- A sampled token among all tokens. -/
def upS (n : Fin 256) : Fin 16640 := ⟨16384 + n.val, by omega⟩

/-- A token's sum of the experts, from the arrays. -/
def ffS (h : Vec Ideal ⟨2, ![256, 512]⟩ .i32) (y : Vec Ideal ⟨3, ![8, 16640, 512]⟩ .i32) (w : Vec Ideal ⟨2, ![8, 16640]⟩ .f32)
    (wg : Vec Ideal ⟨2, ![1024, 512]⟩ .f32) (wd : Vec Ideal ⟨2, ![256, 1024]⟩ .f32) (n : Fin 256) : Fin 1024 → EReal :=
  ff (shr (num fun k => h (ix2 n k)) (fun k l => wg (ix2 k l)) fun i j => wd (ix2 i j)) (fun k => num fun l => y (ix3 k (upS n) l)) fun k => w (ix2 k (upS n))

/-- A token's new residual, from the arrays and the sum. -/
def xS (v : Fin 256 → Fin 1024 → EReal) (x : Vec Ideal ⟨2, ![256, 1024]⟩ .f32) (gate : Vec Ideal ⟨3, ![32, 1, 1024]⟩ .f32)
    (g : Vec Ideal ⟨1, ![1024]⟩ .f32) (n : Fin 256) : Fin 1024 → EReal :=
  x1 (fun j => x (ix2 n j)) (fun j => gate (ix3 ⟨n.val / 8, by omega⟩ 0 j)) (fun j => g (ix1 j)) (v n)

end Cert.Proof.FfnSSpec

end
-- ==== Proof.FfnSVal.lean ====
module

public import proofs.«01_k».proof.Proof.FfnSPay
public import proofs.«01_k».proof.Proof.FfnSSpec
public import Idealize.ShloMosaic.Lib.Pipeline.ValueKit.Geometry
public import Idealize.ShloMosaic.Lib.StableHlo.ReadAt

/-! The kernel's result array, equal to its array of row values. -/

@[expose] public section

set_option maxRecDepth 16384
set_option maxHeartbeats 2000000

noncomputable section

namespace Cert.Proof.FfnSVal

open Cert.Proof.FfnSPay Cert.FfnSIdeal Cert.FfnSIdeal.Gen Cert.Proof.InSpec Cert.Proof.OutSpec Cert.Proof.FfnSpec Cert.Proof.FfnSSpec
open Idealize.ShloMosaic Idealize.ShloMosaic.TcCoe Idealize.ShloMosaic.StableHlo

variable (m : (ℓ : Loc nD τ sig) → Buf (Elt Ideal) ℓ) (c : Dev nD)

/-- Every token's sum of the experts, from the program's arguments. -/
def ffA : Fin 256 → Fin 1024 → EReal :=
  ffS (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))

/-- Every token's new residual. -/
def xA : Fin 256 → Fin 1024 → EReal := xS (ffA m c) (m ((c.tc : Thread nD τ).loc main_arg3)) (m ((c.tc : Thread nD τ).loc main_arg4)) (m ((c.tc : Thread nD τ).loc main_arg5))

theorem lt1 (t : Fin cfg0.N) : t.val < 1 := t.isLt

/-- The token of a row of a step's block. -/
def tk (t : Fin cfg0.N) (r : Fin 256) : Fin 256 := ⟨t.val * 256 + r.val, by have := lt1 t; omega⟩

/-! The arrays the host makes before the call, entry by entry. -/

theorem v_w (n : Fin 16640) (k : Fin 8) : V m c main_v4 (ix2 n k) = m ((c.tc : Thread nD τ).loc main_arg2) (ix2 k n) := by
  unfold V
  after_reads_at
theorem v_g (k : Fin 1024) : V m c main_v7 (ix2 0 k) = m ((c.tc : Thread nD τ).loc main_arg5) (ix1 k) := by
  unfold V
  after_reads_at
theorem v_wg (i : Fin 1024) (k : Fin 512) : V m c main_v5 (ix2 i k) = m ((c.tc : Thread nD τ).loc main_arg6) (ix2 i k) := by
  unfold V
  after_reads_at
theorem v_wd (i : Fin 256) (k : Fin 1024) : V m c main_v6 (ix2 i k) = m ((c.tc : Thread nD τ).loc main_arg7) (ix2 i k) := by
  unfold V
  after_reads_at

/-! The blocks a grid step reads. -/

theorem i0 : ∀ t : Fin cfg0.N, win0_0.index t = ![t.val, 0] := (by decide +kernel : ∀ t : Fin grid0.N, _)
theorem i1 : ∀ t : Fin cfg0.N, win0_1.index t = ![0, 64 + t.val, 0] := (by decide +kernel : ∀ t : Fin grid0.N, _)
theorem i2 : ∀ t : Fin cfg0.N, win0_2.index t = ![64 + t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![0, t.val, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![t.val, 0] := (by decide +kernel : ∀ t : Fin grid0.N, _)

theorem b_h (t : Fin cfg0.N) (r : Fin 256) (k : Fin 512) : iblk m c 0 t (ix2 r k) = m ((c.tc : Thread nD τ).loc main_arg0) (ix2 (tk t r) k) := by
  have := lt1 t
  unfold tk
  blk_ext [iblk, V, i0 t]
theorem b_w (t : Fin cfg0.N) (r : Fin 256) (k : Fin 8) : iblk m c 2 t (ix2 r k) = m ((c.tc : Thread nD τ).loc main_arg2) (ix2 k (upS (tk t r))) := by
  have := lt1 t
  have e : iblk m c 2 t (ix2 r k) = V m c main_v4 (ix2 (upS (tk t r)) k) := by
    unfold upS tk
    blk_ext [iblk, i2 t]
  rw [e, v_w]
theorem b_x (t : Fin cfg0.N) (r : Fin 256) (k : Fin 1024) : iblk m c 3 t (ix2 r k) = m ((c.tc : Thread nD τ).loc main_arg3) (ix2 (tk t r) k) := by
  have := lt1 t
  unfold tk
  blk_ext [iblk, V, i3 t]
theorem b_y (t : Fin cfg0.N) (s : Fin 8) (r : Fin 256) (k : Fin 512) : iblk m c 1 t (ix3 s r k) = m ((c.tc : Thread nD τ).loc main_arg1) (ix3 s (upS (tk t r)) k) := by
  have := lt1 t
  unfold upS tk
  blk_ext [iblk, V, i1 t]
theorem v_gate (n : Fin 256) (k : Fin 1024) : V m c main_v3 (ix3 0 n k) = m ((c.tc : Thread nD τ).loc main_arg4) (ix3 ⟨n.val / 8, by omega⟩ 0 k) := by
  unfold V
  after_reads_at
theorem b_gate (t : Fin cfg0.N) (r : Fin 256) (k : Fin 1024) : iblk m c 4 t (ix3 0 r k)
    = m ((c.tc : Thread nD τ).loc main_arg4) (ix3 ⟨(tk t r).val / 8, by have := (tk t r).isLt; omega⟩ 0 k) := by
  have := lt1 t
  have e : iblk m c 4 t (ix3 0 r k) = V m c main_v3 (ix3 0 (tk t r) k) := by
    unfold tk
    blk_ext [iblk, i4 t]
  rw [e, v_gate]
theorem b_g (t : Fin cfg0.N) (k : Fin 1024) : iblk m c 5 t (ix2 0 k) = m ((c.tc : Thread nD τ).loc main_arg5) (ix1 k) := by
  have e : iblk m c 5 t (ix2 0 k) = V m c main_v7 (ix2 0 k) := by
    blk_ext [iblk, i5 t]
  rw [e, v_g]
theorem b_wg (t : Fin cfg0.N) (i : Fin 1024) (k : Fin 512) : iblk m c 6 t (ix2 i k) = m ((c.tc : Thread nD τ).loc main_arg6) (ix2 i k) := by
  have e : iblk m c 6 t (ix2 i k) = V m c main_v5 (ix2 i k) := by
    blk_ext [iblk, i6 t]
  rw [e, v_wg]
theorem b_wd (t : Fin cfg0.N) (i : Fin 256) (k : Fin 1024) : iblk m c 7 t (ix2 i k) = m ((c.tc : Thread nD τ).loc main_arg7) (ix2 i k) := by
  have e : iblk m c 7 t (ix2 i k) = V m c main_v6 (ix2 i k) := by
    blk_ext [iblk, i7 t]
  rw [e, v_wd]

/-- The result array. -/
theorem w8 : (dats m 0 c).arrAt 8 cfg0.N = (fun y => xA m c (Fin.ofNat 256 (y 0).val) (Fin.ofNat 1024 (y 1).val) : Vec Ideal S256x1024 .f32) := by
  refine (dats m 0 c).arrAt_eq_of_covers 8 _ (by decide +kernel) fun t hf y => ?_
  blk_simp
  rw [after0_8]
  idx_vars y
  have ht := lt1 t
  have e0 : Fin.ofNat 256 (win0_8.index t 0 * 256 + y0.val) = tk t y0 := by rw [i8 t]; exact Fin.ext (Nat.mod_eq_of_lt (tk t y0).isLt)
  have e1 : Fin.ofNat 1024 (win0_8.index t 1 * 1024 + y1.val) = y1 := by rw [i8 t]; simp
  rw [e0, e1]
  refine (o8 _ _ _ _ _ _ _ _ y0 y1).trans ?_
  unfold xA xS ffA ffS
  simp only [b_h, b_w, b_x, b_y, b_gate, b_g, b_wg, b_wd]

end Cert.Proof.FfnSVal

end
-- ==== Proof.FfnSRefVal.lean ====
module

public import proofs.«01_k».proof.Proof.Gen.FfnSRefIdeal.Run
public import proofs.«01_k».proof.Proof.FfnSSpec
public import Idealize.ShloMosaic.Lib.StableHlo.ReadAt

/-! The reference's result array, equal to its array of row values. -/

@[expose] public section

set_option maxRecDepth 16384
set_option maxHeartbeats 2000000

noncomputable section

namespace Cert.Proof.FfnSRefVal

open Cert.FfnSRefIdeal Cert.FfnSRefIdeal.Gen Cert.Proof.InSpec Cert.Proof.OutSpec Cert.Proof.FfnSpec Cert.Proof.FfnSSpec
open Idealize.ShloMosaic Idealize.ShloMosaic.TcCoe Idealize.ShloMosaic.StableHlo

/-- The rows of words as numbers, one token's row each, and one slot's and token's row each. -/
def unR (x : IVec S256x512 32) : FVec Ideal S256x1024 .f32 :=
  concatenate S256x1024 1 [⟨S256x512, (bitcastToFloat (F := Ideal) .f32 (andi x (broadcastInDim S256x512 ![] bcast_S_S256x512 (constantI S_ 32 4294901760#32))))⟩, ⟨S256x512, (bitcastToFloat (F := Ideal) .f32 (Host.shli x (broadcastInDim S256x512 ![] bcast_S_S256x512 (constantI S_ 32 16#32))))⟩] concatenates_S256x512_S256x512_S256x1024_d1
def unY (x : IVec S8x256x512 32) : FVec Ideal S8x256x1024 .f32 :=
  concatenate S8x256x1024 2 [⟨S8x256x512, (bitcastToFloat (F := Ideal) .f32 (andi x (broadcastInDim S8x256x512 ![] bcast_S_S8x256x512 (constantI S_ 32 4294901760#32))))⟩, ⟨S8x256x512, (bitcastToFloat (F := Ideal) .f32 (Host.shli x (broadcastInDim S8x256x512 ![] bcast_S_S8x256x512 (constantI S_ 32 16#32))))⟩] concatenates_S8x256x512_S8x256x512_S8x256x1024_d2

theorem unR_at (x : IVec S256x512 32) (n : Fin 256) (j : Fin 1024) : unR x (ix2 n j) = num (fun k => x (ix2 n k)) j := by
  unfold num hi lo
  pointwise [unR]
  rfl
theorem unY_at (x : IVec S8x256x512 32) (k : Fin 8) (n : Fin 256) (j : Fin 1024) : unY x (ix3 k n j) = num (fun l => x (ix3 k n l)) j := by
  unfold num hi lo
  pointwise [unY]
  rfl

variable (a0 : IVec S256x512 32) (a1 : IVec S8x16640x512 32) (a2 : FVec Ideal S8x16640 .f32) (a3 : FVec Ideal S256x1024 .f32)
  (a4 : FVec Ideal S32x1x1024 .f32) (a5 : FVec Ideal S1024 .f32) (a6 : FVec Ideal S1024x512 .f32) (a7 : FVec Ideal S256x1024 .f32)

/-- The shared expert's first product. -/
def preR (h : FVec Ideal S256x1024 .f32) : FVec Ideal S256x512 .f32 :=
  Host.dotGeneral dot_S256x1024_S1024x512_S256x512_1_0_0_1_n_n none h a6

/-- The shared expert's output, from its first product. -/
def shrR (p : FVec Ideal S256x512 .f32) : FVec Ideal S256x1024 .f32 :=
  Host.dotGeneral dot_S256x256_S256x1024_S256x1024_1_0_0_1_n_n none (mulf (mulf (extractStridedSlice S256x256 ![0, 0] p slices_S256x512_S256x256_0_0) (Host.divf (broadcastInDim S256x256 ![] bcast_S_S256x256 (constant S_ .f32 0x3F800000#32)) (addf (broadcastInDim S256x256 ![] bcast_S_S256x256 (constant S_ .f32 0x3F800000#32)) (Host.exp (Host.negf (extractStridedSlice S256x256 ![0, 0] p slices_S256x512_S256x256_0_0)))))) (extractStridedSlice S256x256 ![0, 256] p slices_S256x512_S256x256_0_256)) a7

/-- The routed experts' weighted sum. -/
def rouR (y : FVec Ideal S8x256x1024 .f32) : FVec Ideal S256x1024 .f32 :=
  Host.reduceAdd (mulf y (broadcastInDim S8x256x1024 ![0, 1, 2] bcast_S8x256x1_S8x256x1024_0_1_2 (broadcastInDim S8x256x1 ![0, 1] bcast_S8x256_S8x256x1_0_1 (extractStridedSlice S8x256 ![0, 16384] a2 slices_S8x16640_S8x256_0_16384)))) (constant S_ .f32 0x00000000#32) reducesTo_S8x256x1024_S256x1024_d0 h_S_

/-- The rows' inverse root mean squares, spread over the lanes. -/
def nrmR (v : FVec Ideal S256x1024 .f32) : FVec Ideal S256x1024 .f32 :=
  broadcastInDim S256x1024 ![0, 1] bcast_S256x1_S256x1024_0_1 (Host.rsqrt (addf (Host.divf (broadcastInDim S256x1 ![0] bcast_S256_S256x1_0 (Host.reduceAdd (mulf v v) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))))

/-- The new residual, from the experts' sum. -/
def xR (v : FVec Ideal S256x1024 .f32) : FVec Ideal S256x1024 .f32 :=
  addf a3 (mulf (shapeCast S256x1024 (broadcastInDim S32x8x1024 ![0, 2] bcast_S32x1024_S32x8x1024_0_2 (shapeCast S32x1024 a4 shapeCasts_S32x1x1024_S32x1024)) shapeCasts_S32x8x1024_S256x1024) (mulf (mulf v (nrmR v)) (broadcastInDim S256x1024 ![0, 1] bcast_S1x1024_S256x1024_0_1 (broadcastInDim S1x1024 ![1] bcast_S1024_S1x1024_1 a5))))

/-- The sampled tokens' part of the routed experts' words. -/
def cutR : IVec S8x256x512 32 := extractStridedSlice S8x256x512 ![0, 16384, 0] a1 slices_S8x16640x512_S8x256x512_0_16384_0

/-- The experts' sum. -/
def ffR : FVec Ideal S256x1024 .f32 := addf (shrR a7 (preR a6 (unR a0))) (rouR a2 (unY (cutR a1)))

theorem pre_at (h : FVec Ideal S256x1024 .f32) (n : Fin 256) (l : Fin 512) : preR a6 h (ix2 n l) = pre (fun k => h (ix2 n k)) (fun k l => a6 (ix2 k l)) l := by
  unfold pre
  pointwise [preR]

theorem shr_at (h : FVec Ideal S256x1024 .f32) (n : Fin 256) (j : Fin 1024) :
    shrR a7 (preR a6 h) (ix2 n j) = shr (fun k => h (ix2 n k)) (fun k l => a6 (ix2 k l)) (fun i j => a7 (ix2 i j)) j := by
  unfold shr act Ideal.logistic
  simp only [← pre_at]
  generalize preR a6 h = p
  pointwise [shrR]

theorem rou_at (y : FVec Ideal S8x256x1024 .f32) (n : Fin 256) (j : Fin 1024) : rouR a2 y (ix2 n j) = ∑ k, y (ix3 k n j) * a2 (ix2 k (upS n)) := by
  unfold upS
  pointwise [rouR]

theorem cut_at (k : Fin 8) (n : Fin 256) (l : Fin 512) : cutR a1 (ix3 k n l) = a1 (ix3 k (upS n) l) := by
  unfold upS
  pointwise [cutR]

theorem ff_at (n : Fin 256) (j : Fin 1024) : ffR a0 a1 a2 a6 a7 (ix2 n j) = ffS a0 a1 a2 a6 a7 n j := by
  unfold ffS ff
  have e : ffR a0 a1 a2 a6 a7 (ix2 n j) = shrR a7 (preR a6 (unR a0)) (ix2 n j) + rouR a2 (unY (cutR a1)) (ix2 n j) := rfl
  rw [e, shr_at, rou_at]
  simp only [unR_at, unY_at, cut_at]

theorem nrm_at (v : FVec Ideal S256x1024 .f32) (n : Fin 256) (j : Fin 1024) : nrmR v (ix2 n j) = nrm fun k => v (ix2 n k) := by
  pointwise [nrmR]
  rfl

theorem x_at (v : FVec Ideal S256x1024 .f32) (n : Fin 256) (j : Fin 1024) :
    xR a3 a4 a5 v (ix2 n j) = xS (fun n k => v (ix2 n k)) a3 a4 a5 n j := by
  unfold xS x1
  pointwise [xR]
  rw [nrm_at]

/-- The result. -/
theorem r44 : xR a3 a4 a5 (ffR a0 a1 a2 a6 a7) = fun y => xS (ffS a0 a1 a2 a6 a7) a3 a4 a5 (y 0) (y 1) := by
  funext y
  idx_vars y
  rw [x_at]
  unfold xS
  simp only [ff_at]

/-- The reference's run, its result by entries. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = (fun y => xS (ffS (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))) (m ((c.tc : Thread nD τ).loc main_arg3)) (m ((c.tc : Thread nD τ).loc main_arg4)) (m ((c.tc : Thread nD τ).loc main_arg5)) (y 0) (y 1) : Vec Ideal S256x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (r44 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), (h c).2⟩) (Value.run m ρ)

end Cert.Proof.FfnSRefVal

end
-- ==== Proof.FfnSClaim.lean ====
module

public import proofs.«01_k».proof.Defs
public import proofs.«01_k».proof.Proof.FfnSVal
public import proofs.«01_k».proof.Proof.FfnSRefVal

/-! The kernel's run and the reference's end in the same array. -/

@[expose] public section

set_option maxRecDepth 16384
set_option maxHeartbeats 2000000

noncomputable section

namespace Cert.Proof.FfnSClaim

open Cert Cert.Proof.OutSpec Cert.Proof.FfnSpec Cert.Proof.FfnSSpec
open Idealize.ShloMosaic Idealize.ShloMosaic.TcCoe Idealize.ShloMosaic.StableHlo

/-- The kernel's run, its result by entries. -/
theorem run_out (m : (ℓ : Loc FfnSIdeal.nD FfnSIdeal.τ FfnSIdeal.sig) → Buf (Elt Ideal) ℓ) (ρ : Dev FfnSIdeal.nD → PrngReg) :
    θ_run FfnSIdeal.defs (onTc (τ := FfnSIdeal.τ) (FfnSIdeal.main (F := Ideal))) ⟨m, fun _ => 0, ρ⟩ fun r => ∀ c : Dev FfnSIdeal.nD,
      r.2.mem ((c.tc : Thread FfnSIdeal.nD FfnSIdeal.τ).loc FfnSIdeal.main_v8) = (fun y => FfnSVal.xA m c (Fin.ofNat 256 (y 0).val) (Fin.ofNat 1024 (y 1).val) : Vec Ideal FfnSIdeal.S256x1024 .f32)
      ∧ r.2.mem ((c.tc : Thread FfnSIdeal.nD FfnSIdeal.τ).loc FfnSIdeal.main_arg0) = m ((c.tc : Thread FfnSIdeal.nD FfnSIdeal.τ).loc FfnSIdeal.main_arg0)
      ∧ r.2.mem ((c.tc : Thread FfnSIdeal.nD FfnSIdeal.τ).loc FfnSIdeal.main_arg1) = m ((c.tc : Thread FfnSIdeal.nD FfnSIdeal.τ).loc FfnSIdeal.main_arg1)
      ∧ r.2.mem ((c.tc : Thread FfnSIdeal.nD FfnSIdeal.τ).loc FfnSIdeal.main_arg2) = m ((c.tc : Thread FfnSIdeal.nD FfnSIdeal.τ).loc FfnSIdeal.main_arg2)
      ∧ r.2.mem ((c.tc : Thread FfnSIdeal.nD FfnSIdeal.τ).loc FfnSIdeal.main_arg3) = m ((c.tc : Thread FfnSIdeal.nD FfnSIdeal.τ).loc FfnSIdeal.main_arg3)
      ∧ r.2.mem ((c.tc : Thread FfnSIdeal.nD FfnSIdeal.τ).loc FfnSIdeal.main_arg4) = m ((c.tc : Thread FfnSIdeal.nD FfnSIdeal.τ).loc FfnSIdeal.main_arg4)
      ∧ r.2.mem ((c.tc : Thread FfnSIdeal.nD FfnSIdeal.τ).loc FfnSIdeal.main_arg5) = m ((c.tc : Thread FfnSIdeal.nD FfnSIdeal.τ).loc FfnSIdeal.main_arg5)
      ∧ r.2.mem ((c.tc : Thread FfnSIdeal.nD FfnSIdeal.τ).loc FfnSIdeal.main_arg6) = m ((c.tc : Thread FfnSIdeal.nD FfnSIdeal.τ).loc FfnSIdeal.main_arg6)
      ∧ r.2.mem ((c.tc : Thread FfnSIdeal.nD FfnSIdeal.τ).loc FfnSIdeal.main_arg7) = m ((c.tc : Thread FfnSIdeal.nD FfnSIdeal.τ).loc FfnSIdeal.main_arg7) :=
  (θ_run FfnSIdeal.defs _ _).mono (fun r hr c => ⟨(hr c).1.trans (FfnSVal.w8 m c), (hr c).2⟩) (FfnSIdeal.Value.run_blocks m ρ)

theorem algebraic : algebraic_FfnSIdeal_FfnSRefIdeal := fun m g m' g' _ hargs => by
  refine ⟨fun c => (fun y => FfnSVal.xA m c (Fin.ofNat 256 (y 0).val) (Fin.ofNat 1024 (y 1).val) : Vec Ideal FfnSIdeal.S256x1024 .f32), run_out m g, (θ_run _ _ _).mono (fun r h c => ?_) (FfnSRefVal.run_out m' g')⟩
  obtain ⟨h0, h1, h2, h3, h4, h5, h6, h7⟩ := hargs c
  refine ⟨(h c).1.trans ?_, (h c).2⟩
  rw [h0, h1, h2, h3, h4, h5, h6, h7]
  funext y
  exact (congrArg₂ (FfnSVal.xA m c) (Fin.ofNat_val_eq_self (n := 256) (y 0)) (Fin.ofNat_val_eq_self (n := 1024) (y 1))).symm

/-- The reference's run leaves its arguments as they were, and no counter raised. -/
theorem frame_ref : quiescent_FfnSRefIdeal := fun m g _ =>
  (θ_run _ _ _).mono (fun r h => ⟨fun c => (h c).2, sem_eq_zero_of_no_sems rfl r.2⟩) (FfnSRefIdeal.Value.run m g)

end Cert.Proof.FfnSClaim

end
-- ==== Proof.OutPay.lean ====
module

public import proofs.«01_k».proof.Proof.Gen.OutIdeal.Value
public import proofs.«01_k».proof.Proof.OutSpec
public import Idealize.ShloMosaic.Lib.StableHlo.ReadAt

/-! The kernel body's values, entry by entry, from the blocks it loads. -/

@[expose] public section

set_option maxRecDepth 16384
set_option maxHeartbeats 2000000

noncomputable section

namespace Cert.Proof.OutPay

open Cert.OutIdeal Cert.OutIdeal.Gen Cert.Proof.InSpec Cert.Proof.OutSpec
open Idealize.ShloMosaic Idealize.ShloMosaic.TcCoe Idealize.ShloMosaic.StableHlo

variable (x0 x1 : Vec Ideal S256x512 .bf16) (x2 x3 x4 : Vec Ideal S256x1024 .f32) (x5 x6 x7 : Vec Ideal S1x1x1024 .f32)
  (x8 x9 : Vec Ideal S1x1024 .f32) (x10 x11 : Vec Ideal S512x1024 .bf16) (x12 : Vec Ideal S1024x1024 .bf16) (x13 x14 : Vec Ideal S256x1024 .bf16)

/-- A row's product with the output weight. -/
abbrev moB (r : Fin 256) : Fin 1024 → EReal :=
  mo (fun i => x0 (ix2 r i)) (fun i => x1 (ix2 r i)) (fun k => x2 (ix2 r k)) (fun k => x3 (ix2 r k)) (fun i k => x10 (ix2 i k)) (fun i k => x11 (ix2 i k))
    (fun k j => x12 (ix2 k j))

/-- A row's new residual. -/
abbrev x1B (r : Fin 256) : Fin 1024 → EReal :=
  OutSpec.x1 (fun j => x4 (ix2 r j)) (fun j => x5 (ix3 0 0 j)) (fun j => x8 (ix2 0 j)) (moB x0 x1 x2 x3 x10 x11 x12 r)

/-- A row's normalised row. -/
abbrev h2B (r : Fin 256) : Fin 1024 → EReal :=
  hid (x1B x0 x1 x2 x3 x4 x5 x8 x10 x11 x12 r) (fun j => x9 (ix2 0 j)) (fun j => x6 (ix3 0 0 j)) (fun j => x7 (ix3 0 0 j))

theorem p2 (r : Fin 256) (j : Fin 1024) : k0_pay2 (F := Ideal) x2 x0 x10 x3 x1 x11 x12 (ix2 r j) = moB x0 x1 x2 x3 x10 x11 x12 r j := by
  unfold moB mo mix
  pointwise [k0_pay2]

theorem p6 (r : Fin 256) (j : Fin 1024) : k0_pay6 (F := Ideal) x2 x0 x10 x3 x1 x11 x12 (ix2 r j) = nrm (moB x0 x1 x2 x3 x10 x11 x12 r) := by
  unfold nrm
  pointwise [k0_pay6]
  simp only [p2]

theorem p7 (v v' x : Vec Ideal S256x1024 .f32) (r : Fin 256) (j : Fin 1024) :
    k0_pay7 (F := Ideal) v (k0_pay3 x) (k0_pay4 x5) (k0_pay5 x8) v' (ix2 r j)
      = x (ix2 r j) + x5 (ix3 0 0 j) * (v (ix2 r j) * v' (ix2 r j) * x8 (ix2 0 j)) := by
  pointwise [k0_pay7, k0_pay3, k0_pay4, k0_pay5]

theorem p8 (v v' x18 : FVec Ideal S256x1024 .f32) (x20 x22 : FVec Ideal S1x1024 .f32) (r : Fin 256) (j : Fin 1024) :
    k0_pay8 (F := Ideal) v x18 x20 x22 v' x9 x6 x7 (ix2 r j)
      = hid (fun j => k0_pay7 (F := Ideal) v x18 x20 x22 v' (ix2 r j)) (fun j => x9 (ix2 0 j)) (fun j => x6 (ix3 0 0 j)) (fun j => x7 (ix3 0 0 j)) j := by
  pointwise [k0_pay8]
  rfl

/-- The three results' rows as the body computes them, the new residual first. -/
theorem e7 (r : Fin 256) (j : Fin 1024) :
    k0_pay7 (F := Ideal) (k0_pay2 x2 x0 x10 x3 x1 x11 x12) (k0_pay3 x4) (k0_pay4 x5) (k0_pay5 x8) (k0_pay6 x2 x0 x10 x3 x1 x11 x12) (ix2 r j)
      = x1B x0 x1 x2 x3 x4 x5 x8 x10 x11 x12 r j := by
  rw [p7, p2, p6]
  rfl

theorem e8 (r : Fin 256) (j : Fin 1024) :
    k0_pay8 (F := Ideal) (k0_pay2 x2 x0 x10 x3 x1 x11 x12) (k0_pay3 x4) (k0_pay4 x5) (k0_pay5 x8) (k0_pay6 x2 x0 x10 x3 x1 x11 x12) x9 x6 x7 (ix2 r j)
      = h2B x0 x1 x2 x3 x4 x5 x6 x7 x8 x9 x10 x11 x12 r j := by
  rw [p8]
  unfold h2B
  simp only [e7]

/-! A whole block read is the block. -/

theorem z2 : (![0, 0] : Fin 2 → ℕ) = fun _ => 0 := by decide
theorem z3 : (![0, 0, 0] : Fin 3 → ℕ) = fun _ => 0 := by decide
theorem q13 : k0_pay13 (F := Ideal) x0 x1 x2 x3 x4 x5 x6 x7 x8 x9 x10 x11 x12 x13 x14 = k0_pay2 x2 x0 x10 x3 x1 x11 x12 := by
  have a2 : View.ld x2 r0_0 = x2 := View.ld_unit_zero z2 _ x2
  have a3 : View.ld x3 r0_0 = x3 := View.ld_unit_zero z2 _ x3
  have a0 : View.ld x0 r0_1 = x0 := View.ld_unit_zero z2 _ x0
  have a1 : View.ld x1 r0_1 = x1 := View.ld_unit_zero z2 _ x1
  have a10 : View.ld x10 r0_2 = x10 := View.ld_unit_zero z2 _ x10
  have a11 : View.ld x11 r0_2 = x11 := View.ld_unit_zero z2 _ x11
  have a12 : View.ld x12 r0_3 = x12 := View.ld_unit_zero z2 _ x12
  unfold k0_pay13
  rw [a2, a3, a0, a1, a10, a11, a12]
theorem q17 : k0_pay17 (F := Ideal) x0 x1 x2 x3 x4 x5 x6 x7 x8 x9 x10 x11 x12 x13 x14 = k0_pay6 x2 x0 x10 x3 x1 x11 x12 := by
  have a2 : View.ld x2 r0_0 = x2 := View.ld_unit_zero z2 _ x2
  have a3 : View.ld x3 r0_0 = x3 := View.ld_unit_zero z2 _ x3
  have a0 : View.ld x0 r0_1 = x0 := View.ld_unit_zero z2 _ x0
  have a1 : View.ld x1 r0_1 = x1 := View.ld_unit_zero z2 _ x1
  have a10 : View.ld x10 r0_2 = x10 := View.ld_unit_zero z2 _ x10
  have a11 : View.ld x11 r0_2 = x11 := View.ld_unit_zero z2 _ x11
  have a12 : View.ld x12 r0_3 = x12 := View.ld_unit_zero z2 _ x12
  unfold k0_pay17
  rw [a2, a3, a0, a1, a10, a11, a12]
theorem q14 : k0_pay14 (F := Ideal) x0 x1 x2 x3 x4 x5 x6 x7 x8 x9 x10 x11 x12 x13 x14 = k0_pay3 x4 := by
  have a : View.ld x4 r0_0 = x4 := View.ld_unit_zero z2 _ x4
  unfold k0_pay14
  rw [a]
theorem q15 : k0_pay15 (F := Ideal) x0 x1 x2 x3 x4 x5 x6 x7 x8 x9 x10 x11 x12 x13 x14 = k0_pay4 x5 := by
  have a : View.ld x5 r0_4 = x5 := View.ld_unit_zero z3 _ x5
  unfold k0_pay15
  rw [a]
theorem q16 : k0_pay16 (F := Ideal) x0 x1 x2 x3 x4 x5 x6 x7 x8 x9 x10 x11 x12 x13 x14 = k0_pay5 x8 := by
  have a : View.ld x8 r0_5 = x8 := View.ld_unit_zero z2 _ x8
  unfold k0_pay16
  rw [a]

theorem p11 (v16 v18 v31 : FVec Ideal S256x1024 .f32) (v20 v22 : FVec Ideal S1x1024 .f32) (r : Fin 256) (j : Fin 1024) :
    k0_pay11 (F := Ideal) v16 v18 v20 v22 v31 x9 x6 x7 (ix2 r j) = (k0_pay8 (F := Ideal) v16 v18 v20 v22 v31 x9 x6 x7 (ix2 r j) : EReal) := by
  pointwise [k0_pay11]

theorem o15 (r : Fin 256) (j : Fin 1024) :
    out0_15 (F := Ideal) x0 x1 x2 x3 x4 x5 x6 x7 x8 x9 x10 x11 x12 x13 x14 (ix2 r j) = x1B x0 x1 x2 x3 x4 x5 x8 x10 x11 x12 r j := by
  frame_out
  rw [q13, q14, q15, q16, q17]
  exact e7 x0 x1 x2 x3 x4 x5 x8 x10 x11 x12 r j

theorem o16 (r : Fin 256) (j : Fin 1024) :
    out0_16 (F := Ideal) x0 x1 x2 x3 x4 x5 x6 x7 x8 x9 x10 x11 x12 x13 x14 (ix2 r j) = h2B x0 x1 x2 x3 x4 x5 x6 x7 x8 x9 x10 x11 x12 r j := by
  frame_out
  rw [p11, q13, q14, q15, q16, q17]
  exact e8 x0 x1 x2 x3 x4 x5 x6 x7 x8 x9 x10 x11 x12 r j

/-- The logits' payload, from the row's two parts and the weight's two parts. -/
theorem p1 (v16 v18 v31 : FVec Ideal S256x1024 .f32) (v20 v22 : FVec Ideal S1x1024 .f32) (e r : Fin 256) :
    k0_pay1 (F := Ideal) (k0_pay9 v16 v18 v20 v22 v31 x9 x6 x7) (k0_pay10 v16 v18 v20 v22 v31 x9 x6 x7) (k0_pay12 x13) (constant S256x256 .f32 0x00000000#32) x13 x14 (ix2 e r)
      = (∑ k, x13 (ix2 e k) * (k0_pay8 (F := Ideal) v16 v18 v20 v22 v31 x9 x6 x7 (ix2 r k) : EReal))
        + (∑ k, x13 (ix2 e k) * ((k0_pay8 (F := Ideal) v16 v18 v20 v22 v31 x9 x6 x7 (ix2 r k) : EReal) - k0_pay8 (F := Ideal) v16 v18 v20 v22 v31 x9 x6 x7 (ix2 r k)))
        + ∑ k, x14 (ix2 e k) * (k0_pay8 (F := Ideal) v16 v18 v20 v22 v31 x9 x6 x7 (ix2 r k) : EReal) := by
  pointwise [k0_pay1, k0_pay9, k0_pay10, k0_pay12]

theorem o17 (w : Fin 256 → Fin 1024 → EReal) (hw : ∀ e k, Rl (w e k)) (h13 : ∀ e k, x13 (ix2 e k) = w e k) (h14 : ∀ e k, x14 (ix2 e k) = w e k - w e k)
    (e r : Fin 256) (h6 : ∀ j, Rl (x6 (ix3 0 0 j))) (h7 : ∀ j, Rl (x7 (ix3 0 0 j))) (h9 : ∀ j, Rl (x9 (ix2 0 j))) :
    out0_17 (F := Ideal) x0 x1 x2 x3 x4 x5 x6 x7 x8 x9 x10 x11 x12 x13 x14 (ix2 e r) = lg (h2B x0 x1 x2 x3 x4 x5 x6 x7 x8 x9 x10 x11 x12 r) (w e) := by
  frame_out
  rw [q13, q14, q15, q16, q17]
  refine (p1 x6 x7 x9 x13 x14 _ _ _ _ _ e r).trans ?_
  simp only [e8, h13, h14]
  exact lg_parts _ _ (fun k => hid_rl _ _ _ _ k (h9 k) (h6 k) (h7 k)) (hw e)

end Cert.Proof.OutPay

end
-- ==== Proof.OutVal.lean ====
module

public import proofs.«01_k».proof.Proof.OutPay
public import Idealize.ShloMosaic.Lib.Pipeline.ValueKit.Geometry
public import Idealize.ShloMosaic.Lib.StableHlo.ReadAt

/-! The kernel's result arrays, each equal to its array of row values. -/

@[expose] public section

set_option maxRecDepth 16384
set_option maxHeartbeats 2000000

noncomputable section

namespace Cert.Proof.OutVal

open Cert.Proof.OutPay Cert.OutIdeal Cert.OutIdeal.Gen Cert.Proof.InSpec Cert.Proof.OutSpec
open Idealize.ShloMosaic Idealize.ShloMosaic.TcCoe Idealize.ShloMosaic.StableHlo

variable (m : (ℓ : Loc nD τ sig) → Buf (Elt Ideal) ℓ) (c : Dev nD)

/-- Every token's product with the output weight, from the program's arguments. -/
def moA : Fin 16384 → Fin 1024 → EReal :=
  moP (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg10)) (m ((c.tc : Thread nD τ).loc main_arg11)) (m ((c.tc : Thread nD τ).loc main_arg12))

/-- Every token's new residual. -/
def x1A : Fin 16384 → Fin 1024 → EReal :=
  x1P (moA m c) (m ((c.tc : Thread nD τ).loc main_arg4)) (m ((c.tc : Thread nD τ).loc main_arg5)) (m ((c.tc : Thread nD τ).loc main_arg8))

/-- Every token's normalised row. -/
def h2A : Fin 16384 → Fin 1024 → EReal :=
  h2P (x1A m c) (m ((c.tc : Thread nD τ).loc main_arg6)) (m ((c.tc : Thread nD τ).loc main_arg7)) (m ((c.tc : Thread nD τ).loc main_arg9))

/-- Every token's logits. -/
def lgA : Fin 256 → Fin 16384 → EReal := lgP (h2A m c) (m ((c.tc : Thread nD τ).loc main_arg13))

/-- The router's weight, by expert. -/
def wrA (e : Fin 256) (k : Fin 1024) : EReal := m ((c.tc : Thread nD τ).loc main_arg13) (ix2 k e)

theorem lt64 (t : Fin cfg0.N) : t.val < 64 := t.isLt

/-- The token of a row of a step's block. -/
def tk (t : Fin cfg0.N) (r : Fin 256) : Fin 16384 := ⟨t.val * 256 + r.val, by have := lt64 t; omega⟩

/-! The arrays the host makes before the call, entry by entry. -/

theorem v_x (r : Fin 16384) (k : Fin 1024) : V m c main_v9 (ix2 r k) = m ((c.tc : Thread nD τ).loc main_arg4) (ix3 ⟨r.val / 4096, by omega⟩ ⟨r.val % 4096, by omega⟩ k) := by
  unfold V
  after_reads_at
theorem v_gpost (k : Fin 1024) : V m c main_v10 (ix2 0 k) = m ((c.tc : Thread nD τ).loc main_arg8) (ix1 k) := by
  unfold V
  after_reads_at
theorem v_gpre (k : Fin 1024) : V m c main_v11 (ix2 0 k) = m ((c.tc : Thread nD τ).loc main_arg9) (ix1 k) := by
  unfold V
  after_reads_at
theorem v_wa (i : Fin 512) (k : Fin 1024) : V m c main_v6 (ix2 i k) = m ((c.tc : Thread nD τ).loc main_arg10) (ix2 i k) := by
  unfold V
  after_reads_at
theorem v_wb (i : Fin 512) (k : Fin 1024) : V m c main_v7 (ix2 i k) = m ((c.tc : Thread nD τ).loc main_arg11) (ix2 i k) := by
  unfold V
  after_reads_at
theorem v_wo (i k : Fin 1024) : V m c main_v8 (ix2 i k) = m ((c.tc : Thread nD τ).loc main_arg12) (ix2 i k) := by
  unfold V
  after_reads_at
theorem v_hi (e : Fin 256) (k : Fin 1024) : V m c main_v1 (ix2 e k) = wrA m c e k := by
  unfold V wrA
  after_reads_at
theorem v_lo (e : Fin 256) (k : Fin 1024) : V m c main_v5 (ix2 e k) = wrA m c e k - wrA m c e k := by
  unfold V wrA
  after_reads_at

/-! The blocks a grid step reads. -/

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val / 16, 0, 0] := (by decide +kernel : ∀ t : Fin grid0.N, _)
theorem i6 : ∀ t : Fin cfg0.N, win0_6.index t = ![t.val / 16, 0, 0] := (by decide +kernel : ∀ t : Fin grid0.N, _)
theorem i7 : ∀ t : Fin cfg0.N, win0_7.index t = ![t.val / 16, 0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![0, 0] := (by decide +kernel : ∀ t : Fin grid0.N, _)
theorem i12 : ∀ t : Fin cfg0.N, win0_12.index t = ![0, 0] := (by decide +kernel : ∀ t : Fin grid0.N, _)
theorem i13 : ∀ t : Fin cfg0.N, win0_13.index t = ![0, 0] := (by decide +kernel : ∀ t : Fin grid0.N, _)
theorem i14 : ∀ t : Fin cfg0.N, win0_14.index t = ![0, 0] := (by decide +kernel : ∀ t : Fin grid0.N, _)
theorem i15 : ∀ t : Fin cfg0.N, win0_15.index t = ![t.val, 0] := (by decide +kernel : ∀ t : Fin grid0.N, _)
theorem i16 : ∀ t : Fin cfg0.N, win0_16.index t = ![t.val, 0] := (by decide +kernel : ∀ t : Fin grid0.N, _)
theorem i17 : ∀ t : Fin cfg0.N, win0_17.index t = ![0, t.val] := (by decide +kernel : ∀ t : Fin grid0.N, _)

theorem b_oa (t : Fin cfg0.N) (r : Fin 256) (k : Fin 512) : iblk m c 0 t (ix2 r k) = m ((c.tc : Thread nD τ).loc main_arg0) (ix2 (tk t r) k) := by
  have := lt64 t
  unfold tk
  blk_ext [iblk, V, i0 t]
theorem b_ob (t : Fin cfg0.N) (r : Fin 256) (k : Fin 512) : iblk m c 1 t (ix2 r k) = m ((c.tc : Thread nD τ).loc main_arg1) (ix2 (tk t r) k) := by
  have := lt64 t
  unfold tk
  blk_ext [iblk, V, i1 t]
theorem b_ga (t : Fin cfg0.N) (r : Fin 256) (k : Fin 1024) : iblk m c 2 t (ix2 r k) = m ((c.tc : Thread nD τ).loc main_arg2) (ix2 (tk t r) k) := by
  have := lt64 t
  unfold tk
  blk_ext [iblk, V, i2 t]
theorem b_gb (t : Fin cfg0.N) (r : Fin 256) (k : Fin 1024) : iblk m c 3 t (ix2 r k) = m ((c.tc : Thread nD τ).loc main_arg3) (ix2 (tk t r) k) := by
  have := lt64 t
  unfold tk
  blk_ext [iblk, V, i3 t]
theorem b_x (t : Fin cfg0.N) (r : Fin 256) (k : Fin 1024) : iblk m c 4 t (ix2 r k)
    = m ((c.tc : Thread nD τ).loc main_arg4) (ix3 ⟨(tk t r).val / 4096, by have := (tk t r).isLt; omega⟩ ⟨(tk t r).val % 4096, by omega⟩ k) := by
  have := lt64 t
  have e : iblk m c 4 t (ix2 r k) = V m c main_v9 (ix2 (tk t r) k) := by
    unfold tk
    blk_ext [iblk, i4 t]
  rw [e, v_x]
theorem b_gate (t : Fin cfg0.N) (r : Fin 256) (k : Fin 1024) : iblk m c 5 t (ix3 0 0 k)
    = m ((c.tc : Thread nD τ).loc main_arg5) (ix3 ⟨(tk t r).val / 4096, by have := (tk t r).isLt; omega⟩ 0 k) := by
  have := lt64 t
  have e : iblk m c 5 t (ix3 0 0 k) = m ((c.tc : Thread nD τ).loc main_arg5) (ix3 ⟨t.val / 16, by omega⟩ 0 k) := by
    blk_ext [iblk, V, i5 t]
  rw [e]
  exact congrArg (m _) (ix3_congr (Fin.ext (by unfold tk; dsimp only; omega)) rfl k)
theorem b_sc (t : Fin cfg0.N) (r : Fin 256) (k : Fin 1024) : iblk m c 6 t (ix3 0 0 k)
    = m ((c.tc : Thread nD τ).loc main_arg6) (ix3 ⟨(tk t r).val / 4096, by have := (tk t r).isLt; omega⟩ 0 k) := by
  have := lt64 t
  have e : iblk m c 6 t (ix3 0 0 k) = m ((c.tc : Thread nD τ).loc main_arg6) (ix3 ⟨t.val / 16, by omega⟩ 0 k) := by
    blk_ext [iblk, V, i6 t]
  rw [e]
  exact congrArg (m _) (ix3_congr (Fin.ext (by unfold tk; dsimp only; omega)) rfl k)
theorem b_sh (t : Fin cfg0.N) (r : Fin 256) (k : Fin 1024) : iblk m c 7 t (ix3 0 0 k)
    = m ((c.tc : Thread nD τ).loc main_arg7) (ix3 ⟨(tk t r).val / 4096, by have := (tk t r).isLt; omega⟩ 0 k) := by
  have := lt64 t
  have e : iblk m c 7 t (ix3 0 0 k) = m ((c.tc : Thread nD τ).loc main_arg7) (ix3 ⟨t.val / 16, by omega⟩ 0 k) := by
    blk_ext [iblk, V, i7 t]
  rw [e]
  exact congrArg (m _) (ix3_congr (Fin.ext (by unfold tk; dsimp only; omega)) rfl k)
theorem b_gpost (t : Fin cfg0.N) (k : Fin 1024) : iblk m c 8 t (ix2 0 k) = m ((c.tc : Thread nD τ).loc main_arg8) (ix1 k) := by
  have e : iblk m c 8 t (ix2 0 k) = V m c main_v10 (ix2 0 k) := by
    blk_ext [iblk, i8 t]
  rw [e, v_gpost]
theorem b_gpre (t : Fin cfg0.N) (k : Fin 1024) : iblk m c 9 t (ix2 0 k) = m ((c.tc : Thread nD τ).loc main_arg9) (ix1 k) := by
  have e : iblk m c 9 t (ix2 0 k) = V m c main_v11 (ix2 0 k) := by
    blk_ext [iblk, i9 t]
  rw [e, v_gpre]
theorem b_wa (t : Fin cfg0.N) (i : Fin 512) (k : Fin 1024) : iblk m c 10 t (ix2 i k) = m ((c.tc : Thread nD τ).loc main_arg10) (ix2 i k) := by
  have e : iblk m c 10 t (ix2 i k) = V m c main_v6 (ix2 i k) := by
    blk_ext [iblk, i10 t]
  rw [e, v_wa]
theorem b_wb (t : Fin cfg0.N) (i : Fin 512) (k : Fin 1024) : iblk m c 11 t (ix2 i k) = m ((c.tc : Thread nD τ).loc main_arg11) (ix2 i k) := by
  have e : iblk m c 11 t (ix2 i k) = V m c main_v7 (ix2 i k) := by
    blk_ext [iblk, i11 t]
  rw [e, v_wb]
theorem b_wo (t : Fin cfg0.N) (i k : Fin 1024) : iblk m c 12 t (ix2 i k) = m ((c.tc : Thread nD τ).loc main_arg12) (ix2 i k) := by
  have e : iblk m c 12 t (ix2 i k) = V m c main_v8 (ix2 i k) := by
    blk_ext [iblk, i12 t]
  rw [e, v_wo]
theorem b_hi (t : Fin cfg0.N) (i : Fin 256) (k : Fin 1024) : iblk m c 13 t (ix2 i k) = wrA m c i k := by
  have e : iblk m c 13 t (ix2 i k) = V m c main_v1 (ix2 i k) := by
    blk_ext [iblk, i13 t]
  rw [e, v_hi]
theorem b_lo (t : Fin cfg0.N) (i : Fin 256) (k : Fin 1024) : iblk m c 14 t (ix2 i k) = wrA m c i k - wrA m c i k := by
  have e : iblk m c 14 t (ix2 i k) = V m c main_v5 (ix2 i k) := by
    blk_ext [iblk, i14 t]
  rw [e, v_lo]

/-- A block's row of products is the token's. -/
theorem d_mo (t : Fin cfg0.N) (r : Fin 256) : moB (iblk m c 0 t) (iblk m c 1 t) (iblk m c 2 t) (iblk m c 3 t) (iblk m c 10 t) (iblk m c 11 t) (iblk m c 12 t) r = moA m c (tk t r) := by
  unfold moA moP moB
  simp only [b_oa, b_ob, b_ga, b_gb, b_wa, b_wb, b_wo]
theorem d_x1 (t : Fin cfg0.N) (r : Fin 256) : x1B (iblk m c 0 t) (iblk m c 1 t) (iblk m c 2 t) (iblk m c 3 t) (iblk m c 4 t) (iblk m c 5 t) (iblk m c 8 t) (iblk m c 10 t) (iblk m c 11 t) (iblk m c 12 t) r = x1A m c (tk t r) := by
  unfold x1A x1P x1B
  rw [d_mo]
  simp only [b_x, b_gate m c t r, b_gpost]
theorem d_h2 (t : Fin cfg0.N) (r : Fin 256) : h2B (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r = h2A m c (tk t r) := by
  unfold h2A h2P h2B
  rw [d_x1]
  simp only [b_gpre, b_sc m c t r, b_sh m c t r]

/-! The result arrays. -/

theorem w15 : (dats m 0 c).arrAt 15 cfg0.N = (fun y => x1A m c (Fin.ofNat 16384 (y 0).val) (Fin.ofNat 1024 (y 1).val) : Vec Ideal S16384x1024 .f32) := by
  refine (dats m 0 c).arrAt_eq_of_covers 15 _ (by decide +kernel) fun t hf y => ?_
  blk_simp
  rw [after0_15]
  idx_vars y
  have ht := lt64 t
  have e0 : Fin.ofNat 16384 (win0_15.index t 0 * 256 + y0.val) = tk t y0 := by rw [i15 t]; exact Fin.ext (Nat.mod_eq_of_lt (tk t y0).isLt)
  have e1 : Fin.ofNat 1024 (win0_15.index t 1 * 1024 + y1.val) = y1 := by rw [i15 t]; simp
  rw [e0, e1]
  refine (o15 _ _ _ _ _ _ _ _ _ _ _ _ _ _ _ y0 y1).trans ?_
  rw [d_x1]

theorem w16 : (dats m 0 c).arrAt 16 cfg0.N = (fun y => h2A m c (Fin.ofNat 16384 (y 0).val) (Fin.ofNat 1024 (y 1).val) : Vec Ideal S16384x1024 .bf16) := by
  refine (dats m 0 c).arrAt_eq_of_covers 16 _ (by decide +kernel) fun t hf y => ?_
  blk_simp
  rw [after0_16]
  idx_vars y
  have ht := lt64 t
  have e0 : Fin.ofNat 16384 (win0_16.index t 0 * 256 + y0.val) = tk t y0 := by rw [i16 t]; exact Fin.ext (Nat.mod_eq_of_lt (tk t y0).isLt)
  have e1 : Fin.ofNat 1024 (win0_16.index t 1 * 1024 + y1.val) = y1 := by rw [i16 t]; simp
  rw [e0, e1]
  refine (o16 _ _ _ _ _ _ _ _ _ _ _ _ _ _ _ y0 y1).trans ?_
  rw [d_h2]

theorem w17 (hsc : ∀ y, Rl (m ((c.tc : Thread nD τ).loc main_arg6) y)) (hsh : ∀ y, Rl (m ((c.tc : Thread nD τ).loc main_arg7) y)) (hg : ∀ y, Rl (m ((c.tc : Thread nD τ).loc main_arg9) y)) (hw : ∀ y, Rl (m ((c.tc : Thread nD τ).loc main_arg13) y)) :
    (dats m 0 c).arrAt 17 cfg0.N = (fun y => lgA m c (Fin.ofNat 256 (y 0).val) (Fin.ofNat 16384 (y 1).val) : Vec Ideal S256x16384 .f32) := by
  refine (dats m 0 c).arrAt_eq_of_covers 17 _ (by decide +kernel) fun t hf y => ?_
  blk_simp
  rw [after0_17]
  idx_vars y
  have ht := lt64 t
  have e0 : Fin.ofNat 256 (win0_17.index t 0 * 256 + y0.val) = y0 := by rw [i17 t]; simp
  have e1 : Fin.ofNat 16384 (win0_17.index t 1 * 256 + y1.val) = tk t y1 := by rw [i17 t]; exact Fin.ext (Nat.mod_eq_of_lt (tk t y1).isLt)
  rw [e0, e1]
  refine (o17 _ _ _ _ _ _ _ _ _ _ _ _ _ _ _ (wrA m c) (fun e k => hw _) (b_hi m c t) (b_lo m c t) y0 y1
    (fun j => by rw [b_sc m c t y1]; exact hsc _) (fun j => by rw [b_sh m c t y1]; exact hsh _) (fun j => by rw [b_gpre]; exact hg _)).trans ?_
  rw [d_h2]
  rfl

end Cert.Proof.OutVal

end
-- ==== Proof.OutRefVal.lean ====
module

public import proofs.«01_k».proof.Proof.Gen.OutRefIdeal.Run
public import proofs.«01_k».proof.Proof.OutSpec
public import Idealize.ShloMosaic.Lib.StableHlo.ReadAt

/-! The reference's result arrays, each equal to its array of row values. -/

@[expose] public section

set_option maxRecDepth 16384
set_option maxHeartbeats 2000000

noncomputable section

namespace Cert.Proof.OutRefVal

open Cert.OutRefIdeal Cert.OutRefIdeal.Gen Cert.Proof.InSpec Cert.Proof.OutSpec
open Idealize.ShloMosaic Idealize.ShloMosaic.TcCoe Idealize.ShloMosaic.StableHlo

variable (a0 a1 : FVec Ideal S16384x512 .bf16) (a2 a3 : FVec Ideal S16384x1024 .f32) (a4 : FVec Ideal S4x4096x1024 .f32)
  (a5 a6 a7 : FVec Ideal S4x1x1024 .f32) (a8 a9 : FVec Ideal S1024 .f32) (a10 a11 : FVec Ideal S512x1024 .f32) (a12 : FVec Ideal S1024x1024 .f32)
  (a13 : FVec Ideal S1024x256 .f32)

/-- The gated sum times the output weight, as the reference computes it. -/
def moR : FVec Ideal S4x4096x1024 .f32 :=
  Host.dotGeneral dot_S4x4096x1024_S1024x1024_S4x4096x1024_2_0_01_1_n_n none (addf (mulf (shapeCast _ a2 shapeCasts_S16384x1024_S4x4096x1024) (Host.dotGeneral dot_S4x4096x512_S512x1024_S4x4096x1024_2_0_01_1_n_n none (shapeCast _ (extf .f32 a0 bitsLt_bf16_f32) shapeCasts_S16384x512_S4x4096x512) a10)) (mulf (shapeCast _ a3 shapeCasts_S16384x1024_S4x4096x1024) (Host.dotGeneral dot_S4x4096x512_S512x1024_S4x4096x1024_2_0_01_1_n_n none (shapeCast _ (extf .f32 a1 bitsLt_bf16_f32) shapeCasts_S16384x512_S4x4096x512) a11))) a12

/-- The rows' inverse root mean squares, spread over the lanes. -/
def nrmR (v : FVec Ideal S4x4096x1024 .f32) : FVec Ideal S4x4096x1024 .f32 :=
  broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf v v) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))

/-- A weight of the norm, spread over the rows. -/
def gR (g : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 g)

/-- The new residual. -/
def x1R (v : FVec Ideal S4x4096x1024 .f32) : FVec Ideal S4x4096x1024 .f32 :=
  addf a4 (mulf (broadcastInDim S4x4096x1024 ![0, 1, 2] bcast_S4x1x1024_S4x4096x1024_0_1_2 a5) (mulf (mulf v (nrmR v)) (gR a8)))

/-- The normalised row of the new residual. -/
def h2R (v : FVec Ideal S4x4096x1024 .f32) : FVec Ideal S4x4096x1024 .f32 :=
  addf (mulf (mulf (mulf v (nrmR v)) (gR a9)) (broadcastInDim S4x4096x1024 ![0, 1, 2] bcast_S4x1x1024_S4x4096x1024_0_1_2 (addf (broadcastInDim S4x1x1024 ![] bcast_S_S4x1x1024 (constant S_ .f32 0x3F800000#32)) a6))) (broadcastInDim S4x4096x1024 ![0, 1, 2] bcast_S4x1x1024_S4x4096x1024_0_1_2 a7)

/-- The number of a token among all. -/
def tok (b : Fin 4) (s : Fin 4096) : Fin 16384 := ⟨b.val * 4096 + s.val, by omega⟩

theorem mo_at (b : Fin 4) (s : Fin 4096) (j : Fin 1024) : moR a0 a1 a2 a3 a10 a11 a12 (ix3 b s j) = moP a0 a1 a2 a3 a10 a11 a12 (tok b s) j := by
  unfold moP mo mix tok
  pointwise [moR]

theorem nrm_at (v : FVec Ideal S4x4096x1024 .f32) (b : Fin 4) (s : Fin 4096) (j : Fin 1024) : nrmR v (ix3 b s j) = nrm fun k => v (ix3 b s k) := by
  pointwise [nrmR]
  rfl

theorem x1_at (v : FVec Ideal S4x4096x1024 .f32) (b : Fin 4) (s : Fin 4096) (j : Fin 1024) :
    x1R a4 a5 a8 v (ix3 b s j) = OutSpec.x1 (fun j => a4 (ix3 b s j)) (fun j => a5 (ix3 b 0 j)) (fun j => a8 (ix1 j)) (fun k => v (ix3 b s k)) j := by
  pointwise [x1R, gR]
  rw [nrm_at]
  rfl

theorem h2_at (v : FVec Ideal S4x4096x1024 .f32) (b : Fin 4) (s : Fin 4096) (j : Fin 1024) :
    h2R a6 a7 a9 v (ix3 b s j) = hid (fun k => v (ix3 b s k)) (fun j => a9 (ix1 j)) (fun j => a6 (ix3 b 0 j)) (fun j => a7 (ix3 b 0 j)) j := by
  pointwise [h2R, gR]
  rw [nrm_at]
  rfl

theorem tok_div (n : Fin 16384) (h : n.val / 4096 < 4) (h' : n.val % 4096 < 4096) : tok ⟨n.val / 4096, h⟩ ⟨n.val % 4096, h'⟩ = n :=
  Fin.ext (by unfold tok; dsimp only; omega)

/-- The first result. -/
theorem r48 : (shapeCast S16384x1024 (x1R a4 a5 a8 (moR a0 a1 a2 a3 a10 a11 a12)) shapeCasts_S4x4096x1024_S16384x1024 : FVec Ideal S16384x1024 .f32)
    = fun y => x1P (moP a0 a1 a2 a3 a10 a11 a12) a4 a5 a8 (y 0) (y 1) := by
  funext y
  idx_vars y
  pointwise []
  rw [x1_at]
  unfold x1P
  simp only [mo_at, tok_div]

/-- The second result. -/
theorem r49 (v : FVec Ideal S4x4096x1024 .f32) (w : Fin 16384 → Fin 1024 → EReal) (h : ∀ b s j, v (ix3 b s j) = w (tok b s) j) :
    (truncf .bf16 (shapeCast S16384x1024 (h2R a6 a7 a9 v) shapeCasts_S4x4096x1024_S16384x1024 : FVec Ideal S16384x1024 .f32) bitsLt_bf16_f32 : FVec Ideal S16384x1024 .bf16)
    = fun y => h2P w a6 a7 a9 (y 0) (y 1) := by
  funext y
  idx_vars y
  pointwise []
  rw [h2_at]
  unfold h2P
  simp only [h, tok_div]

/-- The third result. -/
theorem r51 (v : FVec Ideal S4x4096x1024 .f32) (w : Fin 16384 → Fin 1024 → EReal) (h : ∀ b s j, v (ix3 b s j) = w (tok b s) j) :
    (transpose S256x16384 [1, 0] (Host.dotGeneral dot_S16384x1024_S1024x256_S16384x256_1_0_0_1_n_n none (shapeCast S16384x1024 (h2R a6 a7 a9 v) shapeCasts_S4x4096x1024_S16384x1024 : FVec Ideal S16384x1024 .f32) a13 : FVec Ideal S16384x256 .f32) transposes_S16384x256_S256x16384_1_0 : FVec Ideal S256x16384 .f32)
    = fun y => lgP (h2P w a6 a7 a9) a13 (y 0) (y 1) := by
  funext y
  idx_vars y
  pointwise []
  unfold lgP lg h2P
  simp only [h2_at, h, tok_div]

/-- Every entry of the new residual is its token's. -/
theorem x1_tok (b : Fin 4) (s : Fin 4096) (j : Fin 1024) :
    x1R a4 a5 a8 (moR a0 a1 a2 a3 a10 a11 a12) (ix3 b s j) = x1P (moP a0 a1 a2 a3 a10 a11 a12) a4 a5 a8 (tok b s) j := by
  have hd : (⟨(tok b s).val / 4096, by have := (tok b s).isLt; omega⟩ : Fin 4) = b := Fin.ext (by unfold tok; dsimp only; omega)
  have hr : (⟨(tok b s).val % 4096, by omega⟩ : Fin 4096) = s := Fin.ext (by unfold tok; dsimp only; omega)
  rw [x1_at]
  unfold x1P
  rw [hd, hr]
  simp only [mo_at]

/-- The reference's run, its results by entries. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = (fun y => x1P (moP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12))) (m ((c.tc : Thread nD τ).loc main_arg4)) (m ((c.tc : Thread nD τ).loc main_arg5)) (m ((c.tc : Thread nD τ).loc main_arg8)) (y 0) (y 1) : Vec Ideal S16384x1024 .f32)
      ∧ r.2.mem ((c.tc : Thread nD τ).loc main_v49) = (fun y => h2P (x1P (moP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12))) (m ((c.tc : Thread nD τ).loc main_arg4)) (m ((c.tc : Thread nD τ).loc main_arg5)) (m ((c.tc : Thread nD τ).loc main_arg8))) (m ((c.tc : Thread nD τ).loc main_arg6)) (m ((c.tc : Thread nD τ).loc main_arg7)) (m ((c.tc : Thread nD τ).loc main_arg9)) (y 0) (y 1) : Vec Ideal S16384x1024 .bf16)
      ∧ r.2.mem ((c.tc : Thread nD τ).loc main_v51) = (fun y => lgP (h2P (x1P (moP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12))) (m ((c.tc : Thread nD τ).loc main_arg4)) (m ((c.tc : Thread nD τ).loc main_arg5)) (m ((c.tc : Thread nD τ).loc main_arg8))) (m ((c.tc : Thread nD τ).loc main_arg6)) (m ((c.tc : Thread nD τ).loc main_arg7)) (m ((c.tc : Thread nD τ).loc main_arg9))) (m ((c.tc : Thread nD τ).loc main_arg13)) (y 0) (y 1) : Vec Ideal S256x16384 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (r48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg10)) (m ((c.tc : Thread nD τ).loc main_arg11)) (m ((c.tc : Thread nD τ).loc main_arg12))),
    (h c).2.1.trans (r49 (m ((c.tc : Thread nD τ).loc main_arg6)) (m ((c.tc : Thread nD τ).loc main_arg7)) (m ((c.tc : Thread nD τ).loc main_arg9)) (x1R (m ((c.tc : Thread nD τ).loc main_arg4)) (m ((c.tc : Thread nD τ).loc main_arg5)) (m ((c.tc : Thread nD τ).loc main_arg8)) (moR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)))) _ (x1_tok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg10)) (m ((c.tc : Thread nD τ).loc main_arg11)) (m ((c.tc : Thread nD τ).loc main_arg12)))),
    (h c).2.2.1.trans (r51 (m ((c.tc : Thread nD τ).loc main_arg6)) (m ((c.tc : Thread nD τ).loc main_arg7)) (m ((c.tc : Thread nD τ).loc main_arg9)) (m ((c.tc : Thread nD τ).loc main_arg13)) (x1R (m ((c.tc : Thread nD τ).loc main_arg4)) (m ((c.tc : Thread nD τ).loc main_arg5)) (m ((c.tc : Thread nD τ).loc main_arg8)) (moR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)))) _ (x1_tok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg10)) (m ((c.tc : Thread nD τ).loc main_arg11)) (m ((c.tc : Thread nD τ).loc main_arg12)))), (h c).2.2.2⟩) (Value.run m ρ)

end Cert.Proof.OutRefVal

end
-- ==== Proof.OutClaim.lean ====
module

public import proofs.«01_k».proof.Defs
public import proofs.«01_k».proof.Proof.Gen.Pre_finite_out
public import proofs.«01_k».proof.Proof.OutVal
public import proofs.«01_k».proof.Proof.OutRefVal
public import proofs.«01_k».proof.Proof.SbClaim
public import Idealize.ShloMosaic.Lib.ReduceAll

/-! From a finite scale, shift, norm weight and router weight, the kernel's run and the reference's end in the same arrays. -/

@[expose] public section

set_option maxRecDepth 16384
set_option maxHeartbeats 2000000

noncomputable section

namespace Cert.Proof.OutClaim

open Cert Idealize.ShloMosaic Idealize.ShloMosaic.TcCoe Idealize.ShloMosaic.StableHlo Cert.Proof.OutSpec Cert.Proof.OutRefVal

instance : Subsingleton (Pre_finite_out.S_).Idx := ⟨fun a b => funext fun i => i.elim0⟩

/-- The precondition says of the four arrays that every entry is a real number. -/
theorem real_of_pre (a0 a1 : FVec Ideal Pre_finite_out.S16384x512 .bf16) (a2 a3 : FVec Ideal Pre_finite_out.S16384x1024 .f32)
    (a4 : FVec Ideal Pre_finite_out.S4x4096x1024 .f32) (a5 a6 a7 : FVec Ideal Pre_finite_out.S4x1x1024 .f32) (a8 a9 : FVec Ideal Pre_finite_out.S1024 .f32)
    (a10 a11 : FVec Ideal Pre_finite_out.S512x1024 .f32) (a12 : FVec Ideal Pre_finite_out.S1024x1024 .f32) (a13 : FVec Ideal Pre_finite_out.S1024x256 .f32)
    (h : Pre_finite_out.fn (F := Ideal) a0 a1 a2 a3 a4 a5 a6 a7 a8 a9 a10 a11 a12 a13 = fun _ => 1#1) :
    (∀ y, Rl (a6 y)) ∧ (∀ y, Rl (a7 y)) ∧ (∀ y, Rl (a9 y)) ∧ ∀ y, Rl (a13 y) := by
  have e := SbClaim.andi_eq_one _ _ (congrFun h (fun i => i.elim0))
  have e' := SbClaim.andi_eq_one _ _ e.1
  have e'' := SbClaim.andi_eq_one _ _ e'.1
  exact ⟨fun y => SbClaim.real_of_cmp _ (Host.reduce_andi_all _ _ _ _ _ e''.1 y), fun y => SbClaim.real_of_cmp _ (Host.reduce_andi_all _ _ _ _ _ e''.2 y),
    fun y => SbClaim.real_of_cmp _ (Host.reduce_andi_all _ _ _ _ _ e'.2 y), fun y => SbClaim.real_of_cmp _ (Host.reduce_andi_all _ _ _ _ _ e.2 y)⟩

/-- The kernel's run, its results by entries. -/
theorem run_out (m : (ℓ : Loc OutIdeal.nD OutIdeal.τ OutIdeal.sig) → Buf (Elt Ideal) ℓ) (ρ : Dev OutIdeal.nD → PrngReg)
    (hm : ∀ c : Dev OutIdeal.nD, (∀ y, Rl (m ((c.tc : Thread OutIdeal.nD OutIdeal.τ).loc OutIdeal.main_arg6) y)) ∧ (∀ y, Rl (m ((c.tc : Thread OutIdeal.nD OutIdeal.τ).loc OutIdeal.main_arg7) y)) ∧ (∀ y, Rl (m ((c.tc : Thread OutIdeal.nD OutIdeal.τ).loc OutIdeal.main_arg9) y)) ∧ ∀ y, Rl (m ((c.tc : Thread OutIdeal.nD OutIdeal.τ).loc OutIdeal.main_arg13) y)) :
    θ_run OutIdeal.defs (onTc (τ := OutIdeal.τ) (OutIdeal.main (F := Ideal))) ⟨m, fun _ => 0, ρ⟩ fun r => ∀ c : Dev OutIdeal.nD,
      r.2.mem ((c.tc : Thread OutIdeal.nD OutIdeal.τ).loc OutIdeal.main_v12_0) = (fun y => OutVal.x1A m c (Fin.ofNat 16384 (y 0).val) (Fin.ofNat 1024 (y 1).val) : Vec Ideal OutIdeal.S16384x1024 .f32)
      ∧ r.2.mem ((c.tc : Thread OutIdeal.nD OutIdeal.τ).loc OutIdeal.main_v12_1) = (fun y => OutVal.h2A m c (Fin.ofNat 16384 (y 0).val) (Fin.ofNat 1024 (y 1).val) : Vec Ideal OutIdeal.S16384x1024 .bf16)
      ∧ r.2.mem ((c.tc : Thread OutIdeal.nD OutIdeal.τ).loc OutIdeal.main_v12_2) = (fun y => OutVal.lgA m c (Fin.ofNat 256 (y 0).val) (Fin.ofNat 16384 (y 1).val) : Vec Ideal OutIdeal.S256x16384 .f32)
      ∧ r.2.mem ((c.tc : Thread OutIdeal.nD OutIdeal.τ).loc OutIdeal.main_arg0) = m ((c.tc : Thread OutIdeal.nD OutIdeal.τ).loc OutIdeal.main_arg0)
      ∧ r.2.mem ((c.tc : Thread OutIdeal.nD OutIdeal.τ).loc OutIdeal.main_arg1) = m ((c.tc : Thread OutIdeal.nD OutIdeal.τ).loc OutIdeal.main_arg1)
      ∧ r.2.mem ((c.tc : Thread OutIdeal.nD OutIdeal.τ).loc OutIdeal.main_arg2) = m ((c.tc : Thread OutIdeal.nD OutIdeal.τ).loc OutIdeal.main_arg2)
      ∧ r.2.mem ((c.tc : Thread OutIdeal.nD OutIdeal.τ).loc OutIdeal.main_arg3) = m ((c.tc : Thread OutIdeal.nD OutIdeal.τ).loc OutIdeal.main_arg3)
      ∧ r.2.mem ((c.tc : Thread OutIdeal.nD OutIdeal.τ).loc OutIdeal.main_arg4) = m ((c.tc : Thread OutIdeal.nD OutIdeal.τ).loc OutIdeal.main_arg4)
      ∧ r.2.mem ((c.tc : Thread OutIdeal.nD OutIdeal.τ).loc OutIdeal.main_arg5) = m ((c.tc : Thread OutIdeal.nD OutIdeal.τ).loc OutIdeal.main_arg5)
      ∧ r.2.mem ((c.tc : Thread OutIdeal.nD OutIdeal.τ).loc OutIdeal.main_arg6) = m ((c.tc : Thread OutIdeal.nD OutIdeal.τ).loc OutIdeal.main_arg6)
      ∧ r.2.mem ((c.tc : Thread OutIdeal.nD OutIdeal.τ).loc OutIdeal.main_arg7) = m ((c.tc : Thread OutIdeal.nD OutIdeal.τ).loc OutIdeal.main_arg7)
      ∧ r.2.mem ((c.tc : Thread OutIdeal.nD OutIdeal.τ).loc OutIdeal.main_arg8) = m ((c.tc : Thread OutIdeal.nD OutIdeal.τ).loc OutIdeal.main_arg8)
      ∧ r.2.mem ((c.tc : Thread OutIdeal.nD OutIdeal.τ).loc OutIdeal.main_arg9) = m ((c.tc : Thread OutIdeal.nD OutIdeal.τ).loc OutIdeal.main_arg9)
      ∧ r.2.mem ((c.tc : Thread OutIdeal.nD OutIdeal.τ).loc OutIdeal.main_arg10) = m ((c.tc : Thread OutIdeal.nD OutIdeal.τ).loc OutIdeal.main_arg10)
      ∧ r.2.mem ((c.tc : Thread OutIdeal.nD OutIdeal.τ).loc OutIdeal.main_arg11) = m ((c.tc : Thread OutIdeal.nD OutIdeal.τ).loc OutIdeal.main_arg11)
      ∧ r.2.mem ((c.tc : Thread OutIdeal.nD OutIdeal.τ).loc OutIdeal.main_arg12) = m ((c.tc : Thread OutIdeal.nD OutIdeal.τ).loc OutIdeal.main_arg12)
      ∧ r.2.mem ((c.tc : Thread OutIdeal.nD OutIdeal.τ).loc OutIdeal.main_arg13) = m ((c.tc : Thread OutIdeal.nD OutIdeal.τ).loc OutIdeal.main_arg13) :=
  (θ_run OutIdeal.defs _ _).mono (fun r hr c => ⟨(hr c).1.trans (OutVal.w15 m c), (hr c).2.1.trans (OutVal.w16 m c),
    (hr c).2.2.1.trans (OutVal.w17 m c (hm c).1 (hm c).2.1 (hm c).2.2.1 (hm c).2.2.2), (hr c).2.2.2⟩) (OutIdeal.Value.run_blocks m ρ)

theorem algebraic : algebraic_OutIdeal_OutRefIdeal_pre_finite_out := fun m g m' g' hp hargs => by
  refine ⟨fun c => (fun y => OutVal.x1A m c (Fin.ofNat 16384 (y 0).val) (Fin.ofNat 1024 (y 1).val) : Vec Ideal OutIdeal.S16384x1024 .f32),
    fun c => (fun y => OutVal.h2A m c (Fin.ofNat 16384 (y 0).val) (Fin.ofNat 1024 (y 1).val) : Vec Ideal OutIdeal.S16384x1024 .bf16),
    fun c => (fun y => OutVal.lgA m c (Fin.ofNat 256 (y 0).val) (Fin.ofNat 16384 (y 1).val) : Vec Ideal OutIdeal.S256x16384 .f32),
    run_out m g (fun c => real_of_pre _ _ _ _ _ _ _ _ _ _ _ _ _ _ (hp c)), (θ_run _ _ _).mono (fun r h c => ?_) (OutRefVal.run_out m' g')⟩
  obtain ⟨h0, h1, h2, h3, h4, h5, h6, h7, h8, h9, h10, h11, h12, h13⟩ := hargs c
  refine ⟨(h c).1.trans ?_, (h c).2.1.trans ?_, (h c).2.2.1.trans ?_, (h c).2.2.2⟩
  · rw [h0, h1, h2, h3, h4, h5, h8, h10, h11, h12]
    funext y
    exact (congrArg₂ (OutVal.x1A m c) (Fin.ofNat_val_eq_self (n := 16384) (y 0)) (Fin.ofNat_val_eq_self (n := 1024) (y 1))).symm
  · rw [h0, h1, h2, h3, h4, h5, h6, h7, h8, h9, h10, h11, h12]
    funext y
    exact (congrArg₂ (OutVal.h2A m c) (Fin.ofNat_val_eq_self (n := 16384) (y 0)) (Fin.ofNat_val_eq_self (n := 1024) (y 1))).symm
  · rw [h0, h1, h2, h3, h4, h5, h6, h7, h8, h9, h10, h11, h12, h13]
    funext y
    exact (congrArg₂ (OutVal.lgA m c) (Fin.ofNat_val_eq_self (n := 256) (y 0)) (Fin.ofNat_val_eq_self (n := 16384) (y 1))).symm

/-- The reference's run leaves its arguments as they were, and no counter raised. -/
theorem frame_ref (m : (ℓ : Loc OutRefIdeal.nD OutRefIdeal.τ OutRefIdeal.sig) → Buf (Elt Ideal) ℓ) (g : Dev OutRefIdeal.nD → PrngReg) :
    θ_run (OutRefIdeal.defs (F := Ideal)) (onTc (τ := OutRefIdeal.τ) (OutRefIdeal.main (F := Ideal))) ⟨m, fun _ => 0, g⟩ (fun r => (∀ c : Dev OutRefIdeal.nD,
      r.2.mem ((c.tc : Thread OutRefIdeal.nD OutRefIdeal.τ).loc OutRefIdeal.main_arg0) = m ((c.tc : Thread OutRefIdeal.nD OutRefIdeal.τ).loc OutRefIdeal.main_arg0)
      ∧ r.2.mem ((c.tc : Thread OutRefIdeal.nD OutRefIdeal.τ).loc OutRefIdeal.main_arg1) = m ((c.tc : Thread OutRefIdeal.nD OutRefIdeal.τ).loc OutRefIdeal.main_arg1)
      ∧ r.2.mem ((c.tc : Thread OutRefIdeal.nD OutRefIdeal.τ).loc OutRefIdeal.main_arg2) = m ((c.tc : Thread OutRefIdeal.nD OutRefIdeal.τ).loc OutRefIdeal.main_arg2)
      ∧ r.2.mem ((c.tc : Thread OutRefIdeal.nD OutRefIdeal.τ).loc OutRefIdeal.main_arg3) = m ((c.tc : Thread OutRefIdeal.nD OutRefIdeal.τ).loc OutRefIdeal.main_arg3)
      ∧ r.2.mem ((c.tc : Thread OutRefIdeal.nD OutRefIdeal.τ).loc OutRefIdeal.main_arg4) = m ((c.tc : Thread OutRefIdeal.nD OutRefIdeal.τ).loc OutRefIdeal.main_arg4)
      ∧ r.2.mem ((c.tc : Thread OutRefIdeal.nD OutRefIdeal.τ).loc OutRefIdeal.main_arg5) = m ((c.tc : Thread OutRefIdeal.nD OutRefIdeal.τ).loc OutRefIdeal.main_arg5)
      ∧ r.2.mem ((c.tc : Thread OutRefIdeal.nD OutRefIdeal.τ).loc OutRefIdeal.main_arg6) = m ((c.tc : Thread OutRefIdeal.nD OutRefIdeal.τ).loc OutRefIdeal.main_arg6)
      ∧ r.2.mem ((c.tc : Thread OutRefIdeal.nD OutRefIdeal.τ).loc OutRefIdeal.main_arg7) = m ((c.tc : Thread OutRefIdeal.nD OutRefIdeal.τ).loc OutRefIdeal.main_arg7)
      ∧ r.2.mem ((c.tc : Thread OutRefIdeal.nD OutRefIdeal.τ).loc OutRefIdeal.main_arg8) = m ((c.tc : Thread OutRefIdeal.nD OutRefIdeal.τ).loc OutRefIdeal.main_arg8)
      ∧ r.2.mem ((c.tc : Thread OutRefIdeal.nD OutRefIdeal.τ).loc OutRefIdeal.main_arg9) = m ((c.tc : Thread OutRefIdeal.nD OutRefIdeal.τ).loc OutRefIdeal.main_arg9)
      ∧ r.2.mem ((c.tc : Thread OutRefIdeal.nD OutRefIdeal.τ).loc OutRefIdeal.main_arg10) = m ((c.tc : Thread OutRefIdeal.nD OutRefIdeal.τ).loc OutRefIdeal.main_arg10)
      ∧ r.2.mem ((c.tc : Thread OutRefIdeal.nD OutRefIdeal.τ).loc OutRefIdeal.main_arg11) = m ((c.tc : Thread OutRefIdeal.nD OutRefIdeal.τ).loc OutRefIdeal.main_arg11)
      ∧ r.2.mem ((c.tc : Thread OutRefIdeal.nD OutRefIdeal.τ).loc OutRefIdeal.main_arg12) = m ((c.tc : Thread OutRefIdeal.nD OutRefIdeal.τ).loc OutRefIdeal.main_arg12)
      ∧ r.2.mem ((c.tc : Thread OutRefIdeal.nD OutRefIdeal.τ).loc OutRefIdeal.main_arg13) = m ((c.tc : Thread OutRefIdeal.nD OutRefIdeal.τ).loc OutRefIdeal.main_arg13))
      ∧ r.2.sem = fun _ => 0) :=
  (θ_run _ _ _).mono (fun r h => ⟨fun c => (h c).2.2.2, sem_eq_zero_of_no_sems rfl r.2⟩) (OutRefIdeal.Value.run m g)

end Cert.Proof.OutClaim

end
-- ==== Proof.lean ====
module

public import proofs.«01_k».proof.Proof.Gen.Pre_finite_qk
public import proofs.«01_k».proof.Proof.Gen.Pre_finite_out
public import proofs.«01_k».proof.Proof.Gen.FfnS
public import proofs.«01_k».proof.Proof.Gen.FfnS.Frame
public import proofs.«01_k».proof.Proof.Gen.FfnSIdeal
public import proofs.«01_k».proof.Proof.Gen.FfnSIdeal.Value
public import proofs.«01_k».proof.Proof.Gen.FfnSRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnRefIdeal.Run
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal.Run
public import proofs.«01_k».proof.Proof.Gen.Sb
public import proofs.«01_k».proof.Proof.Gen.Sb.Frame
public import proofs.«01_k».proof.Proof.Gen.SbIdeal
public import proofs.«01_k».proof.Proof.Gen.SbIdeal.Value
public import proofs.«01_k».proof.Proof.Gen.SbRefIdeal.Run
public import proofs.«01_k».proof.Proof.InPFrame
public import proofs.«01_k».proof.Proof.InSFrame
public import proofs.«01_k».proof.Proof.DsaFrame
public import proofs.«01_k».proof.Proof.InPClaim
public import proofs.«01_k».proof.Proof.InSClaim
public import proofs.«01_k».proof.Proof.SbClaim
public import proofs.«01_k».proof.Proof.FfnClaim
public import proofs.«01_k».proof.Proof.FfnSClaim
public import proofs.«01_k».proof.Proof.OutClaim

/-! The claims, each from the module that proves it. -/

@[expose] public section

noncomputable section

namespace Cert.Proof

theorem claim : Cert.Claim :=
  ⟨Cert.Kernel.Gen.facts, Cert.FfnS.Gen.facts, Cert.FfnSIdeal.Gen.facts, Cert.FfnSRefIdeal.Gen.facts,
    Cert.Ffn.Gen.facts, Cert.FfnIdeal.Gen.facts, Cert.FfnRefIdeal.Gen.facts, Cert.Out.Gen.facts, Cert.OutIdeal.Gen.facts, Cert.OutRefIdeal.Gen.facts,
    Cert.Sb.Gen.facts, Cert.SbIdeal.Gen.facts, Cert.SbRefIdeal.Gen.facts, Cert.InP.Gen.facts, Cert.InPIdeal.Gen.facts, Cert.InPRefIdeal.Gen.facts,
    Cert.InS.Gen.facts, Cert.InSIdeal.Gen.facts, Cert.InSRefIdeal.Gen.facts, Cert.Pre_finite_out.Gen.facts, Cert.Pre_finite_qk.Gen.facts,
    fun m ρ _ => Dsa.frame_dsa m ρ,
    fun m ρ _ => Cert.FfnS.Gen.frame m ρ, fun m ρ _ => Cert.FfnSIdeal.Gen.frame m ρ, FfnSClaim.frame_ref,
    fun m ρ _ => Cert.Ffn.Gen.frame m ρ, fun m ρ _ => Cert.FfnIdeal.Gen.frame m ρ, FfnClaim.frame_ref,
    fun m ρ _ => Cert.Out.Gen.frame m ρ, fun m ρ _ => Cert.OutIdeal.Gen.frame m ρ, fun m ρ _ => Cert.OutIdeal.Gen.frame m ρ,
    fun m ρ _ => OutClaim.frame_ref m ρ, fun m ρ _ => OutClaim.frame_ref m ρ,
    fun m ρ _ => Cert.Sb.Gen.frame m ρ, fun m ρ _ => Cert.SbIdeal.Gen.frame m ρ, fun m ρ _ => Cert.SbIdeal.Gen.frame m ρ,
    fun m ρ _ => SbClaim.frame_ref m ρ, fun m ρ _ => SbClaim.frame_ref m ρ,
    InPFrame.frame, fun m ρ _ => InPRun.frame m ρ, InPClaim.frame_ref,
    InSFrame.frame, fun m ρ _ => InSRun.frame m ρ, InSClaim.frame_ref,
    trivial, FfnSClaim.algebraic, trivial, FfnClaim.algebraic, trivial, OutClaim.algebraic, trivial, SbClaim.algebraic, trivial, InPClaim.algebraic, trivial, InSClaim.algebraic⟩

end Cert.Proof

end
